-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_GlaS (m : (ℓ : Loc Cert.GlaS.nD Cert.GlaS.τ Cert.GlaS.sig) → Buf (Elt Bits) ℓ) : Prop :=
  True

def Pre_GlaSIdeal (m : (ℓ : Loc Cert.GlaSIdeal.nD Cert.GlaSIdeal.τ Cert.GlaSIdeal.sig) → Buf (Elt Ideal) ℓ) : Prop :=
  True

def Pre_GlaSRefIdeal (m : (ℓ : Loc Cert.GlaSRefIdeal.nD Cert.GlaSRefIdeal.τ Cert.GlaSRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvPRefIdeal (m : (ℓ : Loc Cert.ConvPRefIdeal.nD Cert.ConvPRefIdeal.τ Cert.ConvPRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOutEven (m : (ℓ : Loc Cert.ProjOutEven.nD Cert.ProjOutEven.τ Cert.ProjOutEven.sig) → Buf (Elt Bits) ℓ) : Prop :=
  True

def Pre_ProjOutEvenIdeal (m : (ℓ : Loc Cert.ProjOutEvenIdeal.nD Cert.ProjOutEvenIdeal.τ Cert.ProjOutEvenIdeal.sig) → Buf (Elt Ideal) ℓ) : Prop :=
  True

def Pre_ProjOutEvenRefIdeal (m : (ℓ : Loc Cert.ProjOutEvenRefIdeal.nD Cert.ProjOutEvenRefIdeal.τ Cert.ProjOutEvenRefIdeal.sig) → Buf (Elt Ideal) ℓ) : Prop :=
  True

def Pre_ProjOutOdd (m : (ℓ : Loc Cert.ProjOutOdd.nD Cert.ProjOutOdd.τ Cert.ProjOutOdd.sig) → Buf (Elt Bits) ℓ) : Prop :=
  True

def Pre_ProjOutOddIdeal (m : (ℓ : Loc Cert.ProjOutOddIdeal.nD Cert.ProjOutOddIdeal.τ Cert.ProjOutOddIdeal.sig) → Buf (Elt Ideal) ℓ) : Prop :=
  True

def Pre_ProjOutOddRefIdeal (m : (ℓ : Loc Cert.ProjOutOddRefIdeal.nD Cert.ProjOutOddRefIdeal.τ Cert.ProjOutOddRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_GlaS [hGlaS : Cert.GlaS.Facts] : Prop :=
  ∀ (m : (ℓ : Loc Cert.GlaS.nD Cert.GlaS.τ Cert.GlaS.sig) → Buf (Elt Bits) ℓ) (g : Dev Cert.GlaS.nD → PrngReg), Pre_GlaS m →
    θ_run (Cert.GlaS.defs (F := Bits)) (onTc (τ := Cert.GlaS.τ) (Cert.GlaS.main (F := Bits))) ⟨m, fun _ => 0, g⟩ (fun r => (∀ c : Dev Cert.GlaS.nD,
      r.2.mem ((c.tc : Thread Cert.GlaS.nD Cert.GlaS.τ).loc Cert.GlaS.main_arg0) = m ((c.tc : Thread Cert.GlaS.nD Cert.GlaS.τ).loc Cert.GlaS.main_arg0)
      ∧ r.2.mem ((c.tc : Thread Cert.GlaS.nD Cert.GlaS.τ).loc Cert.GlaS.main_arg1) = m ((c.tc : Thread Cert.GlaS.nD Cert.GlaS.τ).loc Cert.GlaS.main_arg1)
      ∧ r.2.mem ((c.tc : Thread Cert.GlaS.nD Cert.GlaS.τ).loc Cert.GlaS.main_arg2) = m ((c.tc : Thread Cert.GlaS.nD Cert.GlaS.τ).loc Cert.GlaS.main_arg2)
      ∧ r.2.mem ((c.tc : Thread Cert.GlaS.nD Cert.GlaS.τ).loc Cert.GlaS.main_arg3) = m ((c.tc : Thread Cert.GlaS.nD Cert.GlaS.τ).loc Cert.GlaS.main_arg3)
      ∧ r.2.mem ((c.tc : Thread Cert.GlaS.nD Cert.GlaS.τ).loc Cert.GlaS.main_arg4) = m ((c.tc : Thread Cert.GlaS.nD Cert.GlaS.τ).loc Cert.GlaS.main_arg4)
      ∧ r.2.mem ((c.tc : Thread Cert.GlaS.nD Cert.GlaS.τ).loc Cert.GlaS.main_arg5) = m ((c.tc : Thread Cert.GlaS.nD Cert.GlaS.τ).loc Cert.GlaS.main_arg5)
      ∧ r.2.mem ((c.tc : Thread Cert.GlaS.nD Cert.GlaS.τ).loc Cert.GlaS.main_arg6) = m ((c.tc : Thread Cert.GlaS.nD Cert.GlaS.τ).loc Cert.GlaS.main_arg6))
      ∧ r.2.sem = fun _ => 0)

def quiescent_GlaSIdeal [hGlaSIdeal : Cert.GlaSIdeal.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
      ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
      ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5)
      ∧ r.2.mem ((c.tc : Thread Cert.GlaSIdeal.nD Cert.GlaSIdeal.τ).loc Cert.GlaSIdeal.main_arg6) = m ((c.tc : Thread Cert.GlaSIdeal.nD Cert.GlaSIdeal.τ).loc Cert.GlaSIdeal.main_arg6))
      ∧ r.2.sem = fun _ => 0)

def quiescent_GlaSRefIdeal [hGlaSRefIdeal : Cert.GlaSRefIdeal.Facts] : Prop :=
  ∀ (m : (ℓ : Loc Cert.GlaSRefIdeal.nD Cert.GlaSRefIdeal.τ Cert.GlaSRefIdeal.sig) → Buf (Elt Ideal) ℓ) (g : Dev Cert.GlaSRefIdeal.nD → PrngReg), Pre_GlaSRefIdeal m →
    θ_run (Cert.GlaSRefIdeal.defs (F := Ideal)) (onTc (τ := Cert.GlaSRefIdeal.τ) (Cert.GlaSRefIdeal.main (F := Ideal))) ⟨m, fun _ => 0, g⟩ (fun r => (∀ c : Dev Cert.GlaSRefIdeal.nD,
      r.2.mem ((c.tc : Thread Cert.GlaSRefIdeal.nD Cert.GlaSRefIdeal.τ).loc Cert.GlaSRefIdeal.main_arg0) = m ((c.tc : Thread Cert.GlaSRefIdeal.nD Cert.GlaSRefIdeal.τ).loc Cert.GlaSRefIdeal.main_arg0)
      ∧ r.2.mem ((c.tc : Thread Cert.GlaSRefIdeal.nD Cert.GlaSRefIdeal.τ).loc Cert.GlaSRefIdeal.main_arg1) = m ((c.tc : Thread Cert.GlaSRefIdeal.nD Cert.GlaSRefIdeal.τ).loc Cert.GlaSRefIdeal.main_arg1)
      ∧ r.2.mem ((c.tc : Thread Cert.GlaSRefIdeal.nD Cert.GlaSRefIdeal.τ).loc Cert.GlaSRefIdeal.main_arg2) = m ((c.tc : Thread Cert.GlaSRefIdeal.nD Cert.GlaSRefIdeal.τ).loc Cert.GlaSRefIdeal.main_arg2)
      ∧ r.2.mem ((c.tc : Thread Cert.GlaSRefIdeal.nD Cert.GlaSRefIdeal.τ).loc Cert.GlaSRefIdeal.main_arg3) = m ((c.tc : Thread Cert.GlaSRefIdeal.nD Cert.GlaSRefIdeal.τ).loc Cert.GlaSRefIdeal.main_arg3)
      ∧ r.2.mem ((c.tc : Thread Cert.GlaSRefIdeal.nD Cert.GlaSRefIdeal.τ).loc Cert.GlaSRefIdeal.main_arg4) = m ((c.tc : Thread Cert.GlaSRefIdeal.nD Cert.GlaSRefIdeal.τ).loc Cert.GlaSRefIdeal.main_arg4)
      ∧ r.2.mem ((c.tc : Thread Cert.GlaSRefIdeal.nD Cert.GlaSRefIdeal.τ).loc Cert.GlaSRefIdeal.main_arg5) = m ((c.tc : Thread Cert.GlaSRefIdeal.nD Cert.GlaSRefIdeal.τ).loc Cert.GlaSRefIdeal.main_arg5)
      ∧ r.2.mem ((c.tc : Thread Cert.GlaSRefIdeal.nD Cert.GlaSRefIdeal.τ).loc Cert.GlaSRefIdeal.main_arg6) = m ((c.tc : Thread Cert.GlaSRefIdeal.nD Cert.GlaSRefIdeal.τ).loc Cert.GlaSRefIdeal.main_arg6))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3)
      ∧ r.2.mem ((c.tc : Thread Cert.ConvP.nD Cert.ConvP.τ).loc Cert.ConvP.main_arg4) = m ((c.tc : Thread Cert.ConvP.nD Cert.ConvP.τ).loc Cert.ConvP.main_arg4))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
      ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4))
      ∧ r.2.sem = fun _ => 0)

def quiescent_ConvPRefIdeal [hConvPRefIdeal : Cert.ConvPRefIdeal.Facts] : Prop :=
  ∀ (m : (ℓ : Loc Cert.ConvPRefIdeal.nD Cert.ConvPRefIdeal.τ Cert.ConvPRefIdeal.sig) → Buf (Elt Ideal) ℓ) (g : Dev Cert.ConvPRefIdeal.nD → PrngReg), Pre_ConvPRefIdeal m →
    θ_run (Cert.ConvPRefIdeal.defs (F := Ideal)) (onTc (τ := Cert.ConvPRefIdeal.τ) (Cert.ConvPRefIdeal.main (F := Ideal))) ⟨m, fun _ => 0, g⟩ (fun r => (∀ c : Dev Cert.ConvPRefIdeal.nD,
      r.2.mem ((c.tc : Thread Cert.ConvPRefIdeal.nD Cert.ConvPRefIdeal.τ).loc Cert.ConvPRefIdeal.main_arg0) = m ((c.tc : Thread Cert.ConvPRefIdeal.nD Cert.ConvPRefIdeal.τ).loc Cert.ConvPRefIdeal.main_arg0)
      ∧ r.2.mem ((c.tc : Thread Cert.ConvPRefIdeal.nD Cert.ConvPRefIdeal.τ).loc Cert.ConvPRefIdeal.main_arg1) = m ((c.tc : Thread Cert.ConvPRefIdeal.nD Cert.ConvPRefIdeal.τ).loc Cert.ConvPRefIdeal.main_arg1)
      ∧ r.2.mem ((c.tc : Thread Cert.ConvPRefIdeal.nD Cert.ConvPRefIdeal.τ).loc Cert.ConvPRefIdeal.main_arg2) = m ((c.tc : Thread Cert.ConvPRefIdeal.nD Cert.ConvPRefIdeal.τ).loc Cert.ConvPRefIdeal.main_arg2)
      ∧ r.2.mem ((c.tc : Thread Cert.ConvPRefIdeal.nD Cert.ConvPRefIdeal.τ).loc Cert.ConvPRefIdeal.main_arg3) = m ((c.tc : Thread Cert.ConvPRefIdeal.nD Cert.ConvPRefIdeal.τ).loc Cert.ConvPRefIdeal.main_arg3)
      ∧ r.2.mem ((c.tc : Thread Cert.ConvPRefIdeal.nD Cert.ConvPRefIdeal.τ).loc Cert.ConvPRefIdeal.main_arg4) = m ((c.tc : Thread Cert.ConvPRefIdeal.nD Cert.ConvPRefIdeal.τ).loc Cert.ConvPRefIdeal.main_arg4))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_ProjOutEven [hProjOutEven : Cert.ProjOutEven.Facts] : Prop :=
  ∀ (m : (ℓ : Loc Cert.ProjOutEven.nD Cert.ProjOutEven.τ Cert.ProjOutEven.sig) → Buf (Elt Bits) ℓ) (g : Dev Cert.ProjOutEven.nD → PrngReg), Pre_ProjOutEven m →
    θ_run (Cert.ProjOutEven.defs (F := Bits)) (onTc (τ := Cert.ProjOutEven.τ) (Cert.ProjOutEven.main (F := Bits))) ⟨m, fun _ => 0, g⟩ (fun r => (∀ c : Dev Cert.ProjOutEven.nD,
      r.2.mem ((c.tc : Thread Cert.ProjOutEven.nD Cert.ProjOutEven.τ).loc Cert.ProjOutEven.main_arg0) = m ((c.tc : Thread Cert.ProjOutEven.nD Cert.ProjOutEven.τ).loc Cert.ProjOutEven.main_arg0)
      ∧ r.2.mem ((c.tc : Thread Cert.ProjOutEven.nD Cert.ProjOutEven.τ).loc Cert.ProjOutEven.main_arg1) = m ((c.tc : Thread Cert.ProjOutEven.nD Cert.ProjOutEven.τ).loc Cert.ProjOutEven.main_arg1)
      ∧ r.2.mem ((c.tc : Thread Cert.ProjOutEven.nD Cert.ProjOutEven.τ).loc Cert.ProjOutEven.main_arg2) = m ((c.tc : Thread Cert.ProjOutEven.nD Cert.ProjOutEven.τ).loc Cert.ProjOutEven.main_arg2)
      ∧ r.2.mem ((c.tc : Thread Cert.ProjOutEven.nD Cert.ProjOutEven.τ).loc Cert.ProjOutEven.main_arg3) = m ((c.tc : Thread Cert.ProjOutEven.nD Cert.ProjOutEven.τ).loc Cert.ProjOutEven.main_arg3))
      ∧ r.2.sem = fun _ => 0)

def quiescent_ProjOutEvenIdeal [hProjOutEvenIdeal : Cert.ProjOutEvenIdeal.Facts] : Prop :=
  ∀ (m : (ℓ : Loc Cert.ProjOutEvenIdeal.nD Cert.ProjOutEvenIdeal.τ Cert.ProjOutEvenIdeal.sig) → Buf (Elt Ideal) ℓ) (g : Dev Cert.ProjOutEvenIdeal.nD → PrngReg), Pre_ProjOutEvenIdeal m →
    θ_run (Cert.ProjOutEvenIdeal.defs (F := Ideal)) (onTc (τ := Cert.ProjOutEvenIdeal.τ) (Cert.ProjOutEvenIdeal.main (F := Ideal))) ⟨m, fun _ => 0, g⟩ (fun r => (∀ c : Dev Cert.ProjOutEvenIdeal.nD,
      r.2.mem ((c.tc : Thread Cert.ProjOutEvenIdeal.nD Cert.ProjOutEvenIdeal.τ).loc Cert.ProjOutEvenIdeal.main_arg0) = m ((c.tc : Thread Cert.ProjOutEvenIdeal.nD Cert.ProjOutEvenIdeal.τ).loc Cert.ProjOutEvenIdeal.main_arg0)
      ∧ r.2.mem ((c.tc : Thread Cert.ProjOutEvenIdeal.nD Cert.ProjOutEvenIdeal.τ).loc Cert.ProjOutEvenIdeal.main_arg1) = m ((c.tc : Thread Cert.ProjOutEvenIdeal.nD Cert.ProjOutEvenIdeal.τ).loc Cert.ProjOutEvenIdeal.main_arg1)
      ∧ r.2.mem ((c.tc : Thread Cert.ProjOutEvenIdeal.nD Cert.ProjOutEvenIdeal.τ).loc Cert.ProjOutEvenIdeal.main_arg2) = m ((c.tc : Thread Cert.ProjOutEvenIdeal.nD Cert.ProjOutEvenIdeal.τ).loc Cert.ProjOutEvenIdeal.main_arg2)
      ∧ r.2.mem ((c.tc : Thread Cert.ProjOutEvenIdeal.nD Cert.ProjOutEvenIdeal.τ).loc Cert.ProjOutEvenIdeal.main_arg3) = m ((c.tc : Thread Cert.ProjOutEvenIdeal.nD Cert.ProjOutEvenIdeal.τ).loc Cert.ProjOutEvenIdeal.main_arg3))
      ∧ r.2.sem = fun _ => 0)

def quiescent_ProjOutEvenRefIdeal [hProjOutEvenRefIdeal : Cert.ProjOutEvenRefIdeal.Facts] : Prop :=
  ∀ (m : (ℓ : Loc Cert.ProjOutEvenRefIdeal.nD Cert.ProjOutEvenRefIdeal.τ Cert.ProjOutEvenRefIdeal.sig) → Buf (Elt Ideal) ℓ) (g : Dev Cert.ProjOutEvenRefIdeal.nD → PrngReg), Pre_ProjOutEvenRefIdeal m →
    θ_run (Cert.ProjOutEvenRefIdeal.defs (F := Ideal)) (onTc (τ := Cert.ProjOutEvenRefIdeal.τ) (Cert.ProjOutEvenRefIdeal.main (F := Ideal))) ⟨m, fun _ => 0, g⟩ (fun r => (∀ c : Dev Cert.ProjOutEvenRefIdeal.nD,
      r.2.mem ((c.tc : Thread Cert.ProjOutEvenRefIdeal.nD Cert.ProjOutEvenRefIdeal.τ).loc Cert.ProjOutEvenRefIdeal.main_arg0) = m ((c.tc : Thread Cert.ProjOutEvenRefIdeal.nD Cert.ProjOutEvenRefIdeal.τ).loc Cert.ProjOutEvenRefIdeal.main_arg0)
      ∧ r.2.mem ((c.tc : Thread Cert.ProjOutEvenRefIdeal.nD Cert.ProjOutEvenRefIdeal.τ).loc Cert.ProjOutEvenRefIdeal.main_arg1) = m ((c.tc : Thread Cert.ProjOutEvenRefIdeal.nD Cert.ProjOutEvenRefIdeal.τ).loc Cert.ProjOutEvenRefIdeal.main_arg1)
      ∧ r.2.mem ((c.tc : Thread Cert.ProjOutEvenRefIdeal.nD Cert.ProjOutEvenRefIdeal.τ).loc Cert.ProjOutEvenRefIdeal.main_arg2) = m ((c.tc : Thread Cert.ProjOutEvenRefIdeal.nD Cert.ProjOutEvenRefIdeal.τ).loc Cert.ProjOutEvenRefIdeal.main_arg2)
      ∧ r.2.mem ((c.tc : Thread Cert.ProjOutEvenRefIdeal.nD Cert.ProjOutEvenRefIdeal.τ).loc Cert.ProjOutEvenRefIdeal.main_arg3) = m ((c.tc : Thread Cert.ProjOutEvenRefIdeal.nD Cert.ProjOutEvenRefIdeal.τ).loc Cert.ProjOutEvenRefIdeal.main_arg3))
      ∧ r.2.sem = fun _ => 0)

def quiescent_ProjOutOdd [hProjOutOdd : Cert.ProjOutOdd.Facts] : Prop :=
  ∀ (m : (ℓ : Loc Cert.ProjOutOdd.nD Cert.ProjOutOdd.τ Cert.ProjOutOdd.sig) → Buf (Elt Bits) ℓ) (g : Dev Cert.ProjOutOdd.nD → PrngReg), Pre_ProjOutOdd m →
    θ_run (Cert.ProjOutOdd.defs (F := Bits)) (onTc (τ := Cert.ProjOutOdd.τ) (Cert.ProjOutOdd.main (F := Bits))) ⟨m, fun _ => 0, g⟩ (fun r => (∀ c : Dev Cert.ProjOutOdd.nD,
      r.2.mem ((c.tc : Thread Cert.ProjOutOdd.nD Cert.ProjOutOdd.τ).loc Cert.ProjOutOdd.main_arg0) = m ((c.tc : Thread Cert.ProjOutOdd.nD Cert.ProjOutOdd.τ).loc Cert.ProjOutOdd.main_arg0)
      ∧ r.2.mem ((c.tc : Thread Cert.ProjOutOdd.nD Cert.ProjOutOdd.τ).loc Cert.ProjOutOdd.main_arg1) = m ((c.tc : Thread Cert.ProjOutOdd.nD Cert.ProjOutOdd.τ).loc Cert.ProjOutOdd.main_arg1)
      ∧ r.2.mem ((c.tc : Thread Cert.ProjOutOdd.nD Cert.ProjOutOdd.τ).loc Cert.ProjOutOdd.main_arg2) = m ((c.tc : Thread Cert.ProjOutOdd.nD Cert.ProjOutOdd.τ).loc Cert.ProjOutOdd.main_arg2))
      ∧ r.2.sem = fun _ => 0)

def quiescent_ProjOutOddIdeal [hProjOutOddIdeal : Cert.ProjOutOddIdeal.Facts] : Prop :=
  ∀ (m : (ℓ : Loc Cert.ProjOutOddIdeal.nD Cert.ProjOutOddIdeal.τ Cert.ProjOutOddIdeal.sig) → Buf (Elt Ideal) ℓ) (g : Dev Cert.ProjOutOddIdeal.nD → PrngReg), Pre_ProjOutOddIdeal m →
    θ_run (Cert.ProjOutOddIdeal.defs (F := Ideal)) (onTc (τ := Cert.ProjOutOddIdeal.τ) (Cert.ProjOutOddIdeal.main (F := Ideal))) ⟨m, fun _ => 0, g⟩ (fun r => (∀ c : Dev Cert.ProjOutOddIdeal.nD,
      r.2.mem ((c.tc : Thread Cert.ProjOutOddIdeal.nD Cert.ProjOutOddIdeal.τ).loc Cert.ProjOutOddIdeal.main_arg0) = m ((c.tc : Thread Cert.ProjOutOddIdeal.nD Cert.ProjOutOddIdeal.τ).loc Cert.ProjOutOddIdeal.main_arg0)
      ∧ r.2.mem ((c.tc : Thread Cert.ProjOutOddIdeal.nD Cert.ProjOutOddIdeal.τ).loc Cert.ProjOutOddIdeal.main_arg1) = m ((c.tc : Thread Cert.ProjOutOddIdeal.nD Cert.ProjOutOddIdeal.τ).loc Cert.ProjOutOddIdeal.main_arg1)
      ∧ r.2.mem ((c.tc : Thread Cert.ProjOutOddIdeal.nD Cert.ProjOutOddIdeal.τ).loc Cert.ProjOutOddIdeal.main_arg2) = m ((c.tc : Thread Cert.ProjOutOddIdeal.nD Cert.ProjOutOddIdeal.τ).loc Cert.ProjOutOddIdeal.main_arg2))
      ∧ r.2.sem = fun _ => 0)

def quiescent_ProjOutOddRefIdeal [hProjOutOddRefIdeal : Cert.ProjOutOddRefIdeal.Facts] : Prop :=
  ∀ (m : (ℓ : Loc Cert.ProjOutOddRefIdeal.nD Cert.ProjOutOddRefIdeal.τ Cert.ProjOutOddRefIdeal.sig) → Buf (Elt Ideal) ℓ) (g : Dev Cert.ProjOutOddRefIdeal.nD → PrngReg), Pre_ProjOutOddRefIdeal m →
    θ_run (Cert.ProjOutOddRefIdeal.defs (F := Ideal)) (onTc (τ := Cert.ProjOutOddRefIdeal.τ) (Cert.ProjOutOddRefIdeal.main (F := Ideal))) ⟨m, fun _ => 0, g⟩ (fun r => (∀ c : Dev Cert.ProjOutOddRefIdeal.nD,
      r.2.mem ((c.tc : Thread Cert.ProjOutOddRefIdeal.nD Cert.ProjOutOddRefIdeal.τ).loc Cert.ProjOutOddRefIdeal.main_arg0) = m ((c.tc : Thread Cert.ProjOutOddRefIdeal.nD Cert.ProjOutOddRefIdeal.τ).loc Cert.ProjOutOddRefIdeal.main_arg0)
      ∧ r.2.mem ((c.tc : Thread Cert.ProjOutOddRefIdeal.nD Cert.ProjOutOddRefIdeal.τ).loc Cert.ProjOutOddRefIdeal.main_arg1) = m ((c.tc : Thread Cert.ProjOutOddRefIdeal.nD Cert.ProjOutOddRefIdeal.τ).loc Cert.ProjOutOddRefIdeal.main_arg1)
      ∧ r.2.mem ((c.tc : Thread Cert.ProjOutOddRefIdeal.nD Cert.ProjOutOddRefIdeal.τ).loc Cert.ProjOutOddRefIdeal.main_arg2) = m ((c.tc : Thread Cert.ProjOutOddRefIdeal.nD Cert.ProjOutOddRefIdeal.τ).loc Cert.ProjOutOddRefIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v2)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v2) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v13) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_GlaS_GlaSIdeal : Prop :=
  True

def algebraic_GlaSIdeal_GlaSRefIdeal [hGlaSIdeal : Cert.GlaSIdeal.Facts] [hGlaSRefIdeal : Cert.GlaSRefIdeal.Facts] : Prop :=
  ∀ (m : (ℓ : Loc Cert.GlaSIdeal.nD Cert.GlaSIdeal.τ Cert.GlaSIdeal.sig) → Buf (Elt Ideal) ℓ) (g : Dev Cert.GlaSIdeal.nD → PrngReg)
    (m' : (ℓ : Loc Cert.GlaSRefIdeal.nD Cert.GlaSRefIdeal.τ Cert.GlaSRefIdeal.sig) → Buf (Elt Ideal) ℓ) (g' : Dev Cert.GlaSRefIdeal.nD → PrngReg), Pre_GlaSIdeal m →
    (∀ c : Dev Cert.GlaSIdeal.nD,
      m' ((c.tc : Thread Cert.GlaSRefIdeal.nD Cert.GlaSRefIdeal.τ).loc Cert.GlaSRefIdeal.main_arg0) = m ((c.tc : Thread Cert.GlaSIdeal.nD Cert.GlaSIdeal.τ).loc Cert.GlaSIdeal.main_arg0)
      ∧ m' ((c.tc : Thread Cert.GlaSRefIdeal.nD Cert.GlaSRefIdeal.τ).loc Cert.GlaSRefIdeal.main_arg1) = m ((c.tc : Thread Cert.GlaSIdeal.nD Cert.GlaSIdeal.τ).loc Cert.GlaSIdeal.main_arg1)
      ∧ m' ((c.tc : Thread Cert.GlaSRefIdeal.nD Cert.GlaSRefIdeal.τ).loc Cert.GlaSRefIdeal.main_arg2) = m ((c.tc : Thread Cert.GlaSIdeal.nD Cert.GlaSIdeal.τ).loc Cert.GlaSIdeal.main_arg2)
      ∧ m' ((c.tc : Thread Cert.GlaSRefIdeal.nD Cert.GlaSRefIdeal.τ).loc Cert.GlaSRefIdeal.main_arg3) = m ((c.tc : Thread Cert.GlaSIdeal.nD Cert.GlaSIdeal.τ).loc Cert.GlaSIdeal.main_arg3)
      ∧ m' ((c.tc : Thread Cert.GlaSRefIdeal.nD Cert.GlaSRefIdeal.τ).loc Cert.GlaSRefIdeal.main_arg4) = m ((c.tc : Thread Cert.GlaSIdeal.nD Cert.GlaSIdeal.τ).loc Cert.GlaSIdeal.main_arg4)
      ∧ m' ((c.tc : Thread Cert.GlaSRefIdeal.nD Cert.GlaSRefIdeal.τ).loc Cert.GlaSRefIdeal.main_arg5) = m ((c.tc : Thread Cert.GlaSIdeal.nD Cert.GlaSIdeal.τ).loc Cert.GlaSIdeal.main_arg5)
      ∧ m' ((c.tc : Thread Cert.GlaSRefIdeal.nD Cert.GlaSRefIdeal.τ).loc Cert.GlaSRefIdeal.main_arg6) = m ((c.tc : Thread Cert.GlaSIdeal.nD Cert.GlaSIdeal.τ).loc Cert.GlaSIdeal.main_arg6)) →
    ∃ (v0 : (c : Dev Cert.GlaSIdeal.nD) → Buf (Elt Ideal) ((c.tc : Thread Cert.GlaSIdeal.nD Cert.GlaSIdeal.τ).loc Cert.GlaSIdeal.main_v4_0)) (v1 : (c : Dev Cert.GlaSIdeal.nD) → Buf (Elt Ideal) ((c.tc : Thread Cert.GlaSIdeal.nD Cert.GlaSIdeal.τ).loc Cert.GlaSIdeal.main_v4_1)),
      θ_run (Cert.GlaSIdeal.defs (F := Ideal)) (onTc (τ := Cert.GlaSIdeal.τ) (Cert.GlaSIdeal.main (F := Ideal))) ⟨m, fun _ => 0, g⟩ (fun r => ∀ c : Dev Cert.GlaSIdeal.nD,
          r.2.mem ((c.tc : Thread Cert.GlaSIdeal.nD Cert.GlaSIdeal.τ).loc Cert.GlaSIdeal.main_v4_0) = v0 c
          ∧ r.2.mem ((c.tc : Thread Cert.GlaSIdeal.nD Cert.GlaSIdeal.τ).loc Cert.GlaSIdeal.main_v4_1) = v1 c
          ∧ r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
          ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
          ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
          ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
          ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
          ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5)
          ∧ r.2.mem ((c.tc : Thread Cert.GlaSIdeal.nD Cert.GlaSIdeal.τ).loc Cert.GlaSIdeal.main_arg6) = m ((c.tc : Thread Cert.GlaSIdeal.nD Cert.GlaSIdeal.τ).loc Cert.GlaSIdeal.main_arg6))
      ∧ θ_run (Cert.GlaSRefIdeal.defs (F := Ideal)) (onTc (τ := Cert.GlaSRefIdeal.τ) (Cert.GlaSRefIdeal.main (F := Ideal))) ⟨m', fun _ => 0, g'⟩ (fun r => ∀ c : Dev Cert.GlaSRefIdeal.nD,
          r.2.mem ((c.tc : Thread Cert.GlaSRefIdeal.nD Cert.GlaSRefIdeal.τ).loc Cert.GlaSRefIdeal.main_v80) = v0 c
          ∧ r.2.mem ((c.tc : Thread Cert.GlaSRefIdeal.nD Cert.GlaSRefIdeal.τ).loc Cert.GlaSRefIdeal.main_v59) = v1 c
          ∧ r.2.mem ((c.tc : Thread Cert.GlaSRefIdeal.nD Cert.GlaSRefIdeal.τ).loc Cert.GlaSRefIdeal.main_arg0) = m' ((c.tc : Thread Cert.GlaSRefIdeal.nD Cert.GlaSRefIdeal.τ).loc Cert.GlaSRefIdeal.main_arg0)
          ∧ r.2.mem ((c.tc : Thread Cert.GlaSRefIdeal.nD Cert.GlaSRefIdeal.τ).loc Cert.GlaSRefIdeal.main_arg1) = m' ((c.tc : Thread Cert.GlaSRefIdeal.nD Cert.GlaSRefIdeal.τ).loc Cert.GlaSRefIdeal.main_arg1)
          ∧ r.2.mem ((c.tc : Thread Cert.GlaSRefIdeal.nD Cert.GlaSRefIdeal.τ).loc Cert.GlaSRefIdeal.main_arg2) = m' ((c.tc : Thread Cert.GlaSRefIdeal.nD Cert.GlaSRefIdeal.τ).loc Cert.GlaSRefIdeal.main_arg2)
          ∧ r.2.mem ((c.tc : Thread Cert.GlaSRefIdeal.nD Cert.GlaSRefIdeal.τ).loc Cert.GlaSRefIdeal.main_arg3) = m' ((c.tc : Thread Cert.GlaSRefIdeal.nD Cert.GlaSRefIdeal.τ).loc Cert.GlaSRefIdeal.main_arg3)
          ∧ r.2.mem ((c.tc : Thread Cert.GlaSRefIdeal.nD Cert.GlaSRefIdeal.τ).loc Cert.GlaSRefIdeal.main_arg4) = m' ((c.tc : Thread Cert.GlaSRefIdeal.nD Cert.GlaSRefIdeal.τ).loc Cert.GlaSRefIdeal.main_arg4)
          ∧ r.2.mem ((c.tc : Thread Cert.GlaSRefIdeal.nD Cert.GlaSRefIdeal.τ).loc Cert.GlaSRefIdeal.main_arg5) = m' ((c.tc : Thread Cert.GlaSRefIdeal.nD Cert.GlaSRefIdeal.τ).loc Cert.GlaSRefIdeal.main_arg5)
          ∧ r.2.mem ((c.tc : Thread Cert.GlaSRefIdeal.nD Cert.GlaSRefIdeal.τ).loc Cert.GlaSRefIdeal.main_arg6) = m' ((c.tc : Thread Cert.GlaSRefIdeal.nD Cert.GlaSRefIdeal.τ).loc Cert.GlaSRefIdeal.main_arg6))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)) →
    ∃ (v0 : (c : Dev Cert.ConvSIdeal.nD) → Buf (Elt Ideal) ((c.tc : Thread Cert.ConvSIdeal.nD Cert.ConvSIdeal.τ).loc Cert.ConvSIdeal.main_v5_0)) (v1 : (c : Dev Cert.ConvSIdeal.nD) → Buf (Elt Ideal) ((c.tc : Thread Cert.ConvSIdeal.nD Cert.ConvSIdeal.τ).loc Cert.ConvSIdeal.main_v5_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v5_0) = v0 c
          ∧ r.2.mem ((c.tc : Thread Cert.ConvSIdeal.nD Cert.ConvSIdeal.τ).loc Cert.ConvSIdeal.main_v5_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v264) = v0 c
          ∧ r.2.mem ((c.tc : Thread Cert.ConvSRefIdeal.nD Cert.ConvSRefIdeal.τ).loc Cert.ConvSRefIdeal.main_v234) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6))

def preserves_ConvP_ConvPIdeal : Prop :=
  True

def algebraic_ConvPIdeal_ConvPRefIdeal [hConvPIdeal : Cert.ConvPIdeal.Facts] [hConvPRefIdeal : Cert.ConvPRefIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvPRefIdeal.nD Cert.ConvPRefIdeal.τ Cert.ConvPRefIdeal.sig) → Buf (Elt Ideal) ℓ) (g' : Dev Cert.ConvPRefIdeal.nD → PrngReg), Pre_ConvPIdeal m →
    (∀ c : Dev Cert.ConvPIdeal.nD,
      m' ((c.tc : Thread Cert.ConvPRefIdeal.nD Cert.ConvPRefIdeal.τ).loc Cert.ConvPRefIdeal.main_arg0) = m ((c.tc : Thread Cert.ConvPIdeal.nD Cert.ConvPIdeal.τ).loc Cert.ConvPIdeal.main_arg0)
      ∧ m' ((c.tc : Thread Cert.ConvPRefIdeal.nD Cert.ConvPRefIdeal.τ).loc Cert.ConvPRefIdeal.main_arg1) = m ((c.tc : Thread Cert.ConvPIdeal.nD Cert.ConvPIdeal.τ).loc Cert.ConvPIdeal.main_arg1)
      ∧ m' ((c.tc : Thread Cert.ConvPRefIdeal.nD Cert.ConvPRefIdeal.τ).loc Cert.ConvPRefIdeal.main_arg2) = m ((c.tc : Thread Cert.ConvPIdeal.nD Cert.ConvPIdeal.τ).loc Cert.ConvPIdeal.main_arg2)
      ∧ m' ((c.tc : Thread Cert.ConvPRefIdeal.nD Cert.ConvPRefIdeal.τ).loc Cert.ConvPRefIdeal.main_arg3) = m ((c.tc : Thread Cert.ConvPIdeal.nD Cert.ConvPIdeal.τ).loc Cert.ConvPIdeal.main_arg3)
      ∧ m' ((c.tc : Thread Cert.ConvPRefIdeal.nD Cert.ConvPRefIdeal.τ).loc Cert.ConvPRefIdeal.main_arg4) = m ((c.tc : Thread Cert.ConvPIdeal.nD Cert.ConvPIdeal.τ).loc Cert.ConvPIdeal.main_arg4)) →
    ∃ (v0 : (c : Dev Cert.ConvPIdeal.nD) → Buf (Elt Ideal) ((c.tc : Thread Cert.ConvPIdeal.nD Cert.ConvPIdeal.τ).loc Cert.ConvPIdeal.main_v6_0)) (v1 : (c : Dev Cert.ConvPIdeal.nD) → Buf (Elt Ideal) ((c.tc : Thread Cert.ConvPIdeal.nD Cert.ConvPIdeal.τ).loc Cert.ConvPIdeal.main_v6_1)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v6_0) = v0 c
          ∧ r.2.mem ((c.tc : Thread Cert.ConvPIdeal.nD Cert.ConvPIdeal.τ).loc Cert.ConvPIdeal.main_v6_1) = v1 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
          ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4))
      ∧ θ_run (Cert.ConvPRefIdeal.defs (F := Ideal)) (onTc (τ := Cert.ConvPRefIdeal.τ) (Cert.ConvPRefIdeal.main (F := Ideal))) ⟨m', fun _ => 0, g'⟩ (fun r => ∀ c : Dev Cert.ConvPRefIdeal.nD,
          r.2.mem ((c.tc : Thread Cert.ConvPRefIdeal.nD Cert.ConvPRefIdeal.τ).loc Cert.ConvPRefIdeal.main_v264) = v0 c
          ∧ r.2.mem ((c.tc : Thread Cert.ConvPRefIdeal.nD Cert.ConvPRefIdeal.τ).loc Cert.ConvPRefIdeal.main_v235) = v1 c
          ∧ r.2.mem ((c.tc : Thread Cert.ConvPRefIdeal.nD Cert.ConvPRefIdeal.τ).loc Cert.ConvPRefIdeal.main_arg0) = m' ((c.tc : Thread Cert.ConvPRefIdeal.nD Cert.ConvPRefIdeal.τ).loc Cert.ConvPRefIdeal.main_arg0)
          ∧ r.2.mem ((c.tc : Thread Cert.ConvPRefIdeal.nD Cert.ConvPRefIdeal.τ).loc Cert.ConvPRefIdeal.main_arg1) = m' ((c.tc : Thread Cert.ConvPRefIdeal.nD Cert.ConvPRefIdeal.τ).loc Cert.ConvPRefIdeal.main_arg1)
          ∧ r.2.mem ((c.tc : Thread Cert.ConvPRefIdeal.nD Cert.ConvPRefIdeal.τ).loc Cert.ConvPRefIdeal.main_arg2) = m' ((c.tc : Thread Cert.ConvPRefIdeal.nD Cert.ConvPRefIdeal.τ).loc Cert.ConvPRefIdeal.main_arg2)
          ∧ r.2.mem ((c.tc : Thread Cert.ConvPRefIdeal.nD Cert.ConvPRefIdeal.τ).loc Cert.ConvPRefIdeal.main_arg3) = m' ((c.tc : Thread Cert.ConvPRefIdeal.nD Cert.ConvPRefIdeal.τ).loc Cert.ConvPRefIdeal.main_arg3)
          ∧ r.2.mem ((c.tc : Thread Cert.ConvPRefIdeal.nD Cert.ConvPRefIdeal.τ).loc Cert.ConvPRefIdeal.main_arg4) = m' ((c.tc : Thread Cert.ConvPRefIdeal.nD Cert.ConvPRefIdeal.τ).loc Cert.ConvPRefIdeal.main_arg4))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)) →
    ∃ (v0 : (c : Dev Cert.KvSIdeal.nD) → Buf (Elt Ideal) ((c.tc : Thread Cert.KvSIdeal.nD Cert.KvSIdeal.τ).loc Cert.KvSIdeal.main_v4)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v4) = v0 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v15) = v0 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v14) = v0 c
          ∧ r.2.mem ((c.tc : Thread Cert.QkvRefIdeal.nD Cert.QkvRefIdeal.τ).loc Cert.QkvRefIdeal.main_v17) = v1 c
          ∧ r.2.mem ((c.tc : Thread Cert.QkvRefIdeal.nD Cert.QkvRefIdeal.τ).loc Cert.QkvRefIdeal.main_v18) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v5)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v5) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v16) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_ProjOutEven_ProjOutEvenIdeal : Prop :=
  True

def algebraic_ProjOutEvenIdeal_ProjOutEvenRefIdeal [hProjOutEvenIdeal : Cert.ProjOutEvenIdeal.Facts] [hProjOutEvenRefIdeal : Cert.ProjOutEvenRefIdeal.Facts] : Prop :=
  ∀ (m : (ℓ : Loc Cert.ProjOutEvenIdeal.nD Cert.ProjOutEvenIdeal.τ Cert.ProjOutEvenIdeal.sig) → Buf (Elt Ideal) ℓ) (g : Dev Cert.ProjOutEvenIdeal.nD → PrngReg)
    (m' : (ℓ : Loc Cert.ProjOutEvenRefIdeal.nD Cert.ProjOutEvenRefIdeal.τ Cert.ProjOutEvenRefIdeal.sig) → Buf (Elt Ideal) ℓ) (g' : Dev Cert.ProjOutEvenRefIdeal.nD → PrngReg), Pre_ProjOutEvenIdeal m →
    (∀ c : Dev Cert.ProjOutEvenIdeal.nD,
      m' ((c.tc : Thread Cert.ProjOutEvenRefIdeal.nD Cert.ProjOutEvenRefIdeal.τ).loc Cert.ProjOutEvenRefIdeal.main_arg0) = m ((c.tc : Thread Cert.ProjOutEvenIdeal.nD Cert.ProjOutEvenIdeal.τ).loc Cert.ProjOutEvenIdeal.main_arg0)
      ∧ m' ((c.tc : Thread Cert.ProjOutEvenRefIdeal.nD Cert.ProjOutEvenRefIdeal.τ).loc Cert.ProjOutEvenRefIdeal.main_arg1) = m ((c.tc : Thread Cert.ProjOutEvenIdeal.nD Cert.ProjOutEvenIdeal.τ).loc Cert.ProjOutEvenIdeal.main_arg1)
      ∧ m' ((c.tc : Thread Cert.ProjOutEvenRefIdeal.nD Cert.ProjOutEvenRefIdeal.τ).loc Cert.ProjOutEvenRefIdeal.main_arg2) = m ((c.tc : Thread Cert.ProjOutEvenIdeal.nD Cert.ProjOutEvenIdeal.τ).loc Cert.ProjOutEvenIdeal.main_arg2)
      ∧ m' ((c.tc : Thread Cert.ProjOutEvenRefIdeal.nD Cert.ProjOutEvenRefIdeal.τ).loc Cert.ProjOutEvenRefIdeal.main_arg3) = m ((c.tc : Thread Cert.ProjOutEvenIdeal.nD Cert.ProjOutEvenIdeal.τ).loc Cert.ProjOutEvenIdeal.main_arg3)) →
    ∃ (v0 : (c : Dev Cert.ProjOutEvenIdeal.nD) → Buf (Elt Ideal) ((c.tc : Thread Cert.ProjOutEvenIdeal.nD Cert.ProjOutEvenIdeal.τ).loc Cert.ProjOutEvenIdeal.main_v1)),
      θ_run (Cert.ProjOutEvenIdeal.defs (F := Ideal)) (onTc (τ := Cert.ProjOutEvenIdeal.τ) (Cert.ProjOutEvenIdeal.main (F := Ideal))) ⟨m, fun _ => 0, g⟩ (fun r => ∀ c : Dev Cert.ProjOutEvenIdeal.nD,
          r.2.mem ((c.tc : Thread Cert.ProjOutEvenIdeal.nD Cert.ProjOutEvenIdeal.τ).loc Cert.ProjOutEvenIdeal.main_v1) = v0 c
          ∧ r.2.mem ((c.tc : Thread Cert.ProjOutEvenIdeal.nD Cert.ProjOutEvenIdeal.τ).loc Cert.ProjOutEvenIdeal.main_arg0) = m ((c.tc : Thread Cert.ProjOutEvenIdeal.nD Cert.ProjOutEvenIdeal.τ).loc Cert.ProjOutEvenIdeal.main_arg0)
          ∧ r.2.mem ((c.tc : Thread Cert.ProjOutEvenIdeal.nD Cert.ProjOutEvenIdeal.τ).loc Cert.ProjOutEvenIdeal.main_arg1) = m ((c.tc : Thread Cert.ProjOutEvenIdeal.nD Cert.ProjOutEvenIdeal.τ).loc Cert.ProjOutEvenIdeal.main_arg1)
          ∧ r.2.mem ((c.tc : Thread Cert.ProjOutEvenIdeal.nD Cert.ProjOutEvenIdeal.τ).loc Cert.ProjOutEvenIdeal.main_arg2) = m ((c.tc : Thread Cert.ProjOutEvenIdeal.nD Cert.ProjOutEvenIdeal.τ).loc Cert.ProjOutEvenIdeal.main_arg2)
          ∧ r.2.mem ((c.tc : Thread Cert.ProjOutEvenIdeal.nD Cert.ProjOutEvenIdeal.τ).loc Cert.ProjOutEvenIdeal.main_arg3) = m ((c.tc : Thread Cert.ProjOutEvenIdeal.nD Cert.ProjOutEvenIdeal.τ).loc Cert.ProjOutEvenIdeal.main_arg3))
      ∧ θ_run (Cert.ProjOutEvenRefIdeal.defs (F := Ideal)) (onTc (τ := Cert.ProjOutEvenRefIdeal.τ) (Cert.ProjOutEvenRefIdeal.main (F := Ideal))) ⟨m', fun _ => 0, g'⟩ (fun r => ∀ c : Dev Cert.ProjOutEvenRefIdeal.nD,
          r.2.mem ((c.tc : Thread Cert.ProjOutEvenRefIdeal.nD Cert.ProjOutEvenRefIdeal.τ).loc Cert.ProjOutEvenRefIdeal.main_v4) = v0 c
          ∧ r.2.mem ((c.tc : Thread Cert.ProjOutEvenRefIdeal.nD Cert.ProjOutEvenRefIdeal.τ).loc Cert.ProjOutEvenRefIdeal.main_arg0) = m' ((c.tc : Thread Cert.ProjOutEvenRefIdeal.nD Cert.ProjOutEvenRefIdeal.τ).loc Cert.ProjOutEvenRefIdeal.main_arg0)
          ∧ r.2.mem ((c.tc : Thread Cert.ProjOutEvenRefIdeal.nD Cert.ProjOutEvenRefIdeal.τ).loc Cert.ProjOutEvenRefIdeal.main_arg1) = m' ((c.tc : Thread Cert.ProjOutEvenRefIdeal.nD Cert.ProjOutEvenRefIdeal.τ).loc Cert.ProjOutEvenRefIdeal.main_arg1)
          ∧ r.2.mem ((c.tc : Thread Cert.ProjOutEvenRefIdeal.nD Cert.ProjOutEvenRefIdeal.τ).loc Cert.ProjOutEvenRefIdeal.main_arg2) = m' ((c.tc : Thread Cert.ProjOutEvenRefIdeal.nD Cert.ProjOutEvenRefIdeal.τ).loc Cert.ProjOutEvenRefIdeal.main_arg2)
          ∧ r.2.mem ((c.tc : Thread Cert.ProjOutEvenRefIdeal.nD Cert.ProjOutEvenRefIdeal.τ).loc Cert.ProjOutEvenRefIdeal.main_arg3) = m' ((c.tc : Thread Cert.ProjOutEvenRefIdeal.nD Cert.ProjOutEvenRefIdeal.τ).loc Cert.ProjOutEvenRefIdeal.main_arg3))

def preserves_ProjOutOdd_ProjOutOddIdeal : Prop :=
  True

def algebraic_ProjOutOddIdeal_ProjOutOddRefIdeal [hProjOutOddIdeal : Cert.ProjOutOddIdeal.Facts] [hProjOutOddRefIdeal : Cert.ProjOutOddRefIdeal.Facts] : Prop :=
  ∀ (m : (ℓ : Loc Cert.ProjOutOddIdeal.nD Cert.ProjOutOddIdeal.τ Cert.ProjOutOddIdeal.sig) → Buf (Elt Ideal) ℓ) (g : Dev Cert.ProjOutOddIdeal.nD → PrngReg)
    (m' : (ℓ : Loc Cert.ProjOutOddRefIdeal.nD Cert.ProjOutOddRefIdeal.τ Cert.ProjOutOddRefIdeal.sig) → Buf (Elt Ideal) ℓ) (g' : Dev Cert.ProjOutOddRefIdeal.nD → PrngReg), Pre_ProjOutOddIdeal m →
    (∀ c : Dev Cert.ProjOutOddIdeal.nD,
      m' ((c.tc : Thread Cert.ProjOutOddRefIdeal.nD Cert.ProjOutOddRefIdeal.τ).loc Cert.ProjOutOddRefIdeal.main_arg0) = m ((c.tc : Thread Cert.ProjOutOddIdeal.nD Cert.ProjOutOddIdeal.τ).loc Cert.ProjOutOddIdeal.main_arg0)
      ∧ m' ((c.tc : Thread Cert.ProjOutOddRefIdeal.nD Cert.ProjOutOddRefIdeal.τ).loc Cert.ProjOutOddRefIdeal.main_arg1) = m ((c.tc : Thread Cert.ProjOutOddIdeal.nD Cert.ProjOutOddIdeal.τ).loc Cert.ProjOutOddIdeal.main_arg1)
      ∧ m' ((c.tc : Thread Cert.ProjOutOddRefIdeal.nD Cert.ProjOutOddRefIdeal.τ).loc Cert.ProjOutOddRefIdeal.main_arg2) = m ((c.tc : Thread Cert.ProjOutOddIdeal.nD Cert.ProjOutOddIdeal.τ).loc Cert.ProjOutOddIdeal.main_arg2)) →
    ∃ (v0 : (c : Dev Cert.ProjOutOddIdeal.nD) → Buf (Elt Ideal) ((c.tc : Thread Cert.ProjOutOddIdeal.nD Cert.ProjOutOddIdeal.τ).loc Cert.ProjOutOddIdeal.main_v1)),
      θ_run (Cert.ProjOutOddIdeal.defs (F := Ideal)) (onTc (τ := Cert.ProjOutOddIdeal.τ) (Cert.ProjOutOddIdeal.main (F := Ideal))) ⟨m, fun _ => 0, g⟩ (fun r => ∀ c : Dev Cert.ProjOutOddIdeal.nD,
          r.2.mem ((c.tc : Thread Cert.ProjOutOddIdeal.nD Cert.ProjOutOddIdeal.τ).loc Cert.ProjOutOddIdeal.main_v1) = v0 c
          ∧ r.2.mem ((c.tc : Thread Cert.ProjOutOddIdeal.nD Cert.ProjOutOddIdeal.τ).loc Cert.ProjOutOddIdeal.main_arg0) = m ((c.tc : Thread Cert.ProjOutOddIdeal.nD Cert.ProjOutOddIdeal.τ).loc Cert.ProjOutOddIdeal.main_arg0)
          ∧ r.2.mem ((c.tc : Thread Cert.ProjOutOddIdeal.nD Cert.ProjOutOddIdeal.τ).loc Cert.ProjOutOddIdeal.main_arg1) = m ((c.tc : Thread Cert.ProjOutOddIdeal.nD Cert.ProjOutOddIdeal.τ).loc Cert.ProjOutOddIdeal.main_arg1)
          ∧ r.2.mem ((c.tc : Thread Cert.ProjOutOddIdeal.nD Cert.ProjOutOddIdeal.τ).loc Cert.ProjOutOddIdeal.main_arg2) = m ((c.tc : Thread Cert.ProjOutOddIdeal.nD Cert.ProjOutOddIdeal.τ).loc Cert.ProjOutOddIdeal.main_arg2))
      ∧ θ_run (Cert.ProjOutOddRefIdeal.defs (F := Ideal)) (onTc (τ := Cert.ProjOutOddRefIdeal.τ) (Cert.ProjOutOddRefIdeal.main (F := Ideal))) ⟨m', fun _ => 0, g'⟩ (fun r => ∀ c : Dev Cert.ProjOutOddRefIdeal.nD,
          r.2.mem ((c.tc : Thread Cert.ProjOutOddRefIdeal.nD Cert.ProjOutOddRefIdeal.τ).loc Cert.ProjOutOddRefIdeal.main_v2) = v0 c
          ∧ r.2.mem ((c.tc : Thread Cert.ProjOutOddRefIdeal.nD Cert.ProjOutOddRefIdeal.τ).loc Cert.ProjOutOddRefIdeal.main_arg0) = m' ((c.tc : Thread Cert.ProjOutOddRefIdeal.nD Cert.ProjOutOddRefIdeal.τ).loc Cert.ProjOutOddRefIdeal.main_arg0)
          ∧ r.2.mem ((c.tc : Thread Cert.ProjOutOddRefIdeal.nD Cert.ProjOutOddRefIdeal.τ).loc Cert.ProjOutOddRefIdeal.main_arg1) = m' ((c.tc : Thread Cert.ProjOutOddRefIdeal.nD Cert.ProjOutOddRefIdeal.τ).loc Cert.ProjOutOddRefIdeal.main_arg1)
          ∧ r.2.mem ((c.tc : Thread Cert.ProjOutOddRefIdeal.nD Cert.ProjOutOddRefIdeal.τ).loc Cert.ProjOutOddRefIdeal.main_arg2) = m' ((c.tc : Thread Cert.ProjOutOddRefIdeal.nD Cert.ProjOutOddRefIdeal.τ).loc Cert.ProjOutOddRefIdeal.main_arg2))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)) →
    ∃ (v0 : (c : Dev Cert.PeerQIdeal.nD) → Buf (Elt Ideal) ((c.tc : Thread Cert.PeerQIdeal.nD Cert.PeerQIdeal.τ).loc Cert.PeerQIdeal.main_v2_0)) (v1 : (c : Dev Cert.PeerQIdeal.nD) → Buf (Elt Ideal) ((c.tc : Thread Cert.PeerQIdeal.nD Cert.PeerQIdeal.τ).loc Cert.PeerQIdeal.main_v2_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v2_0) = v0 c
          ∧ r.2.mem ((c.tc : Thread Cert.PeerQIdeal.nD Cert.PeerQIdeal.τ).loc Cert.PeerQIdeal.main_v2_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v13) = v0 c
          ∧ r.2.mem ((c.tc : Thread Cert.PeerQRefIdeal.nD Cert.PeerQRefIdeal.τ).loc Cert.PeerQRefIdeal.main_v14) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2))

def Claim : Prop :=
  ∃ (hNorm : Cert.Norm.Facts) (hNormIdeal : Cert.NormIdeal.Facts) (hNormRefIdeal : Cert.NormRefIdeal.Facts) (hRows : Cert.Rows.Facts) (hRowsIdeal : Cert.RowsIdeal.Facts) (hRowsRefIdeal : Cert.RowsRefIdeal.Facts) (hGlaS : Cert.GlaS.Facts) (hGlaSIdeal : Cert.GlaSIdeal.Facts) (hGlaSRefIdeal : Cert.GlaSRefIdeal.Facts) (hConvS : Cert.ConvS.Facts) (hConvSIdeal : Cert.ConvSIdeal.Facts) (hConvSRefIdeal : Cert.ConvSRefIdeal.Facts) (hConvP : Cert.ConvP.Facts) (hConvPIdeal : Cert.ConvPIdeal.Facts) (hConvPRefIdeal : Cert.ConvPRefIdeal.Facts) (hKvS : Cert.KvS.Facts) (hKvSIdeal : Cert.KvSIdeal.Facts) (hKvSRefIdeal : Cert.KvSRefIdeal.Facts) (hQkv : Cert.Qkv.Facts) (hQkvIdeal : Cert.QkvIdeal.Facts) (hQkvRefIdeal : Cert.QkvRefIdeal.Facts) (hProjIn : Cert.ProjIn.Facts) (hProjInIdeal : Cert.ProjInIdeal.Facts) (hProjInRefIdeal : Cert.ProjInRefIdeal.Facts) (hProjOutEven : Cert.ProjOutEven.Facts) (hProjOutEvenIdeal : Cert.ProjOutEvenIdeal.Facts) (hProjOutEvenRefIdeal : Cert.ProjOutEvenRefIdeal.Facts) (hProjOutOdd : Cert.ProjOutOdd.Facts) (hProjOutOddIdeal : Cert.ProjOutOddIdeal.Facts) (hProjOutOddRefIdeal : Cert.ProjOutOddRefIdeal.Facts) (hPeerQ : Cert.PeerQ.Facts) (hPeerQIdeal : Cert.PeerQIdeal.Facts) (hPeerQRefIdeal : Cert.PeerQRefIdeal.Facts),
    quiescent_Norm (hNorm := hNorm)
    ∧ quiescent_NormIdeal (hNormIdeal := hNormIdeal)
    ∧ quiescent_NormRefIdeal (hNormRefIdeal := hNormRefIdeal)
    ∧ quiescent_Rows (hRows := hRows)
    ∧ quiescent_RowsIdeal (hRowsIdeal := hRowsIdeal)
    ∧ quiescent_RowsRefIdeal (hRowsRefIdeal := hRowsRefIdeal)
    ∧ quiescent_GlaS (hGlaS := hGlaS)
    ∧ quiescent_GlaSIdeal (hGlaSIdeal := hGlaSIdeal)
    ∧ quiescent_GlaSRefIdeal (hGlaSRefIdeal := hGlaSRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_ConvP (hConvP := hConvP)
    ∧ quiescent_ConvPIdeal (hConvPIdeal := hConvPIdeal)
    ∧ quiescent_ConvPRefIdeal (hConvPRefIdeal := hConvPRefIdeal)
    ∧ quiescent_KvS (hKvS := hKvS)
    ∧ quiescent_KvSIdeal (hKvSIdeal := hKvSIdeal)
    ∧ quiescent_KvSRefIdeal (hKvSRefIdeal := hKvSRefIdeal)
    ∧ quiescent_Qkv (hQkv := hQkv)
    ∧ quiescent_QkvIdeal (hQkvIdeal := hQkvIdeal)
    ∧ quiescent_QkvRefIdeal (hQkvRefIdeal := hQkvRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOutEven (hProjOutEven := hProjOutEven)
    ∧ quiescent_ProjOutEvenIdeal (hProjOutEvenIdeal := hProjOutEvenIdeal)
    ∧ quiescent_ProjOutEvenRefIdeal (hProjOutEvenRefIdeal := hProjOutEvenRefIdeal)
    ∧ quiescent_ProjOutOdd (hProjOutOdd := hProjOutOdd)
    ∧ quiescent_ProjOutOddIdeal (hProjOutOddIdeal := hProjOutOddIdeal)
    ∧ quiescent_ProjOutOddRefIdeal (hProjOutOddRefIdeal := hProjOutOddRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ preserves_Norm_NormIdeal
    ∧ algebraic_NormIdeal_NormRefIdeal (hNormIdeal := hNormIdeal) (hNormRefIdeal := hNormRefIdeal)
    ∧ preserves_Rows_RowsIdeal
    ∧ algebraic_RowsIdeal_RowsRefIdeal (hRowsIdeal := hRowsIdeal) (hRowsRefIdeal := hRowsRefIdeal)
    ∧ preserves_GlaS_GlaSIdeal
    ∧ algebraic_GlaSIdeal_GlaSRefIdeal (hGlaSIdeal := hGlaSIdeal) (hGlaSRefIdeal := hGlaSRefIdeal)
    ∧ preserves_ConvS_ConvSIdeal
    ∧ algebraic_ConvSIdeal_ConvSRefIdeal (hConvSIdeal := hConvSIdeal) (hConvSRefIdeal := hConvSRefIdeal)
    ∧ preserves_ConvP_ConvPIdeal
    ∧ algebraic_ConvPIdeal_ConvPRefIdeal (hConvPIdeal := hConvPIdeal) (hConvPRefIdeal := hConvPRefIdeal)
    ∧ preserves_KvS_KvSIdeal
    ∧ algebraic_KvSIdeal_KvSRefIdeal (hKvSIdeal := hKvSIdeal) (hKvSRefIdeal := hKvSRefIdeal)
    ∧ preserves_Qkv_QkvIdeal
    ∧ algebraic_QkvIdeal_QkvRefIdeal (hQkvIdeal := hQkvIdeal) (hQkvRefIdeal := hQkvRefIdeal)
    ∧ preserves_ProjIn_ProjInIdeal
    ∧ algebraic_ProjInIdeal_ProjInRefIdeal (hProjInIdeal := hProjInIdeal) (hProjInRefIdeal := hProjInRefIdeal)
    ∧ preserves_ProjOutEven_ProjOutEvenIdeal
    ∧ algebraic_ProjOutEvenIdeal_ProjOutEvenRefIdeal (hProjOutEvenIdeal := hProjOutEvenIdeal) (hProjOutEvenRefIdeal := hProjOutEvenRefIdeal)
    ∧ preserves_ProjOutOdd_ProjOutOddIdeal
    ∧ algebraic_ProjOutOddIdeal_ProjOutOddRefIdeal (hProjOutOddIdeal := hProjOutOddIdeal) (hProjOutOddRefIdeal := hProjOutOddRefIdeal)
    ∧ preserves_PeerQ_PeerQIdeal
    ∧ algebraic_PeerQIdeal_PeerQRefIdeal (hPeerQIdeal := hPeerQIdeal) (hPeerQRefIdeal := hPeerQRefIdeal)
-- ==== Norm.lean ====
abbrev S8448x2048 : Shape := ⟨2, ![8448, 2048]⟩
abbrev S2048 : Shape := ⟨1, ![2048]⟩
abbrev S1x2048 : Shape := ⟨2, ![1, 2048]⟩
abbrev S4x2048x2048 : Shape := ⟨3, ![4, 2048, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c16_i32 : BitVec 32 := 16#32
  let arg0 : BitVec 32 := BitVec.ofNat 32 (i 0).val
  let c2064_i32 : BitVec 32 := 2064#32
  let v0 : BitVec 32 := Scalar.muli arg0 c2064_i32
  let v1 : BitVec 32 := Scalar.addi c16_i32 v0
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2064_i32 : BitVec 32 := 2064#32
  let v0 : BitVec 32 := Scalar.muli arg0 c2064_i32
  let c16_i32 : BitVec 32 := 16#32
  let v1 : BitVec 32 := Scalar.addi c16_i32 v0
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormRefIdeal.lean ====
abbrev S8448x2048 : Shape := ⟨2, ![8448, 2048]⟩
abbrev S2048 : Shape := ⟨1, ![2048]⟩
abbrev S8256x2048 : Shape := ⟨2, ![8256, 2048]⟩
abbrev S4x2064x2048 : Shape := ⟨3, ![4, 2064, 2048]⟩
abbrev S_ : Shape := ⟨0, ![]⟩
abbrev S4x2064 : Shape := ⟨2, ![4, 2064]⟩
abbrev S4x2064x1 : Shape := ⟨3, ![4, 2064, 1]⟩
abbrev S1x1x2048 : Shape := ⟨3, ![1, 1, 2048]⟩
abbrev S4x2048x2048 : Shape := ⟨3, ![4, 2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8256x2048, .f32⟩
  | .hbm, ⟨3, _⟩ => ⟨S4x2064x2048, .f32⟩
  | .hbm, ⟨4, _⟩ => ⟨S4x2064x2048, .f32⟩
  | .hbm, ⟨5, _⟩ => ⟨S_, .f32⟩
  | .hbm, ⟨6, _⟩ => ⟨S4x2064, .f32⟩
  | .hbm, ⟨7, _⟩ => ⟨S4x2064x1, .f32⟩
  | .hbm, ⟨8, _⟩ => ⟨S_, .f32⟩
  | .hbm, ⟨9, _⟩ => ⟨S4x2064x1, .f32⟩
  | .hbm, ⟨10, _⟩ => ⟨S4x2064x1, .f32⟩
  | .hbm, ⟨11, _⟩ => ⟨S_, .f32⟩
  | .hbm, ⟨12, _⟩ => ⟨S4x2064x1, .f32⟩
  | .hbm, ⟨13, _⟩ => ⟨S4x2064x1, .f32⟩
  | .hbm, ⟨14, _⟩ => ⟨S4x2064x1, .f32⟩
  | .hbm, ⟨15, _⟩ => ⟨S4x2064x2048, .f32⟩
  | .hbm, ⟨16, _⟩ => ⟨S4x2064x2048, .f32⟩
  | .hbm, ⟨17, _⟩ => ⟨S1x1x2048, .f32⟩
  | .hbm, ⟨18, _⟩ => ⟨S4x2064x2048, .f32⟩
  | .hbm, ⟨19, _⟩ => ⟨S4x2064x2048, .f32⟩
  | .hbm, ⟨20, _⟩ => ⟨S4x2048x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Rows.lean ====
abbrev S8448x2048 : Shape := ⟨2, ![8448, 2048]⟩
abbrev S2048 : Shape := ⟨1, ![2048]⟩
abbrev S64x2048 : Shape := ⟨2, ![64, 2048]⟩
abbrev S1x2048 : Shape := ⟨2, ![1, 2048]⟩
abbrev S64 : Shape := ⟨1, ![64]⟩
abbrev S64x1 : Shape := ⟨2, ![64, 1]⟩

abbrev nBuf : Space → Nat
  | .hbm => 5
  | .vmem => 3
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S64x2048, .f32⟩
  | .hbm, ⟨3, _⟩ => ⟨S1x2048, .f32⟩
  | .hbm, ⟨4, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RowsRefIdeal.lean ====
abbrev S8448x2048 : Shape := ⟨2, ![8448, 2048]⟩
abbrev S2048 : Shape := ⟨1, ![2048]⟩
abbrev S64x2048 : Shape := ⟨2, ![64, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S64x2048, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GlaS.lean ====
abbrev S8448x5120 : Shape := ⟨2, ![8448, 5120]⟩
abbrev S8448x128 : Shape := ⟨2, ![8448, 128]⟩
abbrev S16x512 : Shape := ⟨2, ![16, 512]⟩
abbrev S512 : Shape := ⟨1, ![512]⟩
abbrev S256 : Shape := ⟨1, ![256]⟩
abbrev S8x4x128x256 : Shape := ⟨4, ![8, 4, 128, 256]⟩
abbrev S8448x1024 : Shape := ⟨2, ![8448, 1024]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S8x512 : Shape := ⟨2, ![8, 512]⟩
abbrev S8x1024 : Shape := ⟨2, ![8, 1024]⟩
abbrev S8x128 : Shape := ⟨2, ![8, 128]⟩
abbrev S1x4x128x256 : Shape := ⟨4, ![1, 4, 128, 256]⟩
abbrev S4x128x256 : Shape := ⟨3, ![4, 128, 256]⟩
abbrev S8x8 : Shape := ⟨2, ![8, 8]⟩
abbrev S8x256 : Shape := ⟨2, ![8, 256]⟩
abbrev S1x128x256 : Shape := ⟨3, ![1, 128, 256]⟩
abbrev S128x256 : Shape := ⟨2, ![128, 256]⟩
abbrev S8x1 : Shape := ⟨2, ![8, 1]⟩
abbrev S1x128 : Shape := ⟨2, ![1, 128]⟩
abbrev S8 : Shape := ⟨1, ![8]⟩
abbrev S1x1x128x256 : Shape := ⟨4, ![1, 1, 128, 256]⟩

abbrev nBuf : Space → Nat
  | .hbm => 15
  | .vmem => 20
  | .smem => 0
  | _ => 0

abbrev bufTy : (tb : Table) → Fin (tcTables nBuf tb) → BufTy
  | .hbm, ⟨0, _⟩ => ⟨S8448x5120, .f32⟩
  | .hbm, ⟨1, _⟩ => ⟨S8448x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S8x4x128x256, .f32⟩
  | .hbm, ⟨6, _⟩ => ⟨S8448x1024, .bf16⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S128x512, .bf16⟩
  | .hbm, ⟨11, _⟩ => ⟨S1x512, .f32⟩
  | .hbm, ⟨12, _⟩ => ⟨S1x256, .f32⟩
  | .hbm, ⟨13, _⟩ => ⟨S8448x1024, .bf16⟩
  | .hbm, ⟨14, _⟩ => ⟨S8x4x128x256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S8x1024, .bf16⟩
  | .local _ .vmem, ⟨16, _⟩ => ⟨S8x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x128x256, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GlaSRefIdeal.lean ====
abbrev S8448x5120 : Shape := ⟨2, ![8448, 5120]⟩
abbrev S8448x128 : Shape := ⟨2, ![8448, 128]⟩
abbrev S16x512 : Shape := ⟨2, ![16, 512]⟩
abbrev S512 : Shape := ⟨1, ![512]⟩
abbrev S256 : Shape := ⟨1, ![256]⟩
abbrev S8x4x128x256 : Shape := ⟨4, ![8, 4, 128, 256]⟩
abbrev S8448x1024 : Shape := ⟨2, ![8448, 1024]⟩
abbrev S64x5120 : Shape := ⟨2, ![64, 5120]⟩
abbrev S8x8x5120 : Shape := ⟨3, ![8, 8, 5120]⟩
abbrev S8x8x512 : Shape := ⟨3, ![8, 8, 512]⟩
abbrev S8x8x1024 : Shape := ⟨3, ![8, 8, 1024]⟩
abbrev S64x16 : Shape := ⟨2, ![64, 16]⟩
abbrev S8x8x16 : Shape := ⟨3, ![8, 8, 16]⟩
abbrev S1x1x512 : Shape := ⟨3, ![1, 1, 512]⟩
abbrev S_ : Shape := ⟨0, ![]⟩
abbrev S8x8x4x128 : Shape := ⟨4, ![8, 8, 4, 128]⟩
abbrev S8x8x4x256 : Shape := ⟨4, ![8, 8, 4, 256]⟩
abbrev S8x8 : Shape := ⟨2, ![8, 8]⟩
abbrev S1x8x8x1x1 : Shape := ⟨5, ![1, 8, 8, 1, 1]⟩
abbrev S8x8x1x4x128 : Shape := ⟨5, ![8, 8, 1, 4, 128]⟩
abbrev S8x1x8x4x128 : Shape := ⟨5, ![8, 1, 8, 4, 128]⟩
abbrev S8x8x8x4x128 : Shape := ⟨5, ![8, 8, 8, 4, 128]⟩
abbrev S8x8x8x4 : Shape := ⟨4, ![8, 8, 8, 4]⟩
abbrev S8x4x8x8 : Shape := ⟨4, ![8, 4, 8, 8]⟩
abbrev S8x4x256x8 : Shape := ⟨4, ![8, 4, 256, 8]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x8x4 : Shape := ⟨3, ![8, 8, 4]⟩
abbrev S8x8x4x1 : Shape := ⟨4, ![8, 8, 4, 1]⟩
abbrev S1x1x1x256 : Shape := ⟨4, ![1, 1, 1, 256]⟩
abbrev S64x1024 : Shape := ⟨2, ![64, 1024]⟩
abbrev S8256x1024 : Shape := ⟨2, ![8256, 1024]⟩
abbrev S128x1024 : Shape := ⟨2, ![128, 1024]⟩

abbrev nBuf : Space → Nat
  | .hbm => 132
  | .vmem => 0
  | .smem => 0
  | _ => 0

abbrev hbmTy0_0 (i : Nat) : BufTy := match i % 128 with
  | 0 => ⟨S8448x5120, .f32⟩
  | 1 => ⟨S8448x128, .f32⟩
  | 2 => ⟨S16x512, .f32⟩
  | 3 => ⟨S512, .f32⟩
  | 4 => ⟨S256, .f32⟩
  | 5 => ⟨S8x4x128x256, .f32⟩
  | 6 => ⟨S8448x1024, .bf16⟩
  | 7 => ⟨S64x5120, .f32⟩
  | 8 => ⟨S8x8x5120, .f32⟩
  | 9 => ⟨S8x8x512, .f32⟩
  | 10 => ⟨S8x8x512, .f32⟩
  | 11 => ⟨S8x8x1024, .f32⟩
  | 12 => ⟨S8x8x1024, .f32⟩
  | 13 => ⟨S64x16, .f32⟩
  | 14 => ⟨S8x8x16, .f32⟩
  | 15 => ⟨S8x8x512, .f32⟩
  | 16 => ⟨S1x1x512, .f32⟩
  | 17 => ⟨S8x8x512, .f32⟩
  | 18 => ⟨S8x8x512, .f32⟩
  | 19 => ⟨S8x8x512, .f32⟩
  | 20 => ⟨S_, .f32⟩
  | 21 => ⟨S8x8x512, .f32⟩
  | 22 => ⟨S8x8x512, .f32⟩
  | 23 => ⟨S8x8x512, .f32⟩
  | 24 => ⟨S8x8x512, .f32⟩
  | 25 => ⟨S8x8x512, .i1⟩
  | 26 => ⟨S8x8x512, .f32⟩
  | 27 => ⟨S8x8x512, .f32⟩
  | 28 => ⟨S8x8x512, .f32⟩
  | 29 => ⟨S8x8x512, .f32⟩
  | 30 => ⟨S8x8x512, .f32⟩
  | 31 => ⟨S8x8x512, .f32⟩
  | 32 => ⟨S8x8x512, .f32⟩
  | 33 => ⟨S8x8x512, .f32⟩
  | 34 => ⟨S8x8x512, .f32⟩
  | 35 => ⟨S_, .f32⟩
  | 36 => ⟨S8x8x512, .f32⟩
  | 37 => ⟨S8x8x512, .f32⟩
  | 38 => ⟨S8x8x4x128, .f32⟩
  | 39 => ⟨S_, .f32⟩
  | 40 => ⟨S8x8x4x128, .f32⟩
  | 41 => ⟨S8x8x4x128, .f32⟩
  | 42 => ⟨S8x8x4x128, .f32⟩
  | 43 => ⟨S8x8x4x256, .f32⟩
  | 44 => ⟨S8x8x4x128, .f32⟩
  | 45 => ⟨S_, .i1⟩
  | 46 => ⟨S8x8, .i1⟩
  | 47 => ⟨S8x8, .i32⟩
  | 48 => ⟨S_, .i32⟩
  | 49 => ⟨S8x8, .i32⟩
  | 50 => ⟨S8x8, .i32⟩
  | 51 => ⟨S8x8, .i32⟩
  | 52 => ⟨S8x8, .i1⟩
  | 53 => ⟨S_, .i1⟩
  | 54 => ⟨S8x8, .i1⟩
  | 55 => ⟨S8x8, .i1⟩
  | 56 => ⟨S1x8x8x1x1, .i1⟩
  | 57 => ⟨S_, .f32⟩
  | 58 => ⟨S_, .f32⟩
  | 59 => ⟨S8x8x4x128, .f32⟩
  | 60 => ⟨S8x8x1x4x128, .f32⟩
  | 61 => ⟨S8x1x8x4x128, .f32⟩
  | 62 => ⟨S8x8x8x4x128, .f32⟩
  | 63 => ⟨S8x8x8x4x128, .f32⟩
  | 64 => ⟨S8x8x8x4x128, .f32⟩
  | 65 => ⟨S_, .f32⟩
  | 66 => ⟨S_, .f32⟩
  | 67 => ⟨S8x8x8x4x128, .i1⟩
  | 68 => ⟨S8x8x8x4x128, .f32⟩
  | 69 => ⟨S8x8x8x4x128, .f32⟩
  | 70 => ⟨S8x8x8x4x128, .f32⟩
  | 71 => ⟨S8x8x1x4x128, .f32⟩
  | 72 => ⟨S8x1x8x4x128, .f32⟩
  | 73 => ⟨S8x8x8x4x128, .f32⟩
  | 74 => ⟨S8x8x8x4x128, .f32⟩
  | 75 => ⟨S8x8x8x4x128, .f32⟩
  | 76 => ⟨S8x8x8x4x128, .f32⟩
  | 77 => ⟨S_, .f32⟩
  | 78 => ⟨S8x8x8x4, .f32⟩
  | 79 => ⟨S8x4x8x8, .f32⟩
  | 80 => ⟨S8x4x256x8, .f32⟩
  | 81 => ⟨S8x8x4x256, .f32⟩
  | 82 => ⟨S8x8x4x128, .f32⟩
  | 83 => ⟨S8x8x4x128, .f32⟩
  | 84 => ⟨S8x4x256x8, .f32⟩
  | 85 => ⟨S8x8x4x256, .f32⟩
  | 86 => ⟨S8x8x4x256, .f32⟩
  | 87 => ⟨S8x1x4x128, .f32⟩
  | 88 => ⟨S8x4x128, .f32⟩
  | 89 => ⟨S8x1x4x128, .f32⟩
  | 90 => ⟨S8x8x4x128, .f32⟩
  | 91 => ⟨S8x8x4x128, .f32⟩
  | 92 => ⟨S8x8x4x128, .f32⟩
  | 93 => ⟨S8x8x4x128, .f32⟩
  | 94 => ⟨S8x4x128, .f32⟩
  | 95 => ⟨S8x4x128x1, .f32⟩
  | 96 => ⟨S8x4x128x256, .f32⟩
  | 97 => ⟨S8x4x128x256, .f32⟩
  | 98 => ⟨S8x4x128x256, .f32⟩
  | 99 => ⟨S8x4x128x256, .f32⟩
  | 100 => ⟨S8x8x4x256, .f32⟩
  | 101 => ⟨S_, .f32⟩
  | 102 => ⟨S8x8x4, .f32⟩
  | 103 => ⟨S8x8x4x1, .f32⟩
  | 104 => ⟨S_, .f32⟩
  | 105 => ⟨S8x8x4x1, .f32⟩
  | 106 => ⟨S8x8x4x1, .f32⟩
  | 107 => ⟨S_, .f32⟩
  | 108 => ⟨S8x8x4x1, .f32⟩
  | 109 => ⟨S8x8x4x1, .f32⟩
  | 110 => ⟨S8x8x4x1, .f32⟩
  | 111 => ⟨S8x8x4x256, .f32⟩
  | 112 => ⟨S8x8x4x256, .f32⟩
  | 113 => ⟨S1x1x1x256, .f32⟩
  | 114 => ⟨S8x8x4x256, .f32⟩
  | 115 => ⟨S8x8x4x256, .f32⟩
  | 116 => ⟨S8x8x4x256, .f32⟩
  | 117 => ⟨S8x8x4x256, .f32⟩
  | 118 => ⟨S8x8x4x256, .f32⟩
  | 119 => ⟨S_, .f32⟩
  | 120 => ⟨S8x8x4x256, .f32⟩
  | 121 => ⟨S8x8x4x256, .f32⟩
  | 122 => ⟨S_, .f32⟩
  | 123 => ⟨S8x8x4x256, .f32⟩
  | 124 => ⟨S8x8x4x256, .f32⟩
  | 125 => ⟨S8x8x4x256, .f32⟩
  | 126 => ⟨S8x8x4x256, .f32⟩
  | 127 => ⟨S64x1024, .f32⟩
  | _ => ⟨S8448x5120, .f32⟩

abbrev hbmTy0_1 (i : Nat) : BufTy := match i % 128 with
  | 0 => ⟨S8256x1024, .bf16⟩
  | 1 => ⟨S64x1024, .bf16⟩
  | 2 => ⟨S128x1024, .bf16⟩
  | 3 => ⟨S8448x1024, .bf16⟩
  | _ => ⟨S8448x5120, .f32⟩

abbrev hbmTy (i : Nat) : BufTy := match i / 128 with
  | 0 => hbmTy0_0 i
  | 1 => hbmTy0_1 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_v21 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v22 : Ref sig .tc := ⟨.hbm, 55, rfl⟩
abbrev main_v23 : Ref sig .tc := ⟨.hbm, 56, rfl⟩
abbrev main_call2_call0_cst : Ref sig .tc := ⟨.hbm, 57, rfl⟩
abbrev main_call2_call0_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_1 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_2 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_3 : Ref sig .tc := ⟨.hbm, 101, rfl⟩
abbrev main_v61 : Ref sig .tc := ⟨.hbm, 102, rfl⟩
abbrev main_v62 : Ref sig .tc := ⟨.hbm, 103, rfl⟩
abbrev main_cst_4 : Ref sig .tc := ⟨.hbm, 104, rfl⟩
abbrev main_v63 : Ref sig .tc := ⟨.hbm, 105, rfl⟩
abbrev main_v64 : Ref sig .tc := ⟨.hbm, 106, rfl⟩
abbrev main_cst_5 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]
-- ==== ConvS.lean ====
abbrev S8448x5120 : Shape := ⟨2, ![8448, 5120]⟩
abbrev S8x30x1024 : Shape := ⟨3, ![8, 30, 1024]⟩
abbrev S31x1024 : Shape := ⟨2, ![31, 1024]⟩
abbrev S1024 : Shape := ⟨1, ![1024]⟩
abbrev S8448x1024 : Shape := ⟨2, ![8448, 1024]⟩
abbrev S_ : Shape := ⟨0, ![]⟩
abbrev S32x1024 : Shape := ⟨2, ![32, 1024]⟩
abbrev S1x1024 : Shape := ⟨2, ![1, 1024]⟩
abbrev S8x32x1024 : Shape := ⟨3, ![8, 32, 1024]⟩
abbrev S8x1024 : Shape := ⟨2, ![8, 1024]⟩
abbrev S1x32x1024 : Shape := ⟨3, ![1, 32, 1024]⟩
abbrev S40x1024 : Shape := ⟨2, ![40, 1024]⟩
abbrev S7x40x1024 : Shape := ⟨3, ![7, 40, 1024]⟩
abbrev S1x8x1024 : Shape := ⟨3, ![1, 8, 1024]⟩
abbrev S8 : Shape := ⟨1, ![8]⟩
abbrev S8x1 : Shape := ⟨2, ![8, 1]⟩

abbrev nBuf : Space → Nat
  | .hbm => 18
  | .vmem => 16
  | .smem => 0
  | _ => 0

abbrev bufTy : (tb : Table) → Fin (tcTables nBuf tb) → BufTy
  | .hbm, ⟨0, _⟩ => ⟨S8448x5120, .f32⟩
  | .hbm, ⟨1, _⟩ => ⟨S8x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8448x1024, .bf16⟩
  | .hbm, ⟨7, _⟩ => ⟨S_, .i32⟩
  | .hbm, ⟨8, _⟩ => ⟨S_, .f32⟩
  | .hbm, ⟨9, _⟩ => ⟨S32x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S8x32x1024, .f32⟩
  | .hbm, ⟨16, _⟩ => ⟨S8448x1024, .bf16⟩
  | .hbm, ⟨17, _⟩ => ⟨S8x32x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S1x32x1024, .f32⟩
  | .local _ .vmem, ⟨5, _⟩ => ⟨S1x32x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S8x1024, .bf16⟩
  | .local _ .vmem, ⟨11, _⟩ => ⟨S8x1024, .bf16⟩
  | .local _ .vmem, ⟨12, _⟩ => ⟨S1x32x1024, .f32⟩
  | .local _ .vmem, ⟨13, _⟩ => ⟨S1x32x1024, .f32⟩
  | .local _ .vmem, ⟨14, _⟩ => ⟨S40x1024, .f32⟩
  | .local _ .vmem, ⟨15, _⟩ => ⟨S7x40x1024, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c4_i32 : BitVec 32 := 4#32
  let c0_i32 : BitVec 32 := 0#32
  ![v2.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvSRefIdeal.lean ====
abbrev S8448x5120 : Shape := ⟨2, ![8448, 5120]⟩
abbrev S8x30x1024 : Shape := ⟨3, ![8, 30, 1024]⟩
abbrev S31x1024 : Shape := ⟨2, ![31, 1024]⟩
abbrev S1024 : Shape := ⟨1, ![1024]⟩
abbrev S8448x1024 : Shape := ⟨2, ![8448, 1024]⟩
abbrev S64x5120 : Shape := ⟨2, ![64, 5120]⟩
abbrev S8x8x5120 : Shape := ⟨3, ![8, 8, 5120]⟩
abbrev S8x8x1024 : Shape := ⟨3, ![8, 8, 1024]⟩
abbrev S_ : Shape := ⟨0, ![]⟩
abbrev S8x38x1024 : Shape := ⟨3, ![8, 38, 1024]⟩
abbrev S1x1024 : Shape := ⟨2, ![1, 1024]⟩
abbrev S1x1x1024 : Shape := ⟨3, ![1, 1, 1024]⟩
abbrev S8x2x1024 : Shape := ⟨3, ![8, 2, 1024]⟩
abbrev S8x40x1024 : Shape := ⟨3, ![8, 40, 1024]⟩
abbrev S8x32x1024 : Shape := ⟨3, ![8, 32, 1024]⟩
abbrev S8x8 : Shape := ⟨2, ![8, 8]⟩
abbrev S8x8x1 : Shape := ⟨3, ![8, 8, 1]⟩
abbrev S8256x1024 : Shape := ⟨2, ![8256, 1024]⟩
abbrev S64x1024 : Shape := ⟨2, ![64, 1024]⟩
abbrev S128x1024 : Shape := ⟨2, ![128, 1024]⟩

abbrev nBuf : Space → Nat
  | .hbm => 288
  | .vmem => 0
  | .smem => 0
  | _ => 0

abbrev hbmTy0_0 (i : Nat) : BufTy := match i % 128 with
  | 0 => ⟨S8448x5120, .f32⟩
  | 1 => ⟨S8x30x1024, .f32⟩
  | 2 => ⟨S31x1024, .f32⟩
  | 3 => ⟨S1024, .f32⟩
  | 4 => ⟨S1024, .f32⟩
  | 5 => ⟨S1024, .f32⟩
  | 6 => ⟨S8448x1024, .bf16⟩
  | 7 => ⟨S64x5120, .f32⟩
  | 8 => ⟨S8x8x5120, .f32⟩
  | 9 => ⟨S8x8x1024, .f32⟩
  | 10 => ⟨S8x8x1024, .f32⟩
  | 11 => ⟨S8x8x1024, .f32⟩
  | 12 => ⟨S8x8x1024, .f32⟩
  | 13 => ⟨S_, .f32⟩
  | 14 => ⟨S8x8x1024, .f32⟩
  | 15 => ⟨S8x8x1024, .f32⟩
  | 16 => ⟨S_, .f32⟩
  | 17 => ⟨S8x8x1024, .f32⟩
  | 18 => ⟨S8x8x1024, .f32⟩
  | 19 => ⟨S8x8x1024, .f32⟩
  | 20 => ⟨S8x38x1024, .f32⟩
  | 21 => ⟨S8x8x1024, .f32⟩
  | 22 => ⟨S1x1024, .f32⟩
  | 23 => ⟨S1024, .f32⟩
  | 24 => ⟨S1x1x1024, .f32⟩
  | 25 => ⟨S8x8x1024, .f32⟩
  | 26 => ⟨S8x8x1024, .f32⟩
  | 27 => ⟨S8x8x1024, .f32⟩
  | 28 => ⟨S1x1024, .f32⟩
  | 29 => ⟨S1024, .f32⟩
  | 30 => ⟨S1x1x1024, .f32⟩
  | 31 => ⟨S8x8x1024, .f32⟩
  | 32 => ⟨S8x8x1024, .f32⟩
  | 33 => ⟨S8x8x1024, .f32⟩
  | 34 => ⟨S8x8x1024, .f32⟩
  | 35 => ⟨S1x1024, .f32⟩
  | 36 => ⟨S1024, .f32⟩
  | 37 => ⟨S1x1x1024, .f32⟩
  | 38 => ⟨S8x8x1024, .f32⟩
  | 39 => ⟨S8x8x1024, .f32⟩
  | 40 => ⟨S8x8x1024, .f32⟩
  | 41 => ⟨S8x8x1024, .f32⟩
  | 42 => ⟨S1x1024, .f32⟩
  | 43 => ⟨S1024, .f32⟩
  | 44 => ⟨S1x1x1024, .f32⟩
  | 45 => ⟨S8x8x1024, .f32⟩
  | 46 => ⟨S8x8x1024, .f32⟩
  | 47 => ⟨S8x8x1024, .f32⟩
  | 48 => ⟨S8x8x1024, .f32⟩
  | 49 => ⟨S1x1024, .f32⟩
  | 50 => ⟨S1024, .f32⟩
  | 51 => ⟨S1x1x1024, .f32⟩
  | 52 => ⟨S8x8x1024, .f32⟩
  | 53 => ⟨S8x8x1024, .f32⟩
  | 54 => ⟨S8x8x1024, .f32⟩
  | 55 => ⟨S8x8x1024, .f32⟩
  | 56 => ⟨S1x1024, .f32⟩
  | 57 => ⟨S1024, .f32⟩
  | 58 => ⟨S1x1x1024, .f32⟩
  | 59 => ⟨S8x8x1024, .f32⟩
  | 60 => ⟨S8x8x1024, .f32⟩
  | 61 => ⟨S8x8x1024, .f32⟩
  | 62 => ⟨S8x8x1024, .f32⟩
  | 63 => ⟨S1x1024, .f32⟩
  | 64 => ⟨S1024, .f32⟩
  | 65 => ⟨S1x1x1024, .f32⟩
  | 66 => ⟨S8x8x1024, .f32⟩
  | 67 => ⟨S8x8x1024, .f32⟩
  | 68 => ⟨S8x8x1024, .f32⟩
  | 69 => ⟨S8x8x1024, .f32⟩
  | 70 => ⟨S1x1024, .f32⟩
  | 71 => ⟨S1024, .f32⟩
  | 72 => ⟨S1x1x1024, .f32⟩
  | 73 => ⟨S8x8x1024, .f32⟩
  | 74 => ⟨S8x8x1024, .f32⟩
  | 75 => ⟨S8x8x1024, .f32⟩
  | 76 => ⟨S8x8x1024, .f32⟩
  | 77 => ⟨S1x1024, .f32⟩
  | 78 => ⟨S1024, .f32⟩
  | 79 => ⟨S1x1x1024, .f32⟩
  | 80 => ⟨S8x8x1024, .f32⟩
  | 81 => ⟨S8x8x1024, .f32⟩
  | 82 => ⟨S8x8x1024, .f32⟩
  | 83 => ⟨S8x8x1024, .f32⟩
  | 84 => ⟨S1x1024, .f32⟩
  | 85 => ⟨S1024, .f32⟩
  | 86 => ⟨S1x1x1024, .f32⟩
  | 87 => ⟨S8x8x1024, .f32⟩
  | 88 => ⟨S8x8x1024, .f32⟩
  | 89 => ⟨S8x8x1024, .f32⟩
  | 90 => ⟨S8x8x1024, .f32⟩
  | 91 => ⟨S1x1024, .f32⟩
  | 92 => ⟨S1024, .f32⟩
  | 93 => ⟨S1x1x1024, .f32⟩
  | 94 => ⟨S8x8x1024, .f32⟩
  | 95 => ⟨S8x8x1024, .f32⟩
  | 96 => ⟨S8x8x1024, .f32⟩
  | 97 => ⟨S8x8x1024, .f32⟩
  | 98 => ⟨S1x1024, .f32⟩
  | 99 => ⟨S1024, .f32⟩
  | 100 => ⟨S1x1x1024, .f32⟩
  | 101 => ⟨S8x8x1024, .f32⟩
  | 102 => ⟨S8x8x1024, .f32⟩
  | 103 => ⟨S8x8x1024, .f32⟩
  | 104 => ⟨S8x8x1024, .f32⟩
  | 105 => ⟨S1x1024, .f32⟩
  | 106 => ⟨S1024, .f32⟩
  | 107 => ⟨S1x1x1024, .f32⟩
  | 108 => ⟨S8x8x1024, .f32⟩
  | 109 => ⟨S8x8x1024, .f32⟩
  | 110 => ⟨S8x8x1024, .f32⟩
  | 111 => ⟨S8x8x1024, .f32⟩
  | 112 => ⟨S1x1024, .f32⟩
  | 113 => ⟨S1024, .f32⟩
  | 114 => ⟨S1x1x1024, .f32⟩
  | 115 => ⟨S8x8x1024, .f32⟩
  | 116 => ⟨S8x8x1024, .f32⟩
  | 117 => ⟨S8x8x1024, .f32⟩
  | 118 => ⟨S8x8x1024, .f32⟩
  | 119 => ⟨S1x1024, .f32⟩
  | 120 => ⟨S1024, .f32⟩
  | 121 => ⟨S1x1x1024, .f32⟩
  | 122 => ⟨S8x8x1024, .f32⟩
  | 123 => ⟨S8x8x1024, .f32⟩
  | 124 => ⟨S8x8x1024, .f32⟩
  | 125 => ⟨S8x8x1024, .f32⟩
  | 126 => ⟨S1x1024, .f32⟩
  | 127 => ⟨S1024, .f32⟩
  | _ => ⟨S8448x5120, .f32⟩

abbrev hbmTy0_1 (i : Nat) : BufTy := match i % 128 with
  | 0 => ⟨S1x1x1024, .f32⟩
  | 1 => ⟨S8x8x1024, .f32⟩
  | 2 => ⟨S8x8x1024, .f32⟩
  | 3 => ⟨S8x8x1024, .f32⟩
  | 4 => ⟨S8x8x1024, .f32⟩
  | 5 => ⟨S1x1024, .f32⟩
  | 6 => ⟨S1024, .f32⟩
  | 7 => ⟨S1x1x1024, .f32⟩
  | 8 => ⟨S8x8x1024, .f32⟩
  | 9 => ⟨S8x8x1024, .f32⟩
  | 10 => ⟨S8x8x1024, .f32⟩
  | 11 => ⟨S8x8x1024, .f32⟩
  | 12 => ⟨S1x1024, .f32⟩
  | 13 => ⟨S1024, .f32⟩
  | 14 => ⟨S1x1x1024, .f32⟩
  | 15 => ⟨S8x8x1024, .f32⟩
  | 16 => ⟨S8x8x1024, .f32⟩
  | 17 => ⟨S8x8x1024, .f32⟩
  | 18 => ⟨S8x8x1024, .f32⟩
  | 19 => ⟨S1x1024, .f32⟩
  | 20 => ⟨S1024, .f32⟩
  | 21 => ⟨S1x1x1024, .f32⟩
  | 22 => ⟨S8x8x1024, .f32⟩
  | 23 => ⟨S8x8x1024, .f32⟩
  | 24 => ⟨S8x8x1024, .f32⟩
  | 25 => ⟨S8x8x1024, .f32⟩
  | 26 => ⟨S1x1024, .f32⟩
  | 27 => ⟨S1024, .f32⟩
  | 28 => ⟨S1x1x1024, .f32⟩
  | 29 => ⟨S8x8x1024, .f32⟩
  | 30 => ⟨S8x8x1024, .f32⟩
  | 31 => ⟨S8x8x1024, .f32⟩
  | 32 => ⟨S8x8x1024, .f32⟩
  | 33 => ⟨S1x1024, .f32⟩
  | 34 => ⟨S1024, .f32⟩
  | 35 => ⟨S1x1x1024, .f32⟩
  | 36 => ⟨S8x8x1024, .f32⟩
  | 37 => ⟨S8x8x1024, .f32⟩
  | 38 => ⟨S8x8x1024, .f32⟩
  | 39 => ⟨S8x8x1024, .f32⟩
  | 40 => ⟨S1x1024, .f32⟩
  | 41 => ⟨S1024, .f32⟩
  | 42 => ⟨S1x1x1024, .f32⟩
  | 43 => ⟨S8x8x1024, .f32⟩
  | 44 => ⟨S8x8x1024, .f32⟩
  | 45 => ⟨S8x8x1024, .f32⟩
  | 46 => ⟨S8x8x1024, .f32⟩
  | 47 => ⟨S1x1024, .f32⟩
  | 48 => ⟨S1024, .f32⟩
  | 49 => ⟨S1x1x1024, .f32⟩
  | 50 => ⟨S8x8x1024, .f32⟩
  | 51 => ⟨S8x8x1024, .f32⟩
  | 52 => ⟨S8x8x1024, .f32⟩
  | 53 => ⟨S8x8x1024, .f32⟩
  | 54 => ⟨S1x1024, .f32⟩
  | 55 => ⟨S1024, .f32⟩
  | 56 => ⟨S1x1x1024, .f32⟩
  | 57 => ⟨S8x8x1024, .f32⟩
  | 58 => ⟨S8x8x1024, .f32⟩
  | 59 => ⟨S8x8x1024, .f32⟩
  | 60 => ⟨S8x8x1024, .f32⟩
  | 61 => ⟨S1x1024, .f32⟩
  | 62 => ⟨S1024, .f32⟩
  | 63 => ⟨S1x1x1024, .f32⟩
  | 64 => ⟨S8x8x1024, .f32⟩
  | 65 => ⟨S8x8x1024, .f32⟩
  | 66 => ⟨S8x8x1024, .f32⟩
  | 67 => ⟨S8x8x1024, .f32⟩
  | 68 => ⟨S1x1024, .f32⟩
  | 69 => ⟨S1024, .f32⟩
  | 70 => ⟨S1x1x1024, .f32⟩
  | 71 => ⟨S8x8x1024, .f32⟩
  | 72 => ⟨S8x8x1024, .f32⟩
  | 73 => ⟨S8x8x1024, .f32⟩
  | 74 => ⟨S8x8x1024, .f32⟩
  | 75 => ⟨S1x1024, .f32⟩
  | 76 => ⟨S1024, .f32⟩
  | 77 => ⟨S1x1x1024, .f32⟩
  | 78 => ⟨S8x8x1024, .f32⟩
  | 79 => ⟨S8x8x1024, .f32⟩
  | 80 => ⟨S8x8x1024, .f32⟩
  | 81 => ⟨S8x8x1024, .f32⟩
  | 82 => ⟨S1x1024, .f32⟩
  | 83 => ⟨S1024, .f32⟩
  | 84 => ⟨S1x1x1024, .f32⟩
  | 85 => ⟨S8x8x1024, .f32⟩
  | 86 => ⟨S8x8x1024, .f32⟩
  | 87 => ⟨S8x8x1024, .f32⟩
  | 88 => ⟨S8x8x1024, .f32⟩
  | 89 => ⟨S1x1024, .f32⟩
  | 90 => ⟨S1024, .f32⟩
  | 91 => ⟨S1x1x1024, .f32⟩
  | 92 => ⟨S8x8x1024, .f32⟩
  | 93 => ⟨S8x8x1024, .f32⟩
  | 94 => ⟨S8x8x1024, .f32⟩
  | 95 => ⟨S8x8x1024, .f32⟩
  | 96 => ⟨S1x1024, .f32⟩
  | 97 => ⟨S1024, .f32⟩
  | 98 => ⟨S1x1x1024, .f32⟩
  | 99 => ⟨S8x8x1024, .f32⟩
  | 100 => ⟨S8x8x1024, .f32⟩
  | 101 => ⟨S8x8x1024, .f32⟩
  | 102 => ⟨S8x8x1024, .f32⟩
  | 103 => ⟨S1x1024, .f32⟩
  | 104 => ⟨S1024, .f32⟩
  | 105 => ⟨S1x1x1024, .f32⟩
  | 106 => ⟨S8x8x1024, .f32⟩
  | 107 => ⟨S8x8x1024, .f32⟩
  | 108 => ⟨S8x8x1024, .f32⟩
  | 109 => ⟨S1x1x1024, .f32⟩
  | 110 => ⟨S8x8x1024, .f32⟩
  | 111 => ⟨S8x8x1024, .f32⟩
  | 112 => ⟨S8x2x1024, .f32⟩
  | 113 => ⟨S_, .f32⟩
  | 114 => ⟨S8x2x1024, .f32⟩
  | 115 => ⟨S8x40x1024, .f32⟩
  | 116 => ⟨S8x32x1024, .f32⟩
  | 117 => ⟨S_, .f32⟩
  | 118 => ⟨S8x8, .f32⟩
  | 119 => ⟨S8x8x1, .f32⟩
  | 120 => ⟨S_, .f32⟩
  | 121 => ⟨S8x8x1, .f32⟩
  | 122 => ⟨S8x8x1, .f32⟩
  | 123 => ⟨S8x8x1024, .f32⟩
  | 124 => ⟨S8x8x1024, .f32⟩
  | 125 => ⟨S8x8x1024, .f32⟩
  | 126 => ⟨S_, .f32⟩
  | 127 => ⟨S8x8, .f32⟩
  | _ => ⟨S8448x5120, .f32⟩

abbrev hbmTy0_2 (i : Nat) : BufTy := match i % 128 with
  | 0 => ⟨S8x8x1, .f32⟩
  | 1 => ⟨S_, .f32⟩
  | 2 => ⟨S8x8x1, .f32⟩
  | 3 => ⟨S8x8x1, .f32⟩
  | 4 => ⟨S8x8x1024, .f32⟩
  | 5 => ⟨S8x8x1024, .f32⟩
  | 6 => ⟨S_, .f32⟩
  | 7 => ⟨S8x8x1, .f32⟩
  | 8 => ⟨S8x8x1, .f32⟩
  | 9 => ⟨S8x8x1, .f32⟩
  | 10 => ⟨S8x8x1024, .f32⟩
  | 11 => ⟨S8x8x1024, .f32⟩
  | 12 => ⟨S1x1x1024, .f32⟩
  | 13 => ⟨S8x8x1024, .f32⟩
  | 14 => ⟨S8x8x1024, .f32⟩
  | 15 => ⟨S1x1x1024, .f32⟩
  | 16 => ⟨S8x8x1024, .f32⟩
  | 17 => ⟨S8x8x1024, .f32⟩
  | 18 => ⟨S8x8x1024, .f32⟩
  | 19 => ⟨S8x8x1024, .f32⟩
  | 20 => ⟨S_, .f32⟩
  | 21 => ⟨S8x8x1024, .f32⟩
  | 22 => ⟨S8x8x1024, .f32⟩
  | 23 => ⟨S_, .f32⟩
  | 24 => ⟨S8x8x1024, .f32⟩
  | 25 => ⟨S8x8x1024, .f32⟩
  | 26 => ⟨S8x8x1024, .f32⟩
  | 27 => ⟨S8256x1024, .bf16⟩
  | 28 => ⟨S64x1024, .f32⟩
  | 29 => ⟨S64x1024, .bf16⟩
  | 30 => ⟨S128x1024, .bf16⟩
  | 31 => ⟨S8448x1024, .bf16⟩
  | _ => ⟨S8448x5120, .f32⟩

abbrev hbmTy (i : Nat) : BufTy := match i / 128 with
  | 0 => hbmTy0_0 i
  | 1 => hbmTy0_1 i
  | 2 => hbmTy0_2 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_1 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_cst_2 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_cst_4 : Ref sig .tc := ⟨.hbm, 254, rfl⟩
abbrev main_v242 : Ref sig .tc := ⟨.hbm, 255, rfl⟩
abbrev main_v243 : Ref sig .tc := ⟨.hbm, 256, rfl⟩
abbrev main_cst_5 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_cst_6 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩

abbrev nD : Nat := 1
abbrev τ : Topo := Topo.v7x

variable {F : FTy → Type} [FloatOps F]
-- ==== ConvP.lean ====
abbrev S8448x5120 : Shape := ⟨2, ![8448, 5120]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S4x32x1024 : Shape := ⟨3, ![4, 32, 1024]⟩
abbrev S8448x1024 : Shape := ⟨2, ![8448, 1024]⟩
abbrev S48x1024 : Shape := ⟨2, ![48, 1024]⟩
abbrev S1x32x1024 : Shape := ⟨3, ![1, 32, 1024]⟩
abbrev S80x1024 : Shape := ⟨2, ![80, 1024]⟩
abbrev S7x80x1024 : Shape := ⟨3, ![7, 80, 1024]⟩
abbrev S72x1024 : Shape := ⟨2, ![72, 1024]⟩
abbrev S1x72x1024 : Shape := ⟨3, ![1, 72, 1024]⟩
abbrev S1x48x1024 : Shape := ⟨3, ![1, 48, 1024]⟩
abbrev S48 : Shape := ⟨1, ![48]⟩
abbrev S48x1 : Shape := ⟨2, ![48, 1]⟩

abbrev nBuf : Space → Nat
  | .hbm => 17
  | .vmem => 16
  | .smem => 0
  | _ => 0

abbrev bufTy : (tb : Table) → Fin (tcTables nBuf tb) → BufTy
  | .hbm, ⟨0, _⟩ => ⟨S8448x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x32x1024, .f32⟩
  | .hbm, ⟨13, _⟩ => ⟨S_, .bf16⟩
  | .hbm, ⟨14, _⟩ => ⟨S8448x1024, .bf16⟩
  | .hbm, ⟨15, _⟩ => ⟨S8448x1024, .bf16⟩
  | .hbm, ⟨16, _⟩ => ⟨S4x32x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S1x32x1024, .f32⟩
  | .local _ .vmem, ⟨5, _⟩ => ⟨S1x32x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S48x1024, .bf16⟩
  | .local _ .vmem, ⟨11, _⟩ => ⟨S48x1024, .bf16⟩
  | .local _ .vmem, ⟨12, _⟩ => ⟨S1x32x1024, .f32⟩
  | .local _ .vmem, ⟨13, _⟩ => ⟨S1x32x1024, .f32⟩
  | .local _ .vmem, ⟨14, _⟩ => ⟨S80x1024, .f32⟩
  | .local _ .vmem, ⟨15, _⟩ => ⟨S7x80x1024, .f32⟩
  | _, _ => ⟨S8448x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c0_i32 : BitVec 32 := 0#32
  let v1 : BitVec 32 := Scalar.addi c0_i32 v0
  let v2 : BitVec 32 := Scalar.addi v1 arg1
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S48x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S48x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvPRefIdeal.lean ====
abbrev S8448x5120 : Shape := ⟨2, ![8448, 5120]⟩
abbrev S31x1024 : Shape := ⟨2, ![31, 1024]⟩
abbrev S1024 : Shape := ⟨1, ![1024]⟩
abbrev S_ : Shape := ⟨0, ![]⟩
abbrev S4x30x1024 : Shape := ⟨3, ![4, 30, 1024]⟩
abbrev S8256x5120 : Shape := ⟨2, ![8256, 5120]⟩
abbrev S4x2064x5120 : Shape := ⟨3, ![4, 2064, 5120]⟩
abbrev S4x2064x1024 : Shape := ⟨3, ![4, 2064, 1024]⟩
abbrev S4x2094x1024 : Shape := ⟨3, ![4, 2094, 1024]⟩
abbrev S1x1024 : Shape := ⟨2, ![1, 1024]⟩
abbrev S1x1x1024 : Shape := ⟨3, ![1, 1, 1024]⟩
abbrev S4x2x1024 : Shape := ⟨3, ![4, 2, 1024]⟩
abbrev S4x2096x1024 : Shape := ⟨3, ![4, 2096, 1024]⟩
abbrev S4x32x1024 : Shape := ⟨3, ![4, 32, 1024]⟩
abbrev S4x2064 : Shape := ⟨2, ![4, 2064]⟩
abbrev S4x2064x1 : Shape := ⟨3, ![4, 2064, 1]⟩
abbrev S8256x1024 : Shape := ⟨2, ![8256, 1024]⟩
abbrev S192x1024 : Shape := ⟨2, ![192, 1024]⟩
abbrev S8448x1024 : Shape := ⟨2, ![8448, 1024]⟩

abbrev nBuf : Space → Nat
  | .hbm => 288
  | .vmem => 0
  | .smem => 0
  | _ => 0

abbrev hbmTy0_0 (i : Nat) : BufTy := match i % 128 with
  | 0 => ⟨S8448x5120, .f32⟩
  | 1 => ⟨S31x1024, .f32⟩
  | 2 => ⟨S1024, .f32⟩
  | 3 => ⟨S1024, .f32⟩
  | 4 => ⟨S1024, .f32⟩
  | 5 => ⟨S_, .f32⟩
  | 6 => ⟨S4x30x1024, .f32⟩
  | 7 => ⟨S8256x5120, .f32⟩
  | 8 => ⟨S4x2064x5120, .f32⟩
  | 9 => ⟨S4x2064x1024, .f32⟩
  | 10 => ⟨S4x2064x1024, .f32⟩
  | 11 => ⟨S4x2064x1024, .f32⟩
  | 12 => ⟨S4x2064x1024, .f32⟩
  | 13 => ⟨S_, .f32⟩
  | 14 => ⟨S4x2064x1024, .f32⟩
  | 15 => ⟨S4x2064x1024, .f32⟩
  | 16 => ⟨S_, .f32⟩
  | 17 => ⟨S4x2064x1024, .f32⟩
  | 18 => ⟨S4x2064x1024, .f32⟩
  | 19 => ⟨S4x2064x1024, .f32⟩
  | 20 => ⟨S4x2094x1024, .f32⟩
  | 21 => ⟨S4x2064x1024, .f32⟩
  | 22 => ⟨S1x1024, .f32⟩
  | 23 => ⟨S1024, .f32⟩
  | 24 => ⟨S1x1x1024, .f32⟩
  | 25 => ⟨S4x2064x1024, .f32⟩
  | 26 => ⟨S4x2064x1024, .f32⟩
  | 27 => ⟨S4x2064x1024, .f32⟩
  | 28 => ⟨S1x1024, .f32⟩
  | 29 => ⟨S1024, .f32⟩
  | 30 => ⟨S1x1x1024, .f32⟩
  | 31 => ⟨S4x2064x1024, .f32⟩
  | 32 => ⟨S4x2064x1024, .f32⟩
  | 33 => ⟨S4x2064x1024, .f32⟩
  | 34 => ⟨S4x2064x1024, .f32⟩
  | 35 => ⟨S1x1024, .f32⟩
  | 36 => ⟨S1024, .f32⟩
  | 37 => ⟨S1x1x1024, .f32⟩
  | 38 => ⟨S4x2064x1024, .f32⟩
  | 39 => ⟨S4x2064x1024, .f32⟩
  | 40 => ⟨S4x2064x1024, .f32⟩
  | 41 => ⟨S4x2064x1024, .f32⟩
  | 42 => ⟨S1x1024, .f32⟩
  | 43 => ⟨S1024, .f32⟩
  | 44 => ⟨S1x1x1024, .f32⟩
  | 45 => ⟨S4x2064x1024, .f32⟩
  | 46 => ⟨S4x2064x1024, .f32⟩
  | 47 => ⟨S4x2064x1024, .f32⟩
  | 48 => ⟨S4x2064x1024, .f32⟩
  | 49 => ⟨S1x1024, .f32⟩
  | 50 => ⟨S1024, .f32⟩
  | 51 => ⟨S1x1x1024, .f32⟩
  | 52 => ⟨S4x2064x1024, .f32⟩
  | 53 => ⟨S4x2064x1024, .f32⟩
  | 54 => ⟨S4x2064x1024, .f32⟩
  | 55 => ⟨S4x2064x1024, .f32⟩
  | 56 => ⟨S1x1024, .f32⟩
  | 57 => ⟨S1024, .f32⟩
  | 58 => ⟨S1x1x1024, .f32⟩
  | 59 => ⟨S4x2064x1024, .f32⟩
  | 60 => ⟨S4x2064x1024, .f32⟩
  | 61 => ⟨S4x2064x1024, .f32⟩
  | 62 => ⟨S4x2064x1024, .f32⟩
  | 63 => ⟨S1x1024, .f32⟩
  | 64 => ⟨S1024, .f32⟩
  | 65 => ⟨S1x1x1024, .f32⟩
  | 66 => ⟨S4x2064x1024, .f32⟩
  | 67 => ⟨S4x2064x1024, .f32⟩
  | 68 => ⟨S4x2064x1024, .f32⟩
  | 69 => ⟨S4x2064x1024, .f32⟩
  | 70 => ⟨S1x1024, .f32⟩
  | 71 => ⟨S1024, .f32⟩
  | 72 => ⟨S1x1x1024, .f32⟩
  | 73 => ⟨S4x2064x1024, .f32⟩
  | 74 => ⟨S4x2064x1024, .f32⟩
  | 75 => ⟨S4x2064x1024, .f32⟩
  | 76 => ⟨S4x2064x1024, .f32⟩
  | 77 => ⟨S1x1024, .f32⟩
  | 78 => ⟨S1024, .f32⟩
  | 79 => ⟨S1x1x1024, .f32⟩
  | 80 => ⟨S4x2064x1024, .f32⟩
  | 81 => ⟨S4x2064x1024, .f32⟩
  | 82 => ⟨S4x2064x1024, .f32⟩
  | 83 => ⟨S4x2064x1024, .f32⟩
  | 84 => ⟨S1x1024, .f32⟩
  | 85 => ⟨S1024, .f32⟩
  | 86 => ⟨S1x1x1024, .f32⟩
  | 87 => ⟨S4x2064x1024, .f32⟩
  | 88 => ⟨S4x2064x1024, .f32⟩
  | 89 => ⟨S4x2064x1024, .f32⟩
  | 90 => ⟨S4x2064x1024, .f32⟩
  | 91 => ⟨S1x1024, .f32⟩
  | 92 => ⟨S1024, .f32⟩
  | 93 => ⟨S1x1x1024, .f32⟩
  | 94 => ⟨S4x2064x1024, .f32⟩
  | 95 => ⟨S4x2064x1024, .f32⟩
  | 96 => ⟨S4x2064x1024, .f32⟩
  | 97 => ⟨S4x2064x1024, .f32⟩
  | 98 => ⟨S1x1024, .f32⟩
  | 99 => ⟨S1024, .f32⟩
  | 100 => ⟨S1x1x1024, .f32⟩
  | 101 => ⟨S4x2064x1024, .f32⟩
  | 102 => ⟨S4x2064x1024, .f32⟩
  | 103 => ⟨S4x2064x1024, .f32⟩
  | 104 => ⟨S4x2064x1024, .f32⟩
  | 105 => ⟨S1x1024, .f32⟩
  | 106 => ⟨S1024, .f32⟩
  | 107 => ⟨S1x1x1024, .f32⟩
  | 108 => ⟨S4x2064x1024, .f32⟩
  | 109 => ⟨S4x2064x1024, .f32⟩
  | 110 => ⟨S4x2064x1024, .f32⟩
  | 111 => ⟨S4x2064x1024, .f32⟩
  | 112 => ⟨S1x1024, .f32⟩
  | 113 => ⟨S1024, .f32⟩
  | 114 => ⟨S1x1x1024, .f32⟩
  | 115 => ⟨S4x2064x1024, .f32⟩
  | 116 => ⟨S4x2064x1024, .f32⟩
  | 117 => ⟨S4x2064x1024, .f32⟩
  | 118 => ⟨S4x2064x1024, .f32⟩
  | 119 => ⟨S1x1024, .f32⟩
  | 120 => ⟨S1024, .f32⟩
  | 121 => ⟨S1x1x1024, .f32⟩
  | 122 => ⟨S4x2064x1024, .f32⟩
  | 123 => ⟨S4x2064x1024, .f32⟩
  | 124 => ⟨S4x2064x1024, .f32⟩
  | 125 => ⟨S4x2064x1024, .f32⟩
  | 126 => ⟨S1x1024, .f32⟩
  | 127 => ⟨S1024, .f32⟩
  | _ => ⟨S8448x5120, .f32⟩

abbrev hbmTy0_1 (i : Nat) : BufTy := match i % 128 with
  | 0 => ⟨S1x1x1024, .f32⟩
  | 1 => ⟨S4x2064x1024, .f32⟩
  | 2 => ⟨S4x2064x1024, .f32⟩
  | 3 => ⟨S4x2064x1024, .f32⟩
  | 4 => ⟨S4x2064x1024, .f32⟩
  | 5 => ⟨S1x1024, .f32⟩
  | 6 => ⟨S1024, .f32⟩
  | 7 => ⟨S1x1x1024, .f32⟩
  | 8 => ⟨S4x2064x1024, .f32⟩
  | 9 => ⟨S4x2064x1024, .f32⟩
  | 10 => ⟨S4x2064x1024, .f32⟩
  | 11 => ⟨S4x2064x1024, .f32⟩
  | 12 => ⟨S1x1024, .f32⟩
  | 13 => ⟨S1024, .f32⟩
  | 14 => ⟨S1x1x1024, .f32⟩
  | 15 => ⟨S4x2064x1024, .f32⟩
  | 16 => ⟨S4x2064x1024, .f32⟩
  | 17 => ⟨S4x2064x1024, .f32⟩
  | 18 => ⟨S4x2064x1024, .f32⟩
  | 19 => ⟨S1x1024, .f32⟩
  | 20 => ⟨S1024, .f32⟩
  | 21 => ⟨S1x1x1024, .f32⟩
  | 22 => ⟨S4x2064x1024, .f32⟩
  | 23 => ⟨S4x2064x1024, .f32⟩
  | 24 => ⟨S4x2064x1024, .f32⟩
  | 25 => ⟨S4x2064x1024, .f32⟩
  | 26 => ⟨S1x1024, .f32⟩
  | 27 => ⟨S1024, .f32⟩
  | 28 => ⟨S1x1x1024, .f32⟩
  | 29 => ⟨S4x2064x1024, .f32⟩
  | 30 => ⟨S4x2064x1024, .f32⟩
  | 31 => ⟨S4x2064x1024, .f32⟩
  | 32 => ⟨S4x2064x1024, .f32⟩
  | 33 => ⟨S1x1024, .f32⟩
  | 34 => ⟨S1024, .f32⟩
  | 35 => ⟨S1x1x1024, .f32⟩
  | 36 => ⟨S4x2064x1024, .f32⟩
  | 37 => ⟨S4x2064x1024, .f32⟩
  | 38 => ⟨S4x2064x1024, .f32⟩
  | 39 => ⟨S4x2064x1024, .f32⟩
  | 40 => ⟨S1x1024, .f32⟩
  | 41 => ⟨S1024, .f32⟩
  | 42 => ⟨S1x1x1024, .f32⟩
  | 43 => ⟨S4x2064x1024, .f32⟩
  | 44 => ⟨S4x2064x1024, .f32⟩
  | 45 => ⟨S4x2064x1024, .f32⟩
  | 46 => ⟨S4x2064x1024, .f32⟩
  | 47 => ⟨S1x1024, .f32⟩
  | 48 => ⟨S1024, .f32⟩
  | 49 => ⟨S1x1x1024, .f32⟩
  | 50 => ⟨S4x2064x1024, .f32⟩
  | 51 => ⟨S4x2064x1024, .f32⟩
  | 52 => ⟨S4x2064x1024, .f32⟩
  | 53 => ⟨S4x2064x1024, .f32⟩
  | 54 => ⟨S1x1024, .f32⟩
  | 55 => ⟨S1024, .f32⟩
  | 56 => ⟨S1x1x1024, .f32⟩
  | 57 => ⟨S4x2064x1024, .f32⟩
  | 58 => ⟨S4x2064x1024, .f32⟩
  | 59 => ⟨S4x2064x1024, .f32⟩
  | 60 => ⟨S4x2064x1024, .f32⟩
  | 61 => ⟨S1x1024, .f32⟩
  | 62 => ⟨S1024, .f32⟩
  | 63 => ⟨S1x1x1024, .f32⟩
  | 64 => ⟨S4x2064x1024, .f32⟩
  | 65 => ⟨S4x2064x1024, .f32⟩
  | 66 => ⟨S4x2064x1024, .f32⟩
  | 67 => ⟨S4x2064x1024, .f32⟩
  | 68 => ⟨S1x1024, .f32⟩
  | 69 => ⟨S1024, .f32⟩
  | 70 => ⟨S1x1x1024, .f32⟩
  | 71 => ⟨S4x2064x1024, .f32⟩
  | 72 => ⟨S4x2064x1024, .f32⟩
  | 73 => ⟨S4x2064x1024, .f32⟩
  | 74 => ⟨S4x2064x1024, .f32⟩
  | 75 => ⟨S1x1024, .f32⟩
  | 76 => ⟨S1024, .f32⟩
  | 77 => ⟨S1x1x1024, .f32⟩
  | 78 => ⟨S4x2064x1024, .f32⟩
  | 79 => ⟨S4x2064x1024, .f32⟩
  | 80 => ⟨S4x2064x1024, .f32⟩
  | 81 => ⟨S4x2064x1024, .f32⟩
  | 82 => ⟨S1x1024, .f32⟩
  | 83 => ⟨S1024, .f32⟩
  | 84 => ⟨S1x1x1024, .f32⟩
  | 85 => ⟨S4x2064x1024, .f32⟩
  | 86 => ⟨S4x2064x1024, .f32⟩
  | 87 => ⟨S4x2064x1024, .f32⟩
  | 88 => ⟨S4x2064x1024, .f32⟩
  | 89 => ⟨S1x1024, .f32⟩
  | 90 => ⟨S1024, .f32⟩
  | 91 => ⟨S1x1x1024, .f32⟩
  | 92 => ⟨S4x2064x1024, .f32⟩
  | 93 => ⟨S4x2064x1024, .f32⟩
  | 94 => ⟨S4x2064x1024, .f32⟩
  | 95 => ⟨S4x2064x1024, .f32⟩
  | 96 => ⟨S1x1024, .f32⟩
  | 97 => ⟨S1024, .f32⟩
  | 98 => ⟨S1x1x1024, .f32⟩
  | 99 => ⟨S4x2064x1024, .f32⟩
  | 100 => ⟨S4x2064x1024, .f32⟩
  | 101 => ⟨S4x2064x1024, .f32⟩
  | 102 => ⟨S4x2064x1024, .f32⟩
  | 103 => ⟨S1x1024, .f32⟩
  | 104 => ⟨S1024, .f32⟩
  | 105 => ⟨S1x1x1024, .f32⟩
  | 106 => ⟨S4x2064x1024, .f32⟩
  | 107 => ⟨S4x2064x1024, .f32⟩
  | 108 => ⟨S4x2064x1024, .f32⟩
  | 109 => ⟨S1x1x1024, .f32⟩
  | 110 => ⟨S4x2064x1024, .f32⟩
  | 111 => ⟨S4x2064x1024, .f32⟩
  | 112 => ⟨S4x2x1024, .f32⟩
  | 113 => ⟨S_, .f32⟩
  | 114 => ⟨S4x2x1024, .f32⟩
  | 115 => ⟨S4x2096x1024, .f32⟩
  | 116 => ⟨S4x32x1024, .f32⟩
  | 117 => ⟨S_, .f32⟩
  | 118 => ⟨S4x2064, .f32⟩
  | 119 => ⟨S4x2064x1, .f32⟩
  | 120 => ⟨S_, .f32⟩
  | 121 => ⟨S4x2064x1, .f32⟩
  | 122 => ⟨S4x2064x1, .f32⟩
  | 123 => ⟨S4x2064x1024, .f32⟩
  | 124 => ⟨S4x2064x1024, .f32⟩
  | 125 => ⟨S4x2064x1024, .f32⟩
  | 126 => ⟨S_, .f32⟩
  | 127 => ⟨S4x2064, .f32⟩
  | _ => ⟨S8448x5120, .f32⟩

abbrev hbmTy0_2 (i : Nat) : BufTy := match i % 128 with
  | 0 => ⟨S4x2064x1, .f32⟩
  | 1 => ⟨S_, .f32⟩
  | 2 => ⟨S4x2064x1, .f32⟩
  | 3 => ⟨S4x2064x1, .f32⟩
  | 4 => ⟨S4x2064x1024, .f32⟩
  | 5 => ⟨S4x2064x1024, .f32⟩
  | 6 => ⟨S_, .f32⟩
  | 7 => ⟨S4x2064x1, .f32⟩
  | 8 => ⟨S4x2064x1, .f32⟩
  | 9 => ⟨S4x2064x1, .f32⟩
  | 10 => ⟨S4x2064x1024, .f32⟩
  | 11 => ⟨S4x2064x1024, .f32⟩
  | 12 => ⟨S1x1x1024, .f32⟩
  | 13 => ⟨S4x2064x1024, .f32⟩
  | 14 => ⟨S4x2064x1024, .f32⟩
  | 15 => ⟨S1x1x1024, .f32⟩
  | 16 => ⟨S4x2064x1024, .f32⟩
  | 17 => ⟨S4x2064x1024, .f32⟩
  | 18 => ⟨S4x2064x1024, .f32⟩
  | 19 => ⟨S4x2064x1024, .f32⟩
  | 20 => ⟨S_, .f32⟩
  | 21 => ⟨S4x2064x1024, .f32⟩
  | 22 => ⟨S4x2064x1024, .f32⟩
  | 23 => ⟨S_, .f32⟩
  | 24 => ⟨S4x2064x1024, .f32⟩
  | 25 => ⟨S4x2064x1024, .f32⟩
  | 26 => ⟨S4x2064x1024, .f32⟩
  | 27 => ⟨S8256x1024, .f32⟩
  | 28 => ⟨S8256x1024, .bf16⟩
  | 29 => ⟨S_, .bf16⟩
  | 30 => ⟨S192x1024, .bf16⟩
  | 31 => ⟨S8448x1024, .bf16⟩
  | _ => ⟨S8448x5120, .f32⟩

abbrev hbmTy (i : Nat) : BufTy := match i / 128 with
  | 0 => hbmTy0_0 i
  | 1 => hbmTy0_1 i
  | 2 => hbmTy0_2 i
  | _ => ⟨S8448x5120, .f32⟩

abbrev bufTy : (tb : Table) → Fin (tcTables nBuf tb) → BufTy
  | .hbm, ⟨i, _⟩ => hbmTy i
  | _, _ => ⟨S8448x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_cst_2 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_cst_7 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_cst_8 : Ref sig .tc := ⟨.hbm, 285, rfl⟩
abbrev main_v263 : Ref sig .tc := ⟨.hbm, 286, rfl⟩
abbrev main_v264 : Ref sig .tc := ⟨.hbm, 287, rfl⟩

abbrev nD : Nat := 1
abbrev τ : Topo := Topo.v7x

variable {F : FTy → Type} [FloatOps F]
-- ==== KvS.lean ====
abbrev S8448x2048 : Shape := ⟨2, ![8448, 2048]⟩
abbrev S2048 : Shape := ⟨1, ![2048]⟩
abbrev S2048x6144 : Shape := ⟨2, ![2048, 6144]⟩
abbrev S64x2048 : Shape := ⟨2, ![64, 2048]⟩
abbrev S2048x4096 : Shape := ⟨2, ![2048, 4096]⟩
abbrev S1x2048 : Shape := ⟨2, ![1, 2048]⟩
abbrev S64x4096 : Shape := ⟨2, ![64, 4096]⟩
abbrev S2048x1024 : Shape := ⟨2, ![2048, 1024]⟩
abbrev S64x1024 : Shape := ⟨2, ![64, 1024]⟩
abbrev S64 : Shape := ⟨1, ![64]⟩
abbrev S64x1 : Shape := ⟨2, ![64, 1]⟩

abbrev nBuf : Space → Nat
  | .hbm => 8
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S64x2048, .f32⟩
  | .hbm, ⟨5, _⟩ => ⟨S2048x4096, .bf16⟩
  | .hbm, ⟨6, _⟩ => ⟨S1x2048, .f32⟩
  | .hbm, ⟨7, _⟩ => ⟨S64x4096, .f32⟩
  | .local _ .vmem, ⟨0, _⟩ => ⟨S64x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S64x1024, .f32⟩
  | .local _ .vmem, ⟨5, _⟩ => ⟨S64x1024, .f32⟩
  | .local _ .vmem, ⟨6, _⟩ => ⟨S64x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvSRefIdeal.lean ====
abbrev S8448x2048 : Shape := ⟨2, ![8448, 2048]⟩
abbrev S2048 : Shape := ⟨1, ![2048]⟩
abbrev S2048x6144 : Shape := ⟨2, ![2048, 6144]⟩
abbrev S64x2048 : Shape := ⟨2, ![64, 2048]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x6144 : Shape := ⟨2, ![64, 6144]⟩
abbrev S64x4096 : Shape := ⟨2, ![64, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S64x2048, .f32⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S64x2048, .f32⟩
  | .hbm, ⟨16, _⟩ => ⟨S64x2048, .f32⟩
  | .hbm, ⟨17, _⟩ => ⟨S1x2048, .f32⟩
  | .hbm, ⟨18, _⟩ => ⟨S64x2048, .f32⟩
  | .hbm, ⟨19, _⟩ => ⟨S64x2048, .f32⟩
  | .hbm, ⟨20, _⟩ => ⟨S64x6144, .f32⟩
  | .hbm, ⟨21, _⟩ => ⟨S64x4096, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Qkv.lean ====
abbrev S8448x2048 : Shape := ⟨2, ![8448, 2048]⟩
abbrev S2048 : Shape := ⟨1, ![2048]⟩
abbrev S2048x6144 : Shape := ⟨2, ![2048, 6144]⟩
abbrev S1x2048 : Shape := ⟨2, ![1, 2048]⟩
abbrev S8256x2048 : Shape := ⟨2, ![8256, 2048]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 8
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S1x2048, .f32⟩
  | .hbm, ⟨5, _⟩ => ⟨S8448x2048, .f32⟩
  | .hbm, ⟨6, _⟩ => ⟨S8256x2048, .f32⟩
  | .hbm, ⟨7, _⟩ => ⟨S8256x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 6], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let c4_i32 : BitVec 32 := 4#32
  let v11 : BitVec 1 := Scalar.cmpi .slt arg1 c4_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c4_i32_7 : BitVec 32 := 4#32
  let v15 : BitVec 1 := Scalar.cmpi .sge arg1 c4_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8448x2048 : Shape := ⟨2, ![8448, 2048]⟩
abbrev S2048 : Shape := ⟨1, ![2048]⟩
abbrev S2048x6144 : Shape := ⟨2, ![2048, 6144]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x6144 : Shape := ⟨2, ![8448, 6144]⟩
abbrev S8256x2048 : Shape := ⟨2, ![8256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x6144, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x6144, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8256x2048, .f32⟩
  | .hbm, ⟨24, _⟩ => ⟨S8256x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ProjIn.lean ====
abbrev S8448x2048 : Shape := ⟨2, ![8448, 2048]⟩
abbrev S2048 : Shape := ⟨1, ![2048]⟩
abbrev S2048x5136 : Shape := ⟨2, ![2048, 5136]⟩
abbrev S2048x3072 : Shape := ⟨2, ![2048, 3072]⟩
abbrev S2048x2048 : Shape := ⟨2, ![2048, 2048]⟩
abbrev S2048x5120 : Shape := ⟨2, ![2048, 5120]⟩
abbrev S1x2048 : Shape := ⟨2, ![1, 2048]⟩
abbrev S8448x5120 : Shape := ⟨2, ![8448, 5120]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 9
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x5136, .f32⟩
  | .hbm, ⟨3, _⟩ => ⟨S2048x3072, .f32⟩
  | .hbm, ⟨4, _⟩ => ⟨S2048x2048, .f32⟩
  | .hbm, ⟨5, _⟩ => ⟨S2048x5120, .f32⟩
  | .hbm, ⟨6, _⟩ => ⟨S2048x5120, .bf16⟩
  | .hbm, ⟨7, _⟩ => ⟨S1x2048, .f32⟩
  | .hbm, ⟨8, _⟩ => ⟨S8448x5120, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjInRefIdeal.lean ====
abbrev S8448x2048 : Shape := ⟨2, ![8448, 2048]⟩
abbrev S2048 : Shape := ⟨1, ![2048]⟩
abbrev S2048x5136 : Shape := ⟨2, ![2048, 5136]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x5136 : Shape := ⟨2, ![8448, 5136]⟩
abbrev S8448x3072 : Shape := ⟨2, ![8448, 3072]⟩
abbrev S8448x5120 : Shape := ⟨2, ![8448, 5120]⟩

abbrev nBuf : Space → Nat
  | .hbm => 23
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x5136, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x5136, .f32⟩
  | .hbm, ⟨20, _⟩ => ⟨S8448x3072, .f32⟩
  | .hbm, ⟨21, _⟩ => ⟨S8448x2048, .f32⟩
  | .hbm, ⟨22, _⟩ => ⟨S8448x5120, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ProjOutEven.lean ====
abbrev S8448x1024 : Shape := ⟨2, ![8448, 1024]⟩
abbrev S2048x2048 : Shape := ⟨2, ![2048, 2048]⟩
abbrev S8448x2048 : Shape := ⟨2, ![8448, 2048]⟩
abbrev S768x1024 : Shape := ⟨2, ![768, 1024]⟩
abbrev S768x2048 : Shape := ⟨2, ![768, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2048x2048, .f32⟩
  | .hbm, ⟨3, _⟩ => ⟨S8448x2048, .f32⟩
  | .hbm, ⟨4, _⟩ => ⟨S2048x2048, .bf16⟩
  | .hbm, ⟨5, _⟩ => ⟨S8448x2048, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x2048, .bf16⟩
  | .local _ .vmem, ⟨5, _⟩ => ⟨S768x2048, .f32⟩
  | .local _ .vmem, ⟨6, _⟩ => ⟨S768x2048, .f32⟩
  | .local _ .vmem, ⟨7, _⟩ => ⟨S768x2048, .f32⟩
  | .local _ .vmem, ⟨8, _⟩ => ⟨S768x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjOutEvenRefIdeal.lean ====
abbrev S8448x1024 : Shape := ⟨2, ![8448, 1024]⟩
abbrev S2048x2048 : Shape := ⟨2, ![2048, 2048]⟩
abbrev S8448x2048 : Shape := ⟨2, ![8448, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2048x2048, .f32⟩
  | .hbm, ⟨3, _⟩ => ⟨S8448x2048, .f32⟩
  | .hbm, ⟨4, _⟩ => ⟨S8448x1024, .f32⟩
  | .hbm, ⟨5, _⟩ => ⟨S8448x1024, .f32⟩
  | .hbm, ⟨6, _⟩ => ⟨S8448x2048, .f32⟩
  | .hbm, ⟨7, _⟩ => ⟨S8448x2048, .f32⟩
  | .hbm, ⟨8, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjOutOdd.lean ====
abbrev S8448x2048 : Shape := ⟨2, ![8448, 2048]⟩
abbrev S2048x2048 : Shape := ⟨2, ![2048, 2048]⟩
abbrev S768x2048 : Shape := ⟨2, ![768, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjOutOddRefIdeal.lean ====
abbrev S8448x2048 : Shape := ⟨2, ![8448, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PeerQ.lean ====
abbrev S8448x2048 : Shape := ⟨2, ![8448, 2048]⟩
abbrev S2048 : Shape := ⟨1, ![2048]⟩
abbrev S2048x2048 : Shape := ⟨2, ![2048, 2048]⟩
abbrev S1x2048 : Shape := ⟨2, ![1, 2048]⟩
abbrev S768x2048 : Shape := ⟨2, ![768, 2048]⟩
abbrev S2048x1024 : Shape := ⟨2, ![2048, 1024]⟩
abbrev S768x1024 : Shape := ⟨2, ![768, 1024]⟩
abbrev S768 : Shape := ⟨1, ![768]⟩
abbrev S768x1 : Shape := ⟨2, ![768, 1]⟩

abbrev nBuf : Space → Nat
  | .hbm => 7
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8448x2048, .f32⟩
  | .hbm, ⟨6, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S768x2048, .bf16⟩
  | .local _ .vmem, ⟨8, _⟩ => ⟨S768x2048, .bf16⟩
  | .local _ .vmem, ⟨9, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PeerQRefIdeal.lean ====
abbrev S8448x2048 : Shape := ⟨2, ![8448, 2048]⟩
abbrev S2048 : Shape := ⟨1, ![2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x2048, .f32⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.NormRef.lean ====
/- The reference of the final norm, read element by element. -/
module

public import proofs.«01_k».proof.Proof.Gen.NormRefIdeal.Run
public import Idealize.ShloMosaic.Lib.Pointwise

@[expose] public section

set_option maxRecDepth 16384

noncomputable section

namespace Cert.NormRefIdeal.Read

open Cert.NormRefIdeal Cert.NormRefIdeal.Gen Idealize.ShloMosaic Idealize.ShloMosaic.TcCoe Idealize.SL.Sem

/-- The RMS norm of row `r` of `x`, scaled by `g`, at column `d`: what both programs compute, over the extended reals. -/
def rms {n : Nat} (x : (⟨2, ![n, 2048]⟩ : Shape).Idx → EReal) (g : (⟨1, ![2048]⟩ : Shape).Idx → EReal)
    (r : Fin n) (d : Fin 2048) : EReal :=
  x (ix2 r d) * Ideal.rsqrt (Ideal.div (∑ k : Fin 2048, x (ix2 r k) * x (ix2 r k)) (Ideal.ofBits .f32 0x45000000#32)
    + Ideal.ofBits .f32 0x358637BD#32) * g (ix1 d)

/-- Element `(b, s, d)` of the result reads row `2064 b + (16 + s)`. -/
def G (x : (⟨2, ![8448, 2048]⟩ : Shape).Idx → EReal) (g : (⟨1, ![2048]⟩ : Shape).Idx → EReal) :
    (⟨3, ![4, 2048, 2048]⟩ : Shape).Idx → EReal := fun j =>
  rms x g ⟨(j 0).val * 2064 + (16 + (j 1).val), by
    have h0 : (j 0).val < 4 := (j 0).isLt
    have h1 : (j 1).val < 2048 := (j 1).isLt
    omega⟩ (j 2)

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext j
      idx_vars j
      pointwise [G, rms]), (h c).2⟩) (Cert.NormRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, Idealize.ShloMosaic.sem_eq_zero_of_no_sems (by decide) r.2⟩) (run m ρ)

end Cert.NormRefIdeal.Read
-- ==== Proof.NormValue.lean ====
/- What the kernel of the final norm leaves: its element blocks of rows, put together. -/
module

public import proofs.«01_k».proof.Proof.Gen.NormIdeal.Value
public import proofs.«01_k».proof.Proof.NormRef

@[expose] public section

set_option maxRecDepth 16384

noncomputable section

namespace Cert.NormIdeal.Read

open Cert.NormIdeal Cert.NormIdeal.Gen Idealize.ShloMosaic Idealize.ShloMosaic.TcCoe Idealize.SL.Sem
open Cert.NormRefIdeal.Read (rms G)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` covers batch `t / 8` and the rows from `256 (t % 8)` on; its input block starts at row
    `16 + 2064 (t / 8) + 256 (t % 8)`. -/
theorem starts (t : Fin cfg0.N) :
    (win0_0.rect t).off 0 = 16 + t.val / 8 * 2064 + t.val % 8 * 256 ∧ (win0_0.rect t).off 1 = 0
    ∧ (win0_2.rect t).off 0 = t.val / 8 ∧ (win0_2.rect t).off 1 = t.val % 8 * 256 ∧ (win0_2.rect t).off 2 = 0
    ∧ (win0_1.rect t).off 0 = 0 ∧ (win0_1.rect t).off 1 = 0 :=
  (by decide +kernel : ∀ t : Fin grid0.N,
    (win0_0.rect t).off 0 = 16 + t.val / 8 * 2064 + t.val % 8 * 256 ∧ (win0_0.rect t).off 1 = 0
    ∧ (win0_2.rect t).off 0 = t.val / 8 ∧ (win0_2.rect t).off 1 = t.val % 8 * 256 ∧ (win0_2.rect t).off 2 = 0
    ∧ (win0_1.rect t).off 0 = 0 ∧ (win0_1.rect t).off 1 = 0) t

/-- The input block of point `t`, element by element. -/
theorem blk_x (c : Dev nD) (t : Fin cfg0.N) (r : Fin 256) (d : Fin 2048) (R : Fin 8448)
    (hR : R.val = 16 + t.val / 8 * 2064 + t.val % 8 * 256 + r.val) :
    (iblk m c 0 t : Vec Ideal S256x2048 .f32) (ix2 r d) = m ((c : Thread nD τ).loc main_arg0) (ix2 R d) := by
  unfold iblk
  rw [View.read_apply]
  show V m c main_arg0 _ = _
  rw [V_main_arg0]
  congr 1
  funext a
  apply Fin.ext
  have h := starts t
  match a with
  | ⟨0, _⟩ => show (win0_0.rect t).off 0 + 1 * r.val = R.val; rw [h.1, hR]; omega
  | ⟨1, _⟩ => show (win0_0.rect t).off 1 + 1 * d.val = d.val; rw [h.2.1]; omega

/-- The gain as one row. -/
theorem row_apply (z : Vec Ideal S2048 .f32) (d : Fin 2048) :
    shapeCast S1x2048 z shapeCasts_S2048_S1x2048 (ix2 0 d) = z (ix1 d) := by
  pointwise

/-- The gain's block is the whole gain at every point. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v0 _ = _
  have e : V m c main_v0 = shapeCast S1x2048 (m ((c : Thread nD τ).loc main_arg1)) shapeCasts_S2048_S1x2048 := by
    show StableHlo.after [StableHlo.reshape main_arg1 main_v0 rfl shapeCasts_S2048_S1x2048] _ _ = _
    after_results <;> rfl
  have h := starts t
  rw [e, show ((cfg0.win 1).blk t).view.emb (ix2 0 d) = (ix2 0 d : S1x2048.Idx) from by
    funext a
    apply Fin.ext
    match a with
    | ⟨0, _⟩ => show (win0_1.rect t).off 0 + 1 * 0 = 0; rw [h.2.2.2.2.2.1]
    | ⟨1, _⟩ => show (win0_1.rect t).off 1 + 1 * d.val = d.val; rw [h.2.2.2.2.2.2]; omega]
  exact row_apply _ d

/-- What a point computes from its two blocks, element by element. -/
theorem out_apply (x : Vec Ideal S256x2048 .f32) (g : Vec Ideal S1x2048 .f32) (u : Fin 1) (r : Fin 256) (d : Fin 2048) :
    out0_2 x g (ix3 u r d) = rms x (fun k => g (ix2 0 (k 0))) r d := by
  unfold out0_2
  rw [View.canon_unit_zero hz3, View.ld_unit_zero hz2, View.ld_unit_zero hz2]
  pointwise [k0_pay1, rms]

/-- Point `t` writes back block `t` of `G`. -/
theorem flushed_eq (c : Dev nD) (t : Fin cfg0.N) : (dats m 0 c).flushed 2 t = ((cfg0.win 2).blk t).view.read (Elt Ideal)
    (G (m ((c : Thread nD τ).loc main_arg0)) (m ((c : Thread nD τ).loc main_arg1))) := by
  rw [Value.flushed2]
  have h := starts t
  have ht : t.val < 32 := lt_of_lt_of_eq t.isLt N_0
  funext y
  obtain ⟨u, r, d, rfl⟩ : ∃ (u : Fin 1) (r : Fin 256) (d : Fin 2048), y = (ix3 u r d : S1x256x2048.Idx) :=
    ⟨y 0, y 1, y 2, eq_ix3 y⟩
  have hR : t.val / 8 * 2064 + (16 + (t.val % 8 * 256 + r.val)) < 8448 := by omega
  have hb : t.val / 8 < 4 := by omega
  have hs : t.val % 8 * 256 + r.val < 2048 := by omega
  rw [View.read_apply, show ((cfg0.win 2).blk t).view.emb (ix3 u r d)
      = (ix3 ⟨t.val / 8, hb⟩ ⟨t.val % 8 * 256 + r.val, hs⟩ d : S4x2048x2048.Idx) from by
    funext a
    apply Fin.ext
    match a with
    | ⟨0, _⟩ => show (win0_2.rect t).off 0 + 1 * u.val = t.val / 8; rw [h.2.2.1]; omega
    | ⟨1, _⟩ => show (win0_2.rect t).off 1 + 1 * r.val = t.val % 8 * 256 + r.val; rw [h.2.2.2.1]; omega
    | ⟨2, _⟩ => show (win0_2.rect t).off 2 + 1 * d.val = d.val; rw [h.2.2.2.2.1]; omega]
  show out0_2 (iblk m c 0 t) (iblk m c 1 t) (ix3 u r d) = _
  rw [out_apply]
  have hx (k : Fin 2048) := blk_x m c t r k ⟨_, hR⟩
    (by show t.val / 8 * 2064 + (16 + (t.val % 8 * 256 + r.val)) = _; omega)
  have hg (k : Fin 2048) := blk_g m c t k
  unfold G rms
  simp only [hx]
  rw [show (iblk m c 1 t : Vec Ideal S1x2048 .f32) (ix2 0 ((ix1 d : S2048.Idx) 0)) = _ from hg d]
  rfl

/-- Every element of the result lies in some point's block. -/
theorem cover (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  let t : Fin cfg0.N := ⟨(i 0).val * 8 + (i 1).val / 256, by show _ < grid0.N; rw [N_0]; omega⟩
  have ht : t.val = (i 0).val * 8 + (i 1).val / 256 := rfl
  have h := starts t
  refine ⟨t, flush0_2 t, ?_⟩
  show i ∈ ((View.whole main_v1).slice (win0_2.rect t)).set
  rw [View.set_slice_whole, Rect.mem_set_unit]
  intro a
  match a with
  | ⟨0, _⟩ => show (win0_2.rect t).off 0 ≤ (i 0).val ∧ (i 0).val < (win0_2.rect t).off 0 + 1; rw [h.2.2.1]; omega
  | ⟨1, _⟩ => show (win0_2.rect t).off 1 ≤ (i 1).val ∧ (i 1).val < (win0_2.rect t).off 1 + 256; rw [h.2.2.2.1]; omega
  | ⟨2, _⟩ => show (win0_2.rect t).off 2 ≤ (i 2).val ∧ (i 2).val < (win0_2.rect t).off 2 + 2048; rw [h.2.2.2.2.1]; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.NormIdeal.Read
-- ==== Proof.RowsValue.lean ====
/- The final norm of the sampled rows: what the kernel and its reference leave. -/
module

public import proofs.«01_k».proof.Proof.Gen.RowsIdeal.Value
public import proofs.«01_k».proof.Proof.Gen.RowsRefIdeal.Run
public import proofs.«01_k».proof.Proof.NormRef

@[expose] public section

set_option maxRecDepth 16384

noncomputable section

namespace Cert.RowsRefIdeal.Read

open Cert.RowsRefIdeal Cert.RowsRefIdeal.Gen Idealize.ShloMosaic Idealize.ShloMosaic.TcCoe Idealize.SL.Sem
open Cert.NormRefIdeal.Read (rms)

/-- Row `s` of the result is the norm of row `8256 + s`. -/
def G (x : (⟨2, ![8448, 2048]⟩ : Shape).Idx → EReal) (g : (⟨1, ![2048]⟩ : Shape).Idx → EReal) :
    (⟨2, ![64, 2048]⟩ : Shape).Idx → EReal := fun j =>
  rms x g ⟨8256 + (j 0).val, by have h0 : (j 0).val < 64 := (j 0).isLt; omega⟩ (j 1)

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext j
      idx_vars j
      pointwise [G, rms]), (h c).2⟩) (Cert.RowsRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, Idealize.ShloMosaic.sem_eq_zero_of_no_sems (by decide) r.2⟩) (run m ρ)

end Cert.RowsRefIdeal.Read

namespace Cert.RowsIdeal.Read

open Cert.RowsIdeal Cert.RowsIdeal.Gen Idealize.ShloMosaic Idealize.ShloMosaic.TcCoe Idealize.SL.Sem
open Cert.NormRefIdeal.Read (rms)
open Cert.RowsRefIdeal.Read (G)

variable (m : (ℓ : Loc nD τ sig) → Buf (Elt Ideal) ℓ) (ρ : Dev nD → PrngReg)

theorem hz2 : (![0, 0] : Fin 2 → Nat) = fun _ => 0 := funext fun a => by fin_cases a <;> rfl

/-- The only point's blocks start at zero. -/
theorem starts (t : Fin cfg0.N) : (∀ a, (win0_0.rect t).off a = 0) ∧ (∀ a, (win0_1.rect t).off a = 0)
    ∧ (∀ a, (win0_2.rect t).off a = 0) :=
  (by decide +kernel : ∀ t : Fin grid0.N, (∀ a, (win0_0.rect t).off a = 0) ∧ (∀ a, (win0_1.rect t).off a = 0)
    ∧ (∀ a, (win0_2.rect t).off a = 0)) t

/-- The input block, element by element. -/
theorem blk_x (c : Dev nD) (t : Fin cfg0.N) (r : Fin 64) (d : Fin 2048) :
    (iblk m c 0 t : Vec Ideal S64x2048 .f32) (ix2 r d)
      = m ((c : Thread nD τ).loc main_arg0) (ix2 ⟨8256 + r.val, by omega⟩ d) := by
  unfold iblk
  rw [View.read_apply]
  show V m c main_v0 _ = _
  have e : V m c main_v0 = extractStridedSlice S64x2048 ![8256, 0] (m ((c : Thread nD τ).loc main_arg0))
      slices_S8448x2048_S64x2048_8256_0 := by
    show StableHlo.after [_, _] _ _ = _
    after_results <;> rfl
  have h := (starts t).1
  rw [e, show ((cfg0.win 0).blk t).view.emb (ix2 r d) = (ix2 r d : S64x2048.Idx) from by
    funext a
    apply Fin.ext
    match a with
    | ⟨0, _⟩ => show (win0_0.rect t).off 0 + 1 * r.val = r.val; rw [h 0]; omega
    | ⟨1, _⟩ => show (win0_0.rect t).off 1 + 1 * d.val = d.val; rw [h 1]; omega]
  pointwise

/-- The gain's block is the whole gain. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v1 _ = _
  have e : V m c main_v1 = shapeCast S1x2048 (m ((c : Thread nD τ).loc main_arg1)) shapeCasts_S2048_S1x2048 := by
    show StableHlo.after [_, _] _ _ = _
    after_results <;> rfl
  have h := (starts t).2.1
  rw [e, show ((cfg0.win 1).blk t).view.emb (ix2 0 d) = (ix2 0 d : S1x2048.Idx) from by
    funext a
    apply Fin.ext
    match a with
    | ⟨0, _⟩ => show (win0_1.rect t).off 0 + 1 * 0 = 0; rw [h 0]
    | ⟨1, _⟩ => show (win0_1.rect t).off 1 + 1 * d.val = d.val; rw [h 1]; omega]
  pointwise

/-- What the point computes from its two blocks, element by element. -/
theorem out_apply (x : Vec Ideal S64x2048 .f32) (g : Vec Ideal S1x2048 .f32) (r : Fin 64) (d : Fin 2048) :
    out0_2 x g (ix2 r d) = rms x (fun k => g (ix2 0 (k 0))) r d := by
  unfold out0_2
  rw [View.canon_unit_zero hz2, View.ld_unit_zero hz2, View.ld_unit_zero hz2]
  pointwise [k0_pay1, rms]

/-- The point writes back `G`. -/
theorem flushed_eq (c : Dev nD) (t : Fin cfg0.N) : (dats m 0 c).flushed 2 t = ((cfg0.win 2).blk t).view.read (Elt Ideal)
    (G (m ((c : Thread nD τ).loc main_arg0)) (m ((c : Thread nD τ).loc main_arg1))) := by
  rw [Value.flushed2]
  have h := (starts t).2.2
  funext y
  obtain ⟨r, d, rfl⟩ : ∃ (r : Fin 64) (d : Fin 2048), y = (ix2 r d : S64x2048.Idx) := ⟨y 0, y 1, eq_ix2 y⟩
  rw [View.read_apply, show ((cfg0.win 2).blk t).view.emb (ix2 r d) = (ix2 r d : S64x2048.Idx) from by
    funext a
    apply Fin.ext
    match a with
    | ⟨0, _⟩ => show (win0_2.rect t).off 0 + 1 * r.val = r.val; rw [h 0]; omega
    | ⟨1, _⟩ => show (win0_2.rect t).off 1 + 1 * d.val = d.val; rw [h 1]; omega]
  show out0_2 (iblk m c 0 t) (iblk m c 1 t) (ix2 r d) = _
  rw [out_apply]
  have hx (k : Fin 2048) := blk_x m c t r k
  have hg (k : Fin 2048) := blk_g m c t k
  unfold G rms
  simp only [hx]
  rw [show (iblk m c 1 t : Vec Ideal S1x2048 .f32) (ix2 0 ((ix1 d : S2048.Idx) 0)) = _ from hg d]
  rfl

/-- Every element of the result lies in the point's block. -/
theorem cover (i : S64x2048.Idx) : ∃ t : Fin cfg0.N, (cfg0.win 2).flush t = true ∧ i ∈ ((cfg0.win 2).blk t).view.set := by
  have h0 : (i 0).val < 64 := (i 0).isLt
  have h1 : (i 1).val < 2048 := (i 1).isLt
  have h := (starts t0_0).2.2
  refine ⟨t0_0, (by decide +kernel), ?_⟩
  show i ∈ ((View.whole main_v2).slice (win0_2.rect t0_0)).set
  rw [View.set_slice_whole, Rect.mem_set_unit]
  intro a
  match a with
  | ⟨0, _⟩ => show (win0_2.rect t0_0).off 0 ≤ (i 0).val ∧ (i 0).val < (win0_2.rect t0_0).off 0 + 64; rw [h 0]; omega
  | ⟨1, _⟩ => show (win0_2.rect t0_0).off 1 ≤ (i 1).val ∧ (i 1).val < (win0_2.rect t0_0).off 1 + 2048; rw [h 1]; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.RowsIdeal.Read
-- ==== Proof.Gla.lean ====
/- One chunk of gated linear attention over the extended reals: what a head computes, row by row. -/
module

public import Idealize.ShloMosaic.Lib.Pointwise

@[expose] public section

noncomputable section

namespace Cert.Gla

open Idealize.ShloMosaic

/-- The log of the logistic function as `max` and `log` spell it, over 16: the log of a gate. -/
def gate (x : EReal) : EReal :=
  Ideal.div (-(max (-x) 0 + Ideal.log (1 + Ideal.exp (-(max (-x) (-(-x))))))) (Ideal.ofBits .f32 0x41800000#32)

/-- The sum of the log gates up to row `t`. -/
def cum (a : Fin 8 → Fin 128 → EReal) (t : Fin 8) (d : Fin 128) : EReal := ∑ s : Fin 8, if s ≤ t then a s d else 0

/-- The weight of row `s` in row `t`. -/
def att (q k a : Fin 8 → Fin 128 → EReal) (t s : Fin 8) : EReal :=
  if s ≤ t then ∑ d : Fin 128, q t d * k s d * Ideal.exp (cum a t d - cum a s d) else 0

/-- A row of the chunk's output: the rows before it by weight, and the state decayed to it. -/
def mix (q k a : Fin 8 → Fin 128 → EReal) (v : Fin 8 → Fin 256 → EReal) (S : Fin 128 → Fin 256 → EReal)
    (t : Fin 8) (w : Fin 256) : EReal :=
  (∑ s : Fin 8, v s w * att q k a t s) + ∑ d : Fin 128, S d w * (q t d * Ideal.exp (cum a t d))

/-- A row normed, scaled and gated. -/
def gated (o g : Fin 8 → Fin 256 → EReal) (gn : Fin 256 → EReal) (t : Fin 8) (w : Fin 256) : EReal :=
  o t w * Ideal.rsqrt (Ideal.div (∑ w' : Fin 256, o t w' * o t w') (Ideal.ofBits .f32 0x43800000#32)
    + Ideal.ofBits .f32 0x358637BD#32) * gn w * (g t w * Ideal.div 1 (1 + Ideal.exp (-(g t w))))

/-- The state after the chunk. -/
def next (k a : Fin 8 → Fin 128 → EReal) (v : Fin 8 → Fin 256 → EReal) (S : Fin 128 → Fin 256 → EReal)
    (d : Fin 128) (w : Fin 256) : EReal :=
  Ideal.exp (cum a 7 d) * S d w + ∑ s : Fin 8, k s d * Ideal.exp (cum a 7 d - cum a s d) * v s w

theorem exp_nonneg (x : EReal) : 0 ≤ Ideal.exp x := by
  induction x using EReal.rec with
  | bot => exact le_refl _
  | top => exact le_top
  | coe r => exact EReal.coe_nonneg.2 (Real.exp_pos r).le

theorem log_nonneg (y : EReal) (h : 0 ≤ y) : 0 ≤ Ideal.log (1 + y) := by
  induction y using EReal.rec with
  | bot => exact absurd h (by simp)
  | top => exact le_top
  | coe r =>
    have hr : 0 ≤ r := EReal.coe_nonneg.1 h
    show 0 ≤ (if 1 + r ≤ 0 then (⊥ : EReal) else (Real.log (1 + r) : EReal))
    rw [if_neg (by linarith)]
    exact EReal.coe_nonneg.2 (Real.log_nonneg (by linarith))

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- A log gate is not positive. -/
theorem gate_nonpos (x : EReal) : gate x ≤ 0 := by
  unfold gate
  rw [sixteen, Ideal.div_coe (by norm_num)]
  refine mul_nonpos_of_nonpos_of_nonneg ?_ (EReal.coe_nonneg.2 (by norm_num))
  refine (EReal.neg_le_neg_iff.2 ?_).trans_eq neg_zero
  exact add_nonneg (le_max_right _ _) (log_nonneg _ (exp_nonneg _))

/-- Log gates that are not positive sum to less the longer the run. -/
theorem cum_anti (a : Fin 8 → Fin 128 → EReal) (ha : ∀ s d, a s d ≤ 0) {s t : Fin 8} (h : s ≤ t) (d : Fin 128) :
    cum a t d ≤ cum a s d := by
  refine Finset.sum_le_sum fun u _ => ?_
  by_cases hs : u ≤ s
  · rw [if_pos hs, if_pos (hs.trans h)]
  · rw [if_neg hs]
    split
    · exact ha u d
    · exact le_refl _

theorem cum_sub (a : Fin 8 → Fin 128 → EReal) (ha : ∀ s d, a s d ≤ 0) {s t : Fin 8} (h : s ≤ t) (d : Fin 128) :
    min (cum a t d - cum a s d) 0 = cum a t d - cum a s d :=
  min_eq_left (EReal.sub_nonpos.2 (cum_anti a ha h d))

/-- The last running sum is the sum of all the rows. -/
theorem cum_last (a : Fin 8 → Fin 128 → EReal) (d : Fin 128) : cum a 7 d = ∑ s : Fin 8, a s d :=
  Finset.sum_congr rfl fun s _ => if_pos (Fin.le_last s)

/-- Lanes past the sixteenth, which hold zeros, add nothing. -/
theorem sum_lanes (x w : Fin 128 → EReal) (h : ∀ l : Fin 128, 16 ≤ l.val → w l = 0) :
    ∑ l : Fin 128, x l * w l = ∑ l : Fin 16, x ⟨l.val, by omega⟩ * w ⟨l.val, by omega⟩ := by
  rw [show (∑ l : Fin 128, x l * w l) = ∑ l : Fin (16 + 112), x l * w l from rfl, Fin.sum_univ_add,
    Finset.sum_eq_zero (s := Finset.univ (α := Fin 112)), add_zero]
  · rfl
  · intro i _
    rw [h _ (by simp [Fin.natAdd]), mul_zero]

end Cert.Gla
-- ==== Proof.GlaSRef.lean ====
/- What the reference of the sampled rows' gated linear attention leaves. -/
module

public import proofs.«01_k».proof.Proof.Gen.GlaSRefIdeal.Run
public import proofs.«01_k».proof.Proof.Gla
public import Idealize.ShloMosaic.Lib.Pointwise

@[expose] public section

set_option maxRecDepth 16384

noncomputable section

namespace Cert.GlaSRefIdeal.Read

open Cert.GlaSRefIdeal Cert.GlaSRefIdeal.Gen Idealize.ShloMosaic Idealize.ShloMosaic.TcCoe Idealize.SL.Sem
open Cert.Gla Cert.GlaSRefIdeal.Value

/-- The packed rows' part the sampled rows take. -/
def pv (P : FVec Ideal S8448x5120 .f32) : FVec Ideal S8x8x5120 .f32 :=
  shapeCast _ (extractStridedSlice S64x5120 ![8256, 0] P slices_S8448x5120_S64x5120_8256_0) shapeCasts_S64x5120_S8x8x5120

/-- What the log gates are taken of. -/
def xv (LR : FVec Ideal S8448x128 .f32) (w : FVec Ideal S16x512 .f32) (b : FVec Ideal S512 .f32) : FVec Ideal S8x8x512 .f32 :=
  addf (Host.dotGeneral dot_S8x8x16_S16x512_S8x8x512_2_0_01_1_n_n none (shapeCast _ (extractStridedSlice S64x16 ![8256, 0] LR slices_S8448x128_S64x16_8256_0) shapeCasts_S64x16_S8x8x16) w) (broadcastInDim S8x8x512 ![0, 1, 2] bcast_S1x1x512_S8x8x512_0_1_2 (broadcastInDim S1x1x512 ![2] bcast_S512_S1x1x512_2 b))

/-- The log gates by head. -/
def av (x : FVec Ideal S8x8x512 .f32) : FVec Ideal S8x8x4x128 .f32 :=
  (shapeCast _ (Host.divf (Host.negf (select (cmpf .une (subf (Host.negf x) (broadcastInDim S8x8x512 ![] bcast_S_S8x8x512 (constant S_ .f32 0x00000000#32))) (subf (Host.negf x) (broadcastInDim S8x8x512 ![] bcast_S_S8x8x512 (constant S_ .f32 0x00000000#32)))) (addf (Host.negf x) (broadcastInDim S8x8x512 ![] bcast_S_S8x8x512 (constant S_ .f32 0x00000000#32))) (addf (maximumf (Host.negf x) (broadcastInDim S8x8x512 ![] bcast_S_S8x8x512 (constant S_ .f32 0x00000000#32))) (Host.log1p (Host.exp (Host.negf (Host.absf (subf (Host.negf x) (broadcastInDim S8x8x512 ![] bcast_S_S8x8x512 (constant S_ .f32 0x00000000#32)))))))))) (broadcastInDim S8x8x512 ![] bcast_S_S8x8x512 (constant S_ .f32 0x41800000#32))) shapeCasts_S8x8x512_S8x8x4x128)

/-- Their running sums. -/
def cv (a : FVec Ideal S8x8x4x128 .f32) : FVec Ideal S8x8x4x128 .f32 :=
  Host.reduceWindowAdd ![1, 8, 1, 1] ![1, 1, 1, 1] ![0, 7, 0, 0] ![0, 0, 0, 0] a (broadcastInDim S_ ![] bcast_S_S_ (constant S_ .f32 0x00000000#32)) reduceWindows_S8x8x4x128_S8x8x4x128_w1s1p0_0_w8s1p7_0_w1s1p0_0_w1s1p0_0 h_S_

/-- The state after the chunk, of the packed rows, the running sums and the state before. -/
def sv (p : FVec Ideal S8x8x5120 .f32) (b : FVec Ideal S8x8x4x128 .f32) (S : FVec Ideal S8x4x128x256 .f32) : FVec Ideal S8x4x128x256 .f32 :=
  addf (mulf (broadcastInDim S8x4x128x256 ![0, 1, 2, 3] bcast_S8x4x128x1_S8x4x128x256_0_1_2_3 (broadcastInDim S8x4x128x1 ![0, 1, 2] bcast_S8x4x128_S8x4x128x1_0_1_2 (Host.exp (shapeCast _ (extractStridedSlice S8x1x4x128 ![0, 7, 0, 0] b slices_S8x8x4x128_S8x1x4x128_0_7_0_0) shapeCasts_S8x1x4x128_S8x4x128)))) S) (Host.dotGeneral dot_S8x8x4x128_S8x8x4x256_S8x4x128x256_1_1_3_3_02_02 none (mulf (shapeCast _ (extractStridedSlice S8x8x512 ![0, 0, 512] p slices_S8x8x5120_S8x8x512_0_0_512) shapeCasts_S8x8x512_S8x8x4x128) (Host.exp (subf (broadcastInDim S8x8x4x128 ![0, 1, 2, 3] bcast_S8x1x4x128_S8x8x4x128_0_1_2_3 (broadcastInDim S8x1x4x128 ![0, 2, 3] bcast_S8x4x128_S8x1x4x128_0_2_3 (shapeCast _ (extractStridedSlice S8x1x4x128 ![0, 7, 0, 0] b slices_S8x8x4x128_S8x1x4x128_0_7_0_0) shapeCasts_S8x1x4x128_S8x4x128))) b))) (shapeCast _ (extractStridedSlice S8x8x1024 ![0, 0, 1024] p slices_S8x8x5120_S8x8x1024_0_0_1024) shapeCasts_S8x8x1024_S8x8x4x256))

/-- The queries by head, scaled. -/
def qv (p : FVec Ideal S8x8x5120 .f32) : FVec Ideal S8x8x4x128 .f32 :=
  (mulf (shapeCast _ (extractStridedSlice S8x8x512 ![0, 0, 0] p slices_S8x8x5120_S8x8x512_0_0_0) shapeCasts_S8x8x512_S8x8x4x128) (broadcastInDim S8x8x4x128 ![] bcast_S_S8x8x4x128 (constant S_ .f32 0x3DB504F3#32)))

/-- The weights of the rows by head. -/
def attv (p : FVec Ideal S8x8x5120 .f32) (b : FVec Ideal S8x8x4x128 .f32) : FVec Ideal S8x4x8x8 .f32 :=
  (transpose S8x4x8x8 [0, 3, 1, 2] (Host.reduceAdd (mulf (mulf (broadcastInDim S8x8x8x4x128 ![0, 1, 2, 3, 4] bcast_S8x8x1x4x128_S8x8x8x4x128_0_1_2_3_4 (broadcastInDim S8x8x1x4x128 ![0, 1, 3, 4] bcast_S8x8x4x128_S8x8x1x4x128_0_1_3_4 (qv p))) (broadcastInDim S8x8x8x4x128 ![0, 1, 2, 3, 4] bcast_S8x1x8x4x128_S8x8x8x4x128_0_1_2_3_4 (broadcastInDim S8x1x8x4x128 ![0, 2, 3, 4] bcast_S8x8x4x128_S8x1x8x4x128_0_2_3_4 (shapeCast _ (extractStridedSlice S8x8x512 ![0, 0, 512] p slices_S8x8x5120_S8x8x512_0_0_512) shapeCasts_S8x8x512_S8x8x4x128)))) (Host.exp (select (broadcastInDim S8x8x8x4x128 ![0, 1, 2, 3, 4] bcast_S1x8x8x1x1_S8x8x8x4x128_0_1_2_3_4 (broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (broadcastInDim S8x8x8x4x128 ![0, 1, 2, 3, 4] bcast_S8x8x1x4x128_S8x8x8x4x128_0_1_2_3_4 (broadcastInDim S8x8x1x4x128 ![0, 1, 3, 4] bcast_S8x8x4x128_S8x8x1x4x128_0_1_3_4 b)) (broadcastInDim S8x8x8x4x128 ![0, 1, 2, 3, 4] bcast_S8x1x8x4x128_S8x8x8x4x128_0_1_2_3_4 (broadcastInDim S8x1x8x4x128 ![0, 2, 3, 4] bcast_S8x8x4x128_S8x1x8x4x128_0_2_3_4 b))) (broadcastInDim S8x8x8x4x128 ![] bcast_S_S8x8x8x4x128 (id (constant S_ .f32 0xFF800000#32)))))) (constant S_ .f32 0x00000000#32) reducesTo_S8x8x8x4x128_S8x8x8x4_d4 h_S_) transposes_S8x8x8x4_S8x4x8x8_0_3_1_2)

/-- The mixed rows by head. -/
def ov (p : FVec Ideal S8x8x5120 .f32) (b : FVec Ideal S8x8x4x128 .f32) (S : FVec Ideal S8x4x128x256 .f32) : FVec Ideal S8x8x4x256 .f32 :=
  (addf (transpose S8x8x4x256 [0, 3, 1, 2] (Host.dotGeneral dot_S8x8x4x256_S8x4x8x8_S8x4x256x8_1_3_3_2_02_01 none (shapeCast _ (extractStridedSlice S8x8x1024 ![0, 0, 1024] p slices_S8x8x5120_S8x8x1024_0_0_1024) shapeCasts_S8x8x1024_S8x8x4x256) (attv p b)) transposes_S8x4x256x8_S8x8x4x256_0_3_1_2) (transpose S8x8x4x256 [0, 3, 1, 2] (Host.dotGeneral dot_S8x4x128x256_S8x8x4x128_S8x4x256x8_2_3_3_1_01_02 none S (mulf (qv p) (Host.exp b))) transposes_S8x4x256x8_S8x8x4x256_0_3_1_2))

/-- The rows the reference puts in place of the sampled ones. -/
def rv (p : FVec Ideal S8x8x5120 .f32) (o : FVec Ideal S8x8x4x256 .f32) (gn : FVec Ideal S256 .f32) : FVec Ideal S64x1024 .f32 :=
  shapeCast _ (mulf (mulf (mulf o (broadcastInDim S8x8x4x256 ![0, 1, 2, 3] bcast_S8x8x4x1_S8x8x4x256_0_1_2_3 (Host.rsqrt (addf (Host.divf (broadcastInDim S8x8x4x1 ![0, 1, 2] bcast_S8x8x4_S8x8x4x1_0_1_2 (Host.reduceAdd (mulf o o) (constant S_ .f32 0x00000000#32) reducesTo_S8x8x4x256_S8x8x4_d3 h_S_)) (broadcastInDim S8x8x4x1 ![] bcast_S_S8x8x4x1 (constant S_ .f32 0x43800000#32))) (broadcastInDim S8x8x4x1 ![] bcast_S_S8x8x4x1 (constant S_ .f32 0x358637BD#32)))))) (broadcastInDim S8x8x4x256 ![0, 1, 2, 3] bcast_S1x1x1x256_S8x8x4x256_0_1_2_3 (broadcastInDim S1x1x1x256 ![3] bcast_S256_S1x1x1x256_3 gn))) (mulf (shapeCast _ (extractStridedSlice S8x8x1024 ![0, 0, 2048] p slices_S8x8x5120_S8x8x1024_0_0_2048) shapeCasts_S8x8x1024_S8x8x4x256) (Host.divf (broadcastInDim S8x8x4x256 ![] bcast_S_S8x8x4x256 (constant S_ .f32 0x3F800000#32)) (addf (broadcastInDim S8x8x4x256 ![] bcast_S_S8x8x4x256 (constant S_ .f32 0x3F800000#32)) (Host.exp (Host.negf (shapeCast _ (extractStridedSlice S8x8x1024 ![0, 0, 2048] p slices_S8x8x5120_S8x8x1024_0_0_2048) shapeCasts_S8x8x1024_S8x8x4x256))))))) shapeCasts_S8x8x4x256_S64x1024

variable (m : (ℓ : Loc nD τ sig) → Buf (Elt Ideal) ℓ)

theorem state_eq (c : Dev nD) : res_main_v59 m c
    = sv (pv (m ((c.tc : Thread nD τ).loc main_arg0)))
      (cv (av (xv (m ((c.tc : Thread nD τ).loc main_arg1)) (m ((c.tc : Thread nD τ).loc main_arg2)) (m ((c.tc : Thread nD τ).loc main_arg3)))))
      (m ((c.tc : Thread nD τ).loc main_arg5)) := rfl

/-- A row of the packed array that the sampled rows take. -/
theorem pv_apply (P : FVec Ideal S8448x5120 .f32) (b t : Fin 8) (d : Fin 5120) :
    pv P (ix3 b t d) = P (ix2 ⟨8256 + (b.val * 8 + t.val), by omega⟩ d) := by
  pointwise [pv]

theorem xv_apply (LR : FVec Ideal S8448x128 .f32) (w : FVec Ideal S16x512 .f32) (bl : FVec Ideal S512 .f32) (b t : Fin 8) (d : Fin 512) :
    xv LR w bl (ix3 b t d) = (∑ l : Fin 16, LR (ix2 ⟨8256 + (b.val * 8 + t.val), by omega⟩ ⟨l.val, by omega⟩) * w (ix2 l d)) + bl (ix1 d) := by
  pointwise [xv]

theorem av_apply (x : FVec Ideal S8x8x512 .f32) (b t : Fin 8) (h : Fin 4) (d : Fin 128) :
    av x (ix4 b t h d) = gate (x (ix3 b t ⟨h.val * 128 + d.val, by omega⟩)) := by
  pointwise [av, gate]
  rw [if_neg (fun h => h rfl)]
  rfl

/-- A window's sum from zero is the sum over the window's places that fall inside the operand. -/
theorem windowAdd {s t : Shape} (window strides lo hi : Fin s.rank → Nat) (h : s.ReduceWindows window strides lo hi t)
    (x : s.Idx → EReal) (init : EReal) (h0 : init = 0) (j : t.Idx) :
    Ideal.hostReduceWindowAdd window strides lo hi h x init j = ∑ k : (⟨s.rank, window⟩ : Shape).Idx,
      if hin : ∀ a, lo a ≤ (j (a.cast h.1.symm)).val * strides a + (k a).val
          ∧ (j (a.cast h.1.symm)).val * strides a + (k a).val - lo a < s.size a
        then x (fun a => ⟨(j (a.cast h.1.symm)).val * strides a + (k a).val - lo a, (hin a).2⟩) else 0 := by
  subst h0
  unfold Ideal.hostReduceWindowAdd Host.reduceWindow
  rw [sum_idx_eq_foldl]
  dsimp only
  refine congrArg (fun f => List.foldl f 0 _) (funext fun r => funext fun n => congrArg (r + ·) ?_)
  congr 1

theorem sum_shift (g : Fin 8 → EReal) (t : Fin 8) :
    (∑ k : Fin 8, if h : 7 ≤ t.val + k.val then g ⟨t.val + k.val - 7, by omega⟩ else 0) = ∑ s : Fin 8, if s ≤ t then g s else 0 := by
  fin_cases t <;> simp [Fin.sum_univ_eight]

/-- The running sum at row `t` adds the rows up to `t`. -/
theorem cv_apply (a : FVec Ideal S8x8x4x128 .f32) (i t : Fin 8) (h : Fin 4) (d : Fin 128) :
    cv a (ix4 i t h d) = cum (fun s d => a (ix4 i s h d)) t d := by
  unfold cv cum
  rw [← sum_shift (fun s => a (ix4 i s h d)) t]
  refine (windowAdd ![1, 8, 1, 1] ![1, 1, 1, 1] ![0, 7, 0, 0] ![0, 0, 0, 0]
    reduceWindows_S8x8x4x128_S8x8x4x128_w1s1p0_0_w8s1p7_0_w1s1p0_0_w1s1p0_0 a _ Ideal.ofBits_zero_f32 (ix4 i t h d)).trans ?_
  refine (sum_idx4 (n0 := 1) (n1 := 8) (n2 := 1) (n3 := 1) _).trans ?_
  simp only [Finset.univ_unique, Fin.default_eq_zero, Finset.sum_singleton]
  refine Finset.sum_congr rfl fun k _ => ?_
  by_cases hk : 7 ≤ t.val + k.val
  · rw [dif_pos hk, dif_pos]
    · refine congrArg a (funext fun b => Fin.ext ?_)
      match b with
      | ⟨0, _⟩ => show i.val * 1 + 0 - 0 = i.val; omega
      | ⟨1, _⟩ => show t.val * 1 + k.val - 7 = t.val + k.val - 7; omega
      | ⟨2, _⟩ => show h.val * 1 + 0 - 0 = h.val; omega
      | ⟨3, _⟩ => show d.val * 1 + 0 - 0 = d.val; omega
    · intro b
      match b with
      | ⟨0, _⟩ => show 0 ≤ i.val * 1 + 0 ∧ i.val * 1 + 0 - 0 < 8; omega
      | ⟨1, _⟩ => show 7 ≤ t.val * 1 + k.val ∧ t.val * 1 + k.val - 7 < 8; omega
      | ⟨2, _⟩ => show 0 ≤ h.val * 1 + 0 ∧ h.val * 1 + 0 - 0 < 4; omega
      | ⟨3, _⟩ => show 0 ≤ d.val * 1 + 0 ∧ d.val * 1 + 0 - 0 < 128; omega
  · rw [dif_neg hk, dif_neg]
    intro hin
    have h1 := (hin ⟨1, by decide⟩).1
    change 7 ≤ t.val * 1 + k.val at h1
    omega

theorem sv_apply (p : FVec Ideal S8x8x5120 .f32) (b : FVec Ideal S8x8x4x128 .f32) (S : FVec Ideal S8x4x128x256 .f32) (i : Fin 8) (h : Fin 4) (d : Fin 128) (w : Fin 256) :
    sv p b S (ix4 i h d w) = Ideal.exp (b (ix4 i 7 h d)) * S (ix4 i h d w)
      + ∑ s : Fin 8, p (ix3 i s ⟨512 + (h.val * 128 + d.val), by omega⟩) * Ideal.exp (b (ix4 i 7 h d) - b (ix4 i s h d))
        * p (ix3 i s ⟨1024 + (h.val * 256 + w.val), by omega⟩) := by
  pointwise [sv]

theorem causal : ∀ s t : Fin 8, IntOp.cmpi CmpIPredicate.sge (IntOp.addi (BitVec.ofNat 32 t.val) 0#32) (BitVec.ofNat 32 s.val)
    = if s ≤ t then 1#1 else 0#1 := by decide +kernel

theorem attv_apply (p : FVec Ideal S8x8x5120 .f32) (b : FVec Ideal S8x8x4x128 .f32) (i s t : Fin 8) (h : Fin 4) :
    attv p b (ix4 i h t s) = if s ≤ t then ∑ d : Fin 128, p (ix3 i t ⟨h.val * 128 + d.val, by omega⟩) * Ideal.ofBits .f32 0x3DB504F3#32
      * p (ix3 i s ⟨512 + (h.val * 128 + d.val), by omega⟩) * Ideal.exp (b (ix4 i t h d) - b (ix4 i s h d)) else 0 := by
  pointwise [attv, qv]
  rw [causal]
  split
  · rfl
  · refine Finset.sum_eq_zero fun d _ => ?_
    rw [show Ideal.exp (Scalar.select (Scalar.select 0#1 1#1 0#1) (b (ix4 i t h d) - b (ix4 i s h d))
      (id (constant (F := Ideal) S_ .f32 4286578688#32) ix0)) = Ideal.exp (Ideal.ofBits .f32 0xFF800000#32) from rfl,
      show Ideal.ofBits .f32 0xFF800000#32 = ⊥ by simp [Ideal.ofBits, Ideal.ieee], Ideal.exp_bot, mul_zero]

theorem ov_apply (p : FVec Ideal S8x8x5120 .f32) (b : FVec Ideal S8x8x4x128 .f32) (S : FVec Ideal S8x4x128x256 .f32) (i t : Fin 8) (h : Fin 4) (w : Fin 256) :
    ov p b S (ix4 i t h w) = (∑ s : Fin 8, p (ix3 i s ⟨1024 + (h.val * 256 + w.val), by omega⟩) * attv p b (ix4 i h t s))
      + ∑ d : Fin 128, S (ix4 i h d w) * (p (ix3 i t ⟨h.val * 128 + d.val, by omega⟩) * Ideal.ofBits .f32 0x3DB504F3#32 * Ideal.exp (b (ix4 i t h d))) := by
  pointwise [ov, qv]

theorem out_eq (c : Dev nD) : res_main_v80 m c
    = (concatenate S8448x1024 0 [⟨S8256x1024, ((extractStridedSlice S8256x1024 ![0, 0] (m ((c.tc : Thread nD τ).loc main_arg6)) slices_S8448x1024_S8256x1024_0_0) : (⟨S8256x1024, .bf16⟩ : BufTy).Contents (Elt Ideal))⟩,
      ⟨S64x1024, truncf (F := Ideal) .bf16 (rv (pv (m ((c.tc : Thread nD τ).loc main_arg0))) (ov (pv (m ((c.tc : Thread nD τ).loc main_arg0))) (cv (av (xv (m ((c.tc : Thread nD τ).loc main_arg1)) (m ((c.tc : Thread nD τ).loc main_arg2)) (m ((c.tc : Thread nD τ).loc main_arg3))))) (m ((c.tc : Thread nD τ).loc main_arg5))) (m ((c.tc : Thread nD τ).loc main_arg4))) bitsLt_bf16_f32⟩,
      ⟨S128x1024, extractStridedSlice S128x1024 ![8320, 0] (m ((c.tc : Thread nD τ).loc main_arg6)) slices_S8448x1024_S128x1024_8320_0⟩] concatenates_S8256x1024_S64x1024_S128x1024_S8448x1024_d0) := rfl

theorem rv_apply (p : FVec Ideal S8x8x5120 .f32) (o : FVec Ideal S8x8x4x256 .f32) (gn : FVec Ideal S256 .f32) (i t : Fin 8) (h : Fin 4) (w : Fin 256) :
    rv p o gn (ix2 ⟨i.val * 8 + t.val, by omega⟩ ⟨h.val * 256 + w.val, by omega⟩)
      = gated (fun t w => o (ix4 i t h w)) (fun t w => p (ix3 i t ⟨2048 + (h.val * 256 + w.val), by omega⟩)) (fun w => gn (ix1 w)) t w := by
  pointwise [rv, gated]

/-- Sequence `i`'s keys in head `h`, from the packed array. -/
def keysAt (P : (⟨2, ![8448, 5120]⟩ : Shape).Idx → EReal) (i : Fin 8) (h : Fin 4) (t : Fin 8) (d : Fin 128) : EReal :=
  P (ix2 ⟨8256 + (i.val * 8 + t.val), by omega⟩ ⟨512 + (h.val * 128 + d.val), by omega⟩)
/-- Its scaled queries. -/
def queriesAt (P : (⟨2, ![8448, 5120]⟩ : Shape).Idx → EReal) (i : Fin 8) (h : Fin 4) (t : Fin 8) (d : Fin 128) : EReal :=
  P (ix2 ⟨8256 + (i.val * 8 + t.val), by omega⟩ ⟨h.val * 128 + d.val, by omega⟩) * Ideal.ofBits .f32 0x3DB504F3#32
/-- Its values. -/
def valsAt (P : (⟨2, ![8448, 5120]⟩ : Shape).Idx → EReal) (i : Fin 8) (h : Fin 4) (t : Fin 8) (w : Fin 256) : EReal :=
  P (ix2 ⟨8256 + (i.val * 8 + t.val), by omega⟩ ⟨1024 + (h.val * 256 + w.val), by omega⟩)
/-- Its output gates. -/
def outGatesAt (P : (⟨2, ![8448, 5120]⟩ : Shape).Idx → EReal) (i : Fin 8) (h : Fin 4) (t : Fin 8) (w : Fin 256) : EReal :=
  P (ix2 ⟨8256 + (i.val * 8 + t.val), by omega⟩ ⟨2048 + (h.val * 256 + w.val), by omega⟩)
/-- Its log gates. -/
def gatesAt (LR : (⟨2, ![8448, 128]⟩ : Shape).Idx → EReal) (w : (⟨2, ![16, 512]⟩ : Shape).Idx → EReal) (b : (⟨1, ![512]⟩ : Shape).Idx → EReal)
    (i : Fin 8) (h : Fin 4) (t : Fin 8) (d : Fin 128) : EReal :=
  gate ((∑ l : Fin 16, LR (ix2 ⟨8256 + (i.val * 8 + t.val), by omega⟩ ⟨l.val, by omega⟩) * w (ix2 l ⟨h.val * 128 + d.val, by omega⟩))
    + b (ix1 ⟨h.val * 128 + d.val, by omega⟩))

/-- The state after the sampled rows. -/
def GState (P : (⟨2, ![8448, 5120]⟩ : Shape).Idx → EReal) (LR : (⟨2, ![8448, 128]⟩ : Shape).Idx → EReal) (w : (⟨2, ![16, 512]⟩ : Shape).Idx → EReal)
    (b : (⟨1, ![512]⟩ : Shape).Idx → EReal) (S : (⟨4, ![8, 4, 128, 256]⟩ : Shape).Idx → EReal) : (⟨4, ![8, 4, 128, 256]⟩ : Shape).Idx → EReal := fun j =>
  next (keysAt P (j 0) (j 1)) (gatesAt LR w b (j 0) (j 1)) (valsAt P (j 0) (j 1)) (fun d w => S (ix4 (j 0) (j 1) d w)) (j 2) (j 3)

/-- The rows of sequence `i` in head `h`. -/
def rowAt (P : (⟨2, ![8448, 5120]⟩ : Shape).Idx → EReal) (LR : (⟨2, ![8448, 128]⟩ : Shape).Idx → EReal) (w : (⟨2, ![16, 512]⟩ : Shape).Idx → EReal)
    (b : (⟨1, ![512]⟩ : Shape).Idx → EReal) (gn : (⟨1, ![256]⟩ : Shape).Idx → EReal) (S : (⟨4, ![8, 4, 128, 256]⟩ : Shape).Idx → EReal)
    (i : Fin 8) (h : Fin 4) (t : Fin 8) (c : Fin 256) : EReal :=
  gated (mix (queriesAt P i h) (keysAt P i h) (gatesAt LR w b i h) (valsAt P i h) (fun d w => S (ix4 i h d w))) (outGatesAt P i h) (fun c => gn (ix1 c)) t c

/-- The rows: those of the sampled sequences replaced, the others as they were. -/
def GRows (P : (⟨2, ![8448, 5120]⟩ : Shape).Idx → EReal) (LR : (⟨2, ![8448, 128]⟩ : Shape).Idx → EReal) (w : (⟨2, ![16, 512]⟩ : Shape).Idx → EReal)
    (b : (⟨1, ![512]⟩ : Shape).Idx → EReal) (gn : (⟨1, ![256]⟩ : Shape).Idx → EReal) (S : (⟨4, ![8, 4, 128, 256]⟩ : Shape).Idx → EReal)
    (D : (⟨2, ![8448, 1024]⟩ : Shape).Idx → EReal) : (⟨2, ![8448, 1024]⟩ : Shape).Idx → EReal := fun j =>
  if h : 8256 ≤ (j 0).val ∧ (j 0).val < 8320 then
    rowAt P LR w b gn S ⟨((j 0).val - 8256) / 8, by omega⟩ ⟨(j 1).val / 256, by have : (j 1).val < 1024 := (j 1).isLt; omega⟩
      ⟨((j 0).val - 8256) % 8, Nat.mod_lt _ (by decide)⟩ ⟨(j 1).val % 256, Nat.mod_lt _ (by decide)⟩
  else D j

/-- The log gates' array holds the log gates. -/
theorem gates_eq (LR : FVec Ideal S8448x128 .f32) (w : FVec Ideal S16x512 .f32) (b : FVec Ideal S512 .f32) (i : Fin 8) (h : Fin 4) :
    (fun (s : Fin 8) (d : Fin 128) => av (xv LR w b) (ix4 i s h d)) = gatesAt LR w b i h := by
  funext s d
  rw [av_apply, xv_apply]
  rfl

/-- The reference's state. -/
theorem state_spec (P : FVec Ideal S8448x5120 .f32) (LR : FVec Ideal S8448x128 .f32) (w : FVec Ideal S16x512 .f32) (b : FVec Ideal S512 .f32)
    (S : FVec Ideal S8x4x128x256 .f32) : sv (pv P) (cv (av (xv LR w b))) S = GState P LR w b S := by
  funext j
  obtain ⟨i, h, d, e, rfl⟩ : ∃ (i : Fin 8) (h : Fin 4) (d : Fin 128) (e : Fin 256), j = (ix4 i h d e : S8x4x128x256.Idx) :=
    ⟨j 0, j 1, j 2, j 3, eq_ix4 j⟩
  rw [sv_apply]
  simp only [cv_apply, gates_eq, pv_apply]
  rfl

/-- The reference's new rows. -/
theorem rows_spec (P : FVec Ideal S8448x5120 .f32) (LR : FVec Ideal S8448x128 .f32) (w : FVec Ideal S16x512 .f32) (b : FVec Ideal S512 .f32)
    (gn : FVec Ideal S256 .f32) (S : FVec Ideal S8x4x128x256 .f32) (i t : Fin 8) (h : Fin 4) (e : Fin 256) :
    rv (pv P) (ov (pv P) (cv (av (xv LR w b))) S) gn (ix2 ⟨i.val * 8 + t.val, by omega⟩ ⟨h.val * 256 + e.val, by omega⟩)
      = rowAt P LR w b gn S i h t e := by
  rw [rv_apply]
  simp only [ov_apply, attv_apply, cv_apply, gates_eq, pv_apply]
  rfl

/-- The reference's rows. -/
theorem out_spec (P : FVec Ideal S8448x5120 .f32) (LR : FVec Ideal S8448x128 .f32) (w : FVec Ideal S16x512 .f32) (b : FVec Ideal S512 .f32)
    (gn : FVec Ideal S256 .f32) (S : FVec Ideal S8x4x128x256 .f32) (D : Vec Ideal S8448x1024 .bf16) :
    (concatenate S8448x1024 0 [⟨S8256x1024, ((extractStridedSlice S8256x1024 ![0, 0] D slices_S8448x1024_S8256x1024_0_0) : (⟨S8256x1024, .bf16⟩ : BufTy).Contents (Elt Ideal))⟩,
      ⟨S64x1024, truncf (F := Ideal) .bf16 (rv (pv P) (ov (pv P) (cv (av (xv LR w b))) S) gn) bitsLt_bf16_f32⟩,
      ⟨S128x1024, extractStridedSlice S128x1024 ![8320, 0] D slices_S8448x1024_S128x1024_8320_0⟩] concatenates_S8256x1024_S64x1024_S128x1024_S8448x1024_d0)
      = GRows P LR w b gn S D := by
  funext j
  obtain ⟨r, e, rfl⟩ : ∃ (r : Fin 8448) (e : Fin 1024), j = (ix2 r e : S8448x1024.Idx) := ⟨j 0, j 1, eq_ix2 j⟩
  unfold GRows
  dsimp only
  split
  · next h =>
    have h : 8256 ≤ r.val ∧ r.val < 8320 := h
    rw [← rows_spec]
    pointwise
    rw [dif_neg (by omega), dif_pos (by omega)]
    refine congrArg _ (congrArg₂ ix2 (Fin.ext ?_) (Fin.ext ?_))
    · show r.val - 8256 = (r.val - 8256) / 8 * 8 + (r.val - 8256) % 8
      omega
    · show e.val = e.val / 256 * 256 + e.val % 256
      omega
  · next h =>
    have h : ¬(8256 ≤ r.val ∧ r.val < 8320) := h
    pointwise
    split
    · rfl
    · rw [dif_neg (by omega)]
      refine congrArg D (congrArg (ix2 · e) (Fin.ext ?_))
      show 8320 + (r.val - 8256 - 64) = r.val
      omega

/-- The reference ends with the two results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80)
        = GRows (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v59)
        = GState (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((out_eq m c).trans (out_spec _ _ _ _ _ _ _)),
    (h c).2.1.trans ((state_eq m c).trans (state_spec _ _ _ _ _)), (h c).2.2⟩) (Cert.GlaSRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 :=
  (θ_run defs _ _).mono (fun r h => ⟨fun c => (h c).2.2, Idealize.ShloMosaic.sem_eq_zero_of_no_sems (by decide) r.2⟩) (run m ρ)

end Cert.GlaSRefIdeal.Read
-- ==== Proof.GlaSValue.lean ====
module

public import proofs.«01_k».proof.Proof.Gen.GlaSIdeal.Value
public import proofs.«01_k».proof.Proof.GlaSRef
public import Idealize.ShloMosaic.Lib.KernelVsHost
public import proofs.«01_k».proof.Proof.Gla
public import Idealize.ShloMosaic.Lib.Pointwise

@[expose] public section

set_option maxRecDepth 16384

noncomputable section

namespace Cert.GlaSIdeal.Read

open Cert.GlaSIdeal Cert.GlaSIdeal.Gen Idealize.ShloMosaic Idealize.ShloMosaic.TcCoe Idealize.SL.Sem
open Cert.Gla Cert.GlaSIdeal.Value

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The log gates a block's lanes give. -/
theorem loga_apply (x4 : Vec Ideal S8x128 .f32) (x5 : Vec Ideal S128x512 .bf16) (x6 : Vec Ideal S1x512 .f32) (t : Fin 8) (d : Fin 512) :
    k0_pay6 (F := Ideal) x4 x5 x6 (ix2 t d) = gate (∑ l, x4 (ix2 t l) * x5 (ix2 l d) + x6 (ix2 0 d)) := by
  pointwise [k0_pay6]
  unfold gate
  simp only [sixteen, sixteenth, zero_sub]
  rw [Ideal.div_coe (by norm_num)]
  rfl

theorem causal_word : ∀ s t : Fin 8, IntOp.cmpi CmpIPredicate.sge (BitVec.ofNat 32 t.val) (BitVec.ofNat 32 s.val)
    = if s ≤ t then 1#1 else 0#1 := by decide +kernel

/-- Their running sums, by head. -/
theorem cum_apply (x4 : Vec Ideal S8x128 .f32) (x5 : Vec Ideal S128x512 .bf16) (x6 : Vec Ideal S1x512 .f32) (h : Fin 4) (t : Fin 8) (d : Fin 128) :
    k0_pay7 (F := Ideal) x4 x5 x6 (ix2 t ⟨h.val * 128 + d.val, by omega⟩)
      = cum (fun s d => k0_pay6 (F := Ideal) x4 x5 x6 (ix2 s ⟨h.val * 128 + d.val, by omega⟩)) t d := by
  pointwise [k0_pay7, cum]
  refine Finset.sum_congr rfl fun s _ => ?_
  rw [causal_word]
  split
  · rw [show FloatOps.sitofp (F := Ideal) FTy.f32 (BitVec.setWidth 32 1#1) = 1 from by simp [FloatOps.sitofp]]
    exact one_mul _
  · rw [show FloatOps.sitofp (F := Ideal) FTy.f32 (BitVec.setWidth 32 0#1) = 0 from by simp [FloatOps.sitofp]]
    exact zero_mul _

/-- Head `h`'s columns of a block with 128 columns to a head. -/
def keys (x : Vec Ideal S8x512 .f32) (h : Fin 4) (t : Fin 8) (d : Fin 128) : EReal := x (ix2 t ⟨h.val * 128 + d.val, by omega⟩)
/-- … scaled as the queries are. -/
def queries (x : Vec Ideal S8x512 .f32) (h : Fin 4) (t : Fin 8) (d : Fin 128) : EReal :=
  x (ix2 t ⟨h.val * 128 + d.val, by omega⟩) * Ideal.ofBits .f32 0x3DB504F3#32
/-- Head `h`'s columns of a block with 256 columns to a head. -/
def vals (x : Vec Ideal S8x1024 .f32) (h : Fin 4) (t : Fin 8) (w : Fin 256) : EReal := x (ix2 t ⟨h.val * 256 + w.val, by omega⟩)
/-- Head `h`'s log gates. -/
def gates (x4 : Vec Ideal S8x128 .f32) (x5 : Vec Ideal S128x512 .bf16) (x6 : Vec Ideal S1x512 .f32) (h : Fin 4) (t : Fin 8) (d : Fin 128) : EReal :=
  k0_pay6 (F := Ideal) x4 x5 x6 (ix2 t ⟨h.val * 128 + d.val, by omega⟩)
/-- Their running sums as the body computes them. -/
def sums (x4 : Vec Ideal S8x128 .f32) (x5 : Vec Ideal S128x512 .bf16) (x6 : Vec Ideal S1x512 .f32) (h : Fin 4) (t : Fin 8) (d : Fin 128) : EReal :=
  k0_pay7 (F := Ideal) x4 x5 x6 (ix2 t ⟨h.val * 128 + d.val, by omega⟩)
/-- Head `h`'s state. -/
def state (x8 : Vec Ideal S1x4x128x256 .f32) (h : Fin 4) (d : Fin 128) (w : Fin 256) : EReal := x8 (ix4 0 h d w)

theorem gates_nonpos (x4 : Vec Ideal S8x128 .f32) (x5 : Vec Ideal S128x512 .bf16) (x6 : Vec Ideal S1x512 .f32) (h : Fin 4) (t : Fin 8) (d : Fin 128) :
    gates x4 x5 x6 h t d ≤ 0 := (loga_apply x4 x5 x6 t _).trans_le (gate_nonpos _)

/-- One step of the body's sum over the rows. -/
def step (q k b : Fin 8 → Fin 128 → EReal) (v : Fin 8 → Fin 256 → EReal) (t s : Fin 8) (w : Fin 256) : EReal :=
  Scalar.select (IntOp.cmpi CmpIPredicate.sge (BitVec.ofNat 32 t.val) (BitVec.ofNat 32 s.val))
    ((∑ d : Fin 128, q t d * k s d * Ideal.exp (min (b t d - b s d) 0)) * v s w) 0

/-- The body's sum over the rows, step by step. -/
def steps (q k b : Fin 8 → Fin 128 → EReal) (v : Fin 8 → Fin 256 → EReal) (S : Fin 128 → Fin 256 → EReal) (t : Fin 8) (w : Fin 256) : EReal :=
  (∑ d : Fin 128, q t d * Ideal.exp (b t d) * S d w) + step q k b v t 0 w + step q k b v t 1 w + step q k b v t 2 w
    + step q k b v t 3 w + step q k b v t 4 w + step q k b v t 5 w + step q k b v t 6 w + step q k b v t 7 w

theorem step_eq (q k a : Fin 8 → Fin 128 → EReal) (ha : ∀ s d, a s d ≤ 0) (v : Fin 8 → Fin 256 → EReal) (t s : Fin 8) (w : Fin 256) :
    step q k (cum a) v t s w = v s w * att q k a t s := by
  unfold step att
  rw [causal_word]
  split
  · next h =>
    simp only [cum_sub a ha h]
    exact mul_comm _ _
  · exact (mul_zero _).symm

theorem steps_eq (q k a : Fin 8 → Fin 128 → EReal) (ha : ∀ s d, a s d ≤ 0) (v : Fin 8 → Fin 256 → EReal) (S : Fin 128 → Fin 256 → EReal) :
    steps q k (cum a) v S = mix q k a v S := by
  funext t w
  unfold steps mix
  simp only [step_eq q k a ha, Fin.sum_univ_eight]
  simp only [mul_comm (S _ _)]
  abel

/-- Head `h`'s rows of what a point stores. -/
def rowsOf (x0 x1 : Vec Ideal S8x512 .f32) (x2 x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) (h : Fin 4) (t : Fin 8) (w : Fin 256) : EReal :=
  gated (mix (queries x0 h) (keys x1 h) (gates x4 x5 x6 h) (vals x2 h) (state x8 h)) (vals x3 h) (fun w => x7 (ix2 0 w)) t w

theorem rows_steps (x0 x1 : Vec Ideal S8x512 .f32) (x2 x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) (h : Fin 4) (t : Fin 8) (w : Fin 256) :
    gated (steps (queries x0 h) (keys x1 h) (sums x4 x5 x6 h) (vals x2 h) (state x8 h)) (vals x3 h) (fun w => x7 (ix2 0 w)) t w
      = rowsOf x0 x1 x2 x3 x4 x5 x6 x7 x8 h t w := by
  unfold rowsOf
  rw [← steps_eq _ _ _ (gates_nonpos x4 x5 x6 h), show sums x4 x5 x6 h = cum (gates x4 x5 x6 h) from
    funext fun t => funext fun d => cum_apply x4 x5 x6 h t d]

/-- Column `w` of the block's rows lies in head `w / 256`. -/
def outRows (x0 x1 : Vec Ideal S8x512 .f32) (x2 x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) (y : S8x1024.Idx) : EReal :=
  rowsOf x0 x1 x2 x3 x4 x5 x6 x7 x8 ⟨(y 1).val / 256, by have h : (y 1).val < 1024 := (y 1).isLt; omega⟩ (y 0) ⟨(y 1).val % 256, Nat.mod_lt _ (by decide)⟩

theorem outRows_apply (x0 x1 : Vec Ideal S8x512 .f32) (x2 x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) (h : Fin 4) (t : Fin 8) (w : Fin 256) :
    outRows x0 x1 x2 x3 x4 x5 x6 x7 x8 (ix2 t ⟨h.val * 256 + w.val, by omega⟩) = rowsOf x0 x1 x2 x3 x4 x5 x6 x7 x8 h t w := by
  unfold outRows
  congr 1
  · exact Fin.ext (show (h.val * 256 + w.val) / 256 = h.val by omega)
  · exact Fin.ext (show (h.val * 256 + w.val) % 256 = w.val by omega)

theorem ld_lanes (x : Vec Ideal S8x128 .f32) (inb : ∀ a, (![0, 0] : Fin 2 → Nat) a + ![8, 128] a ≤ S8x128.size a) :
    View.ld x (Rect.unit (s := S8x128) ![0, 0] ![8, 128] inb) = x := View.ld_unit_zero hz2 inb x
theorem ld_wide (x : Vec Ideal S128x512 .bf16) (inb : ∀ a, (![0, 0] : Fin 2 → Nat) a + ![128, 512] a ≤ S128x512.size a) :
    View.ld x (Rect.unit (s := S128x512) ![0, 0] ![128, 512] inb) = x := View.ld_unit_zero hz2 inb x
theorem ld_row (x : Vec Ideal S1x512 .f32) (inb : ∀ a, (![0, 0] : Fin 2 → Nat) a + ![1, 512] a ≤ S1x512.size a) :
    View.ld x (Rect.unit (s := S1x512) ![0, 0] ![1, 512] inb) = x := View.ld_unit_zero hz2 inb x

/-- The state a head reads back from the buffer the point first fills. -/
theorem read_state (v : View sig .tc .vmem S4x128x256 .f32) (x8 : Vec Ideal S1x4x128x256 .f32) (off : Fin 3 → Nat) (h : Fin 4) (hoff : off = ![h.val, 0, 0])
    (i1 : ∀ a, (![0, 0, 0] : Fin 3 → Nat) a + S4x128x256.size a ≤ S4x128x256.size a)
    (i2 : ∀ a, (![0, 0, 0, 0] : Fin 4 → Nat) a + S1x4x128x256.size a ≤ S1x4x128x256.size a)
    (i3 : ∀ a, off a + S1x128x256.size a ≤ S4x128x256.size a) :
    v.readCov (Val := Elt Ideal) [⟨Rect.unit ![0, 0, 0] S4x128x256.size i1, k0_pay5 (F := Ideal) (View.ld x8 (Rect.unit ![0, 0, 0, 0] S1x4x128x256.size i2))⟩]
      (Rect.unit (s := S4x128x256) off S1x128x256.size i3).toLoadRect = fun j : S1x128x256.Idx => x8 (ix4 0 h (j 1) (j 2)) := by
  subst hoff
  rw [View.readCov_eq_canon']
  funext j
  obtain ⟨u, d, w, rfl⟩ : ∃ (u : Fin 1) (d : Fin 128) (w : Fin 256), j = (ix3 u d w : S1x128x256.Idx) := ⟨j 0, j 1, j 2, eq_ix3 j⟩
  rw [View.canon_unit_zero hz3, View.ld_unit_zero hz4, show (Rect.unit (s := S4x128x256) ![h.val, 0, 0] S1x128x256.size i3).toLoadRect.idx (ix3 u d w) = (ix3 h d w : S4x128x256.Idx) from by
    funext a
    apply Fin.ext
    match a with
    | ⟨0, _⟩ => show h.val + 1 * u.val = h.val; omega
    | ⟨1, _⟩ => show 0 + 1 * d.val = d.val; omega
    | ⟨2, _⟩ => show 0 + 1 * w.val = w.val; omega]
  pointwise [k0_pay5]

set_option maxHeartbeats 2000000 in
/-- What a point leaves in its block of rows. -/
theorem out9_eq (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg12 : Memref sig .tc .vmem S8x1024 .bf16) (harg12 : arg12.IsWhole) (arg13 : Memref sig .tc .vmem S1x4x128x256 .f32) (harg13 : arg13.IsWhole) (arg14 : Memref sig .tc .vmem S4x128x256 .f32) (harg14 : arg14.IsWhole) (hc0 : cond0_0 i)
    (x0 : Vec Ideal S8x512 .f32) (x1 : Vec Ideal S8x512 .f32) (x2 : Vec Ideal S8x1024 .f32) (x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) :
    out0_A_9 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 = outRows x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8)]
  have hc := cover0_A_9 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8
  revert hc
  unfold kernelRun0_A
  dsimp only
  sl_unfold_words
  intro hc
  funext y
  refine View.canon_apply_of_pieces _ _ ?_ y (hc y)
  clear hc
  intro p hp
  simp only [List.mem_cons, List.not_mem_nil, or_false] at hp
  have emb (h : Fin 4) (t : Fin 8) (w : Fin 256) (inb : ∀ a, (![0, h.val * 256] : Fin 2 → Nat) a + S8x256.size a ≤ S8x1024.size a) :
      (Rect.unit (s := S8x1024) ![0, h.val * 256] S8x256.size inb).emb (ix2 t w) = (ix2 t ⟨h.val * 256 + w.val, by omega⟩ : S8x1024.Idx) := by
    funext a
    apply Fin.ext
    match a with
    | ⟨0, _⟩ => show 0 + 1 * t.val = t.val; omega
    | ⟨1, _⟩ => show h.val * 256 + 1 * w.val = h.val * 256 + w.val; omega
  rcases hp with rfl | rfl | rfl | rfl <;> intro x <;>
    obtain ⟨t, w, rfl⟩ : ∃ (t : Fin 8) (w : Fin 256), x = (ix2 t w : S8x256.Idx) := ⟨x 0, x 1, eq_ix2 x⟩
  on_goal 1 => refine Eq.trans ?_ (congrArg _ (emb 3 t w (by decide))).symm
  on_goal 2 => refine Eq.trans ?_ (congrArg _ (emb 2 t w (by decide))).symm
  on_goal 3 => refine Eq.trans ?_ (congrArg _ (emb 1 t w (by decide))).symm
  on_goal 4 => refine Eq.trans ?_ (congrArg _ (emb 0 t w (by decide))).symm
  all_goals
    rw [outRows_apply, ← rows_steps]
    dsimp only
    simp only [View.readAt_eq_ld, Memref.IsWhole.read_unread]
  on_goal 1 => rw [read_state _ x8 ![3, 0, 0] 3 rfl]
  on_goal 2 => rw [read_state _ x8 ![2, 0, 0] 2 rfl]
  on_goal 3 => rw [read_state _ x8 ![1, 0, 0] 1 rfl]
  on_goal 4 => rw [read_state _ x8 ![0, 0, 0] 0 rfl]
  all_goals
    pointwise [ld_lanes, ld_wide, ld_row, gated, steps, step, queries, keys, sums, vals, state, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79]
    simp only [zero_sub]

/-- Head `h`'s part of the state a point stores. -/
def stateOf (x1 : Vec Ideal S8x512 .f32) (x2 : Vec Ideal S8x1024 .f32) (x4 : Vec Ideal S8x128 .f32) (x5 : Vec Ideal S128x512 .bf16) (x6 : Vec Ideal S1x512 .f32) (x8 : Vec Ideal S1x4x128x256 .f32) (h : Fin 4) : Fin 128 → Fin 256 → EReal :=
  next (keys x1 h) (gates x4 x5 x6 h) (vals x2 h) (state x8 h)

/-- The body takes the last running sum once as a product with ones and once from the running sums. -/
theorem state_steps (x1 : Vec Ideal S8x512 .f32) (x2 : Vec Ideal S8x1024 .f32) (x4 : Vec Ideal S8x128 .f32) (x5 : Vec Ideal S128x512 .bf16) (x6 : Vec Ideal S1x512 .f32) (x8 : Vec Ideal S1x4x128x256 .f32) (h : Fin 4) (d : Fin 128) (w : Fin 256) :
    Ideal.exp (∑ s : Fin 8, gates x4 x5 x6 h s d * Ideal.ofBits .f32 0x3F800000#32) * state x8 h d w
      + ∑ s : Fin 8, keys x1 h s d * Ideal.exp (sums x4 x5 x6 h 7 d - sums x4 x5 x6 h s d) * vals x2 h s w
      = stateOf x1 x2 x4 x5 x6 x8 h d w := by
  unfold stateOf next
  rw [cum_last, show sums x4 x5 x6 h = cum (gates x4 x5 x6 h) from
    funext fun t => funext fun d => cum_apply x4 x5 x6 h t d, cum_last]
  simp only [Ideal.ofBits_one_f32, mul_one]

/-- What a point stores of the state. -/
def outState (x1 : Vec Ideal S8x512 .f32) (x2 : Vec Ideal S8x1024 .f32) (x4 : Vec Ideal S8x128 .f32) (x5 : Vec Ideal S128x512 .bf16) (x6 : Vec Ideal S1x512 .f32) (x8 : Vec Ideal S1x4x128x256 .f32) (y : S1x4x128x256.Idx) : EReal :=
  stateOf x1 x2 x4 x5 x6 x8 (y 1) (y 2) (y 3)

set_option maxHeartbeats 2000000 in
/-- What a point leaves in its block of the state. -/
theorem out10_eq (c : Dev nD) (i : grid0.Coords) (arg2 : Memref sig .tc .vmem S8x512 .f32) (harg2 : arg2.IsWhole) (arg3 : Memref sig .tc .vmem S8x512 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x128x256 .f32) (harg10 : arg10.IsWhole) (arg12 : Memref sig .tc .vmem S8x1024 .bf16) (harg12 : arg12.IsWhole) (arg13 : Memref sig .tc .vmem S1x4x128x256 .f32) (harg13 : arg13.IsWhole) (arg14 : Memref sig .tc .vmem S4x128x256 .f32) (harg14 : arg14.IsWhole) (hc0 : cond0_0 i)
    (x0 : Vec Ideal S8x512 .f32) (x1 : Vec Ideal S8x512 .f32) (x2 : Vec Ideal S8x1024 .f32) (x3 : Vec Ideal S8x1024 .f32) (x4 : Vec Ideal S8x128 .f32) (x5 : Vec Ideal S128x512 .bf16) (x6 : Vec Ideal S1x512 .f32) (x7 : Vec Ideal S1x256 .f32) (x8 : Vec Ideal S1x4x128x256 .f32) :
    out0_A_10 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 = outState x1 x2 x4 x5 x6 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8)]
  have hc := cover0_A_10 c i arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8
  revert hc
  unfold kernelRun0_A
  dsimp only
  sl_unfold_words
  intro hc
  funext y
  refine View.canon_apply_of_pieces _ _ ?_ y (hc y)
  clear hc
  intro p hp
  simp only [List.mem_cons, List.not_mem_nil, or_false] at hp
  have emb (h : Fin 4) (d : Fin 128) (w : Fin 256) (inb : ∀ a, (![0, h.val, 0, 0] : Fin 4 → Nat) a + S1x1x128x256.size a ≤ S1x4x128x256.size a) :
      (Rect.unit (s := S1x4x128x256) ![0, h.val, 0, 0] S1x1x128x256.size inb).emb (ix4 0 0 d w) = (ix4 0 h d w : S1x4x128x256.Idx) := by
    funext a
    apply Fin.ext
    match a with
    | ⟨0, _⟩ => show 0 + 1 * 0 = 0; omega
    | ⟨1, _⟩ => show h.val + 1 * 0 = h.val; omega
    | ⟨2, _⟩ => show 0 + 1 * d.val = d.val; omega
    | ⟨3, _⟩ => show 0 + 1 * w.val = w.val; omega
  rcases hp with rfl | rfl | rfl | rfl <;> intro x <;>
    obtain ⟨d, w, rfl⟩ : ∃ (d : Fin 128) (w : Fin 256), x = (ix4 0 0 d w : S1x1x128x256.Idx) :=
      ⟨x 2, x 3, (eq_ix4 x).trans (by rw [Fin.eq_zero (x 0 : Fin 1), Fin.eq_zero (x 1 : Fin 1)])⟩
  on_goal 1 => refine Eq.trans ?_ (congrArg _ (emb 3 d w (by decide))).symm
  on_goal 2 => refine Eq.trans ?_ (congrArg _ (emb 2 d w (by decide))).symm
  on_goal 3 => refine Eq.trans ?_ (congrArg _ (emb 1 d w (by decide))).symm
  on_goal 4 => refine Eq.trans ?_ (congrArg _ (emb 0 d w (by decide))).symm
  all_goals
    rw [show ∀ h, outState x1 x2 x4 x5 x6 x8 (ix4 0 h d w) = stateOf x1 x2 x4 x5 x6 x8 h d w from fun _ => rfl, ← state_steps]
    dsimp only
    simp only [View.readAt_eq_ld, Memref.IsWhole.read_unread]
  on_goal 1 => rw [read_state _ x8 ![3, 0, 0] 3 rfl]
  on_goal 2 => rw [read_state _ x8 ![2, 0, 0] 2 rfl]
  on_goal 3 => rw [read_state _ x8 ![1, 0, 0] 1 rfl]
  on_goal 4 => rw [read_state _ x8 ![0, 0, 0] 0 rfl]
  all_goals
    pointwise [ld_lanes, ld_wide, ld_row, keys, gates, sums, vals, state, k0_pay1, k0_pay2, k0_pay3, k0_pay4, k0_pay8, k0_pay9, k0_pay10, k0_pay11, k0_pay12, k0_pay13, k0_pay14, k0_pay15, k0_pay16, k0_pay17, k0_pay18, k0_pay19, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96]

variable (m : (ℓ : Loc nD τ sig) → Buf (Elt Ideal) ℓ) (ρ : Dev nD → PrngReg)

/-- Where each window's block starts at a point. -/
theorem starts (t : Fin cfg0.N) : (win0_0.rect t).off = ![8256 + t.val * 8, 0] ∧ (win0_1.rect t).off = ![8256 + t.val * 8, 512]
    ∧ (win0_2.rect t).off = ![8256 + t.val * 8, 1024] ∧ (win0_3.rect t).off = ![8256 + t.val * 8, 2048]
    ∧ (win0_4.rect t).off = ![8256 + t.val * 8, 0] ∧ (win0_5.rect t).off = ![0, 0] ∧ (win0_6.rect t).off = ![0, 0]
    ∧ (win0_7.rect t).off = ![0, 0] ∧ (win0_8.rect t).off = ![t.val, 0, 0, 0]
    ∧ (win0_9.rect t).off = ![8256 + t.val * 8, 0] ∧ (win0_10.rect t).off = ![t.val, 0, 0, 0] :=
  (by decide +kernel : ∀ t : Fin grid0.N, (win0_0.rect t).off = ![8256 + t.val * 8, 0] ∧ (win0_1.rect t).off = ![8256 + t.val * 8, 512]
    ∧ (win0_2.rect t).off = ![8256 + t.val * 8, 1024] ∧ (win0_3.rect t).off = ![8256 + t.val * 8, 2048]
    ∧ (win0_4.rect t).off = ![8256 + t.val * 8, 0] ∧ (win0_5.rect t).off = ![0, 0] ∧ (win0_6.rect t).off = ![0, 0]
    ∧ (win0_7.rect t).off = ![0, 0] ∧ (win0_8.rect t).off = ![t.val, 0, 0, 0]
    ∧ (win0_9.rect t).off = ![8256 + t.val * 8, 0] ∧ (win0_10.rect t).off = ![t.val, 0, 0, 0]) t

/-- Block 0, element by element. -/
theorem blk_q (c : Dev nD) (t : Fin cfg0.N) (r : Fin 8) (d : Fin 512) :
    (iblk m c 0 t : Vec Ideal S8x512 .f32) (ix2 r d)
      = m ((c : Thread nD τ).loc main_arg0) (ix2 ⟨8256 + (t.val * 8 + r.val), by have : t.val < 8 := t.isLt; omega⟩ ⟨0 + d.val, by omega⟩) := by
  unfold iblk
  rw [View.read_apply]
  show V m c main_arg0 _ = _
  have h := (starts t).1
  rw [V_main_arg0, show ((cfg0.win 0).blk t).view.emb (ix2 r d) = (ix2 ⟨8256 + (t.val * 8 + r.val), by have : t.val < 8 := t.isLt; omega⟩ ⟨0 + d.val, by omega⟩ : S8448x5120.Idx) from by
    funext a
    apply Fin.ext
    match a with
    | ⟨0, _⟩ => show (win0_0.rect t).off 0 + 1 * r.val = 8256 + (t.val * 8 + r.val); rw [h]; show 8256 + t.val * 8 + 1 * r.val = 8256 + (t.val * 8 + r.val); omega
    | ⟨1, _⟩ => show (win0_0.rect t).off 1 + 1 * d.val = 0 + d.val; rw [h]; show 0 + 1 * d.val = 0 + d.val; omega]

/-- Block 1, element by element. -/
theorem blk_k (c : Dev nD) (t : Fin cfg0.N) (r : Fin 8) (d : Fin 512) :
    (iblk m c 1 t : Vec Ideal S8x512 .f32) (ix2 r d)
      = m ((c : Thread nD τ).loc main_arg0) (ix2 ⟨8256 + (t.val * 8 + r.val), by have : t.val < 8 := t.isLt; omega⟩ ⟨512 + d.val, by omega⟩) := by
  unfold iblk
  rw [View.read_apply]
  show V m c main_arg0 _ = _
  have h := (starts t).2.1
  rw [V_main_arg0, show ((cfg0.win 1).blk t).view.emb (ix2 r d) = (ix2 ⟨8256 + (t.val * 8 + r.val), by have : t.val < 8 := t.isLt; omega⟩ ⟨512 + d.val, by omega⟩ : S8448x5120.Idx) from by
    funext a
    apply Fin.ext
    match a with
    | ⟨0, _⟩ => show (win0_1.rect t).off 0 + 1 * r.val = 8256 + (t.val * 8 + r.val); rw [h]; show 8256 + t.val * 8 + 1 * r.val = 8256 + (t.val * 8 + r.val); omega
    | ⟨1, _⟩ => show (win0_1.rect t).off 1 + 1 * d.val = 512 + d.val; rw [h]; show 512 + 1 * d.val = 512 + d.val; omega]

/-- Block 2, element by element. -/
theorem blk_v (c : Dev nD) (t : Fin cfg0.N) (r : Fin 8) (d : Fin 1024) :
    (iblk m c 2 t : Vec Ideal S8x1024 .f32) (ix2 r d)
      = m ((c : Thread nD τ).loc main_arg0) (ix2 ⟨8256 + (t.val * 8 + r.val), by have : t.val < 8 := t.isLt; omega⟩ ⟨1024 + d.val, by omega⟩) := by
  unfold iblk
  rw [View.read_apply]
  show V m c main_arg0 _ = _
  have h := (starts t).2.2.1
  rw [V_main_arg0, show ((cfg0.win 2).blk t).view.emb (ix2 r d) = (ix2 ⟨8256 + (t.val * 8 + r.val), by have : t.val < 8 := t.isLt; omega⟩ ⟨1024 + d.val, by omega⟩ : S8448x5120.Idx) from by
    funext a
    apply Fin.ext
    match a with
    | ⟨0, _⟩ => show (win0_2.rect t).off 0 + 1 * r.val = 8256 + (t.val * 8 + r.val); rw [h]; show 8256 + t.val * 8 + 1 * r.val = 8256 + (t.val * 8 + r.val); omega
    | ⟨1, _⟩ => show (win0_2.rect t).off 1 + 1 * d.val = 1024 + d.val; rw [h]; show 1024 + 1 * d.val = 1024 + d.val; omega]

/-- Block 3, element by element. -/
theorem blk_g (c : Dev nD) (t : Fin cfg0.N) (r : Fin 8) (d : Fin 1024) :
    (iblk m c 3 t : Vec Ideal S8x1024 .f32) (ix2 r d)
      = m ((c : Thread nD τ).loc main_arg0) (ix2 ⟨8256 + (t.val * 8 + r.val), by have : t.val < 8 := t.isLt; omega⟩ ⟨2048 + d.val, by omega⟩) := by
  unfold iblk
  rw [View.read_apply]
  show V m c main_arg0 _ = _
  have h := (starts t).2.2.2.1
  rw [V_main_arg0, show ((cfg0.win 3).blk t).view.emb (ix2 r d) = (ix2 ⟨8256 + (t.val * 8 + r.val), by have : t.val < 8 := t.isLt; omega⟩ ⟨2048 + d.val, by omega⟩ : S8448x5120.Idx) from by
    funext a
    apply Fin.ext
    match a with
    | ⟨0, _⟩ => show (win0_3.rect t).off 0 + 1 * r.val = 8256 + (t.val * 8 + r.val); rw [h]; show 8256 + t.val * 8 + 1 * r.val = 8256 + (t.val * 8 + r.val); omega
    | ⟨1, _⟩ => show (win0_3.rect t).off 1 + 1 * d.val = 2048 + d.val; rw [h]; show 2048 + 1 * d.val = 2048 + d.val; omega]

/-- Block 4, element by element. -/
theorem blk_lr (c : Dev nD) (t : Fin cfg0.N) (r : Fin 8) (d : Fin 128) :
    (iblk m c 4 t : Vec Ideal S8x128 .f32) (ix2 r d)
      = m ((c : Thread nD τ).loc main_arg1) (ix2 ⟨8256 + (t.val * 8 + r.val), by have : t.val < 8 := t.isLt; omega⟩ d) := by
  unfold iblk
  rw [View.read_apply]
  show V m c main_arg1 _ = _
  have h := (starts t).2.2.2.2.1
  rw [V_main_arg1, show ((cfg0.win 4).blk t).view.emb (ix2 r d) = (ix2 ⟨8256 + (t.val * 8 + r.val), by have : t.val < 8 := t.isLt; omega⟩ d : S8448x128.Idx) from by
    funext a
    apply Fin.ext
    match a with
    | ⟨0, _⟩ => show (win0_4.rect t).off 0 + 1 * r.val = 8256 + (t.val * 8 + r.val); rw [h]; show 8256 + t.val * 8 + 1 * r.val = 8256 + (t.val * 8 + r.val); omega
    | ⟨1, _⟩ => show (win0_4.rect t).off 1 + 1 * d.val = d.val; rw [h]; show 0 + 1 * d.val = d.val; omega]

/-- The padded weight of the gates, element by element. -/
theorem blk_w (c : Dev nD) (t : Fin cfg0.N) (l : Fin 128) (d : Fin 512) :
    (iblk m c 5 t : Vec Ideal S128x512 .bf16) (ix2 l d)
      = if h : l.val < 16 then m ((c : Thread nD τ).loc main_arg2) (ix2 ⟨l.val, h⟩ d) else (0 : EReal) := by
  unfold iblk
  rw [View.read_apply]
  show V m c main_v1 _ = _
  have e : V m c main_v1 = truncf (F := Ideal) .bf16 (pad S128x512 ![0, 0] ![112, 0] ![0, 0] (m ((c : Thread nD τ).loc main_arg2) : FVec Ideal S16x512 .f32)
      (sitofp (F := Ideal) .f32 (constantI S_ 32 0#32)) pads_S16x512_S128x512_01120_000 h_S_) bitsLt_bf16_f32 := by
    show StableHlo.after [_, _, _, _, _, _, _] _ _ = _
    after_results <;> rfl
  have h := (starts t).2.2.2.2.2.1
  rw [e, show ((cfg0.win 5).blk t).view.emb (ix2 l d) = (ix2 l d : S128x512.Idx) from by
    funext a
    apply Fin.ext
    match a with
    | ⟨0, _⟩ => show (win0_5.rect t).off 0 + 1 * l.val = l.val; rw [h]; show 0 + 1 * l.val = l.val; omega
    | ⟨1, _⟩ => show (win0_5.rect t).off 1 + 1 * d.val = d.val; rw [h]; show 0 + 1 * d.val = d.val; omega]
  show pad S128x512 ![0, 0] ![112, 0] ![0, 0] (m ((c : Thread nD τ).loc main_arg2) : FVec Ideal S16x512 .f32)
      (sitofp (F := Ideal) .f32 (constantI S_ 32 0#32)) pads_S16x512_S128x512_01120_000 h_S_ (ix2 l d) = _
  split
  · next hl =>
    refine pad_apply_of_inside _ _ _ _ _ _ _ _ (ix2 ⟨l.val, hl⟩ d) fun a => ?_
    match a with
    | ⟨0, _⟩ => show l.val = 0 + l.val * 1; omega
    | ⟨1, _⟩ => show d.val = 0 + d.val * 1; omega
  · next hl =>
    rw [pad_apply_of_not_inside _ _ _ _ _ _ _ _ (0 : Fin 2) (by
      show ¬(0 ≤ l.val ∧ (l.val - 0) % 1 = 0 ∧ (l.val - 0) / 1 < 16)
      omega)]
    simp [sitofp, constantI, FloatOps.sitofp]

/-- The gates' bias, element by element. -/
theorem blk_b (c : Dev nD) (t : Fin cfg0.N) (d : Fin 512) :
    (iblk m c 6 t : Vec Ideal S1x512 .f32) (ix2 0 d) = m ((c : Thread nD τ).loc main_arg3) (ix1 d) := by
  unfold iblk
  rw [View.read_apply]
  show V m c main_v2 _ = _
  have e : V m c main_v2 = shapeCast S1x512 (m ((c : Thread nD τ).loc main_arg3)) shapeCasts_S512_S1x512 := by
    show StableHlo.after [_, _, _, _, _, _, _] _ _ = _
    after_results <;> rfl
  have h := (starts t).2.2.2.2.2.2.1
  rw [e, show ((cfg0.win 6).blk t).view.emb (ix2 0 d) = (ix2 0 d : S1x512.Idx) from by
    funext a
    apply Fin.ext
    match a with
    | ⟨0, _⟩ => show (win0_6.rect t).off 0 + 1 * 0 = 0; rw [h]; show 0 + 1 * 0 = 0; omega
    | ⟨1, _⟩ => show (win0_6.rect t).off 1 + 1 * d.val = d.val; rw [h]; show 0 + 1 * d.val = d.val; omega]
  pointwise

/-- The norm's gain, element by element. -/
theorem blk_gn (c : Dev nD) (t : Fin cfg0.N) (d : Fin 256) :
    (iblk m c 7 t : Vec Ideal S1x256 .f32) (ix2 0 d) = m ((c : Thread nD τ).loc main_arg4) (ix1 d) := by
  unfold iblk
  rw [View.read_apply]
  show V m c main_v3 _ = _
  have e : V m c main_v3 = shapeCast S1x256 (m ((c : Thread nD τ).loc main_arg4)) shapeCasts_S256_S1x256 := by
    show StableHlo.after [_, _, _, _, _, _, _] _ _ = _
    after_results <;> rfl
  have h := (starts t).2.2.2.2.2.2.2.1
  rw [e, show ((cfg0.win 7).blk t).view.emb (ix2 0 d) = (ix2 0 d : S1x256.Idx) from by
    funext a
    apply Fin.ext
    match a with
    | ⟨0, _⟩ => show (win0_7.rect t).off 0 + 1 * 0 = 0; rw [h]; show 0 + 1 * 0 = 0; omega
    | ⟨1, _⟩ => show (win0_7.rect t).off 1 + 1 * d.val = d.val; rw [h]; show 0 + 1 * d.val = d.val; omega]
  pointwise

/-- Where element `(h, d, w)` of a block of the states lies, for the states read and the states written. -/
theorem emb_state (t : Fin cfg0.N) (h : Fin 4) (d : Fin 128) (w : Fin 256) :
    ((cfg0.win 8).blk t).view.emb (ix4 0 h d w) = (ix4 (⟨t.val, t.isLt⟩ : Fin 8) h d w : S8x4x128x256.Idx)
    ∧ ((cfg0.win 10).blk t).view.emb (ix4 0 h d w) = (ix4 (⟨t.val, t.isLt⟩ : Fin 8) h d w : S8x4x128x256.Idx) := by
  have h8 := (starts t).2.2.2.2.2.2.2.2.1
  have h10 := (starts t).2.2.2.2.2.2.2.2.2.2
  constructor
  · funext a
    apply Fin.ext
    match a with
    | ⟨0, _⟩ => show (win0_8.rect t).off 0 + 1 * 0 = t.val; rw [h8]; rfl
    | ⟨1, _⟩ => show (win0_8.rect t).off 1 + 1 * h.val = h.val; rw [h8]; show 0 + 1 * _ = _; omega
    | ⟨2, _⟩ => show (win0_8.rect t).off 2 + 1 * d.val = d.val; rw [h8]; show 0 + 1 * _ = _; omega
    | ⟨3, _⟩ => show (win0_8.rect t).off 3 + 1 * w.val = w.val; rw [h8]; show 0 + 1 * _ = _; omega
  · funext a
    apply Fin.ext
    match a with
    | ⟨0, _⟩ => show (win0_10.rect t).off 0 + 1 * 0 = t.val; rw [h10]; rfl
    | ⟨1, _⟩ => show (win0_10.rect t).off 1 + 1 * h.val = h.val; rw [h10]; show 0 + 1 * _ = _; omega
    | ⟨2, _⟩ => show (win0_10.rect t).off 2 + 1 * d.val = d.val; rw [h10]; show 0 + 1 * _ = _; omega
    | ⟨3, _⟩ => show (win0_10.rect t).off 3 + 1 * w.val = w.val; rw [h10]; show 0 + 1 * _ = _; omega

/-- The state's block, element by element. -/
theorem blk_state (c : Dev nD) (t : Fin cfg0.N) (h : Fin 4) (d : Fin 128) (w : Fin 256) :
    (iblk m c 8 t : Vec Ideal S1x4x128x256 .f32) (ix4 0 h d w) = m ((c : Thread nD τ).loc main_arg5) (ix4 (⟨t.val, t.isLt⟩ : Fin 8) h d w) := by
  unfold iblk
  rw [View.read_apply]
  show V m c main_arg5 _ = _
  rw [V_main_arg5, (emb_state t h d w).1]

open Cert.GlaSRefIdeal.Read (keysAt queriesAt valsAt outGatesAt gatesAt rowAt GRows GState)

/-- The point of sequence `t`. -/
abbrev seqOf (t : Fin cfg0.N) : Fin 8 := ⟨t.val, t.isLt⟩

theorem keys_blk (c : Dev nD) (t : Fin cfg0.N) (h : Fin 4) : keys (iblk m c 1 t) h = keysAt (m ((c : Thread nD τ).loc main_arg0)) (seqOf t) h :=
  funext fun r => funext fun d => blk_k m c t r _

theorem vals_blk (c : Dev nD) (t : Fin cfg0.N) (h : Fin 4) : vals (iblk m c 2 t) h = valsAt (m ((c : Thread nD τ).loc main_arg0)) (seqOf t) h :=
  funext fun r => funext fun d => blk_v m c t r _

theorem outGates_blk (c : Dev nD) (t : Fin cfg0.N) (h : Fin 4) : vals (iblk m c 3 t) h = outGatesAt (m ((c : Thread nD τ).loc main_arg0)) (seqOf t) h :=
  funext fun r => funext fun d => blk_g m c t r _

theorem queries_blk (c : Dev nD) (t : Fin cfg0.N) (h : Fin 4) : queries (iblk m c 0 t) h = queriesAt (m ((c : Thread nD τ).loc main_arg0)) (seqOf t) h := by
  funext r d
  unfold queries queriesAt
  rw [blk_q m c t r ⟨h.val * 128 + d.val, by omega⟩,
    show (⟨0 + (h.val * 128 + d.val), by omega⟩ : Fin 5120) = ⟨h.val * 128 + d.val, by omega⟩ from Fin.ext (Nat.zero_add _)]

/-- The padded lanes add nothing to the gates. -/
theorem gates_blk (c : Dev nD) (t : Fin cfg0.N) (h : Fin 4) : gates (iblk m c 4 t) (iblk m c 5 t) (iblk m c 6 t) h
    = gatesAt (m ((c : Thread nD τ).loc main_arg1)) (m ((c : Thread nD τ).loc main_arg2)) (m ((c : Thread nD τ).loc main_arg3)) (seqOf t) h := by
  funext r d
  refine (loga_apply (iblk m c 4 t) (iblk m c 5 t) (iblk m c 6 t) r ⟨h.val * 128 + d.val, by omega⟩).trans (congrArg gate ?_)
  refine congrArg₂ (· + ·) ?_ (blk_b m c t _)
  refine (sum_lanes (fun l => (iblk m c 4 t : Vec Ideal S8x128 .f32) (ix2 r l))
    (fun l => (iblk m c 5 t : Vec Ideal S128x512 .bf16) (ix2 l ⟨h.val * 128 + d.val, by omega⟩)) fun l hl => ?_).trans (Finset.sum_congr rfl fun l _ => ?_)
  · exact (blk_w m c t l _).trans (dif_neg (by omega))
  · exact congrArg₂ (· * ·) (blk_lr m c t r ⟨l.val, by omega⟩) ((blk_w m c t _ _).trans (dif_pos l.isLt))

theorem state_blk (c : Dev nD) (t : Fin cfg0.N) (h : Fin 4) : state (iblk m c 8 t) h = fun d w => m ((c : Thread nD τ).loc main_arg5) (ix4 (seqOf t) h d w) :=
  funext fun d => funext fun w => blk_state m c t h d w

/-- A point writes back its rows. -/
theorem flushed9_eq (c : Dev nD) (t : Fin cfg0.N) : (dats m 0 c).flushed 9 t = ((cfg0.win 9).blk t).view.read (Elt Ideal) (GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed9_A, out9_eq]
  have ho := (starts t).2.2.2.2.2.2.2.2.2.1
  have ht : t.val < 8 := t.isLt
  funext y
  obtain ⟨r, e, rfl⟩ : ∃ (r : Fin 8) (e : Fin 1024), y = (ix2 r e : S8x1024.Idx) := ⟨y 0, y 1, eq_ix2 y⟩
  rw [View.read_apply, show ((cfg0.win 9).blk t).view.emb (ix2 r e) = (ix2 ⟨8256 + (t.val * 8 + r.val), by omega⟩ e : S8448x1024.Idx) from by
    funext a
    apply Fin.ext
    match a with
    | ⟨0, _⟩ => show (win0_9.rect t).off 0 + 1 * r.val = 8256 + (t.val * 8 + r.val); rw [ho]; show 8256 + t.val * 8 + 1 * r.val = 8256 + (t.val * 8 + r.val); omega
    | ⟨1, _⟩ => show (win0_9.rect t).off 1 + 1 * e.val = e.val; rw [ho]; show 0 + 1 * e.val = e.val; omega]
  show outRows (iblk m c 0 t) (iblk m c 1 t) (iblk m c 2 t) (iblk m c 3 t) (iblk m c 4 t) (iblk m c 5 t) (iblk m c 6 t) (iblk m c 7 t) (iblk m c 8 t) (ix2 r e) = _
  unfold GRows
  rw [dif_pos (by show 8256 ≤ 8256 + (t.val * 8 + r.val) ∧ 8256 + (t.val * 8 + r.val) < 8320; omega)]
  unfold outRows rowsOf rowAt
  rw [queries_blk, keys_blk, gates_blk, vals_blk, outGates_blk, state_blk, show (fun w : Fin 256 => (iblk m c 7 t : Vec Ideal S1x256 .f32) (ix2 0 w))
    = fun w => m ((c : Thread nD τ).loc main_arg4) (ix1 w) from funext fun w => blk_gn m c t w]
  have h1 : (⟨(8256 + (t.val * 8 + r.val) - 8256) / 8, by omega⟩ : Fin 8) = seqOf t := Fin.ext (by show (8256 + (t.val * 8 + r.val) - 8256) / 8 = t.val; omega)
  have h2 : (⟨(8256 + (t.val * 8 + r.val) - 8256) % 8, Nat.mod_lt _ (by decide)⟩ : Fin 8) = r := Fin.ext (by show (8256 + (t.val * 8 + r.val) - 8256) % 8 = r.val; omega)
  rw [show (⟨(((ix2 ⟨8256 + (t.val * 8 + r.val), by omega⟩ e : S8448x1024.Idx) 0).val - 8256) / 8, by show (8256 + (t.val * 8 + r.val) - 8256) / 8 < 8; omega⟩ : Fin 8) = seqOf t from h1,
    show (⟨(((ix2 ⟨8256 + (t.val * 8 + r.val), by omega⟩ e : S8448x1024.Idx) 0).val - 8256) % 8, Nat.mod_lt _ (by decide)⟩ : Fin 8) = r from h2]
  rfl

/-- A point writes back its sequence's state. -/
theorem flushed10_eq (c : Dev nD) (t : Fin cfg0.N) : (dats m 0 c).flushed 10 t = ((cfg0.win 10).blk t).view.read (Elt Ideal) (GState (m ((c : Thread nD τ).loc main_arg0)) (m ((c : Thread nD τ).loc main_arg1)) (m ((c : Thread nD τ).loc main_arg2)) (m ((c : Thread nD τ).loc main_arg3)) (m ((c : Thread nD τ).loc main_arg5))) := by
  rw [Value.flushed10_A, out10_eq]
  funext y
  obtain ⟨h, d, w, rfl⟩ : ∃ (h : Fin 4) (d : Fin 128) (w : Fin 256), y = (ix4 0 h d w : S1x4x128x256.Idx) :=
    ⟨y 1, y 2, y 3, (eq_ix4 y).trans (by rw [Fin.eq_zero (y 0 : Fin 1)])⟩
  rw [View.read_apply, (emb_state t h d w).2]
  show outState (iblk m c 1 t) (iblk m c 2 t) (iblk m c 4 t) (iblk m c 5 t) (iblk m c 6 t) (iblk m c 8 t) (ix4 0 h d w) = _
  unfold outState stateOf
  show next (keys (iblk m c 1 t) h) (gates (iblk m c 4 t) (iblk m c 5 t) (iblk m c 6 t) h) (vals (iblk m c 2 t) h) (state (iblk m c 8 t) h) d w = _
  rw [keys_blk, gates_blk, vals_blk, state_blk]
  rfl

/-- The rows of a point's block. -/
theorem mem9 (t : Fin cfg0.N) (i : S8448x1024.Idx) : i ∈ ((cfg0.win 9).blk t).view.set ↔ 8256 + t.val * 8 ≤ (i 0).val ∧ (i 0).val < 8256 + t.val * 8 + 8 := by
  have ho := (starts t).2.2.2.2.2.2.2.2.2.1
  show i ∈ ((View.whole main_v4_0).slice (win0_9.rect t)).set ↔ _
  rw [View.set_slice_whole, Rect.mem_set_unit]
  have h1 : (i 1).val < 1024 := (i 1).isLt
  constructor
  · intro h
    have : (win0_9.rect t).off 0 ≤ (i 0).val ∧ (i 0).val < (win0_9.rect t).off 0 + 8 := h 0
    rw [ho] at this
    exact this
  · intro h a
    match a with
    | ⟨0, _⟩ => show (win0_9.rect t).off 0 ≤ (i 0).val ∧ (i 0).val < (win0_9.rect t).off 0 + 8; rw [ho]; exact h
    | ⟨1, _⟩ =>
      show (win0_9.rect t).off 1 ≤ (i 1).val ∧ (i 1).val < (win0_9.rect t).off 1 + 1024
      rw [ho]
      show 0 ≤ (i 1).val ∧ (i 1).val < 0 + 1024
      omega

/-- The rows' array after the run. -/
theorem rows_run (c : Dev nD) : (dats m 0 c).arrAt 9 cfg0.N = GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  by_cases h : 8256 ≤ (i 0).val ∧ (i 0).val < 8320
  · let t : Fin cfg0.N := ⟨((i 0).val - 8256) / 8, show ((i 0).val - 8256) / 8 < 8 by omega⟩
    have hm : i ∈ ((cfg0.win 9).blk t).view.set := (mem9 t i).2 (by
      show 8256 + ((i 0).val - 8256) / 8 * 8 ≤ (i 0).val ∧ (i 0).val < 8256 + ((i 0).val - 8256) / 8 * 8 + 8
      omega)
    obtain ⟨x, -, hx⟩ := Finset.mem_map.1 hm
    have e := (Value.blocks9 m c t (flush0_9 t)).trans (flushed9_eq m c t)
    have := congrFun e x
    rwa [View.read_apply, View.read_apply, show ((cfg0.win 9).blk t).view.emb x = i from hx] at this
  · rw [Value.entry9 m c i (fun t _ hm => h (by
      have := (mem9 t i).1 hm
      have ht : t.val < 8 := t.isLt
      omega))]
    have e : V m c main_v4_0 = m ((c : Thread nD τ).loc main_arg6) := by
      show StableHlo.after [_, _, _, _, _, _, _] _ _ = _
      after_results <;> rfl
    unfold GRows
    rw [dif_neg h]
    exact congrFun e i

/-- Every element of the states lies in some point's block. -/
theorem cover10 (i : S8x4x128x256.Idx) : ∃ t : Fin cfg0.N, (cfg0.win 10).flush t = true ∧ i ∈ ((cfg0.win 10).blk t).view.set := by
  obtain ⟨b, h, d, w, rfl⟩ : ∃ (b : Fin 8) (h : Fin 4) (d : Fin 128) (w : Fin 256), i = (ix4 b h d w : S8x4x128x256.Idx) :=
    ⟨i 0, i 1, i 2, i 3, eq_ix4 i⟩
  refine ⟨⟨b.val, b.isLt⟩, flush0_10 _, ?_⟩
  rw [← (emb_state ⟨b.val, b.isLt⟩ h d w).2]
  exact View.emb_mem_set _ _

/-- The kernel ends with the two results, its arguments unchanged. -/
theorem run : θ_run defs (onTc (τ := τ) (main (F := Ideal))) ⟨m, fun _ => 0, ρ⟩ fun r => ∀ c : Dev nD,
      r.2.mem ((c : Thread nD τ).loc main_v4_0) = GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = GState (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (rows_run m c),
    (h c).2.1.trans ((dats m 0 c).arrAt_eq_of_cover 10 _ (fun t _ => flushed10_eq m c t) cover10), (h c).2.2⟩) (Value.run_blocks m ρ)

end Cert.GlaSIdeal.Read
-- ==== Proof.Conv.lean ====
/- The causal convolution of a row and what follows it, over the extended reals, column by column. -/
module

public import Idealize.ShloMosaic.Lib.Pointwise

@[expose] public section

noncomputable section

namespace Cert.Conv

open Idealize.ShloMosaic

/-- The 30 rows before the chunk, then its rows, counted from the first; zero past them. -/
def joined (old : Fin 30 → EReal) (new : Fin 8 → EReal) (k : ℕ) : EReal :=
  if h : k < 30 then old ⟨k, h⟩ else if h' : k - 30 < 8 then new ⟨k - 30, h'⟩ else 0

/-- The convolution's weights by number; zero past them. -/
def tap (w : Fin 31 → EReal) (k : ℕ) : EReal := if h : k < 31 then w ⟨k, h⟩ else 0

/-- The convolution's value from row `t` on: the bias and 31 rows by their weights. -/
def conv (x : ℕ → EReal) (w : Fin 31 → EReal) (b : EReal) (t : ℕ) : EReal :=
  b + ∑ k ∈ Finset.range 31, x (t + k) * tap w k

/-- A row's mean. -/
def mean (a : Fin 1024 → EReal) : EReal := Ideal.div (∑ d, a d) (Ideal.ofBits .f32 0x44800000#32)

/-- A row less its mean over its deviation, scaled and shifted. -/
def normed (a g b : Fin 1024 → EReal) (d : Fin 1024) : EReal :=
  (a d - mean a) * Ideal.rsqrt (Ideal.div (∑ e, (a e - mean a) * (a e - mean a)) (Ideal.ofBits .f32 0x44800000#32)
    + Ideal.ofBits .f32 0x358637BD#32) * g d + b d

/-- The product with the logistic function. -/
def act (y : EReal) : EReal := y * Ideal.div 1 (1 + Ideal.exp (-y))

/-- The terms added one after another from `a`. -/
def chain (a : EReal) (f : ℕ → EReal) : ℕ → EReal
  | 0 => a
  | n + 1 => chain a f n + f n

theorem chain_eq (a : EReal) (f : ℕ → EReal) (n : ℕ) : chain a f n = a + ∑ k ∈ Finset.range n, f k := by
  induction n with
  | zero => exact (add_zero a).symm
  | succ n ih => rw [chain, ih, Finset.sum_range_succ, add_assoc]

/-- The convolution adds its terms to the bias in their order. -/
theorem conv_chain (x : ℕ → EReal) (w : Fin 31 → EReal) (b : EReal) (t : ℕ) :
    chain (0 + b) (fun k => x (t + k) * tap w k) 31 = conv x w b t := by
  rw [chain_eq, zero_add]
  rfl

/-- … or its terms in their order and then the bias. -/
theorem chain_conv (x : ℕ → EReal) (w : Fin 31 → EReal) (b : EReal) (t : ℕ) :
    chain (x (t + 0) * tap w 0) (fun k => x (t + (k + 1)) * tap w (k + 1)) 30 + b = conv x w b t := by
  rw [chain_eq, add_comm _ b]
  unfold conv
  rw [Finset.sum_range_succ' _ 30, add_comm (∑ k ∈ Finset.range 30, _)]

end Cert.Conv
-- ==== Proof.ConvSRef.lean ====
/- What the reference of the sampled rows' causal convolution leaves. -/
module

public import proofs.«01_k».proof.Proof.Gen.ConvSRefIdeal.Run
public import proofs.«01_k».proof.Proof.Conv
public import Idealize.ShloMosaic.Lib.Pointwise

@[expose] public section

set_option maxRecDepth 16384

noncomputable section

namespace Cert.ConvSRefIdeal.Read

open Cert.ConvSRefIdeal Cert.ConvSRefIdeal.Gen Idealize.ShloMosaic Idealize.ShloMosaic.TcCoe Idealize.SL.Sem
open Cert.Conv Cert.ConvSRefIdeal.Value

/-- Sequence `i`'s column `d` of the rows before the chunk. -/
def oldAt (S : (⟨3, ![8, 30, 1024]⟩ : Shape).Idx → EReal) (i : Fin 8) (d : Fin 1024) (k : Fin 30) : EReal := S (ix3 i k d)

/-- Sequence `i`'s column `d` of the chunk's gated rows. -/
def newAt (P : (⟨2, ![8448, 5120]⟩ : Shape).Idx → EReal) (i : Fin 8) (d : Fin 1024) (s : Fin 8) : EReal :=
  P (ix2 ⟨8256 + (i.val * 8 + s.val), by omega⟩ ⟨3072 + d.val, by omega⟩)
    * Ideal.div 1 (1 + Ideal.exp (-P (ix2 ⟨8256 + (i.val * 8 + s.val), by omega⟩ ⟨4096 + d.val, by omega⟩)))

/-- Row `t` of sequence `i` after the convolution. -/
def convAt (P : (⟨2, ![8448, 5120]⟩ : Shape).Idx → EReal) (S : (⟨3, ![8, 30, 1024]⟩ : Shape).Idx → EReal)
    (w : (⟨2, ![31, 1024]⟩ : Shape).Idx → EReal) (b : (⟨1, ![1024]⟩ : Shape).Idx → EReal) (i t : Fin 8) (d : Fin 1024) : EReal :=
  conv (joined (oldAt S i d) (newAt P i d)) (fun k => w (ix2 k d)) (b (ix1 d)) t.val

/-- Row `t` of sequence `i` as the layer leaves it. -/
def rowAt (P : (⟨2, ![8448, 5120]⟩ : Shape).Idx → EReal) (S : (⟨3, ![8, 30, 1024]⟩ : Shape).Idx → EReal)
    (w : (⟨2, ![31, 1024]⟩ : Shape).Idx → EReal) (b g h : (⟨1, ![1024]⟩ : Shape).Idx → EReal) (i t : Fin 8) (d : Fin 1024) : EReal :=
  act (normed (convAt P S w b i t) (fun d => g (ix1 d)) (fun d => h (ix1 d)) d)

/-- The rows the call leaves: those of the sampled sequences new, the others as they were. -/
def GRows (P : (⟨2, ![8448, 5120]⟩ : Shape).Idx → EReal) (S : (⟨3, ![8, 30, 1024]⟩ : Shape).Idx → EReal)
    (w : (⟨2, ![31, 1024]⟩ : Shape).Idx → EReal) (b g h : (⟨1, ![1024]⟩ : Shape).Idx → EReal)
    (D : (⟨2, ![8448, 1024]⟩ : Shape).Idx → EReal) : (⟨2, ![8448, 1024]⟩ : Shape).Idx → EReal := fun j =>
  if h' : 8256 ≤ (j 0).val ∧ (j 0).val < 8320 then
    rowAt P S w b g h ⟨((j 0).val - 8256) / 8, by omega⟩ ⟨((j 0).val - 8256) % 8, Nat.mod_lt _ (by decide)⟩ (j 1)
  else D j

/-- The buffers the call leaves: the last 32 of a sequence's rows. -/
def GBuf (P : (⟨2, ![8448, 5120]⟩ : Shape).Idx → EReal) (S : (⟨3, ![8, 30, 1024]⟩ : Shape).Idx → EReal) : (⟨3, ![8, 32, 1024]⟩ : Shape).Idx → EReal :=
  fun j => joined (oldAt S (j 0) (j 2)) (newAt P (j 0) (j 2)) ((j 1).val + 6)

variable (V0 : Valuation τ sig (Elt Ideal))

/-- The joined rows of the reference. -/
theorem v11_apply (i : Fin 8) (k : Fin 38) (d : Fin 1024) : (res_main_v11 V0 : FVec Ideal S8x38x1024 .f32) (ix3 i k d)
    = joined (oldAt (V0 (Proc.devRef .tc main_arg1)) i d) (newAt (V0 (Proc.devRef .tc main_arg0)) i d) k.val := by
  pointwise [res_main_v11, res_main_v1]
  unfold joined oldAt newAt
  rw [dif_pos (show k.val - 30 < 8 by omega)]

/-- The convolution of the reference. -/
theorem v230_apply (i t : Fin 8) (d : Fin 1024) : (res_main_v230 V0 : FVec Ideal S8x8x1024 .f32) (ix3 i t d)
    = convAt (V0 (Proc.devRef .tc main_arg0)) (V0 (Proc.devRef .tc main_arg1)) (V0 (Proc.devRef .tc main_arg2)) (V0 (Proc.devRef .tc main_arg3)) i t d := by
  unfold convAt
  rw [← chain_conv]
  pointwise [res_main_v230, res_main_v164, res_main_v87]
  simp only [v11_apply]
  simp only [chain, Nat.add_comm _ t.val]
  rfl

/-- The normed rows of the reference. -/
theorem v258_apply (i t : Fin 8) (d : Fin 1024) : (res_main_v258 V0 : FVec Ideal S8x8x1024 .f32) (ix3 i t d)
    = normed (convAt (V0 (Proc.devRef .tc main_arg0)) (V0 (Proc.devRef .tc main_arg1)) (V0 (Proc.devRef .tc main_arg2)) (V0 (Proc.devRef .tc main_arg3)) i t)
      (fun d => V0 (Proc.devRef .tc main_arg4) (ix1 d)) (fun d => V0 (Proc.devRef .tc main_arg5) (ix1 d)) d := by
  pointwise [res_main_v258, res_main_v240, res_main_v238]
  simp only [v230_apply]
  rfl

/-- The rows the reference puts in place of the sampled ones. -/
def rv : FVec Ideal S64x1024 .f32 :=
  shapeCast _ (mulf (res_main_v258 V0) (Host.divf (broadcastInDim S8x8x1024 ![] bcast_S_S8x8x1024 (constant S_ .f32 0x3F800000#32)) (addf (broadcastInDim S8x8x1024 ![] bcast_S_S8x8x1024 (constant S_ .f32 0x3F800000#32)) (Host.exp (Host.negf (res_main_v258 V0)))))) shapeCasts_S8x8x1024_S64x1024

theorem rv_apply (i t : Fin 8) (d : Fin 1024) : rv V0 (ix2 ⟨i.val * 8 + t.val, by omega⟩ d)
    = rowAt (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) i t d := by
  have e1 : (i.val * 8 + t.val) / 8 = i.val := by omega
  have e2 : (i.val * 8 + t.val) % 8 = t.val := by omega
  unfold rowAt
  rw [← v258_apply]
  pointwise [rv, act]

/-- The reference's rows. -/
theorem out_spec :
    (concatenate S8448x1024 0 [⟨S8256x1024, ((extractStridedSlice S8256x1024 ![0, 0] (V0 (Proc.devRef .tc main_arg6)) slices_S8448x1024_S8256x1024_0_0) : (⟨S8256x1024, .bf16⟩ : BufTy).Contents (Elt Ideal))⟩,
      ⟨S64x1024, ((truncf (F := Ideal) .bf16 (rv V0) bitsLt_bf16_f32) : (⟨S64x1024, .bf16⟩ : BufTy).Contents (Elt Ideal))⟩,
      ⟨S128x1024, ((extractStridedSlice S128x1024 ![8320, 0] (V0 (Proc.devRef .tc main_arg6)) slices_S8448x1024_S128x1024_8320_0) : (⟨S128x1024, .bf16⟩ : BufTy).Contents (Elt Ideal))⟩] concatenates_S8256x1024_S64x1024_S128x1024_S8448x1024_d0)
      = GRows (V0 (Proc.devRef .tc main_arg0)) (V0 (Proc.devRef .tc main_arg1)) (V0 (Proc.devRef .tc main_arg2)) (V0 (Proc.devRef .tc main_arg3))
        (V0 (Proc.devRef .tc main_arg4)) (V0 (Proc.devRef .tc main_arg5)) (V0 (Proc.devRef .tc main_arg6)) := by
  funext j
  obtain ⟨r, e, rfl⟩ : ∃ (r : Fin 8448) (e : Fin 1024), j = (ix2 r e : S8448x1024.Idx) := ⟨j 0, j 1, eq_ix2 j⟩
  unfold GRows
  dsimp only
  split
  · next h =>
    have h : 8256 ≤ r.val ∧ r.val < 8320 := h
    refine Eq.trans ?_ (rv_apply V0 _ _ _)
    pointwise
    rw [dif_neg (by omega), dif_pos (by omega)]
    refine congrArg _ (congrArg (ix2 · e) (Fin.ext ?_))
    show r.val - 8256 = (r.val - 8256) / 8 * 8 + (r.val - 8256) % 8
    omega
  · next h =>
    have h : ¬(8256 ≤ r.val ∧ r.val < 8320) := h
    pointwise
    split
    · rfl
    · rw [dif_neg (by omega)]
      refine congrArg (V0 (Proc.devRef .tc main_arg6)) (congrArg (ix2 · e) (Fin.ext ?_))
      show 8320 + (r.val - 8256 - 64) = r.val
      omega

/-- The reference's buffers. -/
theorem buf_spec : extractStridedSlice S8x32x1024 ![0, 8, 0] (concatenate S8x40x1024 1 [⟨S8x2x1024, (broadcastInDim S8x2x1024 ![] bcast_S_S8x2x1024 (constant (F := Ideal) S_ .f32 0x00000000#32))⟩, ⟨S8x38x1024, (res_main_v11 V0)⟩] concatenates_S8x2x1024_S8x38x1024_S8x40x1024_d1) slices_S8x40x1024_S8x32x1024_0_8_0
    = GBuf (V0 (Proc.devRef .tc main_arg0)) (V0 (Proc.devRef .tc main_arg1)) := by
  funext j
  obtain ⟨i, k, d, rfl⟩ : ∃ (i : Fin 8) (k : Fin 32) (d : Fin 1024), j = (ix3 i k d : S8x32x1024.Idx) := ⟨j 0, j 1, j 2, eq_ix3 j⟩
  show _ = joined (oldAt (V0 (Proc.devRef .tc main_arg1)) i d) (newAt (V0 (Proc.devRef .tc main_arg0)) i d) (k.val + 6)
  refine Eq.trans ?_ (v11_apply V0 i ⟨k.val + 6, by omega⟩ d)
  pointwise
  rw [dif_neg (by omega)]
  refine congrArg (res_main_v11 V0) (congrArg (ix3 i · d) (Fin.ext ?_))
  show 8 + k.val - 2 = k.val + 6
  omega

/-- The reference ends with the two results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v264)
        = GRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v234)
        = GBuf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out_spec (Idealize.ShloMosaic.StableHlo.launchContents m c)),
    (h c).2.1.trans (buf_spec (Idealize.ShloMosaic.StableHlo.launchContents m c)), (h c).2.2⟩) (Cert.ConvSRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 :=
  (θ_run defs _ _).mono (fun r h => ⟨fun c => (h c).2.2, Idealize.ShloMosaic.sem_eq_zero_of_no_sems (by decide) r.2⟩) (run m ρ)

end Cert.ConvSRefIdeal.Read
-- ==== Proof.ConvSValue.lean ====
/- What the call of the sampled rows' causal convolution leaves. -/
module

public import proofs.«01_k».proof.Proof.Gen.ConvSIdeal.Value
public import proofs.«01_k».proof.Proof.ConvSRef
public import Idealize.ShloMosaic.Lib.KernelVsHost
public import proofs.«01_k».proof.Proof.Conv
public import Idealize.ShloMosaic.Lib.Pointwise

@[expose] public section

set_option maxRecDepth 16384

noncomputable section

namespace Cert.ConvSIdeal.Read

open Cert.ConvSIdeal Cert.ConvSIdeal.Gen Idealize.ShloMosaic Idealize.ShloMosaic.TcCoe Idealize.SL.Sem
open Cert.Conv Cert.ConvSIdeal.Value

theorem hz3 : (![0, 0, 0] : Fin 3 → Nat) = fun _ => 0 := funext fun a => by fin_cases a <;> rfl
theorem hz2 : (![0, 0] : Fin 2 → Nat) = fun _ => 0 := funext fun a => by fin_cases a <;> rfl

/-- Row `r`, column `d` of the rows a point joins: 32 rows of the halo, then 8 of its own; zero past them. -/
def uOf (A : Vec Ideal S8x1024 .f32) (B : Vec Ideal S32x1024 .f32) (r : ℕ) (d : Fin 1024) : EReal :=
  if h : r < 32 then B (ix2 ⟨r, h⟩ d) else if h' : r - 32 < 8 then A (ix2 ⟨r - 32, h'⟩ d) else 0

/-- 32 of the joined rows, from row `o` on. -/
def uBlk (A : Vec Ideal S8x1024 .f32) (B : Vec Ideal S32x1024 .f32) (o : ℕ) : Vec Ideal S32x1024 .f32 :=
  fun j => uOf A B ((j 0).val + o) (j 1)

/-- 8 of the joined rows, from row `o` on. -/
def uRows (A : Vec Ideal S8x1024 .f32) (B : Vec Ideal S32x1024 .f32) (o : ℕ) : Vec Ideal S8x1024 .f32 :=
  fun j => uOf A B ((j 0).val + o) (j 1)

/-- The same with a leading axis of one. -/
def sRows (A : Vec Ideal S8x1024 .f32) (B : Vec Ideal S32x1024 .f32) (o : ℕ) : Vec Ideal S1x8x1024 .f32 :=
  fun j => uOf A B ((j 1).val + o) (j 2)

theorem canon_u (A : Vec Ideal S8x1024 .f32) (B : Vec Ideal S32x1024 .f32)
    (i1 : ∀ a, (![32, 0] : Fin 2 → Nat) a + ![8, 1024] a ≤ S40x1024.size a) (i2 : ∀ a, (![0, 0] : Fin 2 → Nat) a + ![32, 1024] a ≤ S40x1024.size a)
    (y : S40x1024.Idx) :
    View.canon (Val := Elt Ideal) (s := S40x1024) (e := .f32) [⟨Rect.unit (s := S40x1024) ![32, 0] ![8, 1024] i1, A⟩, ⟨Rect.unit (s := S40x1024) ![0, 0] ![32, 1024] i2, B⟩] y = uOf A B (y 0).val (y 1) := by
  refine View.canon_apply_of_pieces (Val := Elt Ideal) (e := .f32) (fun y : S40x1024.Idx => uOf A B (y 0).val (y 1)) _ ?_ y ?_
  · intro p hp
    simp only [List.mem_cons, List.not_mem_nil, or_false] at hp
    rcases hp with rfl | rfl
    · intro x
      obtain ⟨r, d, rfl⟩ : ∃ (r : Fin 8) (d : Fin 1024), x = (ix2 r d : S8x1024.Idx) := ⟨x 0, x 1, eq_ix2 x⟩
      show A (ix2 r d) = uOf A B (32 + 1 * r.val) ⟨0 + 1 * d.val, _⟩
      unfold uOf
      rw [dif_neg (by omega), dif_pos (by omega)]
      refine congrArg A (congrArg₂ ix2 (Fin.ext ?_) (Fin.ext ?_))
      · show r.val = 32 + 1 * r.val - 32; omega
      · show d.val = 0 + 1 * d.val; omega
    · intro x
      obtain ⟨r, d, rfl⟩ : ∃ (r : Fin 32) (d : Fin 1024), x = (ix2 r d : S32x1024.Idx) := ⟨x 0, x 1, eq_ix2 x⟩
      show B (ix2 r d) = uOf A B (0 + 1 * r.val) ⟨0 + 1 * d.val, _⟩
      unfold uOf
      rw [dif_pos (by omega)]
      refine congrArg B (congrArg₂ ix2 (Fin.ext ?_) (Fin.ext ?_))
      · show r.val = 0 + 1 * r.val; omega
      · show d.val = 0 + 1 * d.val; omega
  · obtain ⟨r, d, rfl⟩ : ∃ (r : Fin 40) (d : Fin 1024), y = (ix2 r d : S40x1024.Idx) := ⟨y 0, y 1, eq_ix2 y⟩
    by_cases h : r.val < 32
    · refine ⟨_, List.mem_cons_of_mem _ (List.mem_cons_self ..), ?_⟩
      rw [Rect.mem_set_unit]
      intro a
      match a with
      | ⟨0, _⟩ => show 0 ≤ r.val ∧ r.val < 0 + 32; omega
      | ⟨1, _⟩ => show 0 ≤ d.val ∧ d.val < 0 + 1024; omega
    · refine ⟨_, List.mem_cons_self .., ?_⟩
      rw [Rect.mem_set_unit]
      intro a
      match a with
      | ⟨0, _⟩ => show 32 ≤ r.val ∧ r.val < 32 + 8; omega
      | ⟨1, _⟩ => show 0 ≤ d.val ∧ d.val < 0 + 1024; omega

/-- A load of 32 of the joined rows. -/
theorem read_u32 (v : View sig .tc .vmem S40x1024 .f32) (A : Vec Ideal S8x1024 .f32) (B : Vec Ideal S32x1024 .f32) (o : ℕ)
    (i1 : ∀ a, (![32, 0] : Fin 2 → Nat) a + ![8, 1024] a ≤ S40x1024.size a) (i2 : ∀ a, (![0, 0] : Fin 2 → Nat) a + ![32, 1024] a ≤ S40x1024.size a)
    (inb : ∀ a, (![o, 0] : Fin 2 → Nat) a + ![32, 1024] a ≤ S40x1024.size a) :
    v.readCov (Val := Elt Ideal) [⟨Rect.unit ![32, 0] ![8, 1024] i1, A⟩, ⟨Rect.unit ![0, 0] ![32, 1024] i2, B⟩]
      (Rect.unit (s := S40x1024) ![o, 0] ![32, 1024] inb).toLoadRect = uBlk A B o := by
  rw [View.readCov_eq_canon']
  funext j
  rw [canon_u]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A load of 8 of them. -/
theorem read_u8 (v : View sig .tc .vmem S40x1024 .f32) (A : Vec Ideal S8x1024 .f32) (B : Vec Ideal S32x1024 .f32) (o : ℕ)
    (i1 : ∀ a, (![32, 0] : Fin 2 → Nat) a + ![8, 1024] a ≤ S40x1024.size a) (i2 : ∀ a, (![0, 0] : Fin 2 → Nat) a + ![32, 1024] a ≤ S40x1024.size a)
    (inb : ∀ a, (![o, 0] : Fin 2 → Nat) a + ![8, 1024] a ≤ S40x1024.size a) :
    v.readCov (Val := Elt Ideal) [⟨Rect.unit ![32, 0] ![8, 1024] i1, A⟩, ⟨Rect.unit ![0, 0] ![32, 1024] i2, B⟩]
      (Rect.unit (s := S40x1024) ![o, 0] ![8, 1024] inb).toLoadRect = uRows A B o := by
  rw [View.readCov_eq_canon']
  funext j
  rw [canon_u]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- What a shifted copy holds: the joined rows from row `o` on. -/
theorem copies (A : Vec Ideal S8x1024 .f32) (B : Vec Ideal S32x1024 .f32) (o : ℕ) (r : Fin 32) (d : Fin 1024) :
    k0_pay4 (F := Ideal) (uBlk A B o) (ix3 0 r d) = uOf A B (r.val + o) d := by
  pointwise [k0_pay4, uBlk]

/-- A piece of the copies at an element of it. -/
theorem copy_piece (A : Vec Ideal S8x1024 .f32) (B : Vec Ideal S32x1024 .f32) (s : ℕ)
    (inb : ∀ a, (![s, 0, 0] : Fin 3 → Nat) a + ![1, 32, 1024] a ≤ S7x40x1024.size a) (x : S1x32x1024.Idx) :
    k0_pay4 (F := Ideal) (uBlk A B (s + 1)) x
      = (fun y : S7x40x1024.Idx => uOf A B ((y 1).val + ((y 0).val + 1)) (y 2)) ((Rect.unit (s := S7x40x1024) ![s, 0, 0] ![1, 32, 1024] inb).emb x) := by
  obtain ⟨u, r, d, rfl⟩ : ∃ (u : Fin 1) (r : Fin 32) (d : Fin 1024), x = (ix3 u r d : S1x32x1024.Idx) := ⟨x 0, x 1, x 2, eq_ix3 x⟩
  obtain rfl := Fin.eq_zero u
  rw [copies]
  show _ = uOf A B ((0 + 1 * r.val) + ((s + 1 * 0) + 1)) ⟨0 + 1 * d.val, _⟩
  exact congrArg₂ (uOf A B) (by omega) (Fin.ext (by show d.val = 0 + 1 * d.val; omega))

/-- A load of 8 rows of a shifted copy. -/
theorem read_s (v : View sig .tc .vmem S7x40x1024 .f32) (A : Vec Ideal S8x1024 .f32) (B : Vec Ideal S32x1024 .f32) (s a : ℕ) (hs : s < 7) (ha : a + 8 ≤ 32)
    (i0 : ∀ a, (![0, 0, 0] : Fin 3 → Nat) a + ![1, 32, 1024] a ≤ S7x40x1024.size a) (i1 : ∀ a, (![1, 0, 0] : Fin 3 → Nat) a + ![1, 32, 1024] a ≤ S7x40x1024.size a)
    (i2 : ∀ a, (![2, 0, 0] : Fin 3 → Nat) a + ![1, 32, 1024] a ≤ S7x40x1024.size a) (i3 : ∀ a, (![3, 0, 0] : Fin 3 → Nat) a + ![1, 32, 1024] a ≤ S7x40x1024.size a)
    (i4 : ∀ a, (![4, 0, 0] : Fin 3 → Nat) a + ![1, 32, 1024] a ≤ S7x40x1024.size a) (i5 : ∀ a, (![5, 0, 0] : Fin 3 → Nat) a + ![1, 32, 1024] a ≤ S7x40x1024.size a)
    (i6 : ∀ a, (![6, 0, 0] : Fin 3 → Nat) a + ![1, 32, 1024] a ≤ S7x40x1024.size a)
    (inb : ∀ b, (![s, a, 0] : Fin 3 → Nat) b + ![1, 8, 1024] b ≤ S7x40x1024.size b) :
    v.readCov (Val := Elt Ideal) [⟨Rect.unit ![6, 0, 0] ![1, 32, 1024] i6, k0_pay10 (F := Ideal) (uBlk A B 7)⟩,
      ⟨Rect.unit ![5, 0, 0] ![1, 32, 1024] i5, k0_pay9 (F := Ideal) (uBlk A B 6)⟩, ⟨Rect.unit ![4, 0, 0] ![1, 32, 1024] i4, k0_pay8 (F := Ideal) (uBlk A B 5)⟩,
      ⟨Rect.unit ![3, 0, 0] ![1, 32, 1024] i3, k0_pay7 (F := Ideal) (uBlk A B 4)⟩, ⟨Rect.unit ![2, 0, 0] ![1, 32, 1024] i2, k0_pay6 (F := Ideal) (uBlk A B 3)⟩,
      ⟨Rect.unit ![1, 0, 0] ![1, 32, 1024] i1, k0_pay5 (F := Ideal) (uBlk A B 2)⟩, ⟨Rect.unit ![0, 0, 0] ![1, 32, 1024] i0, k0_pay4 (F := Ideal) (uBlk A B 1)⟩]
      (Rect.unit (s := S7x40x1024) ![s, a, 0] ![1, 8, 1024] inb).toLoadRect = sRows A B (a + (s + 1)) := by
  rw [View.readCov_eq_canon']
  funext j
  obtain ⟨u, r, d, rfl⟩ : ∃ (u : Fin 1) (r : Fin 8) (d : Fin 1024), j = (ix3 u r d : S1x8x1024.Idx) := ⟨j 0, j 1, j 2, eq_ix3 j⟩
  obtain rfl := Fin.eq_zero u
  refine (View.canon_apply_of_pieces (Val := Elt Ideal) (e := .f32) (fun y : S7x40x1024.Idx => uOf A B ((y 1).val + ((y 0).val + 1)) (y 2)) _ ?_ _ ?_).trans ?_
  · intro p hp
    simp only [List.mem_cons, List.not_mem_nil, or_false] at hp
    rcases hp with rfl | rfl | rfl | rfl | rfl | rfl | rfl
    · exact copy_piece A B 6 i6
    · exact copy_piece A B 5 i5
    · exact copy_piece A B 4 i4
    · exact copy_piece A B 3 i3
    · exact copy_piece A B 2 i2
    · exact copy_piece A B 1 i1
    · exact copy_piece A B 0 i0
  · have hm (s' : ℕ) (hs' : s = s') (inb' : ∀ a, (![s', 0, 0] : Fin 3 → Nat) a + ![1, 32, 1024] a ≤ S7x40x1024.size a) :
        (Rect.unit (s := S7x40x1024) ![s, a, 0] ![1, 8, 1024] inb).toLoadRect.idx (ix3 0 r d) ∈ (Rect.unit (s := S7x40x1024) ![s', 0, 0] ![1, 32, 1024] inb').set := by
      rw [Rect.mem_set_unit]
      intro b
      match b with
      | ⟨0, _⟩ => show s' ≤ s + 1 * 0 ∧ s + 1 * 0 < s' + 1; omega
      | ⟨1, _⟩ => show 0 ≤ a + 1 * r.val ∧ a + 1 * r.val < 0 + 32; omega
      | ⟨2, _⟩ => show 0 ≤ 0 + 1 * d.val ∧ 0 + 1 * d.val < 0 + 1024; omega
    have hs' : s = 6 ∨ s = 5 ∨ s = 4 ∨ s = 3 ∨ s = 2 ∨ s = 1 ∨ s = 0 := by omega
    rcases hs' with h | h | h | h | h | h | h
    · exact ⟨_, .head _, hm 6 h i6⟩
    · exact ⟨_, .tail _ (.head _), hm 5 h i5⟩
    · exact ⟨_, .tail _ (.tail _ (.head _)), hm 4 h i4⟩
    · exact ⟨_, .tail _ (.tail _ (.tail _ (.head _))), hm 3 h i3⟩
    · exact ⟨_, .tail _ (.tail _ (.tail _ (.tail _ (.head _)))), hm 2 h i2⟩
    · exact ⟨_, .tail _ (.tail _ (.tail _ (.tail _ (.tail _ (.head _))))), hm 1 h i1⟩
    · exact ⟨_, .tail _ (.tail _ (.tail _ (.tail _ (.tail _ (.tail _ (.head _)))))), hm 0 h i0⟩
  · show uOf A B ((a + 1 * r.val) + ((s + 1 * 0) + 1)) ⟨0 + 1 * d.val, _⟩ = uOf A B (r.val + (a + (s + 1))) d
    exact congrArg₂ (uOf A B) (by omega) (Fin.ext (by show 0 + 1 * d.val = d.val; omega))

/-- Row `k` of the weights' block, as a block of one row; zero past it. -/
def tapRow (x : Vec Ideal S32x1024 .f32) (k : ℕ) : Vec Ideal S1x1024 .f32 :=
  fun j => if h : k < 32 then x (ix2 ⟨k, h⟩ (j 1)) else 0

theorem ld_tap (x : Vec Ideal S32x1024 .f32) (k : ℕ) (inb : ∀ a, (![k, 0] : Fin 2 → Nat) a + ![1, 1024] a ≤ S32x1024.size a) :
    View.ld x (Rect.unit (s := S32x1024) ![k, 0] ![1, 1024] inb) = tapRow x k := by
  funext j
  have h : k < 32 := by have : k + 1 ≤ 32 := inb 0; omega
  obtain ⟨u, d, rfl⟩ : ∃ (u : Fin 1) (d : Fin 1024), j = (ix2 u d : S1x1024.Idx) := ⟨j 0, j 1, eq_ix2 j⟩
  obtain rfl := Fin.eq_zero u
  refine Eq.trans ?_ (dif_pos h).symm
  show x _ = x _
  refine congrArg x (funext fun a => Fin.ext ?_)
  match a with
  | ⟨0, _⟩ => show k + 1 * 0 = k; omega
  | ⟨1, _⟩ => show 0 + 1 * d.val = d.val; omega

theorem ld_vec (x : Vec Ideal S1x1024 .f32) (inb : ∀ a, (![0, 0] : Fin 2 → Nat) a + ![1, 1024] a ≤ S1x1024.size a) :
    View.ld x (Rect.unit (s := S1x1024) ![0, 0] ![1, 1024] inb) = x := View.ld_unit_zero hz2 inb x

/-- Row `r` of a point's block after the convolution. -/
def accOf (x0 x1 : Vec Ideal S8x1024 .f32) (x2 : Vec Ideal S1x32x1024 .f32) (x3 : Vec Ideal S32x1024 .f32) (x4 : Vec Ideal S1x1024 .f32) (r : Fin 8) (d : Fin 1024) : EReal :=
  conv (fun k => uOf (k0_pay3 (F := Ideal) x0 x1) (k0_pay2 (F := Ideal) x2) (k + 2) d) (fun k => x3 (ix2 ⟨k.val, by omega⟩ d)) (x4 (ix2 0 d)) r.val

/-- What a point stores of its rows. -/
def outRows (x0 x1 : Vec Ideal S8x1024 .f32) (x2 : Vec Ideal S1x32x1024 .f32) (x3 : Vec Ideal S32x1024 .f32) (x4 x5 x6 : Vec Ideal S1x1024 .f32) (y : S8x1024.Idx) : EReal :=
  act (normed (accOf x0 x1 x2 x3 x4 (y 0)) (fun d => x5 (ix2 0 d)) (fun d => x6 (ix2 0 d)) (y 1))

theorem ld_rows (x : Vec Ideal S8x1024 .f32) (inb : ∀ a, (![0, 0] : Fin 2 → Nat) a + ![8, 1024] a ≤ S8x1024.size a) :
    View.ld x (Rect.unit (s := S8x1024) ![0, 0] ![8, 1024] inb) = x := View.ld_unit_zero hz2 inb x
theorem ld_halo (x : Vec Ideal S1x32x1024 .f32) (inb : ∀ a, (![0, 0, 0] : Fin 3 → Nat) a + ![1, 32, 1024] a ≤ S1x32x1024.size a) :
    View.ld x (Rect.unit (s := S1x32x1024) ![0, 0, 0] ![1, 32, 1024] inb) = x := View.ld_unit_zero hz3 inb x

/-- What a point leaves in its block of the buffers. -/
theorem out8_eq (c : Dev nD) (i : grid0.Coords) (arg2 : Memref sig .tc .vmem S8x1024 .f32) (harg2 : arg2.IsWhole) (arg3 : Memref sig .tc .vmem S8x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S8x1024 .bf16) (harg10 : arg10.IsWhole) (arg11 : Memref sig .tc .vmem S1x32x1024 .f32) (harg11 : arg11.IsWhole) (arg12 : Memref sig .tc .vmem S40x1024 .f32) (harg12 : arg12.IsWhole) (arg13 : Memref sig .tc .vmem S7x40x1024 .f32) (harg13 : arg13.IsWhole) (hc0 : cond0_0 i)
    (x0 : Vec Ideal S8x1024 .f32) (x1 : Vec Ideal S8x1024 .f32) (x2 : Vec Ideal S1x32x1024 .f32) (x3 : Vec Ideal S32x1024 .f32) (x4 : Vec Ideal S1x1024 .f32) (x5 : Vec Ideal S1x1024 .f32) (x6 : Vec Ideal S1x1024 .f32) :
    out0_A_8 c i arg2 harg2 arg3 harg3 arg4 harg4 arg5 harg5 arg6 harg6 arg7 harg7 arg8 harg8 arg10 harg10 arg11 harg11 arg12 harg12 arg13 harg13 hc0 x0 x1 x2 x3 x4 x5 x6 = fun y => uOf (k0_pay3 (F := Ideal) x0 x1) (k0_pay2 (F := Ideal) x2) ((y 1).val + 8) (y 2) := by
  unfold out0_A_8
  rw [View.read_writes_eq_canon _ _ _ (cover0_A_8 c i arg2 harg2 arg3 harg3 arg4 harg4 arg5 harg5 arg6 harg6 arg7 harg7 arg8 harg8 arg10 harg10 arg11 harg11 arg12 harg12 arg13 harg13 hc0 x0 x1 x2 x3 x4 x5 x6)]
  unfold kernelRun0_A
  dsimp only
  sl_unfold_words
  simp only [View.readAt_eq_ld, Memref.IsWhole.read_unread, ld_rows, ld_halo, read_u32]
  rw [View.canon_unit_zero hz3]
  funext y
  obtain ⟨u, r, d, rfl⟩ : ∃ (u : Fin 1) (r : Fin 32) (d : Fin 1024), y = (ix3 u r d : S1x32x1024.Idx) := ⟨y 0, y 1, y 2, eq_ix3 y⟩
  obtain rfl := Fin.eq_zero u
  pointwise [k0_pay1, uBlk]

/-- The rows a point stores, of the sums it has taken. -/
theorem tail_apply (v227 v229 : FVec Ideal S8x1024 .f32) (v230 : Vec Ideal S1x1024 .f32) (v235 : Vec Ideal S1x8x1024 .f32) (v237 : Vec Ideal S1x1024 .f32) (v242 : Vec Ideal S1x8x1024 .f32) (v244 : Vec Ideal S1x1024 .f32) (v249 : Vec Ideal S1x8x1024 .f32) (v251 : Vec Ideal S1x1024 .f32) (v256 : Vec Ideal S8x1024 .f32) (v257 : Vec Ideal S1x1024 .f32)
    (x5 x6 : Vec Ideal S1x1024 .f32) (r : Fin 8) (d : Fin 1024) :
    k0_pay22 (F := Ideal) (k0_pay20 v227 v229 v230 v235 v237 v242 v244 v249 v251 v256 v257) (k0_pay21 v227 v229 v230 v235 v237 v242 v244 v249 v251 v256 v257) x5 x6 (ix2 r d)
      = act (normed (fun d => k0_pay20 (F := Ideal) v227 v229 v230 v235 v237 v242 v244 v249 v251 v256 v257 (ix2 r d)) (fun d => x5 (ix2 0 d)) (fun d => x6 (ix2 0 d)) d) := by
  unfold k0_pay21
  generalize k0_pay20 (F := Ideal) v227 v229 v230 v235 v237 v242 v244 v249 v251 v256 v257 = a
  pointwise [k0_pay22]
  unfold act normed mean
  simp only [zero_sub]

set_option maxHeartbeats 2000000 in
/-- What a point leaves in its block of rows. -/
theorem out7_eq (c : Dev nD) (i : grid0.Coords) (arg2 : Memref sig .tc .vmem S8x1024 .f32) (harg2 : arg2.IsWhole) (arg3 : Memref sig .tc .vmem S8x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S8x1024 .bf16) (harg10 : arg10.IsWhole) (arg11 : Memref sig .tc .vmem S1x32x1024 .f32) (harg11 : arg11.IsWhole) (arg12 : Memref sig .tc .vmem S40x1024 .f32) (harg12 : arg12.IsWhole) (arg13 : Memref sig .tc .vmem S7x40x1024 .f32) (harg13 : arg13.IsWhole) (hc0 : cond0_0 i)
    (x0 : Vec Ideal S8x1024 .f32) (x1 : Vec Ideal S8x1024 .f32) (x2 : Vec Ideal S1x32x1024 .f32) (x3 : Vec Ideal S32x1024 .f32) (x4 : Vec Ideal S1x1024 .f32) (x5 : Vec Ideal S1x1024 .f32) (x6 : Vec Ideal S1x1024 .f32) :
    out0_A_7 c i arg2 harg2 arg3 harg3 arg4 harg4 arg5 harg5 arg6 harg6 arg7 harg7 arg8 harg8 arg10 harg10 arg11 harg11 arg12 harg12 arg13 harg13 hc0 x0 x1 x2 x3 x4 x5 x6 = outRows x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg10 harg10 arg11 harg11 arg12 harg12 arg13 harg13 hc0 x0 x1 x2 x3 x4 x5 x6)]
  unfold kernelRun0_A
  dsimp only
  sl_unfold_words
  simp only [View.readAt_eq_ld, Memref.IsWhole.read_unread, ld_rows, ld_halo, ld_vec, ld_tap, read_u32, read_u8,
    read_s, Nat.reduceAdd, Nat.reduceLeDiff, Nat.reduceLT]
  rw [View.canon_unit_zero hz2]
  funext y
  obtain ⟨r, d, rfl⟩ : ∃ (r : Fin 8) (d : Fin 1024), y = (ix2 r d : S8x1024.Idx) := ⟨y 0, y 1, eq_ix2 y⟩
  rw [tail_apply]
  refine congrArg (fun a => act (normed a _ _ d)) (funext fun d => ?_)
  show _ = accOf x0 x1 x2 x3 x4 r d
  unfold accOf
  rw [← conv_chain]
  simp only [chain]
  pointwise [k0_pay11, k0_pay12, k0_pay13, k0_pay14, k0_pay15, k0_pay16, k0_pay17, k0_pay18, k0_pay19, k0_pay20, uRows, sRows, tapRow]
  rfl

variable (m : (ℓ : Loc nD τ sig) → Buf (Elt Ideal) ℓ) (ρ : Dev nD → PrngReg)

/-- Where the blocks of a point start. -/
theorem starts (t : Fin cfg0.N) : (win0_0.rect t).off = ![8256 + t.val * 8, 3072]
    ∧ (win0_1.rect t).off = ![8256 + t.val * 8, 4096]
    ∧ (win0_2.rect t).off = ![t.val, 0, 0]
    ∧ (win0_3.rect t).off = ![0, 0]
    ∧ (win0_4.rect t).off = ![0, 0]
    ∧ (win0_5.rect t).off = ![0, 0]
    ∧ (win0_6.rect t).off = ![0, 0]
    ∧ (win0_7.rect t).off = ![8256 + t.val * 8, 0]
    ∧ (win0_8.rect t).off = ![t.val, 0, 0] :=
  (by decide +kernel : ∀ t : Fin grid0.N, (win0_0.rect t).off = ![8256 + t.val * 8, 3072]
    ∧ (win0_1.rect t).off = ![8256 + t.val * 8, 4096]
    ∧ (win0_2.rect t).off = ![t.val, 0, 0]
    ∧ (win0_3.rect t).off = ![0, 0]
    ∧ (win0_4.rect t).off = ![0, 0]
    ∧ (win0_5.rect t).off = ![0, 0]
    ∧ (win0_6.rect t).off = ![0, 0]
    ∧ (win0_7.rect t).off = ![8256 + t.val * 8, 0]
    ∧ (win0_8.rect t).off = ![t.val, 0, 0]) t

/-- The block of values, element by element. -/
theorem blk_val (c : Dev nD) (t : Fin cfg0.N) (r : Fin 8) (d : Fin 1024) :
    (iblk m c 0 t : Vec Ideal S8x1024 .f32) (ix2 r d)
      = m ((c : Thread nD τ).loc main_arg0) (ix2 ⟨8256 + (t.val * 8 + r.val), by have : t.val < 8 := t.isLt; omega⟩ ⟨3072 + d.val, by omega⟩) := by
  unfold iblk
  rw [View.read_apply]
  show V m c main_arg0 _ = _
  have h := (starts t).1
  rw [V_main_arg0, show ((cfg0.win 0).blk t).view.emb (ix2 r d) = (ix2 ⟨8256 + (t.val * 8 + r.val), by have : t.val < 8 := t.isLt; omega⟩ ⟨3072 + d.val, by omega⟩ : S8448x5120.Idx) from by
    funext a
    apply Fin.ext
    match a with
    | ⟨0, _⟩ => show (win0_0.rect t).off 0 + 1 * r.val = 8256 + (t.val * 8 + r.val); rw [h]; show 8256 + t.val * 8 + 1 * r.val = 8256 + (t.val * 8 + r.val); omega
    | ⟨1, _⟩ => show (win0_0.rect t).off 1 + 1 * d.val = 3072 + d.val; rw [h]; show 3072 + 1 * d.val = 3072 + d.val; omega]

/-- The block of gates, element by element. -/
theorem blk_gate (c : Dev nD) (t : Fin cfg0.N) (r : Fin 8) (d : Fin 1024) :
    (iblk m c 1 t : Vec Ideal S8x1024 .f32) (ix2 r d)
      = m ((c : Thread nD τ).loc main_arg0) (ix2 ⟨8256 + (t.val * 8 + r.val), by have : t.val < 8 := t.isLt; omega⟩ ⟨4096 + d.val, by omega⟩) := by
  unfold iblk
  rw [View.read_apply]
  show V m c main_arg0 _ = _
  have h := (starts t).2.1
  rw [V_main_arg0, show ((cfg0.win 1).blk t).view.emb (ix2 r d) = (ix2 ⟨8256 + (t.val * 8 + r.val), by have : t.val < 8 := t.isLt; omega⟩ ⟨4096 + d.val, by omega⟩ : S8448x5120.Idx) from by
    funext a
    apply Fin.ext
    match a with
    | ⟨0, _⟩ => show (win0_1.rect t).off 0 + 1 * r.val = 8256 + (t.val * 8 + r.val); rw [h]; show 8256 + t.val * 8 + 1 * r.val = 8256 + (t.val * 8 + r.val); omega
    | ⟨1, _⟩ => show (win0_1.rect t).off 1 + 1 * d.val = 4096 + d.val; rw [h]; show 4096 + 1 * d.val = 4096 + d.val; omega]

/-- The block of the rows before the chunk, element by element. -/
theorem blk_old (c : Dev nD) (t : Fin cfg0.N) (k : Fin 32) (d : Fin 1024) :
    (iblk m c 2 t : Vec Ideal S1x32x1024 .f32) (ix3 0 k d)
      = if h : 2 ≤ k.val then m ((c : Thread nD τ).loc main_arg1) (ix3 (⟨t.val, t.isLt⟩ : Fin 8) ⟨k.val - 2, by omega⟩ d) else (0 : EReal) := by
  unfold iblk
  rw [View.read_apply]
  show V m c main_v4 _ = _
  have e : V m c main_v4 = pad S8x32x1024 ![0, 2, 0] ![0, 0, 0] ![0, 0, 0] (m ((c : Thread nD τ).loc main_arg1) : FVec Ideal S8x30x1024 .f32)
      (sitofp (F := Ideal) .f32 (constantI S_ 32 0#32)) pads_S8x30x1024_S8x32x1024_000_200_000 h_S_ := by
    show StableHlo.after [_, _, _, _, _, _, _, _, _, _] _ _ = _
    after_results <;> rfl
  have h := (starts t).2.2.1
  rw [e, show ((cfg0.win 2).blk t).view.emb (ix3 0 k d) = (ix3 (⟨t.val, t.isLt⟩ : Fin 8) k d : S8x32x1024.Idx) from by
    funext a
    apply Fin.ext
    match a with
    | ⟨0, _⟩ => show (win0_2.rect t).off 0 + 1 * 0 = t.val; rw [h]; rfl
    | ⟨1, _⟩ => show (win0_2.rect t).off 1 + 1 * k.val = k.val; rw [h]; show 0 + 1 * k.val = k.val; omega
    | ⟨2, _⟩ => show (win0_2.rect t).off 2 + 1 * d.val = d.val; rw [h]; show 0 + 1 * d.val = d.val; omega]
  split
  · next hl =>
    refine pad_apply_of_inside _ _ _ _ _ _ _ _ (ix3 (⟨t.val, t.isLt⟩ : Fin 8) ⟨k.val - 2, by omega⟩ d) fun a => ?_
    match a with
    | ⟨0, _⟩ => show t.val = 0 + t.val * 1; omega
    | ⟨1, _⟩ => show k.val = 2 + (k.val - 2) * 1; omega
    | ⟨2, _⟩ => show d.val = 0 + d.val * 1; omega
  · next hl =>
    rw [pad_apply_of_not_inside _ _ _ _ _ _ _ _ (1 : Fin 3) (by
      show ¬(2 ≤ k.val ∧ (k.val - 2) % 1 = 0 ∧ (k.val - 2) / 1 < 30)
      omega)]
    simp [sitofp, constantI, FloatOps.sitofp]

/-- The block of the convolution's weights, element by element. -/
theorem blk_w (c : Dev nD) (t : Fin cfg0.N) (k : Fin 31) (d : Fin 1024) :
    (iblk m c 3 t : Vec Ideal S32x1024 .f32) (ix2 ⟨k.val, by omega⟩ d) = m ((c : Thread nD τ).loc main_arg2) (ix2 k d) := by
  unfold iblk
  rw [View.read_apply]
  show V m c main_v0 _ = _
  have e : V m c main_v0 = pad S32x1024 ![0, 0] ![1, 0] ![0, 0] (m ((c : Thread nD τ).loc main_arg2) : FVec Ideal S31x1024 .f32)
      (sitofp (F := Ideal) .f32 (constantI S_ 32 0#32)) pads_S31x1024_S32x1024_010_000 h_S_ := by
    show StableHlo.after [_, _, _, _, _, _, _, _, _, _] _ _ = _
    after_results <;> rfl
  have h := (starts t).2.2.2.1
  rw [e, show ((cfg0.win 3).blk t).view.emb (ix2 ⟨k.val, by omega⟩ d) = (ix2 ⟨k.val, by omega⟩ d : S32x1024.Idx) from by
    funext a
    apply Fin.ext
    match a with
    | ⟨0, _⟩ => show (win0_3.rect t).off 0 + 1 * k.val = k.val; rw [h]; show 0 + 1 * k.val = k.val; omega
    | ⟨1, _⟩ => show (win0_3.rect t).off 1 + 1 * d.val = d.val; rw [h]; show 0 + 1 * d.val = d.val; omega]
  refine pad_apply_of_inside _ _ _ _ _ _ _ _ (ix2 k d) fun a => ?_
  match a with
  | ⟨0, _⟩ => show k.val = 0 + k.val * 1; omega
  | ⟨1, _⟩ => show d.val = 0 + d.val * 1; omega

/-- The convolution's bias, element by element. -/
theorem blk_bias (c : Dev nD) (t : Fin cfg0.N) (d : Fin 1024) :
    (iblk m c 4 t : Vec Ideal S1x1024 .f32) (ix2 0 d) = m ((c : Thread nD τ).loc main_arg3) (ix1 d) := by
  unfold iblk
  rw [View.read_apply]
  show V m c main_v1 _ = _
  have e : V m c main_v1 = shapeCast S1x1024 (m ((c : Thread nD τ).loc main_arg3)) shapeCasts_S1024_S1x1024 := by
    show StableHlo.after [_, _, _, _, _, _, _, _, _, _] _ _ = _
    after_results <;> rfl
  have h := (starts t).2.2.2.2.1
  rw [e, show ((cfg0.win 4).blk t).view.emb (ix2 0 d) = (ix2 0 d : S1x1024.Idx) from by
    funext a
    apply Fin.ext
    match a with
    | ⟨0, _⟩ => show (win0_4.rect t).off 0 + 1 * 0 = 0; rw [h]; show 0 + 1 * 0 = 0; omega
    | ⟨1, _⟩ => show (win0_4.rect t).off 1 + 1 * d.val = d.val; rw [h]; show 0 + 1 * d.val = d.val; omega]
  pointwise

/-- The norm's gain, element by element. -/
theorem blk_gain (c : Dev nD) (t : Fin cfg0.N) (d : Fin 1024) :
    (iblk m c 5 t : Vec Ideal S1x1024 .f32) (ix2 0 d) = m ((c : Thread nD τ).loc main_arg4) (ix1 d) := by
  unfold iblk
  rw [View.read_apply]
  show V m c main_v2 _ = _
  have e : V m c main_v2 = shapeCast S1x1024 (m ((c : Thread nD τ).loc main_arg4)) shapeCasts_S1024_S1x1024 := by
    show StableHlo.after [_, _, _, _, _, _, _, _, _, _] _ _ = _
    after_results <;> rfl
  have h := (starts t).2.2.2.2.2.1
  rw [e, show ((cfg0.win 5).blk t).view.emb (ix2 0 d) = (ix2 0 d : S1x1024.Idx) from by
    funext a
    apply Fin.ext
    match a with
    | ⟨0, _⟩ => show (win0_5.rect t).off 0 + 1 * 0 = 0; rw [h]; show 0 + 1 * 0 = 0; omega
    | ⟨1, _⟩ => show (win0_5.rect t).off 1 + 1 * d.val = d.val; rw [h]; show 0 + 1 * d.val = d.val; omega]
  pointwise

/-- The norm's shift, element by element. -/
theorem blk_shift (c : Dev nD) (t : Fin cfg0.N) (d : Fin 1024) :
    (iblk m c 6 t : Vec Ideal S1x1024 .f32) (ix2 0 d) = m ((c : Thread nD τ).loc main_arg5) (ix1 d) := by
  unfold iblk
  rw [View.read_apply]
  show V m c main_v3 _ = _
  have e : V m c main_v3 = shapeCast S1x1024 (m ((c : Thread nD τ).loc main_arg5)) shapeCasts_S1024_S1x1024 := by
    show StableHlo.after [_, _, _, _, _, _, _, _, _, _] _ _ = _
    after_results <;> rfl
  have h := (starts t).2.2.2.2.2.2.1
  rw [e, show ((cfg0.win 6).blk t).view.emb (ix2 0 d) = (ix2 0 d : S1x1024.Idx) from by
    funext a
    apply Fin.ext
    match a with
    | ⟨0, _⟩ => show (win0_6.rect t).off 0 + 1 * 0 = 0; rw [h]; show 0 + 1 * 0 = 0; omega
    | ⟨1, _⟩ => show (win0_6.rect t).off 1 + 1 * d.val = d.val; rw [h]; show 0 + 1 * d.val = d.val; omega]
  pointwise

open Cert.ConvSRefIdeal.Read (oldAt newAt convAt rowAt GRows GBuf)

/-- The point of sequence `t`. -/
abbrev seqOf (t : Fin cfg0.N) : Fin 8 := ⟨t.val, t.isLt⟩

/-- The rows a point joins are those of its sequence, after two rows of zeros. -/
theorem joined_blk (c : Dev nD) (t : Fin cfg0.N) (d : Fin 1024) (k : ℕ) :
    uOf (k0_pay3 (F := Ideal) (iblk m c 0 t) (iblk m c 1 t)) (k0_pay2 (F := Ideal) (iblk m c 2 t)) (k + 2) d
      = joined (oldAt (m ((c : Thread nD τ).loc main_arg1)) (seqOf t) d) (newAt (m ((c : Thread nD τ).loc main_arg0)) (seqOf t) d) k := by
  unfold uOf joined
  by_cases h : k < 30
  · rw [dif_pos (by omega), dif_pos h]
    refine Eq.trans ?_ (((blk_old m c t ⟨k + 2, by omega⟩ d).trans (dif_pos (Nat.le_add_left 2 k))))
    generalize (iblk m c 2 t : Vec Ideal S1x32x1024 .f32) = x
    pointwise [k0_pay2]
  · rw [dif_neg (by omega), dif_neg h]
    by_cases h' : k - 30 < 8
    · rw [dif_pos (by omega), dif_pos h']
      unfold newAt
      rw [← blk_val m c t ⟨k - 30, h'⟩ d, ← blk_gate m c t ⟨k - 30, h'⟩ d]
      generalize (iblk m c 0 t : Vec Ideal S8x1024 .f32) = x
      generalize (iblk m c 1 t : Vec Ideal S8x1024 .f32) = y
      rw [show (⟨k + 2 - 32, by omega⟩ : Fin 8) = ⟨k - 30, h'⟩ from Fin.ext (by show k + 2 - 32 = k - 30; omega)]
      generalize (⟨k - 30, h'⟩ : Fin 8) = s
      pointwise [k0_pay3]
      simp only [zero_sub]
    · rw [dif_neg (by omega), dif_neg h']

/-- The convolution of a point's rows. -/
theorem acc_blk (c : Dev nD) (t : Fin cfg0.N) (r : Fin 8) :
    accOf (iblk m c 0 t) (iblk m c 1 t) (iblk m c 2 t) (iblk m c 3 t) (iblk m c 4 t) r = convAt (m ((c : Thread nD τ).loc main_arg0)) (m ((c : Thread nD τ).loc main_arg1)) (m ((c : Thread nD τ).loc main_arg2)) (m ((c : Thread nD τ).loc main_arg3)) (seqOf t) r := by
  funext d
  unfold accOf convAt
  rw [show (fun k => uOf (k0_pay3 (F := Ideal) (iblk m c 0 t) (iblk m c 1 t)) (k0_pay2 (F := Ideal) (iblk m c 2 t)) (k + 2) d)
      = joined (oldAt (m ((c : Thread nD τ).loc main_arg1)) (seqOf t) d) (newAt (m ((c : Thread nD τ).loc main_arg0)) (seqOf t) d) from funext fun k => joined_blk m c t d k,
    show (fun k : Fin 31 => (iblk m c 3 t : Vec Ideal S32x1024 .f32) (ix2 ⟨k.val, by omega⟩ d)) = fun k => (m ((c : Thread nD τ).loc main_arg2)) (ix2 k d) from funext fun k => blk_w m c t k d,
    blk_bias]

/-- A row of a point's block. -/
theorem out_blk (c : Dev nD) (t : Fin cfg0.N) (r : Fin 8) (e : Fin 1024) :
    outRows (iblk m c 0 t) (iblk m c 1 t) (iblk m c 2 t) (iblk m c 3 t) (iblk m c 4 t) (iblk m c 5 t) (iblk m c 6 t) (ix2 r e) = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t) r e := by
  show act (normed (accOf (iblk m c 0 t) (iblk m c 1 t) (iblk m c 2 t) (iblk m c 3 t) (iblk m c 4 t) r)
    (fun d => (iblk m c 5 t : Vec Ideal S1x1024 .f32) (ix2 0 d)) (fun d => (iblk m c 6 t : Vec Ideal S1x1024 .f32) (ix2 0 d)) e) = _
  rw [acc_blk, show (fun d : Fin 1024 => (iblk m c 5 t : Vec Ideal S1x1024 .f32) (ix2 0 d)) = fun d => (m ((c : Thread nD τ).loc main_arg4)) (ix1 d) from funext fun d => blk_gain m c t d,
    show (fun d : Fin 1024 => (iblk m c 6 t : Vec Ideal S1x1024 .f32) (ix2 0 d)) = fun d => (m ((c : Thread nD τ).loc main_arg5)) (ix1 d) from funext fun d => blk_shift m c t d]
  rfl

/-- A point writes back its rows. -/
theorem flushed7_eq (c : Dev nD) (t : Fin cfg0.N) : (dats m 0 c).flushed 7 t = ((cfg0.win 7).blk t).view.read (Elt Ideal) (GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7_A, out7_eq]
  have ho := (starts t).2.2.2.2.2.2.2.1
  have ht : t.val < 8 := t.isLt
  funext y
  obtain ⟨r, e, rfl⟩ : ∃ (r : Fin 8) (e : Fin 1024), y = (ix2 r e : S8x1024.Idx) := ⟨y 0, y 1, eq_ix2 y⟩
  rw [View.read_apply, show ((cfg0.win 7).blk t).view.emb (ix2 r e) = (ix2 ⟨8256 + (t.val * 8 + r.val), by omega⟩ e : S8448x1024.Idx) from by
    funext a
    apply Fin.ext
    match a with
    | ⟨0, _⟩ => show (win0_7.rect t).off 0 + 1 * r.val = 8256 + (t.val * 8 + r.val); rw [ho]; show 8256 + t.val * 8 + 1 * r.val = 8256 + (t.val * 8 + r.val); omega
    | ⟨1, _⟩ => show (win0_7.rect t).off 1 + 1 * e.val = e.val; rw [ho]; show 0 + 1 * e.val = e.val; omega]
  show outRows (iblk m c 0 t) (iblk m c 1 t) (iblk m c 2 t) (iblk m c 3 t) (iblk m c 4 t) (iblk m c 5 t) (iblk m c 6 t) (ix2 r e) = _
  unfold GRows
  rw [dif_pos (by show 8256 ≤ 8256 + (t.val * 8 + r.val) ∧ 8256 + (t.val * 8 + r.val) < 8320; omega)]
  have h1 : (⟨(8256 + (t.val * 8 + r.val) - 8256) / 8, by omega⟩ : Fin 8) = seqOf t := Fin.ext (by show (8256 + (t.val * 8 + r.val) - 8256) / 8 = t.val; omega)
  have h2 : (⟨(8256 + (t.val * 8 + r.val) - 8256) % 8, Nat.mod_lt _ (by decide)⟩ : Fin 8) = r := Fin.ext (by show (8256 + (t.val * 8 + r.val) - 8256) % 8 = r.val; omega)
  rw [show (⟨(((ix2 ⟨8256 + (t.val * 8 + r.val), by omega⟩ e : S8448x1024.Idx) 0).val - 8256) / 8, by show (8256 + (t.val * 8 + r.val) - 8256) / 8 < 8; omega⟩ : Fin 8) = seqOf t from h1,
    show (⟨(((ix2 ⟨8256 + (t.val * 8 + r.val), by omega⟩ e : S8448x1024.Idx) 0).val - 8256) % 8, Nat.mod_lt _ (by decide)⟩ : Fin 8) = r from h2]
  exact out_blk m c t r e

/-- Where element `(k, d)` of a point's block of the buffers lies. -/
theorem emb_buf (t : Fin cfg0.N) (k : Fin 32) (d : Fin 1024) :
    ((cfg0.win 8).blk t).view.emb (ix3 0 k d) = (ix3 (seqOf t) k d : S8x32x1024.Idx) := by
  have h := (starts t).2.2.2.2.2.2.2.2
  funext a
  apply Fin.ext
  match a with
  | ⟨0, _⟩ => show (win0_8.rect t).off 0 + 1 * 0 = t.val; rw [h]; rfl
  | ⟨1, _⟩ => show (win0_8.rect t).off 1 + 1 * k.val = k.val; rw [h]; show 0 + 1 * k.val = k.val; omega
  | ⟨2, _⟩ => show (win0_8.rect t).off 2 + 1 * d.val = d.val; rw [h]; show 0 + 1 * d.val = d.val; omega

/-- A point writes back its sequence's buffer. -/
theorem flushed8_eq (c : Dev nD) (t : Fin cfg0.N) : (dats m 0 c).flushed 8 t = ((cfg0.win 8).blk t).view.read (Elt Ideal) (GBuf (m ((c : Thread nD τ).loc main_arg0)) (m ((c : Thread nD τ).loc main_arg1))) := by
  rw [Value.flushed8_A, out8_eq]
  funext y
  obtain ⟨k, d, rfl⟩ : ∃ (k : Fin 32) (d : Fin 1024), y = (ix3 0 k d : S1x32x1024.Idx) :=
    ⟨y 1, y 2, (eq_ix3 y).trans (by rw [Fin.eq_zero (y 0 : Fin 1)])⟩
  rw [View.read_apply, emb_buf]
  exact joined_blk m c t d (k.val + 6)

/-- The rows of a point's block. -/
theorem mem7 (t : Fin cfg0.N) (i : S8448x1024.Idx) : i ∈ ((cfg0.win 7).blk t).view.set ↔ 8256 + t.val * 8 ≤ (i 0).val ∧ (i 0).val < 8256 + t.val * 8 + 8 := by
  have ho := (starts t).2.2.2.2.2.2.2.1
  show i ∈ ((View.whole main_v5_0).slice (win0_7.rect t)).set ↔ _
  rw [View.set_slice_whole, Rect.mem_set_unit]
  have h1 : (i 1).val < 1024 := (i 1).isLt
  constructor
  · intro h
    have : (win0_7.rect t).off 0 ≤ (i 0).val ∧ (i 0).val < (win0_7.rect t).off 0 + 8 := h 0
    rw [ho] at this
    exact this
  · intro h a
    match a with
    | ⟨0, _⟩ => show (win0_7.rect t).off 0 ≤ (i 0).val ∧ (i 0).val < (win0_7.rect t).off 0 + 8; rw [ho]; exact h
    | ⟨1, _⟩ =>
      show (win0_7.rect t).off 1 ≤ (i 1).val ∧ (i 1).val < (win0_7.rect t).off 1 + 1024
      rw [ho]
      show 0 ≤ (i 1).val ∧ (i 1).val < 0 + 1024
      omega

/-- The rows' array after the run. -/
theorem rows_run (c : Dev nD) : (dats m 0 c).arrAt 7 cfg0.N = GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  by_cases h : 8256 ≤ (i 0).val ∧ (i 0).val < 8320
  · let t : Fin cfg0.N := ⟨((i 0).val - 8256) / 8, show ((i 0).val - 8256) / 8 < 8 by omega⟩
    have hm : i ∈ ((cfg0.win 7).blk t).view.set := (mem7 t i).2 (by
      show 8256 + ((i 0).val - 8256) / 8 * 8 ≤ (i 0).val ∧ (i 0).val < 8256 + ((i 0).val - 8256) / 8 * 8 + 8
      omega)
    obtain ⟨x, -, hx⟩ := Finset.mem_map.1 hm
    have e := (Value.blocks7 m c t (flush0_7 t)).trans (flushed7_eq m c t)
    have := congrFun e x
    rwa [View.read_apply, View.read_apply, show ((cfg0.win 7).blk t).view.emb x = i from hx] at this
  · rw [Value.entry7 m c i (fun t _ hm => h (by
      have := (mem7 t i).1 hm
      have ht : t.val < 8 := t.isLt
      omega))]
    have e : V m c main_v5_0 = m ((c : Thread nD τ).loc main_arg6) := by
      show StableHlo.after [_, _, _, _, _, _, _, _, _, _] _ _ = _
      after_results <;> rfl
    unfold GRows
    rw [dif_neg h]
    exact congrFun e i

/-- Every element of the buffers lies in some point's block. -/
theorem cover8 (i : S8x32x1024.Idx) : ∃ t : Fin cfg0.N, (cfg0.win 8).flush t = true ∧ i ∈ ((cfg0.win 8).blk t).view.set := by
  obtain ⟨b, k, d, rfl⟩ : ∃ (b : Fin 8) (k : Fin 32) (d : Fin 1024), i = (ix3 b k d : S8x32x1024.Idx) := ⟨i 0, i 1, i 2, eq_ix3 i⟩
  refine ⟨⟨b.val, b.isLt⟩, flush0_8 _, ?_⟩
  rw [← emb_buf ⟨b.val, b.isLt⟩ k d]
  exact View.emb_mem_set _ _

/-- The kernel ends with the two results, its arguments unchanged. -/
theorem run : θ_run defs (onTc (τ := τ) (main (F := Ideal))) ⟨m, fun _ => 0, ρ⟩ fun r => ∀ c : Dev nD,
      r.2.mem ((c : Thread nD τ).loc main_v5_0) = GRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v5_1) = GBuf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (rows_run m c),
    (h c).2.1.trans ((dats m 0 c).arrAt_eq_of_cover 8 _ (fun t _ => flushed8_eq m c t) cover8), (h c).2.2⟩) (Value.run_blocks m ρ)

end Cert.ConvSIdeal.Read
-- ==== Proof.ConvPRef.lean ====
/- What the reference of the prompts' causal convolution leaves. -/
module

public import proofs.«01_k».proof.Proof.Gen.ConvPRefIdeal.Run
public import proofs.«01_k».proof.Proof.Conv
public import Idealize.ShloMosaic.Lib.Pointwise

@[expose] public section

set_option maxRecDepth 16384

noncomputable section

namespace Cert.ConvPRefIdeal.Read

open Cert.ConvPRefIdeal Cert.ConvPRefIdeal.Gen Idealize.ShloMosaic Idealize.ShloMosaic.TcCoe Idealize.SL.Sem
open Cert.Conv Cert.ConvPRefIdeal.Value

/-- Prompt `i`'s column `d` of the gated rows after 32 rows of zeros, counted from the first; zero past them. -/
def gated (P : (⟨2, ![8448, 5120]⟩ : Shape).Idx → EReal) (i : Fin 4) (d : Fin 1024) (k : ℕ) : EReal :=
  if h : 32 ≤ k ∧ k - 32 < 2064 then
    P (ix2 ⟨i.val * 2064 + (k - 32), by omega⟩ ⟨3072 + d.val, by omega⟩)
      * Ideal.div 1 (1 + Ideal.exp (-P (ix2 ⟨i.val * 2064 + (k - 32), by omega⟩ ⟨4096 + d.val, by omega⟩)))
  else 0

/-- Row `t` of prompt `i` after the convolution. -/
def convAt (P : (⟨2, ![8448, 5120]⟩ : Shape).Idx → EReal)
    (w : (⟨2, ![31, 1024]⟩ : Shape).Idx → EReal) (b : (⟨1, ![1024]⟩ : Shape).Idx → EReal) (i : Fin 4) (t : ℕ) (d : Fin 1024) : EReal :=
  conv (fun k => gated P i d (k + 2)) (fun k => w (ix2 k d)) (b (ix1 d)) t

/-- Row `t` of prompt `i` as the layer leaves it. -/
def rowAt (P : (⟨2, ![8448, 5120]⟩ : Shape).Idx → EReal)
    (w : (⟨2, ![31, 1024]⟩ : Shape).Idx → EReal) (b g h : (⟨1, ![1024]⟩ : Shape).Idx → EReal) (i : Fin 4) (t : ℕ) (d : Fin 1024) : EReal :=
  act (normed (convAt P w b i t) (fun d => g (ix1 d)) (fun d => h (ix1 d)) d)

/-- The rows the call leaves: those of the prompts, then zeros. -/
def GRows (P : (⟨2, ![8448, 5120]⟩ : Shape).Idx → EReal)
    (w : (⟨2, ![31, 1024]⟩ : Shape).Idx → EReal) (b g h : (⟨1, ![1024]⟩ : Shape).Idx → EReal) : (⟨2, ![8448, 1024]⟩ : Shape).Idx → EReal := fun j =>
  if h' : (j 0).val < 8256 then rowAt P w b g h ⟨(j 0).val / 2064, by omega⟩ ((j 0).val % 2064) (j 1) else 0

/-- The buffers the call leaves: the last 32 of a prompt's rows. -/
def GBuf (P : (⟨2, ![8448, 5120]⟩ : Shape).Idx → EReal) : (⟨3, ![4, 32, 1024]⟩ : Shape).Idx → EReal :=
  fun j => gated P (j 0) (j 2) (2064 + (j 1).val)

variable (V0 : Valuation τ sig (Elt Ideal))

/-- The joined rows of the reference. -/
theorem v12_apply (i : Fin 4) (k : Fin 2094) (d : Fin 1024) : (res_main_v12 V0 : FVec Ideal S4x2094x1024 .f32) (ix3 i k d)
    = gated (V0 (Proc.devRef .tc main_arg0)) i d (k.val + 2) := by
  pointwise [res_main_v12, res_main_v2]
  unfold gated
  by_cases h : k.val < 30
  · rw [dif_pos h, dif_neg (by omega)]
  · rw [dif_neg h, dif_pos (by omega)]
    have e : k.val + 2 - 32 = k.val - 30 := by omega
    simp only [e]

/-- The convolution of the reference. -/
theorem v231_apply (i : Fin 4) (t : Fin 2064) (d : Fin 1024) : (res_main_v231 V0 : FVec Ideal S4x2064x1024 .f32) (ix3 i t d)
    = convAt (V0 (Proc.devRef .tc main_arg0)) (V0 (Proc.devRef .tc main_arg1)) (V0 (Proc.devRef .tc main_arg2)) i t.val d := by
  unfold convAt
  rw [← chain_conv]
  pointwise [res_main_v231, res_main_v165, res_main_v88]
  simp only [v12_apply]
  simp only [chain, Nat.add_comm _ t.val]
  rfl

/-- The normed rows of the reference. -/
theorem v259_apply (i : Fin 4) (t : Fin 2064) (d : Fin 1024) : (res_main_v259 V0 : FVec Ideal S4x2064x1024 .f32) (ix3 i t d)
    = normed (convAt (V0 (Proc.devRef .tc main_arg0)) (V0 (Proc.devRef .tc main_arg1)) (V0 (Proc.devRef .tc main_arg2)) i t.val)
      (fun d => V0 (Proc.devRef .tc main_arg3) (ix1 d)) (fun d => V0 (Proc.devRef .tc main_arg4) (ix1 d)) d := by
  pointwise [res_main_v259, res_main_v241, res_main_v239]
  simp only [v231_apply]
  rfl

/-- The prompts' rows of the reference. -/
def rv : FVec Ideal S8256x1024 .f32 :=
  shapeCast _ (mulf (res_main_v259 V0) (Host.divf (broadcastInDim S4x2064x1024 ![] bcast_S_S4x2064x1024 (constant S_ .f32 0x3F800000#32)) (addf (broadcastInDim S4x2064x1024 ![] bcast_S_S4x2064x1024 (constant S_ .f32 0x3F800000#32)) (Host.exp (Host.negf (res_main_v259 V0)))))) shapeCasts_S4x2064x1024_S8256x1024

theorem rv_apply (r : Fin 8256) (d : Fin 1024) : rv V0 (ix2 r d)
    = rowAt (V0 (Proc.devRef .tc main_arg0)) (V0 (Proc.devRef .tc main_arg1)) (V0 (Proc.devRef .tc main_arg2)) (V0 (Proc.devRef .tc main_arg3))
      (V0 (Proc.devRef .tc main_arg4)) ⟨r.val / 2064, by omega⟩ (r.val % 2064) d := by
  unfold rowAt
  rw [← v259_apply V0 ⟨r.val / 2064, by omega⟩ ⟨r.val % 2064, Nat.mod_lt _ (by decide)⟩ d]
  pointwise [rv, act]

/-- The reference's rows. -/
theorem out_spec :
    (concatenate S8448x1024 0 [⟨S8256x1024, ((truncf (F := Ideal) .bf16 (rv V0) bitsLt_bf16_f32) : (⟨S8256x1024, .bf16⟩ : BufTy).Contents (Elt Ideal))⟩,
      ⟨S192x1024, ((broadcastInDim S192x1024 ![] bcast_S_S192x1024 (constant (F := Ideal) S_ .bf16 0x0000#16)) : (⟨S192x1024, .bf16⟩ : BufTy).Contents (Elt Ideal))⟩] concatenates_S8256x1024_S192x1024_S8448x1024_d0)
      = GRows (V0 (Proc.devRef .tc main_arg0)) (V0 (Proc.devRef .tc main_arg1)) (V0 (Proc.devRef .tc main_arg2)) (V0 (Proc.devRef .tc main_arg3))
        (V0 (Proc.devRef .tc main_arg4)) := by
  funext j
  obtain ⟨r, e, rfl⟩ : ∃ (r : Fin 8448) (e : Fin 1024), j = (ix2 r e : S8448x1024.Idx) := ⟨j 0, j 1, eq_ix2 j⟩
  unfold GRows
  by_cases h : r.val < 8256
  · rw [dif_pos (show ((ix2 r e : S8448x1024.Idx) 0).val < 8256 from h)]
    refine Eq.trans ?_ (rv_apply V0 ⟨r.val, h⟩ e)
    pointwise
    rw [dif_pos h]
  · rw [dif_neg (show ¬((ix2 r e : S8448x1024.Idx) 0).val < 8256 from h)]
    pointwise
    rw [dif_neg h]

/-- The reference's buffers. -/
theorem buf_spec : extractStridedSlice S4x32x1024 ![0, 2064, 0] (concatenate S4x2096x1024 1 [⟨S4x2x1024, (broadcastInDim S4x2x1024 ![] bcast_S_S4x2x1024 (constant (F := Ideal) S_ .f32 0x00000000#32))⟩, ⟨S4x2094x1024, (res_main_v12 V0)⟩] concatenates_S4x2x1024_S4x2094x1024_S4x2096x1024_d1) slices_S4x2096x1024_S4x32x1024_0_2064_0
    = GBuf (V0 (Proc.devRef .tc main_arg0)) := by
  funext j
  obtain ⟨i, k, d, rfl⟩ : ∃ (i : Fin 4) (k : Fin 32) (d : Fin 1024), j = (ix3 i k d : S4x32x1024.Idx) := ⟨j 0, j 1, j 2, eq_ix3 j⟩
  show _ = gated (V0 (Proc.devRef .tc main_arg0)) i d (2064 + k.val)
  refine Eq.trans ?_ ((v12_apply V0 i ⟨2062 + k.val, by omega⟩ d).trans (congrArg _ (by show 2062 + k.val + 2 = 2064 + k.val; omega)))
  pointwise
  rw [dif_neg (by omega)]
  refine congrArg (res_main_v12 V0) (congrArg (ix3 i · d) (Fin.ext ?_))
  show 2064 + k.val - 2 = 2062 + k.val
  omega

/-- The reference ends with the two results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v264)
        = GRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v235)
        = GBuf (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out_spec (Idealize.ShloMosaic.StableHlo.launchContents m c)),
    (h c).2.1.trans (buf_spec (Idealize.ShloMosaic.StableHlo.launchContents m c)), (h c).2.2⟩) (Cert.ConvPRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => (h c).2.2, Idealize.ShloMosaic.sem_eq_zero_of_no_sems (by decide) r.2⟩) (run m ρ)

end Cert.ConvPRefIdeal.Read
-- ==== Proof.ConvPBody.lean ====
/- What a point of the prompts' causal convolution leaves. -/
module

public import proofs.«01_k».proof.Proof.Gen.ConvPIdeal.Frame
public import proofs.«01_k».proof.Proof.Conv
public import Idealize.ShloMosaic.Lib.Pointwise
public import Idealize.ShloMosaic.Lib.WritesUnit

@[expose] public section

set_option maxRecDepth 16384

noncomputable section

namespace Cert.ConvPIdeal.Read

open Cert.ConvPIdeal Cert.ConvPIdeal.Gen Idealize.ShloMosaic Idealize.ShloMosaic.TcCoe Idealize.SL.Sem
open Cert.Conv

theorem hz3 : (![0, 0, 0] : Fin 3 → Nat) = fun _ => 0 := funext fun a => by fin_cases a <;> rfl
theorem hz2 : (![0, 0] : Fin 2 → Nat) = fun _ => 0 := funext fun a => by fin_cases a <;> rfl

/-- Row `r`, column `d` of the rows a point joins: 32 rows of the halo, then 48 of its own; zero past them. -/
def uOf (A : Vec Ideal S48x1024 .f32) (B : Vec Ideal S32x1024 .f32) (r : ℕ) (d : Fin 1024) : EReal :=
  if h : r < 32 then B (ix2 ⟨r, h⟩ d) else if h' : r - 32 < 48 then A (ix2 ⟨r - 32, h'⟩ d) else 0

/-- 32 of the joined rows, from row `o` on. -/
def uBlk (A : Vec Ideal S48x1024 .f32) (B : Vec Ideal S32x1024 .f32) (o : ℕ) : Vec Ideal S32x1024 .f32 :=
  fun j => uOf A B ((j 0).val + o) (j 1)

/-- 72 of the joined rows, from row `o` on. -/
def uCopy (A : Vec Ideal S48x1024 .f32) (B : Vec Ideal S32x1024 .f32) (o : ℕ) : Vec Ideal S72x1024 .f32 :=
  fun j => uOf A B ((j 0).val + o) (j 1)

/-- 48 of the joined rows, from row `o` on. -/
def uRows (A : Vec Ideal S48x1024 .f32) (B : Vec Ideal S32x1024 .f32) (o : ℕ) : Vec Ideal S48x1024 .f32 :=
  fun j => uOf A B ((j 0).val + o) (j 1)

/-- The same with a leading axis of one. -/
def sRows (A : Vec Ideal S48x1024 .f32) (B : Vec Ideal S32x1024 .f32) (o : ℕ) : Vec Ideal S1x48x1024 .f32 :=
  fun j => uOf A B ((j 1).val + o) (j 2)

theorem canon_u (A : Vec Ideal S48x1024 .f32) (B : Vec Ideal S32x1024 .f32)
    (i1 : ∀ a, (![32, 0] : Fin 2 → Nat) a + ![48, 1024] a ≤ S80x1024.size a) (i2 : ∀ a, (![0, 0] : Fin 2 → Nat) a + ![32, 1024] a ≤ S80x1024.size a)
    (y : S80x1024.Idx) :
    View.canon (Val := Elt Ideal) (s := S80x1024) (e := .f32) [⟨Rect.unit (s := S80x1024) ![32, 0] ![48, 1024] i1, A⟩, ⟨Rect.unit (s := S80x1024) ![0, 0] ![32, 1024] i2, B⟩] y = uOf A B (y 0).val (y 1) := by
  refine View.canon_apply_of_pieces (Val := Elt Ideal) (e := .f32) (fun y : S80x1024.Idx => uOf A B (y 0).val (y 1)) _ ?_ y ?_
  · intro p hp
    simp only [List.mem_cons, List.not_mem_nil, or_false] at hp
    rcases hp with rfl | rfl
    · intro x
      obtain ⟨r, d, rfl⟩ : ∃ (r : Fin 48) (d : Fin 1024), x = (ix2 r d : S48x1024.Idx) := ⟨x 0, x 1, eq_ix2 x⟩
      show A (ix2 r d) = uOf A B (32 + 1 * r.val) ⟨0 + 1 * d.val, _⟩
      unfold uOf
      rw [dif_neg (by omega), dif_pos (by omega)]
      refine congrArg A (congrArg₂ ix2 (Fin.ext ?_) (Fin.ext ?_))
      · show r.val = 32 + 1 * r.val - 32; omega
      · show d.val = 0 + 1 * d.val; omega
    · intro x
      obtain ⟨r, d, rfl⟩ : ∃ (r : Fin 32) (d : Fin 1024), x = (ix2 r d : S32x1024.Idx) := ⟨x 0, x 1, eq_ix2 x⟩
      show B (ix2 r d) = uOf A B (0 + 1 * r.val) ⟨0 + 1 * d.val, _⟩
      unfold uOf
      rw [dif_pos (by omega)]
      refine congrArg B (congrArg₂ ix2 (Fin.ext ?_) (Fin.ext ?_))
      · show r.val = 0 + 1 * r.val; omega
      · show d.val = 0 + 1 * d.val; omega
  · obtain ⟨r, d, rfl⟩ : ∃ (r : Fin 80) (d : Fin 1024), y = (ix2 r d : S80x1024.Idx) := ⟨y 0, y 1, eq_ix2 y⟩
    by_cases h : r.val < 32
    · refine ⟨_, List.mem_cons_of_mem _ (List.mem_cons_self ..), ?_⟩
      rw [Rect.mem_set_unit]
      intro a
      match a with
      | ⟨0, _⟩ => show 0 ≤ r.val ∧ r.val < 0 + 32; omega
      | ⟨1, _⟩ => show 0 ≤ d.val ∧ d.val < 0 + 1024; omega
    · refine ⟨_, List.mem_cons_self .., ?_⟩
      rw [Rect.mem_set_unit]
      intro a
      match a with
      | ⟨0, _⟩ => show 32 ≤ r.val ∧ r.val < 32 + 48; omega
      | ⟨1, _⟩ => show 0 ≤ d.val ∧ d.val < 0 + 1024; omega

/-- The joined rows as one array. -/
def uAll (A : Vec Ideal S48x1024 .f32) (B : Vec Ideal S32x1024 .f32) : Vec Ideal S80x1024 .f32 :=
  fun y => uOf A B (y 0).val (y 1)

/-- The first 32 rows of the scratch, which the point before left. -/
def halo (x : Vec Ideal S80x1024 .f32) : Vec Ideal S32x1024 .f32 := fun j => x (ix2 ⟨(j 0).val, Nat.lt_trans (j 0).isLt (by decide)⟩ (j 1))

/-- The scratch after a point's rows are stored over what the point before left. -/
theorem read_b (M : Memref sig .tc .vmem S80x1024 .f32) (hM : M.IsWhole) (A : Vec Ideal S48x1024 .f32) (x : Vec Ideal S80x1024 .f32)
    (i1 : ∀ a, (![32, 0] : Fin 2 → Nat) a + ![48, 1024] a ≤ S80x1024.size a) :
    M.view.read (Elt Ideal) (M.view.writes (Elt Ideal) (hM.unread (Val := Elt Ideal) x) [⟨Rect.unit (s := S80x1024) ![32, 0] ![48, 1024] i1, A⟩]) = uAll A (halo x) := by
  funext y
  obtain ⟨r, d, rfl⟩ : ∃ (r : Fin 80) (d : Fin 1024), y = (ix2 r d : S80x1024.Idx) := ⟨y 0, y 1, eq_ix2 y⟩
  show _ = uOf A (halo x) r.val d
  unfold uOf
  by_cases h : r.val < 32
  · rw [dif_pos h]
    refine (View.read_writes_cons_rows_of_not_mem M.view _ (o := 32) (W := 48) i1 A [] (ix2 r d) rfl rfl (Or.inl h)).trans ?_
    show M.view.read (Elt Ideal) (hM.unread x) (ix2 r d) = _
    rw [hM.read_unread]
    rfl
  · rw [dif_neg h, dif_pos (by omega)]
    exact View.read_writes_cons_rows_of_mem M.view _ (o := 32) i1 A [] (ix2 r d) (ix2 ⟨r.val - 32, by omega⟩ d) rfl (by show r.val = 32 + (r.val - 32); omega) rfl

theorem ld_u32 (A : Vec Ideal S48x1024 .f32) (B : Vec Ideal S32x1024 .f32) (o : ℕ) (inb : ∀ a, (![o, 0] : Fin 2 → Nat) a + ![32, 1024] a ≤ S80x1024.size a) :
    View.ld (uAll A B) (Rect.unit (s := S80x1024) ![o, 0] ![32, 1024] inb) = uBlk A B o := by
  funext j
  show uOf A B (o + 1 * (j 0).val) ⟨0 + 1 * (j 1).val, _⟩ = uOf A B ((j 0).val + o) (j 1)
  exact congrArg₂ (uOf A B) (by omega) (Fin.ext (by show 0 + 1 * (j 1).val = (j 1).val; omega))
theorem ld_u72 (A : Vec Ideal S48x1024 .f32) (B : Vec Ideal S32x1024 .f32) (o : ℕ) (inb : ∀ a, (![o, 0] : Fin 2 → Nat) a + ![72, 1024] a ≤ S80x1024.size a) :
    View.ld (uAll A B) (Rect.unit (s := S80x1024) ![o, 0] ![72, 1024] inb) = uCopy A B o := by
  funext j
  show uOf A B (o + 1 * (j 0).val) ⟨0 + 1 * (j 1).val, _⟩ = uOf A B ((j 0).val + o) (j 1)
  exact congrArg₂ (uOf A B) (by omega) (Fin.ext (by show 0 + 1 * (j 1).val = (j 1).val; omega))
theorem ld_u48 (A : Vec Ideal S48x1024 .f32) (B : Vec Ideal S32x1024 .f32) (o : ℕ) (inb : ∀ a, (![o, 0] : Fin 2 → Nat) a + ![48, 1024] a ≤ S80x1024.size a) :
    View.ld (uAll A B) (Rect.unit (s := S80x1024) ![o, 0] ![48, 1024] inb) = uRows A B o := by
  funext j
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A load of 32 of the joined rows. -/
theorem read_u32 (v : View sig .tc .vmem S80x1024 .f32) (A : Vec Ideal S48x1024 .f32) (B : Vec Ideal S32x1024 .f32) (o : ℕ)
    (i1 : ∀ a, (![32, 0] : Fin 2 → Nat) a + ![48, 1024] a ≤ S80x1024.size a) (i2 : ∀ a, (![0, 0] : Fin 2 → Nat) a + ![32, 1024] a ≤ S80x1024.size a)
    (inb : ∀ a, (![o, 0] : Fin 2 → Nat) a + ![32, 1024] a ≤ S80x1024.size a) :
    v.readCov (Val := Elt Ideal) [⟨Rect.unit ![32, 0] ![48, 1024] i1, A⟩, ⟨Rect.unit ![0, 0] ![32, 1024] i2, B⟩]
      (Rect.unit (s := S80x1024) ![o, 0] ![32, 1024] inb).toLoadRect = uBlk A B o := by
  rw [View.readCov_eq_canon']
  funext j
  rw [canon_u]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A load of 72 of the joined rows. -/
theorem read_u72 (v : View sig .tc .vmem S80x1024 .f32) (A : Vec Ideal S48x1024 .f32) (B : Vec Ideal S32x1024 .f32) (o : ℕ)
    (i1 : ∀ a, (![32, 0] : Fin 2 → Nat) a + ![48, 1024] a ≤ S80x1024.size a) (i2 : ∀ a, (![0, 0] : Fin 2 → Nat) a + ![32, 1024] a ≤ S80x1024.size a)
    (inb : ∀ a, (![o, 0] : Fin 2 → Nat) a + ![72, 1024] a ≤ S80x1024.size a) :
    v.readCov (Val := Elt Ideal) [⟨Rect.unit ![32, 0] ![48, 1024] i1, A⟩, ⟨Rect.unit ![0, 0] ![32, 1024] i2, B⟩]
      (Rect.unit (s := S80x1024) ![o, 0] ![72, 1024] inb).toLoadRect = uCopy A B o := by
  rw [View.readCov_eq_canon']
  funext j
  rw [canon_u]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A load of 48 of them. -/
theorem read_u48 (v : View sig .tc .vmem S80x1024 .f32) (A : Vec Ideal S48x1024 .f32) (B : Vec Ideal S32x1024 .f32) (o : ℕ)
    (i1 : ∀ a, (![32, 0] : Fin 2 → Nat) a + ![48, 1024] a ≤ S80x1024.size a) (i2 : ∀ a, (![0, 0] : Fin 2 → Nat) a + ![32, 1024] a ≤ S80x1024.size a)
    (inb : ∀ a, (![o, 0] : Fin 2 → Nat) a + ![48, 1024] a ≤ S80x1024.size a) :
    v.readCov (Val := Elt Ideal) [⟨Rect.unit ![32, 0] ![48, 1024] i1, A⟩, ⟨Rect.unit ![0, 0] ![32, 1024] i2, B⟩]
      (Rect.unit (s := S80x1024) ![o, 0] ![48, 1024] inb).toLoadRect = uRows A B o := by
  rw [View.readCov_eq_canon']
  funext j
  rw [canon_u]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A row of the point's own, read back from the piece that stored them. -/
theorem canon_own (A : Vec Ideal S48x1024 .f32) (B : Vec Ideal S32x1024 .f32) (i1 : ∀ a, (![32, 0] : Fin 2 → Nat) a + ![48, 1024] a ≤ S80x1024.size a)
    (y : S80x1024.Idx) (h : 32 ≤ (y 0).val) :
    View.canon (Val := Elt Ideal) (s := S80x1024) (e := .f32) [⟨Rect.unit (s := S80x1024) ![32, 0] ![48, 1024] i1, A⟩] y = uOf A B (y 0).val (y 1) := by
  obtain ⟨r, d, rfl⟩ : ∃ (r : Fin 80) (d : Fin 1024), y = (ix2 r d : S80x1024.Idx) := ⟨y 0, y 1, eq_ix2 y⟩
  have h' : 32 ≤ r.val := h
  show _ = uOf A B r.val d
  unfold uOf
  rw [dif_neg (by omega), dif_pos (by omega)]
  refine (congrArg _ (?_ : (ix2 r d : S80x1024.Idx) = (Rect.unit (s := S80x1024) ![32, 0] ![48, 1024] i1).emb (ix2 ⟨r.val - 32, by omega⟩ d : S48x1024.Idx))).trans
    (View.canon_cons_emb (Val := Elt Ideal) (e := .f32) (Rect.unit (s := S80x1024) ![32, 0] ![48, 1024] i1) A [] (ix2 ⟨r.val - 32, by omega⟩ d))
  funext a
  apply Fin.ext
  match a with
  | ⟨0, _⟩ => show r.val = 32 + 1 * (r.val - 32); omega
  | ⟨1, _⟩ => show d.val = 0 + 1 * d.val; omega

/-- A load of 48 of the point's own rows. -/
theorem own_48 (v : View sig .tc .vmem S80x1024 .f32) (A : Vec Ideal S48x1024 .f32) (B : Vec Ideal S32x1024 .f32) (o : ℕ) (h : 32 ≤ o)
    (i1 : ∀ a, (![32, 0] : Fin 2 → Nat) a + ![48, 1024] a ≤ S80x1024.size a) (inb : ∀ a, (![o, 0] : Fin 2 → Nat) a + ![48, 1024] a ≤ S80x1024.size a) :
    v.readCov (Val := Elt Ideal) [⟨Rect.unit ![32, 0] ![48, 1024] i1, A⟩] (Rect.unit (s := S80x1024) ![o, 0] ![48, 1024] inb).toLoadRect = uRows A B o := by
  rw [View.readCov_eq_canon']
  funext j
  rw [canon_own A B _ _ (by show 32 ≤ o + 1 * (j 0).val; omega)]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- A load of 32 of them. -/
theorem own_32 (v : View sig .tc .vmem S80x1024 .f32) (A : Vec Ideal S48x1024 .f32) (B : Vec Ideal S32x1024 .f32) (o : ℕ) (h : 32 ≤ o)
    (i1 : ∀ a, (![32, 0] : Fin 2 → Nat) a + ![48, 1024] a ≤ S80x1024.size a) (inb : ∀ a, (![o, 0] : Fin 2 → Nat) a + ![32, 1024] a ≤ S80x1024.size a) :
    v.readCov (Val := Elt Ideal) [⟨Rect.unit ![32, 0] ![48, 1024] i1, A⟩] (Rect.unit (s := S80x1024) ![o, 0] ![32, 1024] inb).toLoadRect = uBlk A B o := by
  rw [View.readCov_eq_canon']
  funext j
  rw [canon_own A B _ _ (by show 32 ≤ o + 1 * (j 0).val; omega)]
  show uOf A B (o + 1 * (j 0).val) ⟨0 + 1 * (j 1).val, _⟩ = uOf A B ((j 0).val + o) (j 1)
  exact congrArg₂ (uOf A B) (by omega) (Fin.ext (by show 0 + 1 * (j 1).val = (j 1).val; omega))

/-- What a shifted copy holds: the joined rows from row `o` on. -/
theorem copies (A : Vec Ideal S48x1024 .f32) (B : Vec Ideal S32x1024 .f32) (o : ℕ) (r : Fin 72) (d : Fin 1024) :
    k0_pay4 (F := Ideal) (uCopy A B o) (ix3 0 r d) = uOf A B (r.val + o) d := by
  pointwise [k0_pay4, uCopy]

/-- A piece of the copies at an element of it. -/
theorem copy_piece (A : Vec Ideal S48x1024 .f32) (B : Vec Ideal S32x1024 .f32) (s : ℕ)
    (inb : ∀ a, (![s, 0, 0] : Fin 3 → Nat) a + ![1, 72, 1024] a ≤ S7x80x1024.size a) (x : S1x72x1024.Idx) :
    k0_pay4 (F := Ideal) (uCopy A B (s + 1)) x
      = (fun y : S7x80x1024.Idx => uOf A B ((y 1).val + ((y 0).val + 1)) (y 2)) ((Rect.unit (s := S7x80x1024) ![s, 0, 0] ![1, 72, 1024] inb).emb x) := by
  obtain ⟨u, r, d, rfl⟩ : ∃ (u : Fin 1) (r : Fin 72) (d : Fin 1024), x = (ix3 u r d : S1x72x1024.Idx) := ⟨x 0, x 1, x 2, eq_ix3 x⟩
  obtain rfl := Fin.eq_zero u
  rw [copies]
  show _ = uOf A B ((0 + 1 * r.val) + ((s + 1 * 0) + 1)) ⟨0 + 1 * d.val, _⟩
  exact congrArg₂ (uOf A B) (by omega) (Fin.ext (by show d.val = 0 + 1 * d.val; omega))

/-- A load of 48 rows of a shifted copy. -/
theorem read_s (v : View sig .tc .vmem S7x80x1024 .f32) (A : Vec Ideal S48x1024 .f32) (B : Vec Ideal S32x1024 .f32) (s a : ℕ) (hs : s < 7) (ha : a + 48 ≤ 72)
    (i0 : ∀ a, (![0, 0, 0] : Fin 3 → Nat) a + ![1, 72, 1024] a ≤ S7x80x1024.size a) (i1 : ∀ a, (![1, 0, 0] : Fin 3 → Nat) a + ![1, 72, 1024] a ≤ S7x80x1024.size a)
    (i2 : ∀ a, (![2, 0, 0] : Fin 3 → Nat) a + ![1, 72, 1024] a ≤ S7x80x1024.size a) (i3 : ∀ a, (![3, 0, 0] : Fin 3 → Nat) a + ![1, 72, 1024] a ≤ S7x80x1024.size a)
    (i4 : ∀ a, (![4, 0, 0] : Fin 3 → Nat) a + ![1, 72, 1024] a ≤ S7x80x1024.size a) (i5 : ∀ a, (![5, 0, 0] : Fin 3 → Nat) a + ![1, 72, 1024] a ≤ S7x80x1024.size a)
    (i6 : ∀ a, (![6, 0, 0] : Fin 3 → Nat) a + ![1, 72, 1024] a ≤ S7x80x1024.size a)
    (inb : ∀ b, (![s, a, 0] : Fin 3 → Nat) b + ![1, 48, 1024] b ≤ S7x80x1024.size b) :
    v.readCov (Val := Elt Ideal) [⟨Rect.unit ![6, 0, 0] ![1, 72, 1024] i6, k0_pay10 (F := Ideal) (uCopy A B 7)⟩,
      ⟨Rect.unit ![5, 0, 0] ![1, 72, 1024] i5, k0_pay9 (F := Ideal) (uCopy A B 6)⟩, ⟨Rect.unit ![4, 0, 0] ![1, 72, 1024] i4, k0_pay8 (F := Ideal) (uCopy A B 5)⟩,
      ⟨Rect.unit ![3, 0, 0] ![1, 72, 1024] i3, k0_pay7 (F := Ideal) (uCopy A B 4)⟩, ⟨Rect.unit ![2, 0, 0] ![1, 72, 1024] i2, k0_pay6 (F := Ideal) (uCopy A B 3)⟩,
      ⟨Rect.unit ![1, 0, 0] ![1, 72, 1024] i1, k0_pay5 (F := Ideal) (uCopy A B 2)⟩, ⟨Rect.unit ![0, 0, 0] ![1, 72, 1024] i0, k0_pay4 (F := Ideal) (uCopy A B 1)⟩]
      (Rect.unit (s := S7x80x1024) ![s, a, 0] ![1, 48, 1024] inb).toLoadRect = sRows A B (a + (s + 1)) := by
  rw [View.readCov_eq_canon']
  funext j
  obtain ⟨u, r, d, rfl⟩ : ∃ (u : Fin 1) (r : Fin 48) (d : Fin 1024), j = (ix3 u r d : S1x48x1024.Idx) := ⟨j 0, j 1, j 2, eq_ix3 j⟩
  obtain rfl := Fin.eq_zero u
  refine (View.canon_apply_of_pieces (Val := Elt Ideal) (e := .f32) (fun y : S7x80x1024.Idx => uOf A B ((y 1).val + ((y 0).val + 1)) (y 2)) _ ?_ _ ?_).trans ?_
  · intro p hp
    simp only [List.mem_cons, List.not_mem_nil, or_false] at hp
    rcases hp with rfl | rfl | rfl | rfl | rfl | rfl | rfl
    · exact copy_piece A B 6 i6
    · exact copy_piece A B 5 i5
    · exact copy_piece A B 4 i4
    · exact copy_piece A B 3 i3
    · exact copy_piece A B 2 i2
    · exact copy_piece A B 1 i1
    · exact copy_piece A B 0 i0
  · have hm (s' : ℕ) (hs' : s = s') (inb' : ∀ a, (![s', 0, 0] : Fin 3 → Nat) a + ![1, 72, 1024] a ≤ S7x80x1024.size a) :
        (Rect.unit (s := S7x80x1024) ![s, a, 0] ![1, 48, 1024] inb).toLoadRect.idx (ix3 0 r d) ∈ (Rect.unit (s := S7x80x1024) ![s', 0, 0] ![1, 72, 1024] inb').set := by
      rw [Rect.mem_set_unit]
      intro b
      match b with
      | ⟨0, _⟩ => show s' ≤ s + 1 * 0 ∧ s + 1 * 0 < s' + 1; omega
      | ⟨1, _⟩ => show 0 ≤ a + 1 * r.val ∧ a + 1 * r.val < 0 + 72; omega
      | ⟨2, _⟩ => show 0 ≤ 0 + 1 * d.val ∧ 0 + 1 * d.val < 0 + 1024; omega
    have hs' : s = 6 ∨ s = 5 ∨ s = 4 ∨ s = 3 ∨ s = 2 ∨ s = 1 ∨ s = 0 := by omega
    rcases hs' with h | h | h | h | h | h | h
    · exact ⟨_, .head _, hm 6 h i6⟩
    · exact ⟨_, .tail _ (.head _), hm 5 h i5⟩
    · exact ⟨_, .tail _ (.tail _ (.head _)), hm 4 h i4⟩
    · exact ⟨_, .tail _ (.tail _ (.tail _ (.head _))), hm 3 h i3⟩
    · exact ⟨_, .tail _ (.tail _ (.tail _ (.tail _ (.head _)))), hm 2 h i2⟩
    · exact ⟨_, .tail _ (.tail _ (.tail _ (.tail _ (.tail _ (.head _))))), hm 1 h i1⟩
    · exact ⟨_, .tail _ (.tail _ (.tail _ (.tail _ (.tail _ (.tail _ (.head _)))))), hm 0 h i0⟩
  · show uOf A B ((a + 1 * r.val) + ((s + 1 * 0) + 1)) ⟨0 + 1 * d.val, _⟩ = uOf A B (r.val + (a + (s + 1))) d
    exact congrArg₂ (uOf A B) (by omega) (Fin.ext (by show 0 + 1 * d.val = d.val; omega))

/-- Row `k` of the weights' block, as a block of one row; zero past it. -/
def tapRow (x : Vec Ideal S32x1024 .f32) (k : ℕ) : Vec Ideal S1x1024 .f32 :=
  fun j => if h : k < 32 then x (ix2 ⟨k, h⟩ (j 1)) else 0

theorem ld_tap (x : Vec Ideal S32x1024 .f32) (k : ℕ) (inb : ∀ a, (![k, 0] : Fin 2 → Nat) a + ![1, 1024] a ≤ S32x1024.size a) :
    View.ld x (Rect.unit (s := S32x1024) ![k, 0] ![1, 1024] inb) = tapRow x k := by
  funext j
  have h : k < 32 := by have : k + 1 ≤ 32 := inb 0; omega
  obtain ⟨u, d, rfl⟩ : ∃ (u : Fin 1) (d : Fin 1024), j = (ix2 u d : S1x1024.Idx) := ⟨j 0, j 1, eq_ix2 j⟩
  obtain rfl := Fin.eq_zero u
  refine Eq.trans ?_ (dif_pos h).symm
  show x _ = x _
  refine congrArg x (funext fun a => Fin.ext ?_)
  match a with
  | ⟨0, _⟩ => show k + 1 * 0 = k; omega
  | ⟨1, _⟩ => show 0 + 1 * d.val = d.val; omega

theorem ld_vec (x : Vec Ideal S1x1024 .f32) (inb : ∀ a, (![0, 0] : Fin 2 → Nat) a + ![1, 1024] a ≤ S1x1024.size a) :
    View.ld x (Rect.unit (s := S1x1024) ![0, 0] ![1, 1024] inb) = x := View.ld_unit_zero hz2 inb x

/-- Row `r` of a point's block after the convolution. -/
def accOf (A : Vec Ideal S48x1024 .f32) (B : Vec Ideal S32x1024 .f32) (x3 : Vec Ideal S32x1024 .f32) (x4 : Vec Ideal S1x1024 .f32) (r : Fin 48) (d : Fin 1024) : EReal :=
  conv (fun k => uOf A B (k + 2) d) (fun k => x3 (ix2 ⟨k.val, by omega⟩ d)) (x4 (ix2 0 d)) r.val

/-- What a point stores of its rows. -/
def outRows (A : Vec Ideal S48x1024 .f32) (B : Vec Ideal S32x1024 .f32) (x3 : Vec Ideal S32x1024 .f32) (x4 x5 x6 : Vec Ideal S1x1024 .f32) (y : S48x1024.Idx) : EReal :=
  act (normed (accOf A B x3 x4 (y 0)) (fun d => x5 (ix2 0 d)) (fun d => x6 (ix2 0 d)) (y 1))

theorem ld_rows (x : Vec Ideal S48x1024 .f32) (inb : ∀ a, (![0, 0] : Fin 2 → Nat) a + ![48, 1024] a ≤ S48x1024.size a) :
    View.ld x (Rect.unit (s := S48x1024) ![0, 0] ![48, 1024] inb) = x := View.ld_unit_zero hz2 inb x
theorem ld_halo (x : Vec Ideal S1x32x1024 .f32) (inb : ∀ a, (![0, 0, 0] : Fin 3 → Nat) a + ![1, 32, 1024] a ≤ S1x32x1024.size a) :
    View.ld x (Rect.unit (s := S1x32x1024) ![0, 0, 0] ![1, 32, 1024] inb) = x := View.ld_unit_zero hz3 inb x

/-- The first rows of the scratch after the new halo is stored over its first 32 rows. -/
theorem canon_halo (H : Vec Ideal S32x1024 .f32) (i1 : ∀ a, (![0, 0] : Fin 2 → Nat) a + ![32, 1024] a ≤ S80x1024.size a)
    (L : List (View.Piece (Elt Ideal) S80x1024 .f32)) (r : Fin 32) (d : Fin 1024) :
    View.canon (Val := Elt Ideal) (s := S80x1024) (e := .f32) (⟨Rect.unit (s := S80x1024) ![0, 0] ![32, 1024] i1, H⟩ :: L) (ix2 ⟨r.val, by omega⟩ d) = H (ix2 r d) := by
  refine (congrArg _ (?_ : (ix2 ⟨r.val, by omega⟩ d : S80x1024.Idx) = (Rect.unit (s := S80x1024) ![0, 0] ![32, 1024] i1).emb (ix2 r d : S32x1024.Idx))).trans
    (View.canon_cons_emb (Val := Elt Ideal) (e := .f32) (Rect.unit (s := S80x1024) ![0, 0] ![32, 1024] i1) H L (ix2 r d))
  funext a
  apply Fin.ext
  match a with
  | ⟨0, _⟩ => show r.val = 0 + 1 * r.val; omega
  | ⟨1, _⟩ => show d.val = 0 + 1 * d.val; omega

/-- What a first point of a prompt leaves in its block of the buffers. -/
theorem out8_first (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32) :
    out0_A_8 c i arg2 harg2 arg3 harg3 arg4 harg4 arg5 harg5 arg6 harg6 arg7 harg7 arg8 harg8 arg10 harg10 arg11 harg11 arg12 harg12 arg13 harg13 hc0 x0 x1 x2 x3 x4 x5 x6 = fun y => uOf (k0_pay3 (F := Ideal) x0 x1) (k0_pay2 (F := Ideal) x2) ((y 1).val + 48) (y 2) := by
  unfold out0_A_8
  rw [View.read_writes_eq_canon _ _ _ (cover0_A_8 c i arg2 harg2 arg3 harg3 arg4 harg4 arg5 harg5 arg6 harg6 arg7 harg7 arg8 harg8 arg10 harg10 arg11 harg11 arg12 harg12 arg13 harg13 hc0 x0 x1 x2 x3 x4 x5 x6)]
  unfold kernelRun0_A
  dsimp only
  sl_unfold_words
  simp only [View.readAt_eq_ld, Memref.IsWhole.read_unread, ld_rows, ld_halo, read_u32]
  rw [View.canon_unit_zero hz3]
  funext y
  obtain ⟨u, r, d, rfl⟩ : ∃ (u : Fin 1) (r : Fin 32) (d : Fin 1024), y = (ix3 u r d : S1x32x1024.Idx) := ⟨y 0, y 1, y 2, eq_ix3 y⟩
  obtain rfl := Fin.eq_zero u
  pointwise [k0_pay1, uBlk]

/-- What a first point of a prompt leaves in the first rows of the scratch. -/
theorem scr_first (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32)  (r : Fin 32) (d : Fin 1024) :
    sout0_A_0 c i arg2 harg2 arg3 harg3 arg4 harg4 arg5 harg5 arg6 harg6 arg7 harg7 arg8 harg8 arg10 harg10 arg11 harg11 arg12 harg12 arg13 harg13 hc0 x0 x1 x2 x3 x4 x5 x6 (ix2 ⟨r.val, by omega⟩ d) = uOf (k0_pay3 (F := Ideal) x0 x1) (k0_pay2 (F := Ideal) x2) (r.val + 48) d := by
  unfold sout0_A_0
  rw [View.read_writes_eq_canon _ _ _ (scover0_A_0 c i arg2 harg2 arg3 harg3 arg4 harg4 arg5 harg5 arg6 harg6 arg7 harg7 arg8 harg8 arg10 harg10 arg11 harg11 arg12 harg12 arg13 harg13 hc0 x0 x1 x2 x3 x4 x5 x6)]
  unfold kernelRun0_A
  dsimp only
  sl_unfold_words
  simp only [View.readAt_eq_ld, Memref.IsWhole.read_unread, ld_rows, ld_halo, read_u32]
  refine (canon_halo _ _ _ r d).trans ?_
  pointwise [k0_pay23, uBlk]

/-- The rows a point stores, of the sums it has taken. -/
theorem tail_apply (v227 v229 : FVec Ideal S48x1024 .f32) (v230 : Vec Ideal S1x1024 .f32) (v235 : Vec Ideal S1x48x1024 .f32) (v237 : Vec Ideal S1x1024 .f32) (v242 : Vec Ideal S1x48x1024 .f32) (v244 : Vec Ideal S1x1024 .f32) (v249 : Vec Ideal S1x48x1024 .f32) (v251 : Vec Ideal S1x1024 .f32) (v256 : Vec Ideal S48x1024 .f32) (v257 : Vec Ideal S1x1024 .f32)
    (x5 x6 : Vec Ideal S1x1024 .f32) (r : Fin 48) (d : Fin 1024) :
    k0_pay22 (F := Ideal) (k0_pay20 v227 v229 v230 v235 v237 v242 v244 v249 v251 v256 v257) (k0_pay21 v227 v229 v230 v235 v237 v242 v244 v249 v251 v256 v257) x5 x6 (ix2 r d)
      = act (normed (fun d => k0_pay20 (F := Ideal) v227 v229 v230 v235 v237 v242 v244 v249 v251 v256 v257 (ix2 r d)) (fun d => x5 (ix2 0 d)) (fun d => x6 (ix2 0 d)) d) := by
  unfold k0_pay21
  generalize k0_pay20 (F := Ideal) v227 v229 v230 v235 v237 v242 v244 v249 v251 v256 v257 = a
  pointwise [k0_pay22]
  unfold act normed mean
  simp only [zero_sub]

set_option maxHeartbeats 4000000 in
/-- What a first point of a prompt leaves in its block of rows. -/
theorem out7_first (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32) :
    out0_A_7 c i arg2 harg2 arg3 harg3 arg4 harg4 arg5 harg5 arg6 harg6 arg7 harg7 arg8 harg8 arg10 harg10 arg11 harg11 arg12 harg12 arg13 harg13 hc0 x0 x1 x2 x3 x4 x5 x6 = outRows (k0_pay3 (F := Ideal) x0 x1) (k0_pay2 (F := Ideal) x2) x3 x4 x5 x6 := by
  unfold out0_A_7
  rw [View.read_writes_eq_canon _ _ _ (cover0_A_7 c i arg2 harg2 arg3 harg3 arg4 harg4 arg5 harg5 arg6 harg6 arg7 harg7 arg8 harg8 arg10 harg10 arg11 harg11 arg12 harg12 arg13 harg13 hc0 x0 x1 x2 x3 x4 x5 x6)]
  unfold kernelRun0_A
  dsimp only
  sl_unfold_words
  simp only [View.readAt_eq_ld, Memref.IsWhole.read_unread, ld_rows, ld_halo, ld_vec, ld_tap, read_u72, read_u48,
    read_s, Nat.reduceAdd, Nat.reduceLeDiff, Nat.reduceLT]
  rw [View.canon_unit_zero hz2]
  funext y
  obtain ⟨r, d, rfl⟩ : ∃ (r : Fin 48) (d : Fin 1024), y = (ix2 r d : S48x1024.Idx) := ⟨y 0, y 1, eq_ix2 y⟩
  rw [tail_apply]
  refine congrArg (fun a => act (normed a _ _ d)) (funext fun d => ?_)
  show _ = accOf (k0_pay3 (F := Ideal) x0 x1) (k0_pay2 (F := Ideal) x2) x3 x4 r d
  unfold accOf
  rw [← conv_chain]
  simp only [chain]
  pointwise [k0_pay11, k0_pay12, k0_pay13, k0_pay14, k0_pay15, k0_pay16, k0_pay17, k0_pay18, k0_pay19, k0_pay20, uRows, sRows, tapRow]
  rfl

/-- What a later point leaves in its block of the buffers. -/
theorem out8_later (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : ¬cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32) (xs0 : Vec Ideal S80x1024 .f32) :
    out0_B_8 c i arg2 harg2 arg3 harg3 arg4 harg4 arg5 harg5 arg6 harg6 arg7 harg7 arg8 harg8 arg10 harg10 arg11 harg11 arg12 harg12 arg13 harg13 hc0 x0 x1 x2 x3 x4 x5 x6 xs0 = fun y => uOf (k0_pay3 (F := Ideal) x0 x1) (halo xs0) ((y 1).val + 48) (y 2) := by
  unfold out0_B_8
  rw [View.read_writes_eq_canon _ _ _ (cover0_B_8 c i arg2 harg2 arg3 harg3 arg4 harg4 arg5 harg5 arg6 harg6 arg7 harg7 arg8 harg8 arg10 harg10 arg11 harg11 arg12 harg12 arg13 harg13 hc0 x0 x1 x2 x3 x4 x5 x6 xs0)]
  unfold kernelRun0_B
  dsimp only
  sl_unfold_words
  simp only [View.readAt_eq_ld, Memref.IsWhole.read_unread, ld_rows, ld_halo, read_b, ld_u32, ld_u48, ld_u72, own_32 _ _ (halo xs0), own_48 _ _ (halo xs0), Nat.reduceLeDiff, read_u32]
  rw [View.canon_unit_zero hz3]
  funext y
  obtain ⟨u, r, d, rfl⟩ : ∃ (u : Fin 1) (r : Fin 32) (d : Fin 1024), y = (ix3 u r d : S1x32x1024.Idx) := ⟨y 0, y 1, y 2, eq_ix3 y⟩
  obtain rfl := Fin.eq_zero u
  pointwise [k0_pay1, uBlk]

/-- What a later point leaves in the first rows of the scratch. -/
theorem scr_later (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : ¬cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32) (xs0 : Vec Ideal S80x1024 .f32)  (r : Fin 32) (d : Fin 1024) :
    sout0_B_0 c i arg2 harg2 arg3 harg3 arg4 harg4 arg5 harg5 arg6 harg6 arg7 harg7 arg8 harg8 arg10 harg10 arg11 harg11 arg12 harg12 arg13 harg13 hc0 x0 x1 x2 x3 x4 x5 x6 xs0 (ix2 ⟨r.val, by omega⟩ d) = uOf (k0_pay3 (F := Ideal) x0 x1) (halo xs0) (r.val + 48) d := by
  unfold sout0_B_0
  rw [View.read_writes_eq_canon _ _ _ (scover0_B_0 c i arg2 harg2 arg3 harg3 arg4 harg4 arg5 harg5 arg6 harg6 arg7 harg7 arg8 harg8 arg10 harg10 arg11 harg11 arg12 harg12 arg13 harg13 hc0 x0 x1 x2 x3 x4 x5 x6 xs0)]
  unfold kernelRun0_B
  dsimp only
  sl_unfold_words
  simp only [View.readAt_eq_ld, Memref.IsWhole.read_unread, ld_rows, ld_halo, read_b, ld_u32, ld_u48, ld_u72, own_32 _ _ (halo xs0), own_48 _ _ (halo xs0), Nat.reduceLeDiff, read_u32]
  refine (canon_halo _ _ _ r d).trans ?_
  pointwise [k0_pay23, uBlk]

set_option maxHeartbeats 4000000 in
/-- What a later point leaves in its block of rows. -/
theorem out7_later (c : Dev nD) (i : grid0.Coords) (arg2 : Memref sig .tc .vmem S48x1024 .f32) (harg2 : arg2.IsWhole) (arg3 : Memref sig .tc .vmem S48x1024 .f32) (harg3 : arg3.IsWhole) (arg4 : Memref sig .tc .vmem S1x32x1024 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg10 : Memref sig .tc .vmem S48x1024 .bf16) (harg10 : arg10.IsWhole) (arg11 : Memref sig .tc .vmem S1x32x1024 .f32) (harg11 : arg11.IsWhole) (arg12 : Memref sig .tc .vmem S80x1024 .f32) (harg12 : arg12.IsWhole) (arg13 : Memref sig .tc .vmem S7x80x1024 .f32) (harg13 : arg13.IsWhole) (hc0 : ¬cond0_0 i)
    (x0 : Vec Ideal S48x1024 .f32) (x1 : Vec Ideal S48x1024 .f32) (x2 : Vec Ideal S1x32x1024 .f32) (x3 : Vec Ideal S32x1024 .f32) (x4 : Vec Ideal S1x1024 .f32) (x5 : Vec Ideal S1x1024 .f32) (x6 : Vec Ideal S1x1024 .f32) (xs0 : Vec Ideal S80x1024 .f32) :
    out0_B_7 c i arg2 harg2 arg3 harg3 arg4 harg4 arg5 harg5 arg6 harg6 arg7 harg7 arg8 harg8 arg10 harg10 arg11 harg11 arg12 harg12 arg13 harg13 hc0 x0 x1 x2 x3 x4 x5 x6 xs0 = outRows (k0_pay3 (F := Ideal) x0 x1) (halo xs0) x3 x4 x5 x6 := by
  unfold out0_B_7
  rw [View.read_writes_eq_canon _ _ _ (cover0_B_7 c i arg2 harg2 arg3 harg3 arg4 harg4 arg5 harg5 arg6 harg6 arg7 harg7 arg8 harg8 arg10 harg10 arg11 harg11 arg12 harg12 arg13 harg13 hc0 x0 x1 x2 x3 x4 x5 x6 xs0)]
  unfold kernelRun0_B
  dsimp only
  sl_unfold_words
  simp only [View.readAt_eq_ld, Memref.IsWhole.read_unread, ld_rows, ld_halo, read_b, ld_u32, ld_u48, ld_u72, own_32 _ _ (halo xs0), own_48 _ _ (halo xs0), Nat.reduceLeDiff, ld_vec, ld_tap, read_u72, read_u48,
    read_s, Nat.reduceAdd, Nat.reduceLeDiff, Nat.reduceLT]
  rw [View.canon_unit_zero hz2]
  funext y
  obtain ⟨r, d, rfl⟩ : ∃ (r : Fin 48) (d : Fin 1024), y = (ix2 r d : S48x1024.Idx) := ⟨y 0, y 1, eq_ix2 y⟩
  rw [tail_apply]
  refine congrArg (fun a => act (normed a _ _ d)) (funext fun d => ?_)
  show _ = accOf (k0_pay3 (F := Ideal) x0 x1) (halo xs0) x3 x4 r d
  unfold accOf
  rw [← conv_chain]
  simp only [chain]
  pointwise [k0_pay11, k0_pay12, k0_pay13, k0_pay14, k0_pay15, k0_pay16, k0_pay17, k0_pay18, k0_pay19, k0_pay20, uRows, sRows, tapRow]
  rfl

end Cert.ConvPIdeal.Read
-- ==== Proof.ConvPValue.lean ====
/- What the call of the prompts' causal convolution leaves. -/
module

public import proofs.«01_k».proof.Proof.Gen.ConvPIdeal.Value
public import proofs.«01_k».proof.Proof.ConvPRef
public import Idealize.ShloMosaic.Lib.KernelVsHost
public import proofs.«01_k».proof.Proof.ConvPBody
public import Idealize.ShloMosaic.Lib.Pointwise

@[expose] public section

set_option maxRecDepth 16384

noncomputable section

namespace Cert.ConvPIdeal.Read

open Cert.ConvPIdeal Cert.ConvPIdeal.Gen Idealize.ShloMosaic Idealize.ShloMosaic.TcCoe Idealize.SL.Sem
open Cert.Conv Cert.ConvPIdeal.Value

variable (m : (ℓ : Loc nD τ sig) → Buf (Elt Ideal) ℓ) (ρ : Dev nD → PrngReg)

/-- Where the blocks of a point start. -/
theorem starts (t : Fin cfg0.N) : (win0_0.rect t).off = ![t.val * 48, 3072]
    ∧ (win0_1.rect t).off = ![t.val * 48, 4096]
    ∧ (win0_2.rect t).off = ![t.val / 43, 0, 0]
    ∧ (win0_3.rect t).off = ![0, 0]
    ∧ (win0_4.rect t).off = ![0, 0]
    ∧ (win0_5.rect t).off = ![0, 0]
    ∧ (win0_6.rect t).off = ![0, 0]
    ∧ (win0_7.rect t).off = ![t.val * 48, 0]
    ∧ (win0_8.rect t).off = ![t.val / 43, 0, 0] :=
  (by decide +kernel : ∀ t : Fin grid0.N, (win0_0.rect t).off = ![t.val * 48, 3072]
    ∧ (win0_1.rect t).off = ![t.val * 48, 4096]
    ∧ (win0_2.rect t).off = ![t.val / 43, 0, 0]
    ∧ (win0_3.rect t).off = ![0, 0]
    ∧ (win0_4.rect t).off = ![0, 0]
    ∧ (win0_5.rect t).off = ![0, 0]
    ∧ (win0_6.rect t).off = ![0, 0]
    ∧ (win0_7.rect t).off = ![t.val * 48, 0]
    ∧ (win0_8.rect t).off = ![t.val / 43, 0, 0]) t

/-- The block of values, element by element. -/
theorem blk_val (c : Dev nD) (t : Fin cfg0.N) (r : Fin 48) (d : Fin 1024) :
    (iblk m c 0 t : Vec Ideal S48x1024 .f32) (ix2 r d)
      = m ((c : Thread nD τ).loc main_arg0) (ix2 ⟨t.val * 48 + r.val, by have : t.val < 172 := t.isLt; omega⟩ ⟨3072 + d.val, by omega⟩) := by
  unfold iblk
  rw [View.read_apply]
  show V m c main_arg0 _ = _
  have h := (starts t).1
  rw [V_main_arg0, show ((cfg0.win 0).blk t).view.emb (ix2 r d) = (ix2 ⟨t.val * 48 + r.val, by have : t.val < 172 := t.isLt; omega⟩ ⟨3072 + d.val, by omega⟩ : S8448x5120.Idx) from by
    funext a
    apply Fin.ext
    match a with
    | ⟨0, _⟩ => show (win0_0.rect t).off 0 + 1 * r.val = t.val * 48 + r.val; rw [h]; show t.val * 48 + 1 * r.val = t.val * 48 + r.val; omega
    | ⟨1, _⟩ => show (win0_0.rect t).off 1 + 1 * d.val = 3072 + d.val; rw [h]; show 3072 + 1 * d.val = 3072 + d.val; omega]

/-- The block of gates, element by element. -/
theorem blk_gate (c : Dev nD) (t : Fin cfg0.N) (r : Fin 48) (d : Fin 1024) :
    (iblk m c 1 t : Vec Ideal S48x1024 .f32) (ix2 r d)
      = m ((c : Thread nD τ).loc main_arg0) (ix2 ⟨t.val * 48 + r.val, by have : t.val < 172 := t.isLt; omega⟩ ⟨4096 + d.val, by omega⟩) := by
  unfold iblk
  rw [View.read_apply]
  show V m c main_arg0 _ = _
  have h := (starts t).2.1
  rw [V_main_arg0, show ((cfg0.win 1).blk t).view.emb (ix2 r d) = (ix2 ⟨t.val * 48 + r.val, by have : t.val < 172 := t.isLt; omega⟩ ⟨4096 + d.val, by omega⟩ : S8448x5120.Idx) from by
    funext a
    apply Fin.ext
    match a with
    | ⟨0, _⟩ => show (win0_1.rect t).off 0 + 1 * r.val = t.val * 48 + r.val; rw [h]; show t.val * 48 + 1 * r.val = t.val * 48 + r.val; omega
    | ⟨1, _⟩ => show (win0_1.rect t).off 1 + 1 * d.val = 4096 + d.val; rw [h]; show 4096 + 1 * d.val = 4096 + d.val; omega]

/-- The block of the rows before a prompt: zeros. -/
theorem blk_old (c : Dev nD) (t : Fin cfg0.N) : (iblk m c 2 t : Vec Ideal S1x32x1024 .f32) = fun _ => (0 : EReal) := by
  funext y
  unfold iblk
  rw [View.read_apply]
  show V m c main_v4 _ = _
  have e : V m c main_v4 = broadcastInDim S4x32x1024 ![] bcast_S_S4x32x1024 (constant (F := Ideal) S_ .f32 0x00000000#32) := by
    show StableHlo.after [_, _, _, _, _, _, _, _, _, _, _] _ _ = _
    after_results <;> rfl
  rw [e]
  exact Ideal.ofBits_zero_f32

/-- The block of the convolution's weights, element by element. -/
theorem blk_w (c : Dev nD) (t : Fin cfg0.N) (k : Fin 31) (d : Fin 1024) :
    (iblk m c 3 t : Vec Ideal S32x1024 .f32) (ix2 ⟨k.val, by omega⟩ d) = m ((c : Thread nD τ).loc main_arg1) (ix2 k d) := by
  unfold iblk
  rw [View.read_apply]
  show V m c main_v0 _ = _
  have e : V m c main_v0 = pad S32x1024 ![0, 0] ![1, 0] ![0, 0] (m ((c : Thread nD τ).loc main_arg1) : FVec Ideal S31x1024 .f32)
      (sitofp (F := Ideal) .f32 (constantI S_ 32 0#32)) pads_S31x1024_S32x1024_010_000 h_S_ := by
    show StableHlo.after [_, _, _, _, _, _, _, _, _, _, _] _ _ = _
    after_results <;> rfl
  have h := (starts t).2.2.2.1
  rw [e, show ((cfg0.win 3).blk t).view.emb (ix2 ⟨k.val, by omega⟩ d) = (ix2 ⟨k.val, by omega⟩ d : S32x1024.Idx) from by
    funext a
    apply Fin.ext
    match a with
    | ⟨0, _⟩ => show (win0_3.rect t).off 0 + 1 * k.val = k.val; rw [h]; show 0 + 1 * k.val = k.val; omega
    | ⟨1, _⟩ => show (win0_3.rect t).off 1 + 1 * d.val = d.val; rw [h]; show 0 + 1 * d.val = d.val; omega]
  refine pad_apply_of_inside _ _ _ _ _ _ _ _ (ix2 k d) fun a => ?_
  match a with
  | ⟨0, _⟩ => show k.val = 0 + k.val * 1; omega
  | ⟨1, _⟩ => show d.val = 0 + d.val * 1; omega

/-- The convolution's bias, element by element. -/
theorem blk_bias (c : Dev nD) (t : Fin cfg0.N) (d : Fin 1024) :
    (iblk m c 4 t : Vec Ideal S1x1024 .f32) (ix2 0 d) = m ((c : Thread nD τ).loc main_arg2) (ix1 d) := by
  unfold iblk
  rw [View.read_apply]
  show V m c main_v1 _ = _
  have e : V m c main_v1 = shapeCast S1x1024 (m ((c : Thread nD τ).loc main_arg2)) shapeCasts_S1024_S1x1024 := by
    show StableHlo.after [_, _, _, _, _, _, _, _, _, _, _] _ _ = _
    after_results <;> rfl
  have h := (starts t).2.2.2.2.1
  rw [e, show ((cfg0.win 4).blk t).view.emb (ix2 0 d) = (ix2 0 d : S1x1024.Idx) from by
    funext a
    apply Fin.ext
    match a with
    | ⟨0, _⟩ => show (win0_4.rect t).off 0 + 1 * 0 = 0; rw [h]; show 0 + 1 * 0 = 0; omega
    | ⟨1, _⟩ => show (win0_4.rect t).off 1 + 1 * d.val = d.val; rw [h]; show 0 + 1 * d.val = d.val; omega]
  pointwise

/-- The norm's gain, element by element. -/
theorem blk_gain (c : Dev nD) (t : Fin cfg0.N) (d : Fin 1024) :
    (iblk m c 5 t : Vec Ideal S1x1024 .f32) (ix2 0 d) = m ((c : Thread nD τ).loc main_arg3) (ix1 d) := by
  unfold iblk
  rw [View.read_apply]
  show V m c main_v2 _ = _
  have e : V m c main_v2 = shapeCast S1x1024 (m ((c : Thread nD τ).loc main_arg3)) shapeCasts_S1024_S1x1024 := by
    show StableHlo.after [_, _, _, _, _, _, _, _, _, _, _] _ _ = _
    after_results <;> rfl
  have h := (starts t).2.2.2.2.2.1
  rw [e, show ((cfg0.win 5).blk t).view.emb (ix2 0 d) = (ix2 0 d : S1x1024.Idx) from by
    funext a
    apply Fin.ext
    match a with
    | ⟨0, _⟩ => show (win0_5.rect t).off 0 + 1 * 0 = 0; rw [h]; show 0 + 1 * 0 = 0; omega
    | ⟨1, _⟩ => show (win0_5.rect t).off 1 + 1 * d.val = d.val; rw [h]; show 0 + 1 * d.val = d.val; omega]
  pointwise

/-- The norm's shift, element by element. -/
theorem blk_shift (c : Dev nD) (t : Fin cfg0.N) (d : Fin 1024) :
    (iblk m c 6 t : Vec Ideal S1x1024 .f32) (ix2 0 d) = m ((c : Thread nD τ).loc main_arg4) (ix1 d) := by
  unfold iblk
  rw [View.read_apply]
  show V m c main_v3 _ = _
  have e : V m c main_v3 = shapeCast S1x1024 (m ((c : Thread nD τ).loc main_arg4)) shapeCasts_S1024_S1x1024 := by
    show StableHlo.after [_, _, _, _, _, _, _, _, _, _, _] _ _ = _
    after_results <;> rfl
  have h := (starts t).2.2.2.2.2.2.1
  rw [e, show ((cfg0.win 6).blk t).view.emb (ix2 0 d) = (ix2 0 d : S1x1024.Idx) from by
    funext a
    apply Fin.ext
    match a with
    | ⟨0, _⟩ => show (win0_6.rect t).off 0 + 1 * 0 = 0; rw [h]; show 0 + 1 * 0 = 0; omega
    | ⟨1, _⟩ => show (win0_6.rect t).off 1 + 1 * d.val = d.val; rw [h]; show 0 + 1 * d.val = d.val; omega]
  pointwise

open Cert.ConvPRefIdeal.Read (gated convAt rowAt GRows GBuf)

/-- The 32 rows before those of a point: the prompt's first point takes zeros, the others what the point before left. -/
def oldRows (c : Dev nD) (t : Fin cfg0.N) : Vec Ideal S32x1024 .f32 :=
  if t.val % 43 = 0 then k0_pay2 (F := Ideal) (iblk m c 2 t)
  else halo (outsAt0 m c (t.val - 1) (Nat.lt_of_le_of_lt (Nat.sub_le _ _) t.isLt)).2.2

/-- What a point leaves in the first rows of the scratch: its last 32 joined rows. -/
theorem scr (c : Dev nD) (t : Fin cfg0.N) (r : Fin 32) (d : Fin 1024) :
    (outsAt0 m c t.val t.isLt).2.2 (ix2 ⟨r.val, by omega⟩ d) = uOf (k0_pay3 (F := Ideal) (iblk m c 0 t) (iblk m c 1 t)) (oldRows m c t) (r.val + 48) d := by
  unfold oldRows
  by_cases h : t.val % 43 = 0
  · rw [if_pos h, outsAt0_A m c t h]
    dsimp only
    rw [scr_first]
  · rw [if_neg h, outsAt0_B m c t h]
    dsimp only
    rw [scr_later]

/-- The prompt of a point. -/
abbrev promptOf (t : Fin cfg0.N) : Fin 4 := ⟨t.val / 43, by have : t.val < 172 := t.isLt; omega⟩

/-- A point's own rows are its prompt's gated rows. -/
theorem own_blk (c : Dev nD) (t : Fin cfg0.N) (r : Fin 48) (d : Fin 1024) :
    (k0_pay3 (F := Ideal) (iblk m c 0 t) (iblk m c 1 t)) (ix2 r d) = gated (m ((c : Thread nD τ).loc main_arg0)) (promptOf t) d (48 * (t.val % 43) + (32 + r.val)) := by
  have ht : t.val < 172 := t.isLt
  unfold gated
  rw [dif_pos (by omega)]
  have e : (⟨(promptOf t).val * 2064 + (48 * (t.val % 43) + (32 + r.val) - 32), by show t.val / 43 * 2064 + (48 * (t.val % 43) + (32 + r.val) - 32) < 8448; omega⟩ : Fin 8448)
      = ⟨t.val * 48 + r.val, by omega⟩ := Fin.ext (by show t.val / 43 * 2064 + (48 * (t.val % 43) + (32 + r.val) - 32) = t.val * 48 + r.val; omega)
  rw [e, ← blk_val m c t r d, ← blk_gate m c t r d]
  generalize (iblk m c 0 t : Vec Ideal S48x1024 .f32) = x
  generalize (iblk m c 1 t : Vec Ideal S48x1024 .f32) = y
  pointwise [k0_pay3]
  simp only [zero_sub]

/-- The rows a point joins, given what the point before left. -/
theorem joined_step (c : Dev nD) (t : Fin cfg0.N) (k : ℕ) (hk : k < 80) (d : Fin 1024)
    (hs : ¬t.val % 43 = 0 → ∀ (k' : ℕ) (hk' : k' < 32), (outsAt0 m c (t.val - 1) (Nat.lt_of_le_of_lt (Nat.sub_le _ _) t.isLt)).2.2 (ix2 ⟨k', by omega⟩ d)
      = gated (m ((c : Thread nD τ).loc main_arg0)) (promptOf t) d (48 * (t.val % 43) + k')) :
    uOf (k0_pay3 (F := Ideal) (iblk m c 0 t) (iblk m c 1 t)) (oldRows m c t) k d = gated (m ((c : Thread nD τ).loc main_arg0)) (promptOf t) d (48 * (t.val % 43) + k) := by
  unfold uOf
  by_cases h : k < 32
  · rw [dif_pos h]
    unfold oldRows
    by_cases h0 : t.val % 43 = 0
    · rw [if_pos h0, blk_old]
      unfold gated
      rw [dif_neg (by omega)]
      pointwise [k0_pay2]
    · rw [if_neg h0]
      exact hs h0 k h
  · rw [dif_neg h, dif_pos (by omega)]
    refine (own_blk m c t ⟨k - 32, by omega⟩ d).trans (congrArg _ ?_)
    show 48 * (t.val % 43) + (32 + (k - 32)) = 48 * (t.val % 43) + k
    omega

/-- The rows a point joins are its prompt's gated rows, 32 before its own and its own. -/
theorem joined_blk (c : Dev nD) (n : ℕ) : ∀ (hn : n < cfg0.N) (k : ℕ) (_ : k < 80) (d : Fin 1024),
    uOf (k0_pay3 (F := Ideal) (iblk m c 0 ⟨n, hn⟩) (iblk m c 1 ⟨n, hn⟩)) (oldRows m c ⟨n, hn⟩) k d
      = gated (m ((c : Thread nD τ).loc main_arg0)) (promptOf ⟨n, hn⟩) d (48 * (n % 43) + k) := by
  induction n with
  | zero =>
    intro hn k hk d
    exact joined_step m c ⟨0, hn⟩ k hk d (fun h => absurd rfl h)
  | succ n ih =>
    intro hn k hk d
    refine joined_step m c ⟨n + 1, hn⟩ k hk d fun h k' hk' => ?_
    have hn' : n < cfg0.N := Nat.lt_of_succ_lt hn
    refine (scr m c ⟨n, hn'⟩ ⟨k', hk'⟩ d).trans ((ih hn' (k' + 48) (by omega) d).trans ?_)
    have h' : ¬(n + 1) % 43 = 0 := h
    have e1 : promptOf ⟨n, hn'⟩ = promptOf ⟨n + 1, hn⟩ := Fin.ext (by show n / 43 = (n + 1) / 43; omega)
    rw [e1]
    refine congrArg _ ?_
    show 48 * (n % 43) + (k' + 48) = 48 * ((n + 1) % 43) + k'
    omega

/-- The convolution of a point's rows. -/
theorem acc_blk (c : Dev nD) (t : Fin cfg0.N) (r : Fin 48) :
    accOf (k0_pay3 (F := Ideal) (iblk m c 0 t) (iblk m c 1 t)) (oldRows m c t) (iblk m c 3 t) (iblk m c 4 t) r = convAt (m ((c : Thread nD τ).loc main_arg0)) (m ((c : Thread nD τ).loc main_arg1)) (m ((c : Thread nD τ).loc main_arg2)) (promptOf t) (48 * (t.val % 43) + r.val) := by
  funext d
  unfold accOf convAt
  rw [show (fun k : Fin 31 => (iblk m c 3 t : Vec Ideal S32x1024 .f32) (ix2 ⟨k.val, by omega⟩ d)) = fun k => (m ((c : Thread nD τ).loc main_arg1)) (ix2 k d) from funext fun k => blk_w m c t k d,
    blk_bias]
  unfold conv
  refine congrArg _ (Finset.sum_congr rfl fun k hk => congrArg (· * _) ?_)
  have hk' : k < 31 := Finset.mem_range.1 hk
  refine (joined_blk m c t.val t.isLt (r.val + k + 2) (by omega) d).trans (congrArg _ ?_)
  omega

/-- A row of a point's block. -/
theorem out_blk (c : Dev nD) (t : Fin cfg0.N) (r : Fin 48) (e : Fin 1024) :
    outRows (k0_pay3 (F := Ideal) (iblk m c 0 t) (iblk m c 1 t)) (oldRows m c t) (iblk m c 3 t) (iblk m c 4 t) (iblk m c 5 t) (iblk m c 6 t) (ix2 r e) = rowAt (m ((c : Thread nD τ).loc main_arg0)) (m ((c : Thread nD τ).loc main_arg1)) (m ((c : Thread nD τ).loc main_arg2)) (m ((c : Thread nD τ).loc main_arg3)) (m ((c : Thread nD τ).loc main_arg4)) (promptOf t) (48 * (t.val % 43) + r.val) e := by
  show act (normed (accOf (k0_pay3 (F := Ideal) (iblk m c 0 t) (iblk m c 1 t)) (oldRows m c t) (iblk m c 3 t) (iblk m c 4 t) r)
    (fun d => (iblk m c 5 t : Vec Ideal S1x1024 .f32) (ix2 0 d)) (fun d => (iblk m c 6 t : Vec Ideal S1x1024 .f32) (ix2 0 d)) e) = _
  rw [acc_blk, show (fun d : Fin 1024 => (iblk m c 5 t : Vec Ideal S1x1024 .f32) (ix2 0 d)) = fun d => (m ((c : Thread nD τ).loc main_arg3)) (ix1 d) from funext fun d => blk_gain m c t d,
    show (fun d : Fin 1024 => (iblk m c 6 t : Vec Ideal S1x1024 .f32) (ix2 0 d)) = fun d => (m ((c : Thread nD τ).loc main_arg4)) (ix1 d) from funext fun d => blk_shift m c t d]
  rfl

/-- What a point leaves in its block of rows. -/
theorem rows_left (c : Dev nD) (t : Fin cfg0.N) : (outsAt0 m c t.val t.isLt).1 = outRows (k0_pay3 (F := Ideal) (iblk m c 0 t) (iblk m c 1 t)) (oldRows m c t) (iblk m c 3 t) (iblk m c 4 t) (iblk m c 5 t) (iblk m c 6 t) := by
  unfold oldRows
  by_cases h : t.val % 43 = 0
  · rw [if_pos h, outsAt0_A m c t h]
    dsimp only
    rw [out7_first]
  · rw [if_neg h, outsAt0_B m c t h]
    dsimp only
    rw [out7_later]

/-- A point writes back its rows. -/
theorem flushed7_eq (c : Dev nD) (t : Fin cfg0.N) : (dats m 0 c).flushed 7 t = ((cfg0.win 7).blk t).view.read (Elt Ideal) (GRows (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed7, rows_left]
  have ho := (starts t).2.2.2.2.2.2.2.1
  have ht : t.val < 172 := t.isLt
  funext y
  obtain ⟨r, e, rfl⟩ : ∃ (r : Fin 48) (e : Fin 1024), y = (ix2 r e : S48x1024.Idx) := ⟨y 0, y 1, eq_ix2 y⟩
  rw [View.read_apply, show ((cfg0.win 7).blk t).view.emb (ix2 r e) = (ix2 ⟨t.val * 48 + r.val, by omega⟩ e : S8448x1024.Idx) from by
    funext a
    apply Fin.ext
    match a with
    | ⟨0, _⟩ => show (win0_7.rect t).off 0 + 1 * r.val = t.val * 48 + r.val; rw [ho]; show t.val * 48 + 1 * r.val = t.val * 48 + r.val; omega
    | ⟨1, _⟩ => show (win0_7.rect t).off 1 + 1 * e.val = e.val; rw [ho]; show 0 + 1 * e.val = e.val; omega]
  show outRows (k0_pay3 (F := Ideal) (iblk m c 0 t) (iblk m c 1 t)) (oldRows m c t) (iblk m c 3 t) (iblk m c 4 t) (iblk m c 5 t) (iblk m c 6 t) (ix2 r e) = _
  unfold GRows
  rw [dif_pos (by show t.val * 48 + r.val < 8256; omega)]
  refine (out_blk m c t r e).trans (congrArg₂ (fun i k => rowAt (m ((c : Thread nD τ).loc main_arg0)) (m ((c : Thread nD τ).loc main_arg1)) (m ((c : Thread nD τ).loc main_arg2)) (m ((c : Thread nD τ).loc main_arg3)) (m ((c : Thread nD τ).loc main_arg4)) i k e) (Fin.ext ?_) ?_)
  · show t.val / 43 = (t.val * 48 + r.val) / 2064
    omega
  · show 48 * (t.val % 43) + r.val = (t.val * 48 + r.val) % 2064
    omega

/-- Where element `(k, d)` of a point's block of the buffers lies. -/
theorem emb_buf (t : Fin cfg0.N) (k : Fin 32) (d : Fin 1024) :
    ((cfg0.win 8).blk t).view.emb (ix3 0 k d) = (ix3 (promptOf t) k d : S4x32x1024.Idx) := by
  have h := (starts t).2.2.2.2.2.2.2.2
  funext a
  apply Fin.ext
  match a with
  | ⟨0, _⟩ => show (win0_8.rect t).off 0 + 1 * 0 = t.val / 43; rw [h]; rfl
  | ⟨1, _⟩ => show (win0_8.rect t).off 1 + 1 * k.val = k.val; rw [h]; show 0 + 1 * k.val = k.val; omega
  | ⟨2, _⟩ => show (win0_8.rect t).off 2 + 1 * d.val = d.val; rw [h]; show 0 + 1 * d.val = d.val; omega

/-- The last point of a prompt writes back the prompt's buffer. -/
theorem flushed8_eq (c : Dev nD) (t : Fin cfg0.N) (hf : t.val % 43 = 42) : (dats m 0 c).flushed 8 t = ((cfg0.win 8).blk t).view.read (Elt Ideal) (GBuf (m ((c : Thread nD τ).loc main_arg0))) := by
  have h0 : ¬t.val % 43 = 0 := by omega
  rw [Value.flushed8_B m c t h0, out8_later]
  funext y
  obtain ⟨k, d, rfl⟩ : ∃ (k : Fin 32) (d : Fin 1024), y = (ix3 0 k d : S1x32x1024.Idx) :=
    ⟨y 1, y 2, (eq_ix3 y).trans (by rw [Fin.eq_zero (y 0 : Fin 1)])⟩
  rw [View.read_apply, emb_buf]
  have e : halo (outsAt0 m c (t.val - 1) (Nat.lt_of_le_of_lt (Nat.sub_le _ _) t.isLt)).2.2 = oldRows m c t := (if_neg h0).symm
  rw [e]
  refine (joined_blk m c t.val t.isLt (k.val + 48) (by omega) d).trans (congrArg _ ?_)
  show 48 * (t.val % 43) + (k.val + 48) = 2064 + k.val
  omega

/-- The rows of a point's block. -/
theorem mem7 (t : Fin cfg0.N) (i : S8448x1024.Idx) : i ∈ ((cfg0.win 7).blk t).view.set ↔ t.val * 48 ≤ (i 0).val ∧ (i 0).val < t.val * 48 + 48 := by
  have ho := (starts t).2.2.2.2.2.2.2.1
  show i ∈ ((View.whole main_v6_0).slice (win0_7.rect t)).set ↔ _
  rw [View.set_slice_whole, Rect.mem_set_unit]
  have h1 : (i 1).val < 1024 := (i 1).isLt
  constructor
  · intro h
    have : (win0_7.rect t).off 0 ≤ (i 0).val ∧ (i 0).val < (win0_7.rect t).off 0 + 48 := h 0
    rw [ho] at this
    exact this
  · intro h a
    match a with
    | ⟨0, _⟩ => show (win0_7.rect t).off 0 ≤ (i 0).val ∧ (i 0).val < (win0_7.rect t).off 0 + 48; rw [ho]; exact h
    | ⟨1, _⟩ =>
      show (win0_7.rect t).off 1 ≤ (i 1).val ∧ (i 1).val < (win0_7.rect t).off 1 + 1024
      rw [ho]
      show 0 ≤ (i 1).val ∧ (i 1).val < 0 + 1024
      omega

/-- The rows' array after the run. -/
theorem rows_run (c : Dev nD) : (dats m 0 c).arrAt 7 cfg0.N = GRows (m ((c : Thread nD τ).loc main_arg0)) (m ((c : Thread nD τ).loc main_arg1)) (m ((c : Thread nD τ).loc main_arg2)) (m ((c : Thread nD τ).loc main_arg3)) (m ((c : Thread nD τ).loc main_arg4)) := by
  funext i
  by_cases h : (i 0).val < 8256
  · let t : Fin cfg0.N := ⟨(i 0).val / 48, show (i 0).val / 48 < 172 by omega⟩
    have hm : i ∈ ((cfg0.win 7).blk t).view.set := (mem7 t i).2 (by
      show (i 0).val / 48 * 48 ≤ (i 0).val ∧ (i 0).val < (i 0).val / 48 * 48 + 48
      omega)
    obtain ⟨x, -, hx⟩ := Finset.mem_map.1 hm
    have e := (Value.blocks7 m c t (flush0_7 t)).trans (flushed7_eq m c t)
    have := congrFun e x
    rwa [View.read_apply, View.read_apply, show ((cfg0.win 7).blk t).view.emb x = i from hx] at this
  · rw [Value.entry7 m c i (fun t _ hm => h (by
      have := (mem7 t i).1 hm
      have ht : t.val < 172 := t.isLt
      omega))]
    have e : V m c main_v6_0 = broadcastInDim S8448x1024 ![] bcast_S_S8448x1024 (constant (F := Ideal) S_ .bf16 0x0000#16) := by
      show StableHlo.after [_, _, _, _, _, _, _, _, _, _, _] _ _ = _
      after_results <;> rfl
    unfold GRows
    rw [dif_neg h]
    refine (congrFun e i).trans ?_
    exact Ideal.ofBits_zero_bf16

/-- Every element of the buffers lies in some point's block. -/
theorem cover8 (i : S4x32x1024.Idx) : ∃ t : Fin cfg0.N, (cfg0.win 8).flush t = true ∧ i ∈ ((cfg0.win 8).blk t).view.set := by
  obtain ⟨b, k, d, rfl⟩ : ∃ (b : Fin 4) (k : Fin 32) (d : Fin 1024), i = (ix3 b k d : S4x32x1024.Idx) := ⟨i 0, i 1, i 2, eq_ix3 i⟩
  have hb : b.val * 43 + 42 < cfg0.N := by show b.val * 43 + 42 < 172; omega
  refine ⟨⟨b.val * 43 + 42, hb⟩, (flush0_8 _).2 (by show (b.val * 43 + 42) % 43 = 42; omega), ?_⟩
  have e : b = promptOf ⟨b.val * 43 + 42, hb⟩ := Fin.ext (by show b.val = (b.val * 43 + 42) / 43; omega)
  have hm := View.emb_mem_set ((cfg0.win 8).blk ⟨b.val * 43 + 42, hb⟩).view (ix3 0 k d)
  rw [emb_buf, ← e] at hm
  exact hm

/-- The kernel ends with the two results, its arguments unchanged. -/
theorem run : θ_run defs (onTc (τ := τ) (main (F := Ideal))) ⟨m, fun _ => 0, ρ⟩ fun r => ∀ c : Dev nD,
      r.2.mem ((c : Thread nD τ).loc main_v6_0) = GRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v6_1) = GBuf (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (rows_run m c),
    (h c).2.1.trans ((dats m 0 c).arrAt_eq_of_cover 8 _ (fun t hf => flushed8_eq m c t ((flush0_8 t).1 hf)) cover8), (h c).2.2⟩) (Value.run_blocks m ρ)

end Cert.ConvPIdeal.Read
-- ==== Proof.Project.lean ====
/- A normed row times a column of weights: what the projections of both programs compute. -/
module

public import proofs.«01_k».proof.Proof.NormRef

@[expose] public section

noncomputable section

namespace Cert.Project

open Idealize.ShloMosaic
open Cert.NormRefIdeal.Read (rms)

/-- Row `r` of `x`, normed and scaled by `g`, times column `d` of `w`, over the extended reals. -/
def proj {n p : Nat} (x : (⟨2, ![n, 2048]⟩ : Shape).Idx → EReal) (g : (⟨1, ![2048]⟩ : Shape).Idx → EReal)
    (w : (⟨2, ![2048, p]⟩ : Shape).Idx → EReal) (r : Fin n) (d : Fin p) : EReal :=
  ∑ k : Fin 2048, rms x g r k * w (ix2 k d)

/-- The norm reads its row and its gain alone. -/
theorem rms_congr {n n' : Nat} {x : (⟨2, ![n, 2048]⟩ : Shape).Idx → EReal} {x' : (⟨2, ![n', 2048]⟩ : Shape).Idx → EReal}
    {g g' : (⟨1, ![2048]⟩ : Shape).Idx → EReal} {r : Fin n} {r' : Fin n'} {d : Fin 2048}
    (hx : ∀ k, x (ix2 r k) = x' (ix2 r' k)) (hg : ∀ k, g (ix1 k) = g' (ix1 k)) : rms x g r d = rms x' g' r' d := by
  simp only [rms, hx, hg]

/-- A rectangle that starts at zero, written with two literal zeros. -/
theorem zeros2 : (![0, 0] : Fin 2 → Nat) = fun _ => 0 := funext fun a => by fin_cases a <;> rfl

end Cert.Project
-- ==== Proof.KvSValue.lean ====
/- The keys and values of the sampled rows: what the kernel and its reference leave. -/
module

public import proofs.«01_k».proof.Proof.Gen.KvSIdeal.Value
public import proofs.«01_k».proof.Proof.Gen.KvSRefIdeal.Run
public import proofs.«01_k».proof.Proof.Project

@[expose] public section

set_option maxRecDepth 16384

noncomputable section

namespace Cert.KvSRefIdeal.Read

open Cert.KvSRefIdeal Cert.KvSRefIdeal.Gen Idealize.ShloMosaic Idealize.ShloMosaic.TcCoe Idealize.SL.Sem
open Cert.NormRefIdeal.Read (rms)
open Cert.Project (proj)

/-- Row `s` of the result is row `8256 + s` of the tokens, normed, times the columns of `w` from 2048 on. -/
def G (x : (⟨2, ![8448, 2048]⟩ : Shape).Idx → EReal) (g : (⟨1, ![2048]⟩ : Shape).Idx → EReal)
    (w : (⟨2, ![2048, 6144]⟩ : Shape).Idx → EReal) : (⟨2, ![64, 4096]⟩ : Shape).Idx → EReal := fun j =>
  proj x g w ⟨8256 + (j 0).val, by have h0 : (j 0).val < 64 := (j 0).isLt; omega⟩
    ⟨2048 + (j 1).val, by have h1 : (j 1).val < 4096 := (j 1).isLt; omega⟩

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext j
      idx_vars j
      pointwise [G, proj, rms]), (h c).2⟩) (Cert.KvSRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, Idealize.ShloMosaic.sem_eq_zero_of_no_sems (by decide) r.2⟩) (run m ρ)

end Cert.KvSRefIdeal.Read

namespace Cert.KvSIdeal.Read

open Cert.KvSIdeal Cert.KvSIdeal.Gen Idealize.ShloMosaic Idealize.ShloMosaic.TcCoe Idealize.SL.Sem
open Cert.NormRefIdeal.Read (rms)
open Cert.Project (proj zeros2 rms_congr)
open Cert.KvSRefIdeal.Read (G)

variable (m : (ℓ : Loc nD τ sig) → Buf (Elt Ideal) ℓ) (ρ : Dev nD → PrngReg)

/-- Point `t` reads the whole of the rows and the gain, and 1024 columns of the weights from column `1024 t`, which it writes. -/
theorem starts (t : Fin cfg0.N) : (win0_0.rect t).off = ![0, 0] ∧ (win0_1.rect t).off = ![0, 0]
    ∧ (win0_2.rect t).off = ![0, 1024 * t.val] ∧ (win0_3.rect t).off = ![0, 1024 * t.val] :=
  (by decide +kernel : ∀ t : Fin grid0.N, (win0_0.rect t).off = ![0, 0] ∧ (win0_1.rect t).off = ![0, 0]
    ∧ (win0_2.rect t).off = ![0, 1024 * t.val] ∧ (win0_3.rect t).off = ![0, 1024 * t.val]) t

theorem lt_N (t : Fin cfg0.N) : t.val < 4 := lt_of_lt_of_eq t.isLt (show cfg0.N = 4 from N_0)

/-- The rows' block, element by element. -/
theorem blk_x (c : Dev nD) (t : Fin cfg0.N) (r : Fin 64) (d : Fin 2048) :
    (iblk m c 0 t : Vec Ideal S64x2048 .f32) (ix2 r d)
      = m ((c : Thread nD τ).loc main_arg0) (ix2 ⟨8256 + r.val, by omega⟩ d) := by
  unfold iblk
  rw [View.read_apply]
  show V m c main_v1 _ = _
  have e : V m c main_v1 = extractStridedSlice S64x2048 ![8256, 0] (m ((c : Thread nD τ).loc main_arg0))
      slices_S8448x2048_S64x2048_8256_0 := by
    show StableHlo.after [_, _, _, _] _ _ = _
    after_results <;> rfl
  have h := (starts t).1
  rw [e, show ((cfg0.win 0).blk t).view.emb (ix2 r d) = (ix2 r d : S64x2048.Idx) from by
    funext a
    apply Fin.ext
    match a with
    | ⟨0, _⟩ => show (win0_0.rect t).off 0 + 1 * r.val = r.val; rw [h]; show 0 + 1 * r.val = r.val; omega
    | ⟨1, _⟩ => show (win0_0.rect t).off 1 + 1 * d.val = d.val; rw [h]; show 0 + 1 * d.val = d.val; omega]
  pointwise

/-- The gain's block is the whole gain. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v3 _ = _
  have e : V m c main_v3 = shapeCast S1x2048 (m ((c : Thread nD τ).loc main_arg1)) shapeCasts_S2048_S1x2048 := by
    show StableHlo.after [_, _, _, _] _ _ = _
    after_results <;> rfl
  have h := (starts t).2.1
  rw [e, show ((cfg0.win 1).blk t).view.emb (ix2 0 d) = (ix2 0 d : S1x2048.Idx) from by
    funext a
    apply Fin.ext
    match a with
    | ⟨0, _⟩ => show (win0_1.rect t).off 0 + 1 * 0 = 0; rw [h]; rfl
    | ⟨1, _⟩ => show (win0_1.rect t).off 1 + 1 * d.val = d.val; rw [h]; show 0 + 1 * d.val = d.val; omega]
  pointwise

/-- The weights' block: 1024 columns from column `2048 + 1024 t` of the weights. -/
theorem blk_w (c : Dev nD) (t : Fin cfg0.N) (k : Fin 2048) (d : Fin 1024) :
    (iblk m c 2 t : Vec Ideal S2048x1024 .bf16) (ix2 k d)
      = m ((c : Thread nD τ).loc main_arg2) (ix2 k ⟨2048 + (1024 * t.val + d.val), by have := lt_N t; omega⟩) := by
  have hN := lt_N t
  unfold iblk
  rw [View.read_apply]
  show V m c main_v2 _ = _
  have e : V m c main_v2 = extractStridedSlice S2048x4096 ![0, 2048]
      (truncf (F := Ideal) .bf16 (m ((c : Thread nD τ).loc main_arg2)) bitsLt_bf16_f32) slices_S2048x6144_S2048x4096_0_2048 := by
    show StableHlo.after [_, _, _, _] _ _ = _
    after_results <;> rfl
  have h := (starts t).2.2.1
  rw [e, show ((cfg0.win 2).blk t).view.emb (ix2 k d) = (ix2 k ⟨1024 * t.val + d.val, by omega⟩ : S2048x4096.Idx) from by
    funext a
    apply Fin.ext
    match a with
    | ⟨0, _⟩ => show (win0_2.rect t).off 0 + 1 * k.val = k.val; rw [h]; show 0 + 1 * k.val = k.val; omega
    | ⟨1, _⟩ =>
      show (win0_2.rect t).off 1 + 1 * d.val = 1024 * t.val + d.val
      rw [h]; show 1024 * t.val + 1 * d.val = 1024 * t.val + d.val; omega]
  pointwise

/-- The normed rows, element by element. -/
theorem norm_apply (x : Vec Ideal S64x2048 .f32) (g : Vec Ideal S1x2048 .f32) (r : Fin 64) (d : Fin 2048) :
    k0_pay1 x g (ix2 r d) = rms x (fun k => g (ix2 0 (k 0))) r d := by
  pointwise [k0_pay1, rms]

/-- The product, element by element. -/
theorem dot_apply (h : Vec Ideal S64x2048 .bf16) (w : Vec Ideal S2048x1024 .bf16) (r : Fin 64) (d : Fin 1024) :
    k0_pay2 h w (ix2 r d) = ∑ k : Fin 2048, h (ix2 r k) * w (ix2 k d) := by
  pointwise [k0_pay2]

/-- After every point the scratch holds the normed rows. -/
theorem carried (c : Dev nD) : ∀ (n : ℕ) (hn : n < cfg0.N) (r : Fin 64) (d : Fin 2048),
    (outsAt0 m c n hn).2 (ix2 r d) = rms (m ((c : Thread nD τ).loc main_arg0)) (m ((c : Thread nD τ).loc main_arg1))
      ⟨8256 + r.val, by omega⟩ d := by
  intro n
  induction n with
  | zero =>
    intro hn r d
    rw [outsAt0_A m c ⟨0, hn⟩ (Nat.zero_mod _)]
    dsimp only
    unfold sout0_A_0
    rw [View.read_writes_eq_canon _ _ _ (scover0_A_0 c _ _ _ _ _ _ _ _ _ _ _ _ _ _ _)]
    unfold kernelRun0_A
    dsimp only
    sl_unfold_words
    rw [View.canon_unit_zero zeros2]
    simp only [View.readAt_eq_ld, Memref.IsWhole.read_unread]
    rw [View.ld_unit_zero zeros2, View.ld_unit_zero zeros2, norm_apply]
    exact rms_congr (fun k => blk_x m c ⟨0, hn⟩ r k) (fun k => blk_g m c ⟨0, hn⟩ k)
  | succ n ih =>
    intro hn r d
    have hN := lt_N ⟨n + 1, hn⟩
    rw [outsAt0_B m c ⟨n + 1, hn⟩ (by dsimp only at hN ⊢; omega)]
    unfold sout0_B_0
    simp only [Nat.add_sub_cancel]
    exact ih _ r d

/-- Each point leaves its 1024 columns of the product. -/
theorem out_eq (c : Dev nD) (t : Fin cfg0.N) (r : Fin 64) (d : Fin 1024) :
    (outsAt0 m c t.val t.isLt).1 (ix2 r d)
      = ∑ k : Fin 2048, (outsAt0 m c t.val t.isLt).2 (ix2 r k) * (iblk m c 2 t : Vec Ideal S2048x1024 .bf16) (ix2 k d) := by
  by_cases h0 : t.val % 4 = 0
  · rw [outsAt0_A m c t h0]
    dsimp only
    unfold out0_A_3 sout0_A_0
    rw [View.read_writes_eq_canon _ _ _ (cover0_A_3 c _ _ _ _ _ _ _ _ _ _ _ _ _ _ _),
      View.read_writes_eq_canon _ _ _ (scover0_A_0 c _ _ _ _ _ _ _ _ _ _ _ _ _ _ _)]
    unfold kernelRun0_A
    dsimp only
    sl_unfold_words
    rw [View.canon_unit_zero zeros2, View.canon_unit_zero zeros2]
    simp only [View.readAt_eq_ld, Memref.IsWhole.read_unread]
    rw [dot_apply, View.ld_unit_zero zeros2, View.ld_unit_zero zeros2, View.ld_unit_zero zeros2, View.readCov_cons_toLoadRect]
  · rw [outsAt0_B m c t h0]
    dsimp only
    unfold out0_B_3 sout0_B_0
    rw [View.read_writes_eq_canon _ _ _ (cover0_B_3 c _ _ _ _ _ _ _ _ _ _ _ _ _ _ _ _)]
    unfold kernelRun0_B
    dsimp only
    sl_unfold_words
    rw [View.canon_unit_zero zeros2]
    simp only [View.readAt_eq_ld, Memref.IsWhole.read_unread]
    rw [View.ld_unit_zero zeros2, View.ld_unit_zero zeros2, dot_apply, (Memref.isWhole_whole _).read_unread]

/-- Every point writes back its columns of `G`. -/
theorem flushed_eq (c : Dev nD) (t : Fin cfg0.N) : (dats m 0 c).flushed 3 t = ((cfg0.win 3).blk t).view.read (Elt Ideal)
    (G (m ((c : Thread nD τ).loc main_arg0)) (m ((c : Thread nD τ).loc main_arg1)) (m ((c : Thread nD τ).loc main_arg2))) := by
  have hN := lt_N t
  rw [Value.flushed3]
  have h := (starts t).2.2.2
  funext y
  obtain ⟨r, d, rfl⟩ : ∃ (r : Fin 64) (d : Fin 1024), y = (ix2 r d : S64x1024.Idx) := ⟨y 0, y 1, eq_ix2 y⟩
  rw [View.read_apply, show ((cfg0.win 3).blk t).view.emb (ix2 r d) = (ix2 r ⟨1024 * t.val + d.val, by omega⟩ : S64x4096.Idx) from by
    funext a
    apply Fin.ext
    match a with
    | ⟨0, _⟩ => show (win0_3.rect t).off 0 + 1 * r.val = r.val; rw [h]; show 0 + 1 * r.val = r.val; omega
    | ⟨1, _⟩ =>
      show (win0_3.rect t).off 1 + 1 * d.val = 1024 * t.val + d.val
      rw [h]; show 1024 * t.val + 1 * d.val = 1024 * t.val + d.val; omega]
  show (outsAt0 m c t.val t.isLt).1 (ix2 r d) = _
  rw [out_eq]
  simp only [carried, blk_w]
  rfl

/-- Every element of the result lies in some point's block. -/
theorem cover (i : S64x4096.Idx) : ∃ t : Fin cfg0.N, (cfg0.win 3).flush t = true ∧ i ∈ ((cfg0.win 3).blk t).view.set := by
  have h0 : (i 0).val < 64 := (i 0).isLt
  have h1 : (i 1).val < 4096 := (i 1).isLt
  let t : Fin cfg0.N := ⟨(i 1).val / 1024, by show _ < cfg0.N; rw [show cfg0.N = 4 from N_0]; omega⟩
  have ht : t.val = (i 1).val / 1024 := rfl
  have h := (starts t).2.2.2
  refine ⟨t, flush0_3 t, ?_⟩
  show i ∈ ((View.whole main_v4).slice (win0_3.rect t)).set
  rw [View.set_slice_whole, Rect.mem_set_unit]
  intro a
  match a with
  | ⟨0, _⟩ =>
    show (win0_3.rect t).off 0 ≤ (i 0).val ∧ (i 0).val < (win0_3.rect t).off 0 + 64
    rw [h]; show 0 ≤ (i 0).val ∧ (i 0).val < 0 + 64; omega
  | ⟨1, _⟩ =>
    show (win0_3.rect t).off 1 ≤ (i 1).val ∧ (i 1).val < (win0_3.rect t).off 1 + 1024
    rw [h]; show 1024 * t.val ≤ (i 1).val ∧ (i 1).val < 1024 * t.val + 1024; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover),
    (h c).2⟩) (Value.run_blocks m ρ)

end Cert.KvSIdeal.Read
-- ==== Proof.QkvRun.lean ====
module

public import proofs.«01_k».proof.Proof.Gen.QkvIdeal.Frame
public import proofs.«01_k».proof.Proof.Project

/-! # The body of the joint projection on one core

The body norms its rows into a scratch at the first block of columns of a block of rows, and stores the product of the
normed rows with the block of weights into the queries (blocks 0, 1), the keys (2, 3) or the values (4, 5). -/

@[expose] public section

set_option maxRecDepth 16384

namespace Cert.QkvIdeal.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.QkvIdeal.Gen
open Cert.Project (zeros2)

variable {F : FTy → Type} [FloatOps F]

/-- The normed rows, from the rows and the gain. -/
noncomputable def normed (v18 : Vec F S768x2048 .f32) (v29 : Vec F S1x2048 .f32) : FVec F S768x2048 .bf16 :=
  have v19 : FVec F S768x2048 .f32 := mulf v18 v18
  have v20 : FVec F S768 .f32 := multiReduction .add [1] S768 v19 0x00000000#32 reduces_S768x2048_S768 (.inl rfl) rfl
  have v21 : FVec F S768x1 .f32 := shapeCast S768x1 v20 shapeCasts_S768_S768x1
  have cst_12 : F .f32 := Scalar.ofBits .f32 0x45000000#32
  have v22 : FVec F S768x1 .f32 := broadcast S768x1 cst_12
  have v23 : FVec F S768x1 .f32 := divf v21 v22
  have cst_13 : F .f32 := Scalar.ofBits .f32 0x358637BD#32
  have v24 : FVec F S768x1 .f32 := broadcast S768x1 cst_13
  have v25 : FVec F S768x1 .f32 := addf v23 v24
  have v26 : FVec F S768x1 .f32 := rsqrt v25
  have v27 : FVec F S768x2048 .f32 := broadcastTo S768x2048 v26 broadcasts_S768x1_S768x2048
  have v28 : FVec F S768x2048 .f32 := mulf v18 v27
  have v30 : FVec F S1x2048 .f32 := shapeCast S1x2048 v29 shapeCasts_S1x2048_S1x2048
  have v31 : FVec F S768x2048 .f32 := broadcastTo S768x2048 v30 broadcasts_S1x2048_S768x2048
  have v32 : FVec F S768x2048 .f32 := mulf v28 v31
  have v33 : FVec F S768x2048 .bf16 := truncf .bf16 v32 bitsLt_bf16_f32
  have v36 : FVec F S768x2048 .bf16 := shapeCast S768x2048 v33 shapeCasts_S768x2048_S768x2048
  v36

/-- The product of the normed rows with a block of the weights. -/
noncomputable def product (v3 : Vec F S768x2048 .bf16) (v4 : Vec F S2048x1024 .bf16) : FVec F S768x1024 .f32 :=
  have v5 : FVec F S2048x1024 .bf16 := shapeCast S2048x1024 v4 shapeCasts_S2048x1024_S2048x1024
  have cst : FVec F S768x1024 .f32 := constant S768x1024 .f32 0x00000000#32
  have v6 : FVec F S768x1024 .f32 := matmul dot_S768x2048_S2048x1024_S768x1024_1_0_0_1_n_n none v3 v5 cst
  v6

/-- The body as its loads and stores: the rows are normed at the first block of columns, and the product is stored
    into the queries, the keys or the values. -/
noncomputable def skel (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S768x1024 .f32) (harg5 : arg5.IsWhole) (arg6 : Memref sig .tc .vmem S768x1024 .f32) (harg6 : arg6.IsWhole) (arg7 : Memref sig .tc .vmem S768x1024 .f32) (harg7 : arg7.IsWhole) (arg8 : Memref sig .tc .vmem S768x2048 .bf16) (harg8 : arg8.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v18 : Vec F S768x2048 .f32 ← Prog.lift (.load arg2 (Rect.unit (s := S768x2048) ![0, 0] S768x2048.size inb_S768x2048_S768x2048_0_0).toLoadRect (View.loadsAt_vmem h_S768x2048))
    let v29 : Vec F S1x2048 .f32 ← Prog.lift (.load arg3 (Rect.unit (s := S1x2048) ![0, 0] S1x2048.size inb_S1x2048_S1x2048_0_0).toLoadRect (View.loadsAt_vmem h_S1x2048))
    let v34 : Vec F S768x2048 .bf16 ← Prog.lift (.load arg8 (Rect.unit (s := S768x2048) ![0, 0] S768x2048.size inb_S768x2048_S768x2048_0_0).toLoadRect (View.loadsAt_vmem h_S768x2048))
    Prog.lift (.store arg8 (Rect.unit (s := S768x2048) ![0, 0] S768x2048.size inb_S768x2048_S768x2048_0_0) (normed v18 v29) Finset.univ (View.stores_vmem h_S768x2048 (harg8.storeExact_slice rfl _ packedbf16_S768x2048_S768x2048_0_0) (fun _ => rfl)) (.inl rfl))
    pure ⟨⟩
  else do
    pure ⟨⟩
  let v3 : Vec F S768x2048 .bf16 ← Prog.lift (.load arg8 (Rect.unit (s := S768x2048) ![0, 0] S768x2048.size inb_S768x2048_S768x2048_0_0).toLoadRect (View.loadsAt_vmem h_S768x2048))
  let v4 : Vec F S2048x1024 .bf16 ← Prog.lift (.load arg4 (Rect.unit (s := S2048x1024) ![0, 0] S2048x1024.size inb_S2048x1024_S2048x1024_0_0).toLoadRect (View.loadsAt_vmem h_S2048x1024))
  if k0_h2 : k0_cond2 i = 1#1 then do
    let v18 : Vec F S768x1024 .f32 ← Prog.lift (.load arg5 (Rect.unit (s := S768x1024) ![0, 0] S768x1024.size inb_S768x1024_S768x1024_0_0).toLoadRect (View.loadsAt_vmem h_S768x1024))
    Prog.lift (.store arg5 (Rect.unit (s := S768x1024) ![0, 0] S768x1024.size inb_S768x1024_S768x1024_0_0) (product v3 v4) Finset.univ (View.stores_vmem_bits_univ h_S768x1024 rfl) (.inl rfl))
    pure ⟨⟩
  else do
    pure ⟨⟩
  if k0_h3 : k0_cond3 i = 1#1 then do
    let v18 : Vec F S768x1024 .f32 ← Prog.lift (.load arg6 (Rect.unit (s := S768x1024) ![0, 0] S768x1024.size inb_S768x1024_S768x1024_0_0).toLoadRect (View.loadsAt_vmem h_S768x1024))
    Prog.lift (.store arg6 (Rect.unit (s := S768x1024) ![0, 0] S768x1024.size inb_S768x1024_S768x1024_0_0) (product v3 v4) Finset.univ (View.stores_vmem_bits_univ h_S768x1024 rfl) (.inl rfl))
    pure ⟨⟩
  else do
    pure ⟨⟩
  if k0_h4 : k0_cond4 i = 1#1 then do
    let v18 : Vec F S768x1024 .f32 ← Prog.lift (.load arg7 (Rect.unit (s := S768x1024) ![0, 0] S768x1024.size inb_S768x1024_S768x1024_0_0).toLoadRect (View.loadsAt_vmem h_S768x1024))
    Prog.lift (.store arg7 (Rect.unit (s := S768x1024) ![0, 0] S768x1024.size inb_S768x1024_S768x1024_0_0) (product v3 v4) Finset.univ (View.stores_vmem_bits_univ h_S768x1024 rfl) (.inl rfl))
    pure ⟨⟩
  else do
    pure ⟨⟩
  pure ⟨⟩

set_option maxRecDepth 65536 in
/-- The body is its loads and stores. -/
theorem body_eq : cc0_rms_qkv (F := F) = skel (F := F) := rfl

/-- The first block of columns. -/
abbrev isFirst (i : grid0.Coords) : Prop :=
  Scalar.cmpi .ne (Scalar.extui (Scalar.cmpi .eq (BitVec.ofNat 32 (i 1).val) 0#32)) 0#32 = 1#1

/-- The cases of a point: the first block of columns, the second of the queries, a block of the keys, of the values. -/
def Case (i : grid0.Coords) : Prop :=
  (isFirst i ∧ k0_cond2 i = 1#1 ∧ ¬ k0_cond3 i = 1#1 ∧ ¬ k0_cond4 i = 1#1)
    ∨ (¬ isFirst i ∧ k0_cond2 i = 1#1 ∧ ¬ k0_cond3 i = 1#1 ∧ ¬ k0_cond4 i = 1#1)
    ∨ (¬ isFirst i ∧ ¬ k0_cond2 i = 1#1 ∧ k0_cond3 i = 1#1 ∧ ¬ k0_cond4 i = 1#1)
    ∨ (¬ isFirst i ∧ ¬ k0_cond2 i = 1#1 ∧ ¬ k0_cond3 i = 1#1 ∧ k0_cond4 i = 1#1)

/-- Every point is in one of the four cases. -/
theorem case_of : ∀ t : Fin cfg0.N, Case (grid0.coords t) := by
  unfold Case
  exact (by decide +kernel : ∀ t : Fin grid0.N,
    (isFirst (grid0.coords t) ∧ k0_cond2 (grid0.coords t) = 1#1 ∧ ¬ k0_cond3 (grid0.coords t) = 1#1
      ∧ ¬ k0_cond4 (grid0.coords t) = 1#1)
    ∨ (¬ isFirst (grid0.coords t) ∧ k0_cond2 (grid0.coords t) = 1#1 ∧ ¬ k0_cond3 (grid0.coords t) = 1#1
      ∧ ¬ k0_cond4 (grid0.coords t) = 1#1)
    ∨ (¬ isFirst (grid0.coords t) ∧ ¬ k0_cond2 (grid0.coords t) = 1#1 ∧ k0_cond3 (grid0.coords t) = 1#1
      ∧ ¬ k0_cond4 (grid0.coords t) = 1#1)
    ∨ (¬ isFirst (grid0.coords t) ∧ ¬ k0_cond2 (grid0.coords t) = 1#1 ∧ ¬ k0_cond3 (grid0.coords t) = 1#1
      ∧ k0_cond4 (grid0.coords t) = 1#1))

/-- A buffer of products reads as the block last stored over all of it. -/
theorem stored_prod (v : View sig .tc .vmem S768x1024 .f32) (f : v.ty.Contents (Elt F)) (inb) (p : Vec F S768x1024 .f32) :
    v.read (Elt F) (v.writes (Elt F) f [⟨Rect.unit (s := S768x1024) ![0, 0] S768x1024.size inb, p⟩]) = p := by
  rw [View.read_writes_eq_canon _ _ _ (View.cover_of_tiled _ S768x1024.size (by rfl)), View.canon_unit_zero zeros2]

/-- The scratch reads as the rows last stored over all of it. -/
theorem stored_rows (v : View sig .tc .vmem S768x2048 .bf16) (f : v.ty.Contents (Elt F)) (inb) (p : Vec F S768x2048 .bf16) :
    v.read (Elt F) (v.writes (Elt F) f [⟨Rect.unit (s := S768x2048) ![0, 0] S768x2048.size inb, p⟩]) = p := by
  rw [View.read_writes_eq_canon _ _ _ (View.cover_of_tiled _ S768x2048.size (by rfl)), View.canon_unit_zero zeros2]

set_option maxHeartbeats 1000000 in
/-- THE BODY on whole buffers: with `h` the normed rows (made at the first block of columns, else what the scratch
    holds), the product of `h` and the weights replaces the buffer whose condition holds, and the others stay. -/
theorem body_run (c : Dev nD) (i : grid0.Coords) (arg2 : Memref sig .tc .vmem S768x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S768x1024 .f32) (harg5 : arg5.IsWhole)
    (arg6 : Memref sig .tc .vmem S768x1024 .f32) (harg6 : arg6.IsWhole)
    (arg7 : Memref sig .tc .vmem S768x1024 .f32) (harg7 : arg7.IsWhole)
    (arg8 : Memref sig .tc .vmem S768x2048 .bf16) (harg8 : arg8.IsWhole)
    (x0 : Vec F S768x2048 .f32) (x1 : Vec F S1x2048 .f32) (x2 : Vec F S2048x1024 .bf16)
    (d3 d4 d5 : Vec F S768x1024 .f32) (xs h : Vec F S768x2048 .bf16)
    (hi : Case i) (hh : h = if isFirst i then normed x0 x1 else xs) (E : Set ℕ)
    (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ owns (c : Thread nD τ) arg5 fullShare d3
        ∗ owns (c : Thread nD τ) arg6 fullShare d4 ∗ owns (c : Thread nD τ) arg7 fullShare d5
        ∗ owns (c : Thread nD τ) arg8 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (if k0_cond2 i = 1#1 then product h x2 else d3)
            ∗ owns (c : Thread nD τ) arg6 fullShare (if k0_cond3 i = 1#1 then product h x2 else d4)
            ∗ owns (c : Thread nD τ) arg7 fullShare (if k0_cond4 i = 1#1 then product h x2 else d5)
            ∗ owns (c : Thread nD τ) arg8 fullShare h) -∗ K ⟨⟩))
      ⊢ wp frame (wpE (defs₀ (F := F)) Variants.none c none) E
        (cc0_rms_qkv i arg2 harg2 arg3 harg3 arg4 harg4 arg5 harg5 arg6 harg6 arg7 harg7 arg8 harg8) K := by
  simp only [body_eq]
  unfold skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  rcases hi with ⟨hc0, hc1, hc2, hc3⟩ | ⟨hc0, hc1, hc2, hc3⟩ | ⟨hc0, hc1, hc2, hc3⟩ | ⟨hc0, hc1, hc2, hc3⟩
  all_goals
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    sl_unfold_words
    isplitl [H3]
    · iexists _; isplitr
      swap; · iexact H3
      ipureintro
      first
        | rw [if_neg hc1]; exact harg5.read_unread _
        | rw [if_pos hc1, stored_prod, hh]
          first | rw [if_pos hc0] | rw [if_neg hc0]
          simp only [View.readCov_cons_toLoadRect, View.readAt_eq_ld, Memref.IsWhole.read_unread]
          first
            | exact congrArg₂ product (View.ld_unit_zero zeros2 _ _) (View.ld_unit_zero zeros2 _ _)
            | exact congrArg₂ product (congrArg₂ normed (View.ld_unit_zero zeros2 _ _) (View.ld_unit_zero zeros2 _ _)) (View.ld_unit_zero zeros2 _ _)
    isplitl [H4]
    · iexists _; isplitr
      swap; · iexact H4
      ipureintro
      first
        | rw [if_neg hc2]; exact harg6.read_unread _
        | rw [if_pos hc2, stored_prod, hh, if_neg hc0]
          simp only [View.readCov_cons_toLoadRect, View.readAt_eq_ld, Memref.IsWhole.read_unread]
          first
            | exact congrArg₂ product (View.ld_unit_zero zeros2 _ _) (View.ld_unit_zero zeros2 _ _)
            | exact congrArg₂ product (congrArg₂ normed (View.ld_unit_zero zeros2 _ _) (View.ld_unit_zero zeros2 _ _)) (View.ld_unit_zero zeros2 _ _)
    isplitl [H5]
    · iexists _; isplitr
      swap; · iexact H5
      ipureintro
      first
        | rw [if_neg hc3]; exact harg7.read_unread _
        | rw [if_pos hc3, stored_prod, hh, if_neg hc0]
          simp only [View.readCov_cons_toLoadRect, View.readAt_eq_ld, Memref.IsWhole.read_unread]
          first
            | exact congrArg₂ product (View.ld_unit_zero zeros2 _ _) (View.ld_unit_zero zeros2 _ _)
            | exact congrArg₂ product (congrArg₂ normed (View.ld_unit_zero zeros2 _ _) (View.ld_unit_zero zeros2 _ _)) (View.ld_unit_zero zeros2 _ _)
    iexists _; isplitr
    swap; · iexact HS
    ipureintro
    first
      | rw [hh, if_neg hc0]; exact harg8.read_unread _
      | rw [stored_rows, hh, if_pos hc0]
        simp only [View.readAt_eq_ld, Memref.IsWhole.read_unread]
        exact congrArg₂ normed (View.ld_unit_zero zeros2 _ _) (View.ld_unit_zero zeros2 _ _)

end Cert.QkvIdeal.Read

end
-- ==== Proof.QkvFrame.lean ====
/- The joint projection of the prompts' queries, keys and values: the launch, with what every point leaves. -/
module

public import proofs.«01_k».proof.Proof.QkvRun
public import Idealize.ShloMosaic.Lib.Claim
public import Idealize.ShloMosaic.Lib.Pipeline.TableIdle

@[expose] public section

set_option maxRecDepth 16384

noncomputable section

/-! ## Contents a body leaves, and the obligation -/

namespace Cert.Idle

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat Cfg Window)

variable {nD : Nat} {τ : Topo} {sig : RefSig} {Val : EltTy → Type} {Λ₀ : Idealize.SL.Sem.Labels}
  {cfg : Cfg sig Λ₀} {c : Dev nD}

/-- A buffer owned at contents the obligation allows is what the obligation asks for. -/
theorem leaves_of {Ix Name U Lvl : Type} [DecidableEq Ix] [DecidableEq Name] [URA U]
    (dat : Dat τ Val Ix Name U Lvl cfg c) {w : Fin cfg.W} {t : Fin cfg.N}
    {X : (cfg.win w).block.Idx → Val (cfg.win w).elt} (h : dat.Leaves w t X) :
    owns (c.tc : Thread nD τ) ((cfg.win w).stage (cfg.slots t w)) fullShare X ⊢ dat.leaves w t := by
  unfold Dat.Leaves at h
  unfold Dat.leaves
  cases hi : cfg.idle w (cfg.grid.coords t) <;> cases hf : (cfg.win w).flush t <;> cases hl : cfg.loose w <;>
    rw [hi] at h <;> simp only [hf, hl] at h ⊢ <;>
    first
      | (subst h; exact .rfl)
      | (obtain ⟨d, rfl⟩ := h; iintro H; iexists d; iexact H)

/-- What a point leaves on the part its transfers move does not depend on the point beyond the cut. -/
theorem fill_cut_congr (w : Fin cfg.W) {i i' : cfg.grid.Coords} (hc : (cfg.win w).clip i = (cfg.win w).clip i')
    (d X : (cfg.win w).block.Idx → Val (cfg.win w).elt) :
    (cfg.win w).fill i d ((cfg.win w).cut i X) = (cfg.win w).fill i' d ((cfg.win w).cut i' X) := by
  funext j
  have hm : (cfg.win w).moved i j = (cfg.win w).moved i' j := by
    unfold Window.moved
    rw [hc]
  unfold Window.fill
  split
  · next hj => rw [dif_pos (hm ▸ hj)]
  · next hj => rw [dif_neg (hm ▸ hj)]

end Cert.Idle

namespace Cert.QkvIdeal.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.QkvIdeal.Gen

variable {F : FTy → Type} [FloatOps F]
variable (m : (ℓ : Loc nD τ sig) → Buf (Elt F) ℓ) (ρ : Dev nD → PrngReg)

/-- There are 11 blocks of rows and 6 blocks of columns. -/
theorem lt_N (t : Fin cfg0.N) : t.val < 66 := lt_of_lt_of_eq t.isLt (show cfg0.N = 66 from N_0)

theorem near_lt (lo hi : ℕ) (h : lo < 6 ∧ hi < 6) (t : Fin cfg0.N) : 6 * (t.val / 6) + max lo (min (t.val % 6) hi) < cfg0.N := by
  have := lt_N t
  have e : cfg0.N = 66 := N_0
  omega

/-- Within the block of rows of `t`, the point whose block of columns is `t`'s brought between `lo` and `hi`. -/
def near (lo hi : ℕ) (h : lo < 6 ∧ hi < 6) (t : Fin cfg0.N) : Fin cfg0.N :=
  ⟨6 * (t.val / 6) + max lo (min (t.val % 6) hi), near_lt lo hi h t⟩

/-- The normed rows of `t`'s block of rows: what the scratch holds after `t`. -/
def rowsAt (c : Dev nD) (t : Fin cfg0.N) : Vec F S768x2048 .bf16 :=
  normed (iblk m c 0 (near 0 0 (by decide) t)) (iblk m c 1 (near 0 0 (by decide) t))

/-- The product last stored into the queries' (`lo`, `hi` = 0, 1), the keys' (2, 3) or the values' (4, 5) buffer. -/
def prodAt (lo hi : ℕ) (h : lo < 6 ∧ hi < 6) (c : Dev nD) (t : Fin cfg0.N) : Vec F S768x1024 .f32 :=
  product (rowsAt m c t) (iblk m c 2 (near lo hi h t))

/-- What holds between points: before the first anything, then the scratch at the normed rows. -/
def Between (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0 : Memref sig .tc .vmem S768x2048 .bf16) fullShare
      (rowsAt m c ⟨n, hn⟩) ∗ (∃ r, prngReg c r))

/-- What every point leaves in the windows' buffers, and what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodAt m 0 1 (by decide) c t
    | ⟨4, _⟩ => prodAt m 2 3 (by decide) c t
    | ⟨5, _⟩ => prodAt m 4 5 (by decide) c t
  Φ t := Between m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_q (c : Dev nD) (t : Fin cfg0.N) : (dats m 0 c).after 3 t = prodAt m 0 1 (by decide) c t := by dsimp only [dats]
theorem after_k (c : Dev nD) (t : Fin cfg0.N) : (dats m 0 c).after 4 t = prodAt m 2 3 (by decide) c t := by dsimp only [dats]
theorem after_v (c : Dev nD) (t : Fin cfg0.N) : (dats m 0 c).after 5 t = prodAt m 4 5 (by decide) c t := by dsimp only [dats]

/-- Every input's buffer holds its block. -/
theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d

/-! ## Where the body stores, and what is written back -/

/-- The conditions of the body by the point. -/
theorem conds (t : Fin cfg0.N) : (isFirst (grid0.coords t) ↔ t.val % 6 = 0) ∧ (k0_cond2 (grid0.coords t) = 1#1 ↔ t.val % 6 ≤ 1)
    ∧ (k0_cond3 (grid0.coords t) = 1#1 ↔ 2 ≤ t.val % 6 ∧ t.val % 6 ≤ 3) ∧ (k0_cond4 (grid0.coords t) = 1#1 ↔ 4 ≤ t.val % 6) :=
  (by decide +kernel : ∀ t : Fin grid0.N, (isFirst (grid0.coords t) ↔ t.val % 6 = 0) ∧ (k0_cond2 (grid0.coords t) = 1#1 ↔ t.val % 6 ≤ 1)
    ∧ (k0_cond3 (grid0.coords t) = 1#1 ↔ 2 ≤ t.val % 6 ∧ t.val % 6 ≤ 3) ∧ (k0_cond4 (grid0.coords t) = 1#1 ↔ 4 ≤ t.val % 6)) t

/-- The queries' buffer is left alone from the third block of columns on, and written back after the first and last. -/
theorem table_q (t : Fin cfg0.N) : (cfg0.idle 3 (grid0.coords t) = true ↔ ¬ t.val % 6 ≤ 1)
    ∧ ((cfg0.win 3).flush t = true ↔ t.val % 6 = 0 ∨ t.val % 6 = 5) :=
  (by decide +kernel : ∀ t : Fin grid0.N, (idle0 3 (grid0.coords t) = true ↔ ¬ t.val % 6 ≤ 1)
    ∧ (win0_3.flush t = true ↔ t.val % 6 = 0 ∨ t.val % 6 = 5)) t

/-- The keys' buffer is stored into at the third and fourth blocks of columns, and written back after the third and last. -/
theorem table_k (t : Fin cfg0.N) : (cfg0.idle 4 (grid0.coords t) = true ↔ ¬ (2 ≤ t.val % 6 ∧ t.val % 6 ≤ 3))
    ∧ ((cfg0.win 4).flush t = true ↔ t.val % 6 = 2 ∨ t.val % 6 = 5) :=
  (by decide +kernel : ∀ t : Fin grid0.N, (idle0 4 (grid0.coords t) = true ↔ ¬ (2 ≤ t.val % 6 ∧ t.val % 6 ≤ 3))
    ∧ (win0_4.flush t = true ↔ t.val % 6 = 2 ∨ t.val % 6 = 5)) t

/-- The values' buffer is stored into at the last two blocks of columns, and written back after each. -/
theorem table_v (t : Fin cfg0.N) : (cfg0.idle 5 (grid0.coords t) = true ↔ ¬ 4 ≤ t.val % 6)
    ∧ ((cfg0.win 5).flush t = true ↔ 4 ≤ t.val % 6) :=
  (by decide +kernel : ∀ t : Fin grid0.N, (idle0 5 (grid0.coords t) = true ↔ ¬ 4 ≤ t.val % 6)
    ∧ (win0_5.flush t = true ↔ 4 ≤ t.val % 6)) t

/-- The keys' blocks are cut alike within a block of rows. -/
theorem clip_k (t t' : Fin cfg0.N) (h : t'.val % 6 = 5) (h' : t.val = t'.val - 2) :
    (cfg0.win 4).clip (grid0.coords t) = (cfg0.win 4).clip (grid0.coords t') := by
  have e : cc0_transform_4 (grid0.coords t) = cc0_transform_4 (grid0.coords t') :=
    (by decide +kernel : ∀ t t' : Fin grid0.N, t'.val % 6 = 5 → t.val = t'.val - 2 →
      cc0_transform_4 (grid0.coords t) = cc0_transform_4 (grid0.coords t')) t t' h h'
  show (fun a => Pipeline.Clip.of (cc0_transform_4 _ a) _ _) = (fun a => Pipeline.Clip.of (cc0_transform_4 _ a) _ _)
  rw [e]

/-- The normed rows and the products depend on the block of rows and on the block of columns brought between the bounds. -/
theorem prodAt_congr (lo hi : ℕ) (h : lo < 6 ∧ hi < 6) (c : Dev nD) (t t' : Fin cfg0.N) (hr : t.val / 6 = t'.val / 6)
    (hc : max lo (min (t.val % 6) hi) = max lo (min (t'.val % 6) hi)) : prodAt m lo hi h c t = prodAt m lo hi h c t' := by
  have e0 : near 0 0 (by decide) t = near 0 0 (by decide) t' := Fin.ext (by show 6 * _ + max 0 (min _ 0) = 6 * _ + max 0 (min _ 0); omega)
  have e1 : near lo hi h t = near lo hi h t' := Fin.ext (by show 6 * _ + max lo (min _ hi) = 6 * _ + max lo (min _ hi); rw [hr, hc])
  unfold prodAt rowsAt
  rw [e0, e1]

/-- At the last block of columns the queries' buffer still holds the product stored at the second. -/
theorem before_q (c : Dev nD) (t : Fin cfg0.N) (h : t.val % 6 = 5) (d) :
    (dats m 0 c).before 3 t d = prodAt m 0 1 (by decide) c t := by
  have hN := lt_N t
  rw [(dats m 0 c).before_idle_run 3 (fun t => (cfg0.win 3).fetch_out rfl t) d 3 t (by omega) (fun j h1 h2 => by
    have a := table_q j
    constructor
    · exact a.1.mpr (by omega)
    · exact Bool.eq_false_iff.mpr fun hf => by have := a.2.mp hf; omega)]
  rw [(dats m 0 c).before_of_pos 3 ⟨t.val - 3, by omega⟩ (by show t.val - 3 ≠ 0; omega) ((cfg0.win 3).fetch_out rfl _) d]
  have a := table_q ⟨t.val - 3 - 1, by omega⟩
  rw [if_neg (fun hf => by have := a.2.mp hf; dsimp only at this; omega)]
  unfold Dat.left
  rw [Bool.eq_false_iff.mpr (fun hf => a.1.mp hf (by dsimp only; omega))]
  show (dats m 0 c).after 3 _ = _
  rw [after_q]
  exact prodAt_congr m 0 1 _ c _ _ (by dsimp only; omega) (by dsimp only; omega)

/-- At the last block of columns the keys' buffer still holds, on the part written back, the product stored at the fourth. -/
theorem before_k (c : Dev nD) (t : Fin cfg0.N) (h : t.val % 6 = 5) (d) :
    (dats m 0 c).before 4 t d = (cfg0.win 4).fill (grid0.coords t) d ((cfg0.win 4).cut (grid0.coords t) (prodAt m 2 3 (by decide) c t)) := by
  have hN := lt_N t
  rw [(dats m 0 c).before_idle_run 4 (fun t => (cfg0.win 4).fetch_out rfl t) d 1 t (by omega) (fun j h1 h2 => by
    have a := table_k j
    constructor
    · exact a.1.mpr (by omega)
    · exact Bool.eq_false_iff.mpr fun hf => by have := a.2.mp hf; omega)]
  rw [(dats m 0 c).before_of_pos 4 ⟨t.val - 1, by omega⟩ (by show t.val - 1 ≠ 0; omega) ((cfg0.win 4).fetch_out rfl _) d]
  have a := table_k ⟨t.val - 1 - 1, by omega⟩
  rw [if_neg (fun hf => by have := a.2.mp hf; dsimp only at this; omega)]
  unfold Dat.left
  rw [Bool.eq_false_iff.mpr (fun hf => a.1.mp hf (by dsimp only; omega))]
  show (dats m 0 c).kept 4 _ d = _
  unfold Dat.kept
  rw [after_k, prodAt_congr m 2 3 _ c _ t (by dsimp only; omega) (by dsimp only; omega)]
  exact Cert.Idle.fill_cut_congr 4 (clip_k _ t h (by show t.val - 1 - 1 = _; omega)) d _

/-! ## The obligation -/

/-- The queries' buffer after the body. -/
theorem leaves_q (c : Dev nD) (t : Fin cfg0.N) (d) : (dats m 0 c).Leaves 3 t
    (if k0_cond2 (grid0.coords t) = 1#1 then product (rowsAt m c t) (iblk m c 2 t) else (dats m 0 c).before 3 t d) := by
  have hN := lt_N t
  have a := table_q t
  have b := (conds t).2.1
  by_cases h1 : t.val % 6 ≤ 1
  · rw [if_pos (b.mpr h1)]
    refine (Dat.Leaves.live_iff _ (.inl (Bool.eq_false_iff.mpr fun hf => a.1.mp hf h1))).mpr ?_
    show _ = (dats m 0 c).after 3 t
    rw [after_q]
    unfold prodAt
    rw [show near 0 1 (by decide) t = t from Fin.ext (by show 6 * _ + max 0 (min _ 1) = t.val; omega)]
  · rw [if_neg (fun h => h1 (b.mp h))]
    by_cases h5 : t.val % 6 = 5
    · refine (Dat.Leaves.live_iff _ (.inr (a.2.mpr (.inr h5)))).mpr ?_
      show _ = (dats m 0 c).after 3 t
      rw [after_q, before_q m c t h5]
    · exact (Dat.Leaves.idle_iff _ (a.1.mpr h1) (Bool.eq_false_iff.mpr fun hf => by have := a.2.mp hf; omega)).mpr ⟨d, rfl⟩

/-- The keys' buffer after the body. -/
theorem leaves_k (c : Dev nD) (t : Fin cfg0.N) (d) : (dats m 0 c).Leaves 4 t
    (if k0_cond3 (grid0.coords t) = 1#1 then product (rowsAt m c t) (iblk m c 2 t) else (dats m 0 c).before 4 t d) := by
  have hN := lt_N t
  have a := table_k t
  have b := (conds t).2.2.1
  by_cases h1 : 2 ≤ t.val % 6 ∧ t.val % 6 ≤ 3
  · rw [if_pos (b.mpr h1)]
    refine (Dat.Leaves.live_iff _ (.inl (Bool.eq_false_iff.mpr fun hf => a.1.mp hf h1))).mpr ?_
    show ∃ d, _ = (cfg0.win 4).fill (grid0.coords t) d ((cfg0.win 4).cut (grid0.coords t) ((dats m 0 c).after 4 t))
    refine ⟨(dats m 0 c).after 4 t, ?_⟩
    rw [(cfg0.win 4).fill_cut, after_k]
    unfold prodAt
    rw [show near 2 3 (by decide) t = t from Fin.ext (by show 6 * _ + max 2 (min _ 3) = t.val; omega)]
  · rw [if_neg (fun h => h1 (b.mp h))]
    by_cases h5 : t.val % 6 = 5
    · refine (Dat.Leaves.live_iff _ (.inr (a.2.mpr (.inr h5)))).mpr ?_
      show ∃ d, _ = (cfg0.win 4).fill (grid0.coords t) d ((cfg0.win 4).cut (grid0.coords t) ((dats m 0 c).after 4 t))
      exact ⟨d, by rw [after_k, before_k m c t h5]⟩
    · exact (Dat.Leaves.idle_iff _ (a.1.mpr h1) (Bool.eq_false_iff.mpr fun hf => by have := a.2.mp hf; omega)).mpr ⟨d, rfl⟩

/-- The values' buffer after the body. -/
theorem leaves_v (c : Dev nD) (t : Fin cfg0.N) (d) : (dats m 0 c).Leaves 5 t
    (if k0_cond4 (grid0.coords t) = 1#1 then product (rowsAt m c t) (iblk m c 2 t) else (dats m 0 c).before 5 t d) := by
  have hN := lt_N t
  have a := table_v t
  have b := (conds t).2.2.2
  by_cases h1 : 4 ≤ t.val % 6
  · rw [if_pos (b.mpr h1)]
    refine (Dat.Leaves.live_iff _ (.inr (a.2.mpr h1))).mpr ?_
    show ∃ d, _ = (cfg0.win 5).fill (grid0.coords t) d ((cfg0.win 5).cut (grid0.coords t) ((dats m 0 c).after 5 t))
    refine ⟨(dats m 0 c).after 5 t, ?_⟩
    rw [(cfg0.win 5).fill_cut, after_v]
    unfold prodAt
    rw [show near 4 5 (by decide) t = t from Fin.ext (by show 6 * _ + max 4 (min _ 5) = t.val; omega)]
  · rw [if_neg (fun h => h1 (b.mp h))]
    exact (Dat.Leaves.idle_iff _ (a.1.mpr h1) (Bool.eq_false_iff.mpr fun hf => h1 (a.2.mp hf))).mpr ⟨d, rfl⟩

/-- The scratch's contents after `t`, from those before it. -/
theorem rowsAt_eq (c : Dev nD) (t : Fin cfg0.N) (xs : Vec F S768x2048 .bf16)
    (h : t.val % 6 ≠ 0 → xs = rowsAt m c ⟨t.val - 1, by omega⟩) :
    rowsAt m c t = if isFirst (grid0.coords t) then normed (iblk m c 0 t) (iblk m c 1 t) else xs := by
  have hN := lt_N t
  by_cases h0 : t.val % 6 = 0
  · rw [if_pos ((conds t).1.mpr h0)]
    unfold rowsAt
    rw [show near 0 0 (by decide) t = t from Fin.ext (by show 6 * _ + max 0 (min _ 0) = t.val; omega)]
  · rw [if_neg (fun hf => h0 ((conds t).1.mp hf)), h h0]
    unfold rowsAt
    rw [show near 0 0 (by decide) t = near 0 0 (by decide) ⟨t.val - 1, by omega⟩ from
      Fin.ext (by show 6 * _ + max 0 (min _ 0) = 6 * ((t.val - 1) / 6) + max 0 (min _ 0); omega)]

/-- Before every point the scratch holds some contents, the normed rows but at the first block of columns. -/
theorem between_open (c : Dev nD) (t : Fin cfg0.N) : Between m c t.val (Nat.le_of_lt t.isLt)
    ⊢ iprop(∃ xs, ⌜t.val % 6 ≠ 0 → xs = rowsAt m c ⟨t.val - 1, by omega⟩⌝
      ∗ owns (c : Thread nD τ) (Memref.whole cc0_scratch0 : Memref sig .tc .vmem S768x2048 .bf16) fullShare xs ∗ (∃ r, prngReg c r)) := by
  obtain ⟨n, hn⟩ := t
  cases n with
  | zero =>
    show Pipeline.ΦA spec0 c ⊢ _
    unfold Pipeline.ΦA
    rw [scopedRest0_eq]
    iintro ⟨⟨%f, H⟩, Hg⟩
    iexists f
    isplitr
    · ipureintro; exact fun h => absurd rfl h
    rw [owns_whole]
    isplitl [H]
    · iexact H
    iexact Hg
  | succ n =>
    show iprop(owns _ _ _ _ ∗ _) ⊢ _
    iintro ⟨H, Hg⟩
    iexists _
    isplitr
    swap
    · isplitl [H]
      · iexact H
      iexact Hg
    ipureintro
    exact fun _ => rfl

set_option maxHeartbeats 1000000 in
/-- The body at any point, from what it is called with to what it returns. -/
theorem sound (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ (dats m 0 c).leaves 3 t ∗ (dats m 0 c).leaves 4 t ∗ (dats m 0 c).leaves 5 t)) := by
  unfold bodyAt0
  simp only [before_x, before_g, before_w]
  rw [show (dats m 0 c).owesAt () t.succ = (dats m 0 c).owesAt () t.castSucc from rfl, after_x, after_g, after_w]
  rw [show (dats m 0 c).Φ t.castSucc = Between m c t.val (Nat.le_of_lt t.isLt) from by
      dsimp only [dats]; exact Pipeline.Dat.Φ_castSucc (Between m c) t,
    show (dats m 0 c).Φ t.succ = Between m c (t.val + 1) t.isLt from rfl]
  refine (sep_mono (between_open m c t) .rfl).trans ?_
  iintro ⟨⟨%xs, %hxs, HS, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ (iblk m c 0 t) (iblk m c 1 t) (iblk m c 2 t)
    ((dats m 0 c).before 3 t d3) ((dats m 0 c).before 4 t d4) ((dats m 0 c).before 5 t d5) xs (rowsAt m c t)
    (case_of t) (rowsAt_eq m c t xs hxs) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · dsimp only [Between]
    isplitl [HS]
    · iexact HS
    iexact Hg
  isplitl [Ho]; · iexact Ho
  isplitl [H0]; · iexact H0
  isplitl [H1]; · iexact H1
  isplitl [H2]; · iexact H2
  isplitl [H3]
  · iapply (Cert.Idle.leaves_of (dats m 0 c) (leaves_q m c t d3)); iexact H3
  isplitl [H4]
  · iapply (Cert.Idle.leaves_of (dats m 0 c) (leaves_k m c t d4)); iexact H4
  iapply (Cert.Idle.leaves_of (dats m 0 c) (leaves_v m c t d5)); iexact H5

/-- The body's row of the table of bodies. -/
theorem row (t : Fin cfg0.N) : defs₀ (F := F) .tc cfg0.body (cfg0.bodyArgs t (cfg0.slots t)) = bodyAt0 t := by
  unfold defs₀
  rw [Defs.onTc_tc]

/-- The body keeps the pipeline's obligation at every point. -/
theorem obligation (c : Dev nD) : BodyObligationLoose (dats (F := F) m 0 c) (defs₀ (F := F)) Variants.none () Set.univ := fun t => by
  rw [bigSep_W0, bigSep_W0, row]
  exact triple_restated (sound m c t) rfl .rfl fun _ => .rfl

/-- What the launch hands over is what holds before the first point. -/
theorem enter (c : Dev nD) : Pipeline.ΦA spec0 c ⊢ (dats m 0 c).Φ 0 := by
  show Pipeline.ΦA spec0 c ⊢ Between m c 0 (Nat.zero_le _)
  exact .rfl

/-- After the last point the scratch's contents are forgotten. -/
theorem leave (c : Dev nD) : (dats m 0 c).Φ (Fin.last cfg0.N) ⊢ Pipeline.ΦA spec0 c := by
  have e : ∀ (n : ℕ) (hn : n ≤ cfg0.N), n ≠ 0 → Between m c n hn ⊢ Pipeline.ΦA spec0 c := by
    intro n hn h0
    cases n with
    | zero => exact absurd rfl h0
    | succ n =>
      show iprop(owns _ _ _ _ ∗ _) ⊢ _
      unfold Pipeline.ΦA
      rw [scopedRest0_eq, owns_whole]
      iintro ⟨H, Hg⟩
      isplitl [H]
      · iexists _; iexact H
      iexact Hg
  exact e cfg0.N (Nat.le_refl _) (by have : cfg0.N = 66 := N_0; omega)

set_option backward.isDefEq.respectTransparency.types false in
/-- THE LAUNCH: the arrays end at what the points write back, every other buffer as the region found it, every counter at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := enter m) (hout := leave m)

/-- The program ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (launched m ρ))

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (launched m ρ))

end Cert.QkvIdeal.Read
-- ==== Proof.QkvValue.lean ====
/- The joint projection of queries, keys and values: what the kernel and its reference leave. -/
module

public import proofs.«01_k».proof.Proof.QkvFrame
public import proofs.«01_k».proof.Proof.Gen.QkvRefIdeal.Run
public import proofs.«01_k».proof.Proof.Gen.Qkv.Frame

@[expose] public section

set_option maxRecDepth 16384

noncomputable section

namespace Cert.QkvRefIdeal.Read

open Cert.QkvRefIdeal Cert.QkvRefIdeal.Gen Idealize.ShloMosaic Idealize.ShloMosaic.TcCoe Idealize.SL.Sem
open Cert.NormRefIdeal.Read (rms)
open Cert.Project (proj)

/-- Each row of the first `n` tokens, normed, times the 2048 columns of `w` from `o` on. -/
def part (n o : ℕ) (hn : n ≤ 8448) (ho : o ≤ 4096) (x : (⟨2, ![8448, 2048]⟩ : Shape).Idx → EReal)
    (g : (⟨1, ![2048]⟩ : Shape).Idx → EReal) (w : (⟨2, ![2048, 6144]⟩ : Shape).Idx → EReal) :
    (⟨2, ![n, 2048]⟩ : Shape).Idx → EReal := fun j =>
  proj x g w ⟨(j 0).val, Nat.lt_of_lt_of_le (j 0).isLt hn⟩ ⟨o + (j 1).val, by have : (j 1).val < 2048 := (j 1).isLt; omega⟩

/-- The queries, of every token. -/
abbrev GQ := part 8448 0 (by decide) (by decide)

/-- The keys, of the prompts' tokens. -/
abbrev GK := part 8256 2048 (by decide) (by decide)

/-- The values, of the prompts' tokens. -/
abbrev GV := part 8256 4096 (by decide) (by decide)

/-- The reference ends with the queries, keys and values of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = GQ (m ((c.tc : Thread nD τ).loc main_arg0)) (m ((c.tc : Thread nD τ).loc main_arg1)) (m ((c.tc : Thread nD τ).loc main_arg2))
      ∧ r.2.mem ((c.tc : Thread nD τ).loc main_v17)
        = GK (m ((c.tc : Thread nD τ).loc main_arg0)) (m ((c.tc : Thread nD τ).loc main_arg1)) (m ((c.tc : Thread nD τ).loc main_arg2))
      ∧ r.2.mem ((c.tc : Thread nD τ).loc main_v18)
        = GV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext j
      idx_vars j
      pointwise [GQ, part, proj, rms]), (h c).2.1.trans (by
      funext j
      idx_vars j
      pointwise [GK, part, proj, rms]), (h c).2.2.1.trans (by
      funext j
      idx_vars j
      pointwise [GV, part, proj, rms]), (h c).2.2.2⟩) (Cert.QkvRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2.2.2, Idealize.ShloMosaic.sem_eq_zero_of_no_sems (by decide) r.2⟩) (run m ρ)

end Cert.QkvRefIdeal.Read

/-! ## The program as written is the idealized one, before the values are chosen -/

namespace Cert.Qkv.Read

open Idealize.ShloMosaic Idealize.ShloMosaic.TcCoe Idealize.SL.Sem

variable {F : FTy → Type} [FloatOps F]

/-- Both programs have one host part. -/
theorem main_eq : @Cert.Qkv.main F _ Cert.Qkv.Gen.facts = @Cert.QkvIdeal.main F _ Cert.QkvIdeal.Gen.facts := rfl

/-- Both programs have one body. -/
theorem bodies_eq : @Cert.Qkv.defs₀ F _ Cert.Qkv.Gen.facts = @Cert.QkvIdeal.defs₀ F _ Cert.QkvIdeal.Gen.facts := by
  unfold Cert.Qkv.defs₀ Cert.QkvIdeal.defs₀
  refine congrArg (Defs.onTc (nD := Cert.QkvIdeal.nD) (τ := Cert.QkvIdeal.τ) (sig := Cert.QkvIdeal.sig)) ?_
  funext l x
  match l, x with
  | ⟨0, _⟩, (t, s) => rfl

/-- Both programs have one pipeline. -/
theorem defs_eq : @Cert.Qkv.defs F _ Cert.Qkv.Gen.facts = @Cert.QkvIdeal.defs F _ Cert.QkvIdeal.Gen.facts :=
  congrArg (Pipeline.defs (@Cert.QkvIdeal.pcfgs F Cert.QkvIdeal.Gen.facts)) bodies_eq

/-- The program ends with its arguments unchanged and every counter at zero. -/
theorem frame (m : (ℓ : Loc Cert.Qkv.nD Cert.Qkv.τ Cert.Qkv.sig) → Buf (Elt F) ℓ) (ρ : Dev Cert.Qkv.nD → PrngReg) :
    θ_run (@Cert.Qkv.defs F _ Cert.Qkv.Gen.facts) (onTc (τ := Cert.Qkv.τ) (@Cert.Qkv.main F _ Cert.Qkv.Gen.facts)) ⟨m, fun _ => 0, ρ⟩ fun r =>
      (∀ c : Dev Cert.Qkv.nD,
        r.2.mem ((c.tc : Thread Cert.Qkv.nD Cert.Qkv.τ).loc Cert.Qkv.main_arg0) = m ((c.tc : Thread Cert.Qkv.nD Cert.Qkv.τ).loc Cert.Qkv.main_arg0)
        ∧ r.2.mem ((c.tc : Thread Cert.Qkv.nD Cert.Qkv.τ).loc Cert.Qkv.main_arg1) = m ((c.tc : Thread Cert.Qkv.nD Cert.Qkv.τ).loc Cert.Qkv.main_arg1)
        ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0 := by
  rw [defs_eq, main_eq]
  exact Cert.QkvIdeal.Read.frame m ρ

end Cert.Qkv.Read

namespace Cert.QkvIdeal.Read

open Cert.QkvIdeal Cert.QkvIdeal.Gen Idealize.ShloMosaic Idealize.ShloMosaic.TcCoe Idealize.SL.Sem
open Cert.NormRefIdeal.Read (rms)
open Cert.Project (proj rms_congr)
open Cert.QkvRefIdeal.Read (GQ GK GV part)

variable (m : (ℓ : Loc nD τ sig) → Buf (Elt Ideal) ℓ) (ρ : Dev nD → PrngReg)

/-- Point `6 i + j` reads rows from `768 i`, the whole gain and columns from `1024 j` of the weights. -/
theorem reads (t : Fin cfg0.N) : (win0_0.rect t).off = ![768 * (t.val / 6), 0] ∧ (win0_1.rect t).off = ![0, 0]
    ∧ (win0_2.rect t).off = ![0, 1024 * (t.val % 6)] :=
  (by decide +kernel : ∀ t : Fin grid0.N, (win0_0.rect t).off = ![768 * (t.val / 6), 0] ∧ (win0_1.rect t).off = ![0, 0]
    ∧ (win0_2.rect t).off = ![0, 1024 * (t.val % 6)]) t

/-- Where the queries' block lies. -/
theorem place_q (t : Fin cfg0.N) : (win0_3.rect t).off = ![768 * (t.val / 6), 1024 * min (t.val % 6) 1]
    ∧ win0_3.xsize (grid0.coords t) = ![768, 1024] :=
  (by decide +kernel : ∀ t : Fin grid0.N, (win0_3.rect t).off = ![768 * (t.val / 6), 1024 * min (t.val % 6) 1]
    ∧ win0_3.xsize (grid0.coords t) = ![768, 1024]) t

/-- Where the keys' block lies, cut at the last of the prompts' tokens. -/
theorem place_k (t : Fin cfg0.N) : (win0_4.rect t).off = ![768 * (t.val / 6), 1024 * (max 2 (min (t.val % 6) 3) - 2)]
    ∧ win0_4.xsize (grid0.coords t) = ![min 768 (8256 - 768 * (t.val / 6)), 1024] :=
  (by decide +kernel : ∀ t : Fin grid0.N, (win0_4.rect t).off = ![768 * (t.val / 6), 1024 * (max 2 (min (t.val % 6) 3) - 2)]
    ∧ win0_4.xsize (grid0.coords t) = ![min 768 (8256 - 768 * (t.val / 6)), 1024]) t

/-- Where the values' block lies, cut at the last of the prompts' tokens. -/
theorem place_v (t : Fin cfg0.N) : (win0_5.rect t).off = ![768 * (t.val / 6), 1024 * (max 4 (t.val % 6) - 4)]
    ∧ win0_5.xsize (grid0.coords t) = ![min 768 (8256 - 768 * (t.val / 6)), 1024] :=
  (by decide +kernel : ∀ t : Fin grid0.N, (win0_5.rect t).off = ![768 * (t.val / 6), 1024 * (max 4 (t.val % 6) - 4)]
    ∧ win0_5.xsize (grid0.coords t) = ![min 768 (8256 - 768 * (t.val / 6)), 1024]) t

/-- The rows' block, element by element. -/
theorem blk_x (c : Dev nD) (t : Fin cfg0.N) (r : Fin 768) (d : Fin 2048) :
    (iblk m c 0 t : Vec Ideal S768x2048 .f32) (ix2 r d)
      = m ((c : Thread nD τ).loc main_arg0) (ix2 ⟨768 * (t.val / 6) + r.val, by have := lt_N t; omega⟩ d) := by
  have hN := lt_N t
  unfold iblk
  rw [View.read_apply]
  show V m c main_arg0 _ = _
  have h := (reads t).1
  rw [V_main_arg0, show ((cfg0.win 0).blk t).view.emb (ix2 r d) = (ix2 ⟨768 * (t.val / 6) + r.val, by omega⟩ d : S8448x2048.Idx) from by
    funext a
    apply Fin.ext
    match a with
    | ⟨0, _⟩ =>
      show (win0_0.rect t).off 0 + 1 * r.val = 768 * (t.val / 6) + r.val
      rw [h]; show 768 * (t.val / 6) + 1 * r.val = 768 * (t.val / 6) + r.val; omega
    | ⟨1, _⟩ => show (win0_0.rect t).off 1 + 1 * d.val = d.val; rw [h]; show 0 + 1 * d.val = d.val; omega]

/-- The gain's block is the whole gain. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v1 _ = _
  have e : V m c main_v1 = shapeCast S1x2048 (m ((c : Thread nD τ).loc main_arg1)) shapeCasts_S2048_S1x2048 := by
    show StableHlo.after [_, _] _ _ = _
    after_results <;> rfl
  have h := (reads t).2.1
  rw [e, show ((cfg0.win 1).blk t).view.emb (ix2 0 d) = (ix2 0 d : S1x2048.Idx) from by
    funext a
    apply Fin.ext
    match a with
    | ⟨0, _⟩ => show (win0_1.rect t).off 0 + 1 * 0 = 0; rw [h]; rfl
    | ⟨1, _⟩ => show (win0_1.rect t).off 1 + 1 * d.val = d.val; rw [h]; show 0 + 1 * d.val = d.val; omega]
  pointwise

/-- The weights' block: 1024 columns. -/
theorem blk_w (c : Dev nD) (t : Fin cfg0.N) (k : Fin 2048) (d : Fin 1024) :
    (iblk m c 2 t : Vec Ideal S2048x1024 .bf16) (ix2 k d)
      = m ((c : Thread nD τ).loc main_arg2) (ix2 k ⟨1024 * (t.val % 6) + d.val, by omega⟩) := by
  unfold iblk
  rw [View.read_apply]
  show V m c main_v0 _ = _
  have e : V m c main_v0 = truncf (F := Ideal) .bf16 (m ((c : Thread nD τ).loc main_arg2)) bitsLt_bf16_f32 := by
    show StableHlo.after [_, _] _ _ = _
    after_results <;> rfl
  have h := (reads t).2.2
  rw [e, show ((cfg0.win 2).blk t).view.emb (ix2 k d) = (ix2 k ⟨1024 * (t.val % 6) + d.val, by omega⟩ : S2048x6144.Idx) from by
    funext a
    apply Fin.ext
    match a with
    | ⟨0, _⟩ => show (win0_2.rect t).off 0 + 1 * k.val = k.val; rw [h]; show 0 + 1 * k.val = k.val; omega
    | ⟨1, _⟩ =>
      show (win0_2.rect t).off 1 + 1 * d.val = 1024 * (t.val % 6) + d.val
      rw [h]; show 1024 * (t.val % 6) + 1 * d.val = 1024 * (t.val % 6) + d.val; omega]
  pointwise

/-- The normed rows, element by element. -/
theorem normed_apply (x : Vec Ideal S768x2048 .f32) (g : Vec Ideal S1x2048 .f32) (r : Fin 768) (d : Fin 2048) :
    normed x g (ix2 r d) = rms x (fun k => g (ix2 0 (k 0))) r d := by
  pointwise [normed, rms]

/-- The product, element by element. -/
theorem product_apply (h : Vec Ideal S768x2048 .bf16) (w : Vec Ideal S2048x1024 .bf16) (r : Fin 768) (d : Fin 1024) :
    product h w (ix2 r d) = ∑ k : Fin 2048, h (ix2 r k) * w (ix2 k d) := by
  pointwise [product]

/-- The product last stored is the reference's on the rows of `t`'s block and the columns last stored. -/
theorem prodAt_apply (lo hi : ℕ) (hb : lo < 6 ∧ hi < 6) (c : Dev nD) (t : Fin cfg0.N) (r : Fin 768) (d : Fin 1024) :
    prodAt m lo hi hb c t (ix2 r d)
      = proj (m ((c : Thread nD τ).loc main_arg0)) (m ((c : Thread nD τ).loc main_arg1)) (m ((c : Thread nD τ).loc main_arg2))
        (⟨768 * (t.val / 6) + r.val, by have := lt_N t; omega⟩ : Fin 8448)
        (⟨1024 * max lo (min (t.val % 6) hi) + d.val, by omega⟩ : Fin 6144) := by
  have hN := lt_N t
  unfold prodAt rowsAt
  rw [product_apply]
  unfold proj
  refine Finset.sum_congr rfl fun k _ => ?_
  rw [normed_apply, blk_w]
  refine congrArg₂ (fun a b : EReal => a * b) ?_ (congrArg _ (congrArg (ix2 k) (Fin.ext ?_)))
  · refine rms_congr (fun k => (blk_x m c _ r k).trans (congrArg _ (congrArg (fun q => ix2 q k) (Fin.ext ?_)))) (fun k => blk_g m c _ k)
    show 768 * ((6 * (t.val / 6) + max 0 (min (t.val % 6) 0)) / 6) + r.val = 768 * (t.val / 6) + r.val
    omega
  · show 1024 * ((6 * (t.val / 6) + max lo (min (t.val % 6) hi)) % 6) + d.val = 1024 * max lo (min (t.val % 6) hi) + d.val
    omega

/-- A block of the products, laid at row `768 i` and column `o'`, is that block of a part of the reference's products. -/
theorem part_at (n o lo hi : ℕ) (hn : n ≤ 8448) (ho : o ≤ 4096) (hb : lo < 6 ∧ hi < 6) (c : Dev nD) (t : Fin cfg0.N)
    (y : S768x1024.Idx) (j : (⟨2, ![n, 2048]⟩ : Shape).Idx) (h0 : (j 0).val = 768 * (t.val / 6) + (y 0).val)
    (h1 : o + (j 1).val = 1024 * max lo (min (t.val % 6) hi) + (y 1).val) :
    prodAt m lo hi hb c t y = part n o hn ho (m ((c : Thread nD τ).loc main_arg0)) (m ((c : Thread nD τ).loc main_arg1))
      (m ((c : Thread nD τ).loc main_arg2)) j := by
  obtain ⟨r, d, rfl⟩ : ∃ (r : Fin 768) (d : Fin 1024), y = (ix2 r d : S768x1024.Idx) := ⟨y 0, y 1, eq_ix2 y⟩
  rw [prodAt_apply]
  unfold part
  exact congrArg₂ (proj _ _ _) (Fin.ext h0.symm) (Fin.ext h1.symm)

/-- Every block of the queries written back is their part of the reference's. -/
theorem flushed_q (c : Dev nD) (t : Fin cfg0.N) : (dats m 0 c).flushed 3 t = ((cfg0.win 3).blk t).view.read (Elt Ideal)
    (GQ (m ((c : Thread nD τ).loc main_arg0)) (m ((c : Thread nD τ).loc main_arg1)) (m ((c : Thread nD τ).loc main_arg2))) := by
  have h := (place_q t).1
  funext y
  rw [View.read_apply]
  show (dats m 0 c).after 3 t (win0_3.xinj (grid0.coords t) y) = _
  rw [after_q]
  refine part_at m 8448 0 0 1 (by decide) (by decide) (by decide) c t (win0_3.xinj (grid0.coords t) y)
    (((cfg0.win 3).blk t).view.emb y) ?_ ?_
  · show (win0_3.rect t).off 0 + 1 * (y 0).val = 768 * (t.val / 6) + (y 0).val
    rw [h, Nat.one_mul]; rfl
  · show 0 + ((win0_3.rect t).off 1 + 1 * (y 1).val) = 1024 * max 0 (min (t.val % 6) 1) + (y 1).val
    rw [h, Nat.one_mul]; show 0 + (1024 * min (t.val % 6) 1 + (y 1).val) = _; omega

/-- Every block of the keys written back is their part of the reference's. -/
theorem flushed_k (c : Dev nD) (t : Fin cfg0.N) : (dats m 0 c).flushed 4 t = ((cfg0.win 4).blk t).view.read (Elt Ideal)
    (GK (m ((c : Thread nD τ).loc main_arg0)) (m ((c : Thread nD τ).loc main_arg1)) (m ((c : Thread nD τ).loc main_arg2))) := by
  have h := (place_k t).1
  funext y
  rw [View.read_apply]
  show (dats m 0 c).after 4 t (win0_4.xinj (grid0.coords t) y) = _
  rw [after_k]
  refine part_at m 8256 2048 2 3 (by decide) (by decide) (by decide) c t (win0_4.xinj (grid0.coords t) y)
    (((cfg0.win 4).blk t).view.emb y) ?_ ?_
  · show (win0_4.rect t).off 0 + 1 * (y 0).val = 768 * (t.val / 6) + (y 0).val
    rw [h, Nat.one_mul]; rfl
  · show 2048 + ((win0_4.rect t).off 1 + 1 * (y 1).val) = 1024 * max 2 (min (t.val % 6) 3) + (y 1).val
    rw [h, Nat.one_mul]; show 2048 + (1024 * (max 2 (min (t.val % 6) 3) - 2) + (y 1).val) = _; omega

/-- Every block of the values written back is their part of the reference's. -/
theorem flushed_v (c : Dev nD) (t : Fin cfg0.N) : (dats m 0 c).flushed 5 t = ((cfg0.win 5).blk t).view.read (Elt Ideal)
    (GV (m ((c : Thread nD τ).loc main_arg0)) (m ((c : Thread nD τ).loc main_arg1)) (m ((c : Thread nD τ).loc main_arg2))) := by
  have h := (place_v t).1
  funext y
  rw [View.read_apply]
  show (dats m 0 c).after 5 t (win0_5.xinj (grid0.coords t) y) = _
  rw [after_v]
  refine part_at m 8256 4096 4 5 (by decide) (by decide) (by decide) c t (win0_5.xinj (grid0.coords t) y)
    (((cfg0.win 5).blk t).view.emb y) ?_ ?_
  · show (win0_5.rect t).off 0 + 1 * (y 0).val = 768 * (t.val / 6) + (y 0).val
    rw [h, Nat.one_mul]; rfl
  · show 4096 + ((win0_5.rect t).off 1 + 1 * (y 1).val) = 1024 * max 4 (min (t.val % 6) 5) + (y 1).val
    rw [h, Nat.one_mul]; show 4096 + (1024 * (max 4 (t.val % 6) - 4) + (y 1).val) = _; omega

/-- The point that writes back a row and a column of a result: the first that stores the block of columns where `p = 0`. -/
def writer (p q : ℕ) (h : p < 6 ∧ q < 6) (r d : ℕ) (hr : r < 8448) : Fin cfg0.N :=
  ⟨6 * (r / 768) + if d < 1024 then p else q, by
    have e : cfg0.N = 66 := N_0
    split <;> omega⟩

/-- Every element of the queries lies in a block written back. -/
theorem cover_q (i : S8448x2048.Idx) : ∃ t : Fin cfg0.N, (cfg0.win 3).flush t = true ∧ i ∈ ((cfg0.win 3).blk t).view.set := by
  have h0 : (i 0).val < 8448 := (i 0).isLt
  have h1 : (i 1).val < 2048 := (i 1).isLt
  let t := writer 0 5 (by decide) (i 0).val (i 1).val h0
  have ht : t.val = 6 * ((i 0).val / 768) + if (i 1).val < 1024 then 0 else 5 := rfl
  obtain ⟨h, hx⟩ := place_q t
  refine ⟨t, (table_q t).2.mpr (by split at ht <;> omega), ?_⟩
  show i ∈ ((View.whole main_v2_0).slice (win0_3.rect t)).set
  rw [View.set_slice_whole, Rect.mem_set_unit]
  intro a
  match a with
  | ⟨0, _⟩ =>
    show (win0_3.rect t).off 0 ≤ (i 0).val ∧ (i 0).val < (win0_3.rect t).off 0 + win0_3.xsize (grid0.coords t) 0
    rw [h, hx]; show 768 * (t.val / 6) ≤ (i 0).val ∧ (i 0).val < 768 * (t.val / 6) + 768; split at ht <;> omega
  | ⟨1, _⟩ =>
    show (win0_3.rect t).off 1 ≤ (i 1).val ∧ (i 1).val < (win0_3.rect t).off 1 + win0_3.xsize (grid0.coords t) 1
    rw [h, hx]
    show 1024 * min (t.val % 6) 1 ≤ (i 1).val ∧ (i 1).val < 1024 * min (t.val % 6) 1 + 1024
    split at ht <;> omega

/-- Every element of the keys lies in a block written back. -/
theorem cover_k (i : S8256x2048.Idx) : ∃ t : Fin cfg0.N, (cfg0.win 4).flush t = true ∧ i ∈ ((cfg0.win 4).blk t).view.set := by
  have h0 : (i 0).val < 8256 := (i 0).isLt
  have h1 : (i 1).val < 2048 := (i 1).isLt
  let t := writer 2 5 (by decide) (i 0).val (i 1).val (by omega)
  have ht : t.val = 6 * ((i 0).val / 768) + if (i 1).val < 1024 then 2 else 5 := rfl
  obtain ⟨h, hx⟩ := place_k t
  refine ⟨t, (table_k t).2.mpr (by split at ht <;> omega), ?_⟩
  show i ∈ ((View.whole main_v2_1).slice (win0_4.rect t)).set
  rw [View.set_slice_whole, Rect.mem_set_unit]
  intro a
  match a with
  | ⟨0, _⟩ =>
    show (win0_4.rect t).off 0 ≤ (i 0).val ∧ (i 0).val < (win0_4.rect t).off 0 + win0_4.xsize (grid0.coords t) 0
    rw [h, hx]
    show 768 * (t.val / 6) ≤ (i 0).val ∧ (i 0).val < 768 * (t.val / 6) + min 768 (8256 - 768 * (t.val / 6))
    split at ht <;> omega
  | ⟨1, _⟩ =>
    show (win0_4.rect t).off 1 ≤ (i 1).val ∧ (i 1).val < (win0_4.rect t).off 1 + win0_4.xsize (grid0.coords t) 1
    rw [h, hx]
    show 1024 * (max 2 (min (t.val % 6) 3) - 2) ≤ (i 1).val ∧ (i 1).val < 1024 * (max 2 (min (t.val % 6) 3) - 2) + 1024
    split at ht <;> omega

/-- Every element of the values lies in a block written back. -/
theorem cover_v (i : S8256x2048.Idx) : ∃ t : Fin cfg0.N, (cfg0.win 5).flush t = true ∧ i ∈ ((cfg0.win 5).blk t).view.set := by
  have h0 : (i 0).val < 8256 := (i 0).isLt
  have h1 : (i 1).val < 2048 := (i 1).isLt
  let t := writer 4 5 (by decide) (i 0).val (i 1).val (by omega)
  have ht : t.val = 6 * ((i 0).val / 768) + if (i 1).val < 1024 then 4 else 5 := rfl
  obtain ⟨h, hx⟩ := place_v t
  refine ⟨t, (table_v t).2.mpr (by split at ht <;> omega), ?_⟩
  show i ∈ ((View.whole main_v2_2).slice (win0_5.rect t)).set
  rw [View.set_slice_whole, Rect.mem_set_unit]
  intro a
  match a with
  | ⟨0, _⟩ =>
    show (win0_5.rect t).off 0 ≤ (i 0).val ∧ (i 0).val < (win0_5.rect t).off 0 + win0_5.xsize (grid0.coords t) 0
    rw [h, hx]
    show 768 * (t.val / 6) ≤ (i 0).val ∧ (i 0).val < 768 * (t.val / 6) + min 768 (8256 - 768 * (t.val / 6))
    split at ht <;> omega
  | ⟨1, _⟩ =>
    show (win0_5.rect t).off 1 ≤ (i 1).val ∧ (i 1).val < (win0_5.rect t).off 1 + win0_5.xsize (grid0.coords t) 1
    rw [h, hx]
    show 1024 * (max 4 (t.val % 6) - 4) ≤ (i 1).val ∧ (i 1).val < 1024 * (max 4 (t.val % 6) - 4) + 1024
    split at ht <;> omega

/-- The kernel ends with the queries, keys and values of its arguments, which it leaves unchanged. -/
theorem run : θ_run defs (onTc (τ := τ) (main (F := Ideal))) ⟨m, fun _ => 0, ρ⟩ fun r => ∀ c : Dev nD,
      r.2.mem ((c : Thread nD τ).loc main_v2_0)
        = GQ (m ((c : Thread nD τ).loc main_arg0)) (m ((c : Thread nD τ).loc main_arg1)) (m ((c : Thread nD τ).loc main_arg2))
      ∧ r.2.mem ((c : Thread nD τ).loc main_v2_1)
        = GK (m ((c : Thread nD τ).loc main_arg0)) (m ((c : Thread nD τ).loc main_arg1)) (m ((c : Thread nD τ).loc main_arg2))
      ∧ r.2.mem ((c : Thread nD τ).loc main_v2_2)
        = GV (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h.1.1 c).1 3).trans ((dats m 0 c).arrAt_eq_of_cover 3 _ (fun t _ => flushed_q m c t) cover_q),
      ((h.1.1 c).1 4).trans ((dats m 0 c).arrAt_eq_of_cover 4 _ (fun t _ => flushed_k m c t) cover_k),
      ((h.1.1 c).1 5).trans ((dats m 0 c).arrAt_eq_of_cover 5 _ (fun t _ => flushed_v m c t) cover_v), h.2 c⟩)
    (θ_run_and (launched m ρ) (unchanged m ρ))

end Cert.QkvIdeal.Read
-- ==== Proof.ProjInValue.lean ====
/- The first layer's input projection: what the kernel and its reference leave. -/
module

public import proofs.«01_k».proof.Proof.Gen.ProjInIdeal.Value
public import proofs.«01_k».proof.Proof.Gen.ProjInRefIdeal.Run
public import proofs.«01_k».proof.Proof.Project

@[expose] public section

set_option maxRecDepth 16384

noncomputable section

namespace Cert.ProjInRefIdeal.Read

open Cert.ProjInRefIdeal Cert.ProjInRefIdeal.Gen Idealize.ShloMosaic Idealize.ShloMosaic.TcCoe Idealize.SL.Sem
open Cert.NormRefIdeal.Read (rms)
open Cert.Project (proj)

/-- Column `d` of the result is column `d` of the weights, or from 3072 on, where 16 columns are left out, column `d + 16`. -/
def col (d : Fin 5120) : Fin 5136 :=
  if h : d.val < 3072 then ⟨d.val, by omega⟩ else ⟨3088 + (d.val - 3072), by omega⟩

/-- Each row of the result is the row of the tokens, normed, times the columns of `w` but 16. -/
def G (x : (⟨2, ![8448, 2048]⟩ : Shape).Idx → EReal) (g : (⟨1, ![2048]⟩ : Shape).Idx → EReal)
    (w : (⟨2, ![2048, 5136]⟩ : Shape).Idx → EReal) : (⟨2, ![8448, 5120]⟩ : Shape).Idx → EReal := fun j =>
  proj x g w (j 0) (col (j 1))

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext j
      idx_vars j
      pointwise [G, proj, rms, col]
      split <;> rfl), (h c).2⟩) (Cert.ProjInRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, Idealize.ShloMosaic.sem_eq_zero_of_no_sems (by decide) r.2⟩) (run m ρ)

end Cert.ProjInRefIdeal.Read

namespace Cert.ProjInIdeal.Read

open Cert.ProjInIdeal Cert.ProjInIdeal.Gen Idealize.ShloMosaic Idealize.ShloMosaic.TcCoe Idealize.SL.Sem
open Cert.NormRefIdeal.Read (rms)
open Cert.Project (proj zeros2 rms_congr)
open Cert.ProjInRefIdeal.Read (G col)

variable (m : (ℓ : Loc nD τ sig) → Buf (Elt Ideal) ℓ) (ρ : Dev nD → PrngReg)

/-- Point `5 i + j` reads rows from `768 i`, the whole gain and columns from `1024 j` of the weights, and writes these rows and columns. -/
theorem starts (t : Fin cfg0.N) : (win0_0.rect t).off = ![768 * (t.val / 5), 0] ∧ (win0_1.rect t).off = ![0, 0]
    ∧ (win0_2.rect t).off = ![0, 1024 * (t.val % 5)] ∧ (win0_3.rect t).off = ![768 * (t.val / 5), 1024 * (t.val % 5)] :=
  (by decide +kernel : ∀ t : Fin grid0.N, (win0_0.rect t).off = ![768 * (t.val / 5), 0] ∧ (win0_1.rect t).off = ![0, 0]
    ∧ (win0_2.rect t).off = ![0, 1024 * (t.val % 5)] ∧ (win0_3.rect t).off = ![768 * (t.val / 5), 1024 * (t.val % 5)]) t

theorem lt_N (t : Fin cfg0.N) : t.val < 55 := lt_of_lt_of_eq t.isLt (show cfg0.N = 55 from N_0)

/-- The rows' block, element by element. -/
theorem blk_x (c : Dev nD) (t : Fin cfg0.N) (r : Fin 768) (d : Fin 2048) :
    (iblk m c 0 t : Vec Ideal S768x2048 .f32) (ix2 r d)
      = m ((c : Thread nD τ).loc main_arg0) (ix2 ⟨768 * (t.val / 5) + r.val, by have := lt_N t; omega⟩ d) := by
  have hN := lt_N t
  unfold iblk
  rw [View.read_apply]
  show V m c main_arg0 _ = _
  have h := (starts t).1
  rw [V_main_arg0, show ((cfg0.win 0).blk t).view.emb (ix2 r d) = (ix2 ⟨768 * (t.val / 5) + r.val, by omega⟩ d : S8448x2048.Idx) from by
    funext a
    apply Fin.ext
    match a with
    | ⟨0, _⟩ =>
      show (win0_0.rect t).off 0 + 1 * r.val = 768 * (t.val / 5) + r.val
      rw [h]; show 768 * (t.val / 5) + 1 * r.val = 768 * (t.val / 5) + r.val; omega
    | ⟨1, _⟩ => show (win0_0.rect t).off 1 + 1 * d.val = d.val; rw [h]; show 0 + 1 * d.val = d.val; omega]

/-- The gain's block is the whole gain. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v4 _ = _
  have e : V m c main_v4 = shapeCast S1x2048 (m ((c : Thread nD τ).loc main_arg1)) shapeCasts_S2048_S1x2048 := by
    show StableHlo.after [_, _, _, _, _] _ _ = _
    after_results <;> rfl
  have h := (starts t).2.1
  rw [e, show ((cfg0.win 1).blk t).view.emb (ix2 0 d) = (ix2 0 d : S1x2048.Idx) from by
    funext a
    apply Fin.ext
    match a with
    | ⟨0, _⟩ => show (win0_1.rect t).off 0 + 1 * 0 = 0; rw [h]; rfl
    | ⟨1, _⟩ => show (win0_1.rect t).off 1 + 1 * d.val = d.val; rw [h]; show 0 + 1 * d.val = d.val; omega]
  pointwise

/-- The weights' block: 1024 columns of the weights kept. -/
theorem blk_w (c : Dev nD) (t : Fin cfg0.N) (k : Fin 2048) (d : Fin 1024) :
    (iblk m c 2 t : Vec Ideal S2048x1024 .bf16) (ix2 k d)
      = m ((c : Thread nD τ).loc main_arg2) (ix2 k (col ⟨1024 * (t.val % 5) + d.val, by omega⟩)) := by
  have hN := lt_N t
  unfold iblk
  rw [View.read_apply]
  show V m c main_v3 _ = _
  have e : V m c main_v3 = truncf (F := Ideal) .bf16 (concatenate S2048x5120 1
      [⟨S2048x3072, extractStridedSlice S2048x3072 ![0, 0] (m ((c : Thread nD τ).loc main_arg2)) slices_S2048x5136_S2048x3072_0_0⟩,
       ⟨S2048x2048, extractStridedSlice S2048x2048 ![0, 3088] (m ((c : Thread nD τ).loc main_arg2)) slices_S2048x5136_S2048x2048_0_3088⟩]
      concatenates_S2048x3072_S2048x2048_S2048x5120_d1) bitsLt_bf16_f32 := by
    show StableHlo.after [_, _, _, _, _] _ _ = _
    after_results <;> rfl
  have h := (starts t).2.2.1
  rw [e, show ((cfg0.win 2).blk t).view.emb (ix2 k d) = (ix2 k ⟨1024 * (t.val % 5) + d.val, by omega⟩ : S2048x5120.Idx) from by
    funext a
    apply Fin.ext
    match a with
    | ⟨0, _⟩ => show (win0_2.rect t).off 0 + 1 * k.val = k.val; rw [h]; show 0 + 1 * k.val = k.val; omega
    | ⟨1, _⟩ =>
      show (win0_2.rect t).off 1 + 1 * d.val = 1024 * (t.val % 5) + d.val
      rw [h]; show 1024 * (t.val % 5) + 1 * d.val = 1024 * (t.val % 5) + d.val; omega]
  pointwise [col]
  split <;> rfl

/-- The normed rows, element by element. -/
theorem norm_apply (x : Vec Ideal S768x2048 .f32) (g : Vec Ideal S1x2048 .f32) (r : Fin 768) (d : Fin 2048) :
    k0_pay1 x g (ix2 r d) = rms x (fun k => g (ix2 0 (k 0))) r d := by
  pointwise [k0_pay1, rms]

/-- The product, element by element. -/
theorem dot_apply (h : Vec Ideal S768x2048 .bf16) (w : Vec Ideal S2048x1024 .bf16) (r : Fin 768) (d : Fin 1024) :
    k0_pay2 h w (ix2 r d) = ∑ k : Fin 2048, h (ix2 r k) * w (ix2 k d) := by
  pointwise [k0_pay2]

/-- After every point the scratch holds the normed rows. -/
theorem carried (c : Dev nD) : ∀ (n : ℕ) (hn : n < cfg0.N) (r : Fin 768) (d : Fin 2048),
    (outsAt0 m c n hn).2 (ix2 r d) = rms (m ((c : Thread nD τ).loc main_arg0)) (m ((c : Thread nD τ).loc main_arg1))
      ⟨768 * (n / 5) + r.val, by have := lt_N ⟨n, hn⟩; dsimp only at this; omega⟩ d := by
  have first (t : Fin cfg0.N) (h0 : t.val % 5 = 0) (r : Fin 768) (d : Fin 2048) :
      (outsAt0 m c t.val t.isLt).2 (ix2 r d) = rms (m ((c : Thread nD τ).loc main_arg0)) (m ((c : Thread nD τ).loc main_arg1))
        ⟨768 * (t.val / 5) + r.val, by have := lt_N t; omega⟩ d := by
    rw [outsAt0_A m c t h0]
    dsimp only
    unfold sout0_A_0
    rw [View.read_writes_eq_canon _ _ _ (scover0_A_0 c _ _ _ _ _ _ _ _ _ _ _ _ _ _ _)]
    unfold kernelRun0_A
    dsimp only
    sl_unfold_words
    rw [View.canon_unit_zero zeros2]
    simp only [View.readAt_eq_ld, Memref.IsWhole.read_unread]
    rw [View.ld_unit_zero zeros2, View.ld_unit_zero zeros2, norm_apply]
    exact rms_congr (fun k => blk_x m c t r k) (fun k => blk_g m c t k)
  intro n
  induction n with
  | zero => exact fun hn => first ⟨0, hn⟩ (Nat.zero_mod _)
  | succ n ih =>
    intro hn r d
    by_cases h0 : (n + 1) % 5 = 0
    · exact first ⟨n + 1, hn⟩ h0 r d
    rw [outsAt0_B m c ⟨n + 1, hn⟩ h0]
    unfold sout0_B_0
    simp only [Nat.add_sub_cancel]
    rw [ih (by omega) r d]
    have e : n / 5 = (n + 1) / 5 := by omega
    simp only [e]

/-- Each point leaves its 768 rows and 1024 columns of the product. -/
theorem out_eq (c : Dev nD) (t : Fin cfg0.N) (r : Fin 768) (d : Fin 1024) :
    (outsAt0 m c t.val t.isLt).1 (ix2 r d)
      = ∑ k : Fin 2048, (outsAt0 m c t.val t.isLt).2 (ix2 r k) * (iblk m c 2 t : Vec Ideal S2048x1024 .bf16) (ix2 k d) := by
  by_cases h0 : t.val % 5 = 0
  · rw [outsAt0_A m c t h0]
    dsimp only
    unfold out0_A_3 sout0_A_0
    rw [View.read_writes_eq_canon _ _ _ (cover0_A_3 c _ _ _ _ _ _ _ _ _ _ _ _ _ _ _),
      View.read_writes_eq_canon _ _ _ (scover0_A_0 c _ _ _ _ _ _ _ _ _ _ _ _ _ _ _)]
    unfold kernelRun0_A
    dsimp only
    sl_unfold_words
    rw [View.canon_unit_zero zeros2, View.canon_unit_zero zeros2]
    simp only [View.readAt_eq_ld, Memref.IsWhole.read_unread]
    rw [dot_apply, View.ld_unit_zero zeros2, View.ld_unit_zero zeros2, View.ld_unit_zero zeros2, View.readCov_cons_toLoadRect]
  · rw [outsAt0_B m c t h0]
    dsimp only
    unfold out0_B_3 sout0_B_0
    rw [View.read_writes_eq_canon _ _ _ (cover0_B_3 c _ _ _ _ _ _ _ _ _ _ _ _ _ _ _ _)]
    unfold kernelRun0_B
    dsimp only
    sl_unfold_words
    rw [View.canon_unit_zero zeros2]
    simp only [View.readAt_eq_ld, Memref.IsWhole.read_unread]
    rw [View.ld_unit_zero zeros2, View.ld_unit_zero zeros2, dot_apply, (Memref.isWhole_whole _).read_unread]

/-- Every point writes back its part of `G`. -/
theorem flushed_eq (c : Dev nD) (t : Fin cfg0.N) : (dats m 0 c).flushed 3 t = ((cfg0.win 3).blk t).view.read (Elt Ideal)
    (G (m ((c : Thread nD τ).loc main_arg0)) (m ((c : Thread nD τ).loc main_arg1)) (m ((c : Thread nD τ).loc main_arg2))) := by
  have hN := lt_N t
  rw [Value.flushed3]
  have h := (starts t).2.2.2
  funext y
  obtain ⟨r, d, rfl⟩ : ∃ (r : Fin 768) (d : Fin 1024), y = (ix2 r d : S768x1024.Idx) := ⟨y 0, y 1, eq_ix2 y⟩
  rw [View.read_apply, show ((cfg0.win 3).blk t).view.emb (ix2 r d)
      = (ix2 ⟨768 * (t.val / 5) + r.val, by omega⟩ ⟨1024 * (t.val % 5) + d.val, by omega⟩ : S8448x5120.Idx) from by
    funext a
    apply Fin.ext
    match a with
    | ⟨0, _⟩ =>
      show (win0_3.rect t).off 0 + 1 * r.val = 768 * (t.val / 5) + r.val
      rw [h]; show 768 * (t.val / 5) + 1 * r.val = 768 * (t.val / 5) + r.val; omega
    | ⟨1, _⟩ =>
      show (win0_3.rect t).off 1 + 1 * d.val = 1024 * (t.val % 5) + d.val
      rw [h]; show 1024 * (t.val % 5) + 1 * d.val = 1024 * (t.val % 5) + d.val; omega]
  show (outsAt0 m c t.val t.isLt).1 (ix2 r d) = _
  rw [out_eq]
  simp only [carried, blk_w]
  rfl

/-- Every element of the result lies in some point's block. -/
theorem cover (i : S8448x5120.Idx) : ∃ t : Fin cfg0.N, (cfg0.win 3).flush t = true ∧ i ∈ ((cfg0.win 3).blk t).view.set := by
  have h0 : (i 0).val < 8448 := (i 0).isLt
  have h1 : (i 1).val < 5120 := (i 1).isLt
  let t : Fin cfg0.N := ⟨5 * ((i 0).val / 768) + (i 1).val / 1024, by show _ < cfg0.N; rw [show cfg0.N = 55 from N_0]; omega⟩
  have ht : t.val = 5 * ((i 0).val / 768) + (i 1).val / 1024 := rfl
  have h := (starts t).2.2.2
  refine ⟨t, flush0_3 t, ?_⟩
  show i ∈ ((View.whole main_v5).slice (win0_3.rect t)).set
  rw [View.set_slice_whole, Rect.mem_set_unit]
  intro a
  match a with
  | ⟨0, _⟩ =>
    show (win0_3.rect t).off 0 ≤ (i 0).val ∧ (i 0).val < (win0_3.rect t).off 0 + 768
    rw [h]; show 768 * (t.val / 5) ≤ (i 0).val ∧ (i 0).val < 768 * (t.val / 5) + 768; omega
  | ⟨1, _⟩ =>
    show (win0_3.rect t).off 1 ≤ (i 1).val ∧ (i 1).val < (win0_3.rect t).off 1 + 1024
    rw [h]; show 1024 * (t.val % 5) ≤ (i 1).val ∧ (i 1).val < 1024 * (t.val % 5) + 1024; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover),
    (h c).2⟩) (Value.run_blocks m ρ)

end Cert.ProjInIdeal.Read
-- ==== Proof.ProjOutEvenValue.lean ====
/- The first layer's output projection: what the kernel and its reference leave. -/
module

public import proofs.«01_k».proof.Proof.Gen.ProjOutEvenIdeal.Value
public import proofs.«01_k».proof.Proof.Gen.ProjOutEvenRefIdeal.Run
public import proofs.«01_k».proof.Proof.Project

@[expose] public section

set_option maxRecDepth 16384

noncomputable section

namespace Cert.ProjOutEvenRefIdeal.Read

open Cert.ProjOutEvenRefIdeal Cert.ProjOutEvenRefIdeal.Gen Idealize.ShloMosaic Idealize.ShloMosaic.TcCoe Idealize.SL.Sem

/-- Row `r` of the residual, plus the same row of `a` times the upper half of the weights, plus that of `b` times the lower half. -/
def G (a b : (⟨2, ![8448, 1024]⟩ : Shape).Idx → EReal) (w : (⟨2, ![2048, 2048]⟩ : Shape).Idx → EReal)
    (x : (⟨2, ![8448, 2048]⟩ : Shape).Idx → EReal) : (⟨2, ![8448, 2048]⟩ : Shape).Idx → EReal := fun j =>
  x j + ∑ k : Fin 1024, a (ix2 (j 0) k) * w (ix2 ⟨k.val, by omega⟩ (j 1))
    + ∑ k : Fin 1024, b (ix2 (j 0) k) * w (ix2 ⟨1024 + k.val, by omega⟩ (j 1))

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext j
      idx_vars j
      pointwise [G]
      exact (add_assoc _ _ _).symm), (h c).2⟩) (Cert.ProjOutEvenRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2, Idealize.ShloMosaic.sem_eq_zero_of_no_sems (by decide) r.2⟩) (run m ρ)

end Cert.ProjOutEvenRefIdeal.Read

namespace Cert.ProjOutEvenIdeal.Read

open Cert.ProjOutEvenIdeal Cert.ProjOutEvenIdeal.Gen Idealize.ShloMosaic Idealize.ShloMosaic.TcCoe Idealize.SL.Sem
open Cert.Project (zeros2)
open Cert.ProjOutEvenRefIdeal.Read (G)

variable (m : (ℓ : Loc nD τ sig) → Buf (Elt Ideal) ℓ) (ρ : Dev nD → PrngReg)

/-- Point `t` reads rows from `768 t` of both parts and of the residual, and the whole of the weights; it writes these rows. -/
theorem starts (t : Fin cfg0.N) : (win0_0.rect t).off = ![768 * t.val, 0] ∧ (win0_1.rect t).off = ![768 * t.val, 0]
    ∧ (win0_2.rect t).off = ![0, 0] ∧ (win0_3.rect t).off = ![768 * t.val, 0] ∧ (win0_4.rect t).off = ![768 * t.val, 0] :=
  (by decide +kernel : ∀ t : Fin grid0.N, (win0_0.rect t).off = ![768 * t.val, 0] ∧ (win0_1.rect t).off = ![768 * t.val, 0]
    ∧ (win0_2.rect t).off = ![0, 0] ∧ (win0_3.rect t).off = ![768 * t.val, 0] ∧ (win0_4.rect t).off = ![768 * t.val, 0]) t

theorem lt_N (t : Fin cfg0.N) : t.val < 11 := lt_of_lt_of_eq t.isLt (show cfg0.N = 11 from N_0)

/-- The first part's block, element by element. -/
theorem blk_a (c : Dev nD) (t : Fin cfg0.N) (r : Fin 768) (d : Fin 1024) :
    (iblk m c 0 t : Vec Ideal S768x1024 .bf16) (ix2 r d)
      = m ((c : Thread nD τ).loc main_arg0) (ix2 ⟨768 * t.val + r.val, by have := lt_N t; omega⟩ d) := by
  have hN := lt_N t
  unfold iblk
  rw [View.read_apply]
  show V m c main_arg0 _ = _
  have h := (starts t).1
  rw [V_main_arg0, show ((cfg0.win 0).blk t).view.emb (ix2 r d) = (ix2 ⟨768 * t.val + r.val, by omega⟩ d : S8448x1024.Idx) from by
    funext a
    apply Fin.ext
    match a with
    | ⟨0, _⟩ =>
      show (win0_0.rect t).off 0 + 1 * r.val = 768 * t.val + r.val
      rw [h]; show 768 * t.val + 1 * r.val = 768 * t.val + r.val; omega
    | ⟨1, _⟩ => show (win0_0.rect t).off 1 + 1 * d.val = d.val; rw [h]; show 0 + 1 * d.val = d.val; omega]

/-- The second part's block, element by element. -/
theorem blk_b (c : Dev nD) (t : Fin cfg0.N) (r : Fin 768) (d : Fin 1024) :
    (iblk m c 1 t : Vec Ideal S768x1024 .bf16) (ix2 r d)
      = m ((c : Thread nD τ).loc main_arg1) (ix2 ⟨768 * t.val + r.val, by have := lt_N t; omega⟩ d) := by
  have hN := lt_N t
  unfold iblk
  rw [View.read_apply]
  show V m c main_arg1 _ = _
  have h := (starts t).2.1
  rw [V_main_arg1, show ((cfg0.win 1).blk t).view.emb (ix2 r d) = (ix2 ⟨768 * t.val + r.val, by omega⟩ d : S8448x1024.Idx) from by
    funext a
    apply Fin.ext
    match a with
    | ⟨0, _⟩ =>
      show (win0_1.rect t).off 0 + 1 * r.val = 768 * t.val + r.val
      rw [h]; show 768 * t.val + 1 * r.val = 768 * t.val + r.val; omega
    | ⟨1, _⟩ => show (win0_1.rect t).off 1 + 1 * d.val = d.val; rw [h]; show 0 + 1 * d.val = d.val; omega]

/-- The weights' block is the whole of the weights. -/
theorem blk_w (c : Dev nD) (t : Fin cfg0.N) (k d : Fin 2048) :
    (iblk m c 2 t : Vec Ideal S2048x2048 .bf16) (ix2 k d) = m ((c : Thread nD τ).loc main_arg2) (ix2 k d) := by
  unfold iblk
  rw [View.read_apply]
  show V m c main_v0 _ = _
  have e : V m c main_v0 = truncf (F := Ideal) .bf16 (m ((c : Thread nD τ).loc main_arg2)) bitsLt_bf16_f32 := by
    show StableHlo.after [_] _ _ = _
    after_results <;> rfl
  have h := (starts t).2.2.1
  rw [e, show ((cfg0.win 2).blk t).view.emb (ix2 k d) = (ix2 k d : S2048x2048.Idx) from by
    funext a
    apply Fin.ext
    match a with
    | ⟨0, _⟩ => show (win0_2.rect t).off 0 + 1 * k.val = k.val; rw [h]; show 0 + 1 * k.val = k.val; omega
    | ⟨1, _⟩ => show (win0_2.rect t).off 1 + 1 * d.val = d.val; rw [h]; show 0 + 1 * d.val = d.val; omega]
  rfl

/-- The residual's block, element by element. -/
theorem blk_x (c : Dev nD) (t : Fin cfg0.N) (r : Fin 768) (d : Fin 2048) :
    (iblk m c 3 t : Vec Ideal S768x2048 .f32) (ix2 r d)
      = m ((c : Thread nD τ).loc main_arg3) (ix2 ⟨768 * t.val + r.val, by have := lt_N t; omega⟩ d) := by
  have hN := lt_N t
  unfold iblk
  rw [View.read_apply]
  show V m c main_arg3 _ = _
  have h := (starts t).2.2.2.1
  rw [V_main_arg3, show ((cfg0.win 3).blk t).view.emb (ix2 r d) = (ix2 ⟨768 * t.val + r.val, by omega⟩ d : S8448x2048.Idx) from by
    funext a
    apply Fin.ext
    match a with
    | ⟨0, _⟩ =>
      show (win0_3.rect t).off 0 + 1 * r.val = 768 * t.val + r.val
      rw [h]; show 768 * t.val + 1 * r.val = 768 * t.val + r.val; omega
    | ⟨1, _⟩ => show (win0_3.rect t).off 1 + 1 * d.val = d.val; rw [h]; show 0 + 1 * d.val = d.val; omega]

/-- The upper half of the weights, loaded. -/
theorem ld_upper (w : Vec Ideal S2048x2048 .bf16) (k : Fin 1024) (d : Fin 2048) :
    View.ld w r0_2 (ix2 k d) = w (ix2 ⟨k.val, by omega⟩ d) := by
  refine congrArg w ?_
  funext a
  apply Fin.ext
  match a with
  | ⟨0, _⟩ => show 0 + 1 * k.val = k.val; omega
  | ⟨1, _⟩ => show 0 + 1 * d.val = d.val; omega

/-- The lower half of the weights, loaded. -/
theorem ld_lower (w : Vec Ideal S2048x2048 .bf16) (k : Fin 1024) (d : Fin 2048) :
    View.ld w r0_3 (ix2 k d) = w (ix2 ⟨1024 + k.val, by omega⟩ d) := by
  refine congrArg w ?_
  funext a
  apply Fin.ext
  match a with
  | ⟨0, _⟩ => show 1024 + 1 * k.val = 1024 + k.val; omega
  | ⟨1, _⟩ => show 0 + 1 * d.val = d.val; omega

/-- The residual plus the two products, element by element. -/
theorem pay_apply (x : Vec Ideal S768x2048 .f32) (a b : Vec Ideal S768x1024 .bf16) (u l : Vec Ideal S1024x2048 .bf16)
    (r : Fin 768) (d : Fin 2048) : k0_pay1 x a u b l (ix2 r d)
      = x (ix2 r d) + ∑ k : Fin 1024, a (ix2 r k) * u (ix2 k d) + ∑ k : Fin 1024, b (ix2 r k) * l (ix2 k d) := by
  pointwise [k0_pay1]

/-- What a point computes from its blocks, element by element. -/
theorem out_apply (a b : Vec Ideal S768x1024 .bf16) (w : Vec Ideal S2048x2048 .bf16) (x : Vec Ideal S768x2048 .f32)
    (r : Fin 768) (d : Fin 2048) : out0_4 a b w x (ix2 r d)
      = x (ix2 r d) + ∑ k : Fin 1024, a (ix2 r k) * w (ix2 ⟨k.val, by omega⟩ d)
        + ∑ k : Fin 1024, b (ix2 r k) * w (ix2 ⟨1024 + k.val, by omega⟩ d) := by
  unfold out0_4
  rw [View.canon_unit_zero zeros2, View.ld_unit_zero zeros2, View.ld_unit_zero zeros2, View.ld_unit_zero zeros2, pay_apply]
  congr 1
  · congr 1
    exact Finset.sum_congr rfl fun k _ => congrArg (fun v : EReal => a (ix2 r k) * v) (ld_upper w k d)
  · exact Finset.sum_congr rfl fun k _ => congrArg (fun v : EReal => b (ix2 r k) * v) (ld_lower w k d)

/-- Every point writes back its rows of `G`. -/
theorem flushed_eq (c : Dev nD) (t : Fin cfg0.N) : (dats m 0 c).flushed 4 t = ((cfg0.win 4).blk t).view.read (Elt Ideal)
    (G (m ((c : Thread nD τ).loc main_arg0)) (m ((c : Thread nD τ).loc main_arg1)) (m ((c : Thread nD τ).loc main_arg2))
      (m ((c : Thread nD τ).loc main_arg3))) := by
  have hN := lt_N t
  rw [Value.flushed4]
  have h := (starts t).2.2.2.2
  funext y
  obtain ⟨r, d, rfl⟩ : ∃ (r : Fin 768) (d : Fin 2048), y = (ix2 r d : S768x2048.Idx) := ⟨y 0, y 1, eq_ix2 y⟩
  rw [View.read_apply, show ((cfg0.win 4).blk t).view.emb (ix2 r d) = (ix2 ⟨768 * t.val + r.val, by omega⟩ d : S8448x2048.Idx) from by
    funext a
    apply Fin.ext
    match a with
    | ⟨0, _⟩ =>
      show (win0_4.rect t).off 0 + 1 * r.val = 768 * t.val + r.val
      rw [h]; show 768 * t.val + 1 * r.val = 768 * t.val + r.val; omega
    | ⟨1, _⟩ => show (win0_4.rect t).off 1 + 1 * d.val = d.val; rw [h]; show 0 + 1 * d.val = d.val; omega]
  show out0_4 (iblk m c 0 t) (iblk m c 1 t) (iblk m c 2 t) (iblk m c 3 t) (ix2 r d) = _
  rw [out_apply]
  simp only [blk_a, blk_b, blk_w, blk_x]
  rfl

/-- Every element of the result lies in some point's block. -/
theorem cover (i : S8448x2048.Idx) : ∃ t : Fin cfg0.N, (cfg0.win 4).flush t = true ∧ i ∈ ((cfg0.win 4).blk t).view.set := by
  have h0 : (i 0).val < 8448 := (i 0).isLt
  have h1 : (i 1).val < 2048 := (i 1).isLt
  let t : Fin cfg0.N := ⟨(i 0).val / 768, by show _ < cfg0.N; rw [show cfg0.N = 11 from N_0]; omega⟩
  have ht : t.val = (i 0).val / 768 := rfl
  have h := (starts t).2.2.2.2
  refine ⟨t, flush0_4 t, ?_⟩
  show i ∈ ((View.whole main_v1).slice (win0_4.rect t)).set
  rw [View.set_slice_whole, Rect.mem_set_unit]
  intro a
  match a with
  | ⟨0, _⟩ =>
    show (win0_4.rect t).off 0 ≤ (i 0).val ∧ (i 0).val < (win0_4.rect t).off 0 + 768
    rw [h]; show 768 * t.val ≤ (i 0).val ∧ (i 0).val < 768 * t.val + 768; omega
  | ⟨1, _⟩ =>
    show (win0_4.rect t).off 1 ≤ (i 1).val ∧ (i 1).val < (win0_4.rect t).off 1 + 2048
    rw [h]; show 0 ≤ (i 1).val ∧ (i 1).val < 0 + 2048; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed_eq m c t) cover),
    (h c).2⟩) (Value.run_blocks m ρ)

end Cert.ProjOutEvenIdeal.Read
-- ==== Proof.ProjOutOddValue.lean ====
/- The second layer's output projection: what the kernel and its reference leave. -/
module

public import proofs.«01_k».proof.Proof.Gen.ProjOutOddIdeal.Value
public import proofs.«01_k».proof.Proof.Gen.ProjOutOddRefIdeal.Run
public import proofs.«01_k».proof.Proof.Project

@[expose] public section

set_option maxRecDepth 16384

noncomputable section

namespace Cert.ProjOutOddRefIdeal.Read

open Cert.ProjOutOddRefIdeal Cert.ProjOutOddRefIdeal.Gen Idealize.ShloMosaic Idealize.ShloMosaic.TcCoe Idealize.SL.Sem

/-- Row `r` of the residual, plus the same row of `a` times the weights. -/
def G (a : (⟨2, ![8448, 2048]⟩ : Shape).Idx → EReal) (w : (⟨2, ![2048, 2048]⟩ : Shape).Idx → EReal)
    (x : (⟨2, ![8448, 2048]⟩ : Shape).Idx → EReal) : (⟨2, ![8448, 2048]⟩ : Shape).Idx → EReal := fun j =>
  x j + ∑ k : Fin 2048, a (ix2 (j 0) k) * w (ix2 k (j 1))

/-- The reference ends with `G` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext j
      idx_vars j
      pointwise [G]), (h c).2⟩) (Cert.ProjOutOddRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, Idealize.ShloMosaic.sem_eq_zero_of_no_sems (by decide) r.2⟩) (run m ρ)

end Cert.ProjOutOddRefIdeal.Read

namespace Cert.ProjOutOddIdeal.Read

open Cert.ProjOutOddIdeal Cert.ProjOutOddIdeal.Gen Idealize.ShloMosaic Idealize.ShloMosaic.TcCoe Idealize.SL.Sem
open Cert.Project (zeros2)
open Cert.ProjOutOddRefIdeal.Read (G)

variable (m : (ℓ : Loc nD τ sig) → Buf (Elt Ideal) ℓ) (ρ : Dev nD → PrngReg)

/-- Point `t` reads rows from `768 t` of the left factor and of the residual, and the whole of the weights; it writes these rows. -/
theorem starts (t : Fin cfg0.N) : (win0_0.rect t).off = ![768 * t.val, 0] ∧ (win0_1.rect t).off = ![0, 0]
    ∧ (win0_2.rect t).off = ![768 * t.val, 0] ∧ (win0_3.rect t).off = ![768 * t.val, 0] :=
  (by decide +kernel : ∀ t : Fin grid0.N, (win0_0.rect t).off = ![768 * t.val, 0] ∧ (win0_1.rect t).off = ![0, 0]
    ∧ (win0_2.rect t).off = ![768 * t.val, 0] ∧ (win0_3.rect t).off = ![768 * t.val, 0]) t

theorem lt_N (t : Fin cfg0.N) : t.val < 11 := lt_of_lt_of_eq t.isLt (show cfg0.N = 11 from N_0)

/-- The left factor's block, element by element. -/
theorem blk_a (c : Dev nD) (t : Fin cfg0.N) (r : Fin 768) (d : Fin 2048) :
    (iblk m c 0 t : Vec Ideal S768x2048 .bf16) (ix2 r d)
      = m ((c : Thread nD τ).loc main_arg0) (ix2 ⟨768 * t.val + r.val, by have := lt_N t; omega⟩ d) := by
  have hN := lt_N t
  unfold iblk
  rw [View.read_apply]
  show V m c main_arg0 _ = _
  have h := (starts t).1
  rw [V_main_arg0, show ((cfg0.win 0).blk t).view.emb (ix2 r d) = (ix2 ⟨768 * t.val + r.val, by omega⟩ d : S8448x2048.Idx) from by
    funext a
    apply Fin.ext
    match a with
    | ⟨0, _⟩ =>
      show (win0_0.rect t).off 0 + 1 * r.val = 768 * t.val + r.val
      rw [h]; show 768 * t.val + 1 * r.val = 768 * t.val + r.val; omega
    | ⟨1, _⟩ => show (win0_0.rect t).off 1 + 1 * d.val = d.val; rw [h]; show 0 + 1 * d.val = d.val; omega]

/-- The weights' block is the whole of the weights. -/
theorem blk_w (c : Dev nD) (t : Fin cfg0.N) (k d : Fin 2048) :
    (iblk m c 1 t : Vec Ideal S2048x2048 .bf16) (ix2 k d) = m ((c : Thread nD τ).loc main_arg1) (ix2 k d) := by
  unfold iblk
  rw [View.read_apply]
  show V m c main_v0 _ = _
  have e : V m c main_v0 = truncf (F := Ideal) .bf16 (m ((c : Thread nD τ).loc main_arg1)) bitsLt_bf16_f32 := by
    show StableHlo.after [_] _ _ = _
    after_results <;> rfl
  have h := (starts t).2.1
  rw [e, show ((cfg0.win 1).blk t).view.emb (ix2 k d) = (ix2 k d : S2048x2048.Idx) from by
    funext a
    apply Fin.ext
    match a with
    | ⟨0, _⟩ => show (win0_1.rect t).off 0 + 1 * k.val = k.val; rw [h]; show 0 + 1 * k.val = k.val; omega
    | ⟨1, _⟩ => show (win0_1.rect t).off 1 + 1 * d.val = d.val; rw [h]; show 0 + 1 * d.val = d.val; omega]
  rfl

/-- The residual's block, element by element. -/
theorem blk_x (c : Dev nD) (t : Fin cfg0.N) (r : Fin 768) (d : Fin 2048) :
    (iblk m c 2 t : Vec Ideal S768x2048 .f32) (ix2 r d)
      = m ((c : Thread nD τ).loc main_arg2) (ix2 ⟨768 * t.val + r.val, by have := lt_N t; omega⟩ d) := by
  have hN := lt_N t
  unfold iblk
  rw [View.read_apply]
  show V m c main_arg2 _ = _
  have h := (starts t).2.2.1
  rw [V_main_arg2, show ((cfg0.win 2).blk t).view.emb (ix2 r d) = (ix2 ⟨768 * t.val + r.val, by omega⟩ d : S8448x2048.Idx) from by
    funext a
    apply Fin.ext
    match a with
    | ⟨0, _⟩ =>
      show (win0_2.rect t).off 0 + 1 * r.val = 768 * t.val + r.val
      rw [h]; show 768 * t.val + 1 * r.val = 768 * t.val + r.val; omega
    | ⟨1, _⟩ => show (win0_2.rect t).off 1 + 1 * d.val = d.val; rw [h]; show 0 + 1 * d.val = d.val; omega]

/-- The residual plus the product, element by element. -/
theorem pay_apply (x : Vec Ideal S768x2048 .f32) (a : Vec Ideal S768x2048 .bf16) (w : Vec Ideal S2048x2048 .bf16)
    (r : Fin 768) (d : Fin 2048) : k0_pay1 x a w (ix2 r d) = x (ix2 r d) + ∑ k : Fin 2048, a (ix2 r k) * w (ix2 k d) := by
  pointwise [k0_pay1]

/-- What a point computes from its blocks, element by element. -/
theorem out_apply (a : Vec Ideal S768x2048 .bf16) (w : Vec Ideal S2048x2048 .bf16) (x : Vec Ideal S768x2048 .f32)
    (r : Fin 768) (d : Fin 2048) : out0_3 a w x (ix2 r d) = x (ix2 r d) + ∑ k : Fin 2048, a (ix2 r k) * w (ix2 k d) := by
  unfold out0_3
  rw [View.canon_unit_zero zeros2, View.ld_unit_zero zeros2, View.ld_unit_zero zeros2, View.ld_unit_zero zeros2, pay_apply]

/-- Every point writes back its rows of `G`. -/
theorem flushed_eq (c : Dev nD) (t : Fin cfg0.N) : (dats m 0 c).flushed 3 t = ((cfg0.win 3).blk t).view.read (Elt Ideal)
    (G (m ((c : Thread nD τ).loc main_arg0)) (m ((c : Thread nD τ).loc main_arg1)) (m ((c : Thread nD τ).loc main_arg2))) := by
  have hN := lt_N t
  rw [Value.flushed3]
  have h := (starts t).2.2.2
  funext y
  obtain ⟨r, d, rfl⟩ : ∃ (r : Fin 768) (d : Fin 2048), y = (ix2 r d : S768x2048.Idx) := ⟨y 0, y 1, eq_ix2 y⟩
  rw [View.read_apply, show ((cfg0.win 3).blk t).view.emb (ix2 r d) = (ix2 ⟨768 * t.val + r.val, by omega⟩ d : S8448x2048.Idx) from by
    funext a
    apply Fin.ext
    match a with
    | ⟨0, _⟩ =>
      show (win0_3.rect t).off 0 + 1 * r.val = 768 * t.val + r.val
      rw [h]; show 768 * t.val + 1 * r.val = 768 * t.val + r.val; omega
    | ⟨1, _⟩ => show (win0_3.rect t).off 1 + 1 * d.val = d.val; rw [h]; show 0 + 1 * d.val = d.val; omega]
  show out0_3 (iblk m c 0 t) (iblk m c 1 t) (iblk m c 2 t) (ix2 r d) = _
  rw [out_apply]
  simp only [blk_a, blk_w, blk_x]
  rfl

/-- Every element of the result lies in some point's block. -/
theorem cover (i : S8448x2048.Idx) : ∃ t : Fin cfg0.N, (cfg0.win 3).flush t = true ∧ i ∈ ((cfg0.win 3).blk t).view.set := by
  have h0 : (i 0).val < 8448 := (i 0).isLt
  have h1 : (i 1).val < 2048 := (i 1).isLt
  let t : Fin cfg0.N := ⟨(i 0).val / 768, by show _ < cfg0.N; rw [show cfg0.N = 11 from N_0]; omega⟩
  have ht : t.val = (i 0).val / 768 := rfl
  have h := (starts t).2.2.2
  refine ⟨t, flush0_3 t, ?_⟩
  show i ∈ ((View.whole main_v1).slice (win0_3.rect t)).set
  rw [View.set_slice_whole, Rect.mem_set_unit]
  intro a
  match a with
  | ⟨0, _⟩ =>
    show (win0_3.rect t).off 0 ≤ (i 0).val ∧ (i 0).val < (win0_3.rect t).off 0 + 768
    rw [h]; show 768 * t.val ≤ (i 0).val ∧ (i 0).val < 768 * t.val + 768; omega
  | ⟨1, _⟩ =>
    show (win0_3.rect t).off 1 ≤ (i 1).val ∧ (i 1).val < (win0_3.rect t).off 1 + 2048
    rw [h]; show 0 ≤ (i 1).val ∧ (i 1).val < 0 + 2048; omega

/-- The kernel ends with `G` of its arguments, which it leaves unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c t) cover),
    (h c).2⟩) (Value.run_blocks m ρ)

end Cert.ProjOutOddIdeal.Read
-- ==== Proof.PeerQRun.lean ====
module

public import proofs.«01_k».proof.Proof.Gen.PeerQIdeal.Frame
public import proofs.«01_k».proof.Proof.QkvRun

/-! # The body of the norm before the experts on one core

The body norms its rows into a scratch and into its second result at the first block of columns of a block of rows, and
stores the product of the normed rows with the block of weights. -/

@[expose] public section

set_option maxRecDepth 16384

namespace Cert.PeerQIdeal.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.PeerQIdeal.Gen
open Cert.Project (zeros2)
open Cert.QkvIdeal.Read (normed product)

variable {F : FTy → Type} [FloatOps F]

/-- The first block of columns. -/
abbrev isFirst (i : grid0.Coords) : Prop := k0_cond1 i = 1#1

/-- The normed rows as the second result's block takes them. -/
noncomputable def made (v8 : Vec F S768x2048 .f32) (v19 : Vec F S1x2048 .f32) : FVec F S768x2048 .bf16 :=
  have v9 : FVec F S768x2048 .f32 := mulf v8 v8
  have v10 : FVec F S768 .f32 := multiReduction .add [1] S768 v9 0x00000000#32 reduces_S768x2048_S768 (.inl rfl) rfl
  have v11 : FVec F S768x1 .f32 := shapeCast S768x1 v10 shapeCasts_S768_S768x1
  have v12 : FVec F S768x1 .f32 := broadcast S768x1 (Scalar.ofBits .f32 0x45000000#32 : F .f32)
  have v13 : FVec F S768x1 .f32 := divf v11 v12
  have v14 : FVec F S768x1 .f32 := broadcast S768x1 (Scalar.ofBits .f32 0x358637BD#32 : F .f32)
  have v16 : FVec F S768x1 .f32 := rsqrt (addf v13 v14)
  have v18 : FVec F S768x2048 .f32 := mulf v8 (broadcastTo S768x2048 v16 broadcasts_S768x1_S768x2048)
  have v20 : FVec F S1x2048 .f32 := shapeCast S1x2048 v19 shapeCasts_S1x2048_S1x2048
  truncf .bf16 (mulf v18 (broadcastTo S768x2048 v20 broadcasts_S1x2048_S768x2048)) bitsLt_bf16_f32

/-- They are the normed rows. -/
theorem made_eq (x : Vec F S768x2048 .f32) (g : Vec F S1x2048 .f32) : made x g = normed x g :=
  (shapeCast_self (made x g) shapeCasts_S768x2048_S768x2048).symm

/-- The body as its loads and stores: the rows are normed at the first block of columns, and the product is stored. -/
noncomputable def skel (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S768x1024 .f32) (harg5 : arg5.IsWhole) (arg6 : Memref sig .tc .vmem S768x2048 .bf16) (harg6 : arg6.IsWhole) (arg7 : Memref sig .tc .vmem S768x2048 .bf16) (harg7 : arg7.IsWhole) :
    Prog (TpuEff nD τ sig (Elt F) Λ₀ .tc) PUnit := do
  if k0_h1 : k0_cond1 i = 1#1 then do
    let v8 : Vec F S768x2048 .f32 ← Prog.lift (.load arg2 (Rect.unit (s := S768x2048) ![0, 0] S768x2048.size inb_S768x2048_S768x2048_0_0).toLoadRect (View.loadsAt_vmem h_S768x2048))
    let v19 : Vec F S1x2048 .f32 ← Prog.lift (.load arg3 (Rect.unit (s := S1x2048) ![0, 0] S1x2048.size inb_S1x2048_S1x2048_0_0).toLoadRect (View.loadsAt_vmem h_S1x2048))
    let v24 : Vec F S768x2048 .bf16 ← Prog.lift (.load arg7 (Rect.unit (s := S768x2048) ![0, 0] S768x2048.size inb_S768x2048_S768x2048_0_0).toLoadRect (View.loadsAt_vmem h_S768x2048))
    Prog.lift (.store arg7 (Rect.unit (s := S768x2048) ![0, 0] S768x2048.size inb_S768x2048_S768x2048_0_0) (normed v8 v19) Finset.univ (View.stores_vmem h_S768x2048 (harg7.storeExact_slice rfl _ packedbf16_S768x2048_S768x2048_0_0) (fun _ => rfl)) (.inl rfl))
    let v27 : Vec F S768x2048 .bf16 ← Prog.lift (.load arg6 (Rect.unit (s := S768x2048) ![0, 0] S768x2048.size inb_S768x2048_S768x2048_0_0).toLoadRect (View.loadsAt_vmem h_S768x2048))
    Prog.lift (.store arg6 (Rect.unit (s := S768x2048) ![0, 0] S768x2048.size inb_S768x2048_S768x2048_0_0) (made v8 v19) Finset.univ (View.stores_vmem h_S768x2048 (harg6.storeExact_slice rfl _ packedbf16_S768x2048_S768x2048_0_0) (fun _ => rfl)) (.inl rfl))
    pure ⟨⟩
  else do
    pure ⟨⟩
  let v3 : Vec F S768x2048 .bf16 ← Prog.lift (.load arg7 (Rect.unit (s := S768x2048) ![0, 0] S768x2048.size inb_S768x2048_S768x2048_0_0).toLoadRect (View.loadsAt_vmem h_S768x2048))
  let v4 : Vec F S2048x1024 .bf16 ← Prog.lift (.load arg4 (Rect.unit (s := S2048x1024) ![0, 0] S2048x1024.size inb_S2048x1024_S2048x1024_0_0).toLoadRect (View.loadsAt_vmem h_S2048x1024))
  let v7 : Vec F S768x1024 .f32 ← Prog.lift (.load arg5 (Rect.unit (s := S768x1024) ![0, 0] S768x1024.size inb_S768x1024_S768x1024_0_0).toLoadRect (View.loadsAt_vmem h_S768x1024))
  Prog.lift (.store arg5 (Rect.unit (s := S768x1024) ![0, 0] S768x1024.size inb_S768x1024_S768x1024_0_0) (product v3 v4) Finset.univ (View.stores_vmem_bits_univ h_S768x1024 rfl) (.inl rfl))
  pure ⟨⟩

set_option maxRecDepth 65536 in
/-- The body is its loads and stores. -/
theorem body_eq : cc0_rms_matmul (F := F) = skel (F := F) := rfl

/-- A buffer of products reads as the block last stored over all of it. -/
theorem stored_prod (v : View sig .tc .vmem S768x1024 .f32) (f : v.ty.Contents (Elt F)) (inb) (p : Vec F S768x1024 .f32) :
    v.read (Elt F) (v.writes (Elt F) f [⟨Rect.unit (s := S768x1024) ![0, 0] S768x1024.size inb, p⟩]) = p := by
  rw [View.read_writes_eq_canon _ _ _ (View.cover_of_tiled _ S768x1024.size (by rfl)), View.canon_unit_zero zeros2]

/-- The scratch reads as the rows last stored over all of it. -/
theorem stored_rows (v : View sig .tc .vmem S768x2048 .bf16) (f : v.ty.Contents (Elt F)) (inb) (p : Vec F S768x2048 .bf16) :
    v.read (Elt F) (v.writes (Elt F) f [⟨Rect.unit (s := S768x2048) ![0, 0] S768x2048.size inb, p⟩]) = p := by
  rw [View.read_writes_eq_canon _ _ _ (View.cover_of_tiled _ S768x2048.size (by rfl)), View.canon_unit_zero zeros2]

set_option maxHeartbeats 1000000 in
/-- THE BODY on whole buffers: with `h` the normed rows (made at the first block of columns, else what the scratch
    holds), the product of `h` and the weights is stored, and `h` too where it is made. -/
theorem body_run (c : Dev nD) (i : grid0.Coords) (arg2 : Memref sig .tc .vmem S768x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S768x1024 .f32) (harg5 : arg5.IsWhole)
    (arg6 : Memref sig .tc .vmem S768x2048 .bf16) (harg6 : arg6.IsWhole)
    (arg7 : Memref sig .tc .vmem S768x2048 .bf16) (harg7 : arg7.IsWhole)
    (x0 : Vec F S768x2048 .f32) (x1 : Vec F S1x2048 .f32) (x2 : Vec F S2048x1024 .bf16)
    (d3 : Vec F S768x1024 .f32) (d4 xs h : Vec F S768x2048 .bf16)
    (hh : h = if isFirst i then normed x0 x1 else xs) (E : Set ℕ)
    (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ owns (c : Thread nD τ) arg5 fullShare d3
        ∗ owns (c : Thread nD τ) arg6 fullShare d4 ∗ owns (c : Thread nD τ) arg7 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (product h x2)
            ∗ owns (c : Thread nD τ) arg6 fullShare (if isFirst i then h else d4)
            ∗ owns (c : Thread nD τ) arg7 fullShare h) -∗ K ⟨⟩))
      ⊢ wp frame (wpE (defs₀ (F := F)) Variants.none c none) E
        (cc0_rms_matmul i arg2 harg2 arg3 harg3 arg4 harg4 arg5 harg5 arg6 harg6 arg7 harg7) K := by
  simp only [body_eq]
  unfold skel owns
  simp only [made_eq]
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  by_cases hc0 : isFirst i
  all_goals
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    sl_unfold_words
    isplitl [H3]
    · iexists _; isplitr
      swap; · iexact H3
      ipureintro
      rw [stored_prod, hh]
      first | rw [if_pos hc0] | rw [if_neg hc0]
      simp only [View.readCov_cons_toLoadRect, View.readAt_eq_ld, Memref.IsWhole.read_unread]
      first
        | exact congrArg₂ product (View.ld_unit_zero zeros2 _ _) (View.ld_unit_zero zeros2 _ _)
        | exact congrArg₂ product (congrArg₂ normed (View.ld_unit_zero zeros2 _ _) (View.ld_unit_zero zeros2 _ _)) (View.ld_unit_zero zeros2 _ _)
    isplitl [H4]
    · iexists _; isplitr
      swap; · iexact H4
      ipureintro
      first
        | rw [if_neg hc0]; exact harg6.read_unread _
        | rw [if_pos hc0, stored_rows, hh, if_pos hc0]
          simp only [View.readAt_eq_ld, Memref.IsWhole.read_unread]
          exact congrArg₂ normed (View.ld_unit_zero zeros2 _ _) (View.ld_unit_zero zeros2 _ _)
    iexists _; isplitr
    swap; · iexact HS
    ipureintro
    first
      | rw [hh, if_neg hc0]; exact harg7.read_unread _
      | rw [stored_rows, hh, if_pos hc0]
        simp only [View.readAt_eq_ld, Memref.IsWhole.read_unread]
        exact congrArg₂ normed (View.ld_unit_zero zeros2 _ _) (View.ld_unit_zero zeros2 _ _)

end Cert.PeerQIdeal.Read
-- ==== Proof.PeerQFrame.lean ====
/- The norm before the experts and the projection to their queries: the launch, with what every point leaves. -/
module

public import proofs.«01_k».proof.Proof.PeerQRun
public import proofs.«01_k».proof.Proof.QkvFrame

@[expose] public section

set_option maxRecDepth 16384

noncomputable section

namespace Cert.PeerQIdeal.Read

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.PeerQIdeal.Gen
open Cert.QkvIdeal.Read (normed product)

variable {F : FTy → Type} [FloatOps F]
variable (m : (ℓ : Loc nD τ sig) → Buf (Elt F) ℓ) (ρ : Dev nD → PrngReg)

/-- There are 11 blocks of rows and 2 blocks of columns. -/
theorem lt_N (t : Fin cfg0.N) : t.val < 22 := lt_of_lt_of_eq t.isLt (show cfg0.N = 22 from N_0)

/-- The first point of `t`'s block of rows. -/
def head (t : Fin cfg0.N) : Fin cfg0.N := ⟨2 * (t.val / 2), lt_of_le_of_lt (by omega) t.isLt⟩

/-- The normed rows of `t`'s block of rows. -/
def rowsAt (c : Dev nD) (t : Fin cfg0.N) : Vec F S768x2048 .bf16 := normed (iblk m c 0 (head t)) (iblk m c 1 (head t))

/-- Points of one block of rows have the same normed rows. -/
theorem rowsAt_congr (c : Dev nD) (t t' : Fin cfg0.N) (h : t.val / 2 = t'.val / 2) : rowsAt m c t = rowsAt m c t' := by
  unfold rowsAt
  rw [show head t = head t' from Fin.ext (congrArg (2 * ·) h)]

/-- What holds between points: before the first anything, then the scratch at the normed rows. -/
def Between (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0 : Memref sig .tc .vmem S768x2048 .bf16) fullShare
      (rowsAt m c ⟨n, hn⟩) ∗ (∃ r, prngReg c r))

/-- What every point leaves in the windows' buffers, and what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (rowsAt m c t) (iblk m c 2 t)
    | ⟨4, _⟩ => rowsAt m c t
  Φ t := Between m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_q (c : Dev nD) (t : Fin cfg0.N) : (dats m 0 c).after 3 t = product (rowsAt m c t) (iblk m c 2 t) := by dsimp only [dats]
theorem after_h (c : Dev nD) (t : Fin cfg0.N) : (dats m 0 c).after 4 t = rowsAt m c t := by dsimp only [dats]

/-- Every input's buffer holds its block. -/
theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d

/-- The rows' buffer is stored into at the first block of columns and written back after the second. -/
theorem table (t : Fin cfg0.N) : (isFirst (grid0.coords t) ↔ t.val % 2 = 0)
    ∧ (cfg0.idle 4 (grid0.coords t) = true ↔ t.val % 2 = 1) ∧ ((cfg0.win 4).flush t = true ↔ t.val % 2 = 1) :=
  (by decide +kernel : ∀ t : Fin grid0.N, (isFirst (grid0.coords t) ↔ t.val % 2 = 0)
    ∧ (idle0 4 (grid0.coords t) = true ↔ t.val % 2 = 1) ∧ (win0_4.flush t = true ↔ t.val % 2 = 1)) t

/-- At the second block of columns the rows' buffer still holds the normed rows. -/
theorem before_h (c : Dev nD) (t : Fin cfg0.N) (h : t.val % 2 = 1) (d) : (dats m 0 c).before 4 t d = rowsAt m c t := by
  have hN := lt_N t
  rw [(dats m 0 c).before_of_pos 4 t (by omega) ((cfg0.win 4).fetch_out rfl _) d]
  have a := table ⟨t.val - 1, by omega⟩
  rw [if_neg (fun hf => by have := a.2.2.mp hf; dsimp only at this; omega)]
  unfold Dat.left
  have i0 : cfg0.idle 4 (grid0.coords (⟨t.val - 1, by omega⟩ : Fin cfg0.N)) = false :=
    Bool.eq_false_iff.mpr (fun hf => by have := a.2.1.mp hf; dsimp only at this; omega)
  rw [i0]
  show (dats m 0 c).after 4 _ = _
  rw [after_h]
  exact rowsAt_congr m c _ _ (by dsimp only; omega)

/-- The queries' buffer after the body. -/
theorem leaves_q (c : Dev nD) (t : Fin cfg0.N) : (dats m 0 c).Leaves 3 t (product (rowsAt m c t) (iblk m c 2 t)) := by
  refine (Dat.Leaves.live_iff _ (.inl rfl)).mpr ?_
  show _ = (dats m 0 c).after 3 t
  rw [after_q]

/-- The rows' buffer after the body. -/
theorem leaves_h (c : Dev nD) (t : Fin cfg0.N) (d) : (dats m 0 c).Leaves 4 t
    (if isFirst (grid0.coords t) then rowsAt m c t else (dats m 0 c).before 4 t d) := by
  have a := table t
  by_cases h0 : t.val % 2 = 0
  · rw [if_pos (a.1.mpr h0)]
    refine (Dat.Leaves.live_iff _ (.inl (Bool.eq_false_iff.mpr fun hf => by have := a.2.1.mp hf; omega))).mpr ?_
    show _ = (dats m 0 c).after 4 t
    rw [after_h]
  · rw [if_neg (fun h => h0 (a.1.mp h))]
    refine (Dat.Leaves.live_iff _ (.inr (a.2.2.mpr (by omega)))).mpr ?_
    show _ = (dats m 0 c).after 4 t
    rw [after_h, before_h m c t (by omega)]

/-- The scratch's contents after `t`, from those before it. -/
theorem rowsAt_eq (c : Dev nD) (t : Fin cfg0.N) (xs : Vec F S768x2048 .bf16)
    (h : t.val % 2 ≠ 0 → xs = rowsAt m c ⟨t.val - 1, by omega⟩) :
    rowsAt m c t = if isFirst (grid0.coords t) then normed (iblk m c 0 t) (iblk m c 1 t) else xs := by
  by_cases h0 : t.val % 2 = 0
  · rw [if_pos ((table t).1.mpr h0)]
    unfold rowsAt
    rw [show head t = t from Fin.ext (by show 2 * _ = t.val; omega)]
  · rw [if_neg (fun hf => h0 ((table t).1.mp hf)), h h0]
    exact rowsAt_congr m c _ _ (by dsimp only; omega)

/-- Before every point the scratch holds some contents, the normed rows but at the first block of columns. -/
theorem between_open (c : Dev nD) (t : Fin cfg0.N) : Between m c t.val (Nat.le_of_lt t.isLt)
    ⊢ iprop(∃ xs, ⌜t.val % 2 ≠ 0 → xs = rowsAt m c ⟨t.val - 1, by omega⟩⌝
      ∗ owns (c : Thread nD τ) (Memref.whole cc0_scratch0 : Memref sig .tc .vmem S768x2048 .bf16) fullShare xs ∗ (∃ r, prngReg c r)) := by
  obtain ⟨n, hn⟩ := t
  cases n with
  | zero =>
    show Pipeline.ΦA spec0 c ⊢ _
    unfold Pipeline.ΦA
    rw [scopedRest0_eq]
    iintro ⟨⟨%f, H⟩, Hg⟩
    iexists f
    isplitr
    · ipureintro; exact fun h => absurd rfl h
    rw [owns_whole]
    isplitl [H]
    · iexact H
    iexact Hg
  | succ n =>
    show iprop(owns _ _ _ _ ∗ _) ⊢ _
    iintro ⟨H, Hg⟩
    iexists _
    isplitr
    swap
    · isplitl [H]
      · iexact H
      iexact Hg
    ipureintro
    exact fun _ => rfl

set_option maxHeartbeats 1000000 in
/-- The body at any point, from what it is called with to what it returns. -/
theorem sound (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ (dats m 0 c).leaves 3 t ∗ (dats m 0 c).leaves 4 t)) := by
  unfold bodyAt0
  simp only [before_x, before_g, before_w]
  rw [show (dats m 0 c).owesAt () t.succ = (dats m 0 c).owesAt () t.castSucc from rfl, after_x, after_g, after_w]
  rw [show (dats m 0 c).Φ t.castSucc = Between m c t.val (Nat.le_of_lt t.isLt) from by
      dsimp only [dats]; exact Pipeline.Dat.Φ_castSucc (Between m c) t,
    show (dats m 0 c).Φ t.succ = Between m c (t.val + 1) t.isLt from rfl]
  refine (sep_mono (between_open m c t) .rfl).trans ?_
  iintro ⟨⟨%xs, %hxs, HS, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (iblk m c 0 t) (iblk m c 1 t) (iblk m c 2 t)
    ((dats m 0 c).before 3 t d3) ((dats m 0 c).before 4 t d4) xs (rowsAt m c t) (rowsAt_eq m c t xs hxs) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · dsimp only [Between]
    isplitl [HS]
    · iexact HS
    iexact Hg
  isplitl [Ho]; · iexact Ho
  isplitl [H0]; · iexact H0
  isplitl [H1]; · iexact H1
  isplitl [H2]; · iexact H2
  isplitl [H3]
  · iapply (Cert.Idle.leaves_of (dats m 0 c) (leaves_q m c t)); iexact H3
  iapply (Cert.Idle.leaves_of (dats m 0 c) (leaves_h m c t d4)); iexact H4

/-- The body's row of the table of bodies. -/
theorem row (t : Fin cfg0.N) : defs₀ (F := F) .tc cfg0.body (cfg0.bodyArgs t (cfg0.slots t)) = bodyAt0 t := by
  unfold defs₀
  rw [Defs.onTc_tc]

/-- The body keeps the pipeline's obligation at every point. -/
theorem obligation (c : Dev nD) : BodyObligationLoose (dats (F := F) m 0 c) (defs₀ (F := F)) Variants.none () Set.univ := fun t => by
  rw [bigSep_W0, bigSep_W0, row]
  exact triple_restated (sound m c t) rfl .rfl fun _ => .rfl

/-- What the launch hands over is what holds before the first point. -/
theorem enter (c : Dev nD) : Pipeline.ΦA spec0 c ⊢ (dats m 0 c).Φ 0 := by
  show Pipeline.ΦA spec0 c ⊢ Between m c 0 (Nat.zero_le _)
  exact .rfl

/-- After the last point the scratch's contents are forgotten. -/
theorem leave (c : Dev nD) : (dats m 0 c).Φ (Fin.last cfg0.N) ⊢ Pipeline.ΦA spec0 c := by
  have e : ∀ (n : ℕ) (hn : n ≤ cfg0.N), n ≠ 0 → Between m c n hn ⊢ Pipeline.ΦA spec0 c := by
    intro n hn h0
    cases n with
    | zero => exact absurd rfl h0
    | succ n =>
      show iprop(owns _ _ _ _ ∗ _) ⊢ _
      unfold Pipeline.ΦA
      rw [scopedRest0_eq, owns_whole]
      iintro ⟨H, Hg⟩
      isplitl [H]
      · iexists _; iexact H
      iexact Hg
  exact e cfg0.N (Nat.le_refl _) (by have : cfg0.N = 22 := N_0; omega)

set_option backward.isDefEq.respectTransparency.types false in
/-- THE LAUNCH: the arrays end at what the points write back, every other buffer as the region found it, every counter at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := enter m) (hout := leave m)

/-- The program ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (launched m ρ))

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (launched m ρ))

end Cert.PeerQIdeal.Read
-- ==== Proof.PeerQValue.lean ====
/- The norm before the experts and the projection to their queries: what the kernel and its reference leave. -/
module

public import proofs.«01_k».proof.Proof.PeerQFrame
public import proofs.«01_k».proof.Proof.QkvValue
public import proofs.«01_k».proof.Proof.Gen.PeerQRefIdeal.Run
public import proofs.«01_k».proof.Proof.Gen.PeerQ.Frame

@[expose] public section

set_option maxRecDepth 16384

noncomputable section

namespace Cert.PeerQRefIdeal.Read

open Cert.PeerQRefIdeal Cert.PeerQRefIdeal.Gen Idealize.ShloMosaic Idealize.ShloMosaic.TcCoe Idealize.SL.Sem
open Cert.NormRefIdeal.Read (rms)
open Cert.Project (proj)

/-- The queries: each row, normed, times the columns of `w`. -/
def GQ (x : (⟨2, ![8448, 2048]⟩ : Shape).Idx → EReal) (g : (⟨1, ![2048]⟩ : Shape).Idx → EReal)
    (w : (⟨2, ![2048, 2048]⟩ : Shape).Idx → EReal) : (⟨2, ![8448, 2048]⟩ : Shape).Idx → EReal := fun j =>
  proj x g w (j 0) (j 1)

/-- The normed rows. -/
def GH (x : (⟨2, ![8448, 2048]⟩ : Shape).Idx → EReal) (g : (⟨1, ![2048]⟩ : Shape).Idx → EReal) :
    (⟨2, ![8448, 2048]⟩ : Shape).Idx → EReal := fun j =>
  rms x g (j 0) (j 1)

/-- The reference ends with the queries and the normed rows of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = GQ (m ((c.tc : Thread nD τ).loc main_arg0)) (m ((c.tc : Thread nD τ).loc main_arg1)) (m ((c.tc : Thread nD τ).loc main_arg2))
      ∧ r.2.mem ((c.tc : Thread nD τ).loc main_v14) = GH (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext j
      idx_vars j
      pointwise [GQ, proj, rms]), (h c).2.1.trans (by
      funext j
      idx_vars j
      pointwise [GH, rms]), (h c).2.2⟩) (Cert.PeerQRefIdeal.Value.run m ρ)

/-- The reference ends with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2.2, Idealize.ShloMosaic.sem_eq_zero_of_no_sems (by decide) r.2⟩) (run m ρ)

end Cert.PeerQRefIdeal.Read

/-! ## The program as written is the idealized one, before the values are chosen -/

namespace Cert.PeerQ.Read

open Idealize.ShloMosaic Idealize.ShloMosaic.TcCoe Idealize.SL.Sem

variable {F : FTy → Type} [FloatOps F]

/-- Both programs have one host part. -/
theorem main_eq : @Cert.PeerQ.main F _ Cert.PeerQ.Gen.facts = @Cert.PeerQIdeal.main F _ Cert.PeerQIdeal.Gen.facts := rfl

/-- Both programs have one body. -/
theorem bodies_eq : @Cert.PeerQ.defs₀ F _ Cert.PeerQ.Gen.facts = @Cert.PeerQIdeal.defs₀ F _ Cert.PeerQIdeal.Gen.facts := by
  unfold Cert.PeerQ.defs₀ Cert.PeerQIdeal.defs₀
  refine congrArg (Defs.onTc (nD := Cert.PeerQIdeal.nD) (τ := Cert.PeerQIdeal.τ) (sig := Cert.PeerQIdeal.sig)) ?_
  funext l x
  match l, x with
  | ⟨0, _⟩, (t, s) => rfl

/-- Both programs have one pipeline. -/
theorem defs_eq : @Cert.PeerQ.defs F _ Cert.PeerQ.Gen.facts = @Cert.PeerQIdeal.defs F _ Cert.PeerQIdeal.Gen.facts :=
  congrArg (Pipeline.defs (@Cert.PeerQIdeal.pcfgs F Cert.PeerQIdeal.Gen.facts)) bodies_eq

/-- The program ends with its arguments unchanged and every counter at zero. -/
theorem frame (m : (ℓ : Loc Cert.PeerQ.nD Cert.PeerQ.τ Cert.PeerQ.sig) → Buf (Elt F) ℓ) (ρ : Dev Cert.PeerQ.nD → PrngReg) :
    θ_run (@Cert.PeerQ.defs F _ Cert.PeerQ.Gen.facts) (onTc (τ := Cert.PeerQ.τ) (@Cert.PeerQ.main F _ Cert.PeerQ.Gen.facts)) ⟨m, fun _ => 0, ρ⟩ fun r =>
      (∀ c : Dev Cert.PeerQ.nD,
        r.2.mem ((c.tc : Thread Cert.PeerQ.nD Cert.PeerQ.τ).loc Cert.PeerQ.main_arg0) = m ((c.tc : Thread Cert.PeerQ.nD Cert.PeerQ.τ).loc Cert.PeerQ.main_arg0)
        ∧ r.2.mem ((c.tc : Thread Cert.PeerQ.nD Cert.PeerQ.τ).loc Cert.PeerQ.main_arg1) = m ((c.tc : Thread Cert.PeerQ.nD Cert.PeerQ.τ).loc Cert.PeerQ.main_arg1)
        ∧ r.2.mem ((c.tc : Thread Cert.PeerQ.nD Cert.PeerQ.τ).loc Cert.PeerQ.main_arg2) = m ((c.tc : Thread Cert.PeerQ.nD Cert.PeerQ.τ).loc Cert.PeerQ.main_arg2))
      ∧ r.2.sem = fun _ => 0 := by
  rw [defs_eq, main_eq]
  exact Cert.PeerQIdeal.Read.frame m ρ

end Cert.PeerQ.Read

namespace Cert.PeerQIdeal.Read

open Cert.PeerQIdeal Cert.PeerQIdeal.Gen Idealize.ShloMosaic Idealize.ShloMosaic.TcCoe Idealize.SL.Sem
open Cert.NormRefIdeal.Read (rms)
open Cert.Project (proj rms_congr)
open Cert.PeerQRefIdeal.Read (GQ GH)
open Cert.QkvIdeal.Read (normed product normed_apply product_apply)

variable (m : (ℓ : Loc nD τ sig) → Buf (Elt Ideal) ℓ) (ρ : Dev nD → PrngReg)

/-- Point `2 i + j` reads rows from `768 i`, the whole gain and columns from `1024 j` of the weights, and writes these rows and columns. -/
theorem starts (t : Fin cfg0.N) : (win0_0.rect t).off = ![768 * (t.val / 2), 0] ∧ (win0_1.rect t).off = ![0, 0]
    ∧ (win0_2.rect t).off = ![0, 1024 * (t.val % 2)] ∧ (win0_3.rect t).off = ![768 * (t.val / 2), 1024 * (t.val % 2)]
    ∧ (win0_4.rect t).off = ![768 * (t.val / 2), 0] :=
  (by decide +kernel : ∀ t : Fin grid0.N, (win0_0.rect t).off = ![768 * (t.val / 2), 0] ∧ (win0_1.rect t).off = ![0, 0]
    ∧ (win0_2.rect t).off = ![0, 1024 * (t.val % 2)] ∧ (win0_3.rect t).off = ![768 * (t.val / 2), 1024 * (t.val % 2)]
    ∧ (win0_4.rect t).off = ![768 * (t.val / 2), 0]) t

/-- The rows' block, element by element. -/
theorem blk_x (c : Dev nD) (t : Fin cfg0.N) (r : Fin 768) (d : Fin 2048) :
    (iblk m c 0 t : Vec Ideal S768x2048 .f32) (ix2 r d)
      = m ((c : Thread nD τ).loc main_arg0) (ix2 ⟨768 * (t.val / 2) + r.val, by have := lt_N t; omega⟩ d) := by
  have hN := lt_N t
  unfold iblk
  rw [View.read_apply]
  show V m c main_arg0 _ = _
  have h := (starts t).1
  rw [V_main_arg0, show ((cfg0.win 0).blk t).view.emb (ix2 r d) = (ix2 ⟨768 * (t.val / 2) + r.val, by omega⟩ d : S8448x2048.Idx) from by
    funext a
    apply Fin.ext
    match a with
    | ⟨0, _⟩ =>
      show (win0_0.rect t).off 0 + 1 * r.val = 768 * (t.val / 2) + r.val
      rw [h]; show 768 * (t.val / 2) + 1 * r.val = 768 * (t.val / 2) + r.val; omega
    | ⟨1, _⟩ => show (win0_0.rect t).off 1 + 1 * d.val = d.val; rw [h]; show 0 + 1 * d.val = d.val; omega]

/-- The gain's block is the whole gain. -/
theorem blk_g (c : Dev nD) (t : Fin cfg0.N) (d : Fin 2048) :
    (iblk m c 1 t : Vec Ideal S1x2048 .f32) (ix2 0 d) = m ((c : Thread nD τ).loc main_arg1) (ix1 d) := by
  unfold iblk
  rw [View.read_apply]
  show V m c main_v1 _ = _
  have e : V m c main_v1 = shapeCast S1x2048 (m ((c : Thread nD τ).loc main_arg1)) shapeCasts_S2048_S1x2048 := by
    show StableHlo.after [_, _] _ _ = _
    after_results <;> rfl
  have h := (starts t).2.1
  rw [e, show ((cfg0.win 1).blk t).view.emb (ix2 0 d) = (ix2 0 d : S1x2048.Idx) from by
    funext a
    apply Fin.ext
    match a with
    | ⟨0, _⟩ => show (win0_1.rect t).off 0 + 1 * 0 = 0; rw [h]; rfl
    | ⟨1, _⟩ => show (win0_1.rect t).off 1 + 1 * d.val = d.val; rw [h]; show 0 + 1 * d.val = d.val; omega]
  pointwise

/-- The weights' block: 1024 columns. -/
theorem blk_w (c : Dev nD) (t : Fin cfg0.N) (k : Fin 2048) (d : Fin 1024) :
    (iblk m c 2 t : Vec Ideal S2048x1024 .bf16) (ix2 k d)
      = m ((c : Thread nD τ).loc main_arg2) (ix2 k ⟨1024 * (t.val % 2) + d.val, by omega⟩) := by
  unfold iblk
  rw [View.read_apply]
  show V m c main_v0 _ = _
  have e : V m c main_v0 = truncf (F := Ideal) .bf16 (m ((c : Thread nD τ).loc main_arg2)) bitsLt_bf16_f32 := by
    show StableHlo.after [_, _] _ _ = _
    after_results <;> rfl
  have h := (starts t).2.2.1
  rw [e, show ((cfg0.win 2).blk t).view.emb (ix2 k d) = (ix2 k ⟨1024 * (t.val % 2) + d.val, by omega⟩ : S2048x2048.Idx) from by
    funext a
    apply Fin.ext
    match a with
    | ⟨0, _⟩ => show (win0_2.rect t).off 0 + 1 * k.val = k.val; rw [h]; show 0 + 1 * k.val = k.val; omega
    | ⟨1, _⟩ =>
      show (win0_2.rect t).off 1 + 1 * d.val = 1024 * (t.val % 2) + d.val
      rw [h]; show 1024 * (t.val % 2) + 1 * d.val = 1024 * (t.val % 2) + d.val; omega]
  pointwise

/-- The normed rows of `t`'s block of rows, element by element. -/
theorem rowsAt_apply (c : Dev nD) (t : Fin cfg0.N) (r : Fin 768) (d : Fin 2048) :
    rowsAt m c t (ix2 r d) = rms (m ((c : Thread nD τ).loc main_arg0)) (m ((c : Thread nD τ).loc main_arg1))
      (⟨768 * (t.val / 2) + r.val, by have := lt_N t; omega⟩ : Fin 8448) d := by
  unfold rowsAt
  refine (normed_apply _ _ r d).trans
    (rms_congr (fun k => (blk_x m c _ r k).trans (congrArg _ (congrArg (fun q => ix2 q k) (Fin.ext ?_)))) (fun k => blk_g m c _ k))
  show 768 * (2 * (t.val / 2) / 2) + r.val = 768 * (t.val / 2) + r.val
  omega

/-- Every block of the queries written back is that of the reference's. -/
theorem flushed_q (c : Dev nD) (t : Fin cfg0.N) : (dats m 0 c).flushed 3 t = ((cfg0.win 3).blk t).view.read (Elt Ideal)
    (GQ (m ((c : Thread nD τ).loc main_arg0)) (m ((c : Thread nD τ).loc main_arg1)) (m ((c : Thread nD τ).loc main_arg2))) := by
  have hN := lt_N t
  have h := (starts t).2.2.2.1
  funext y
  obtain ⟨r, d, rfl⟩ : ∃ (r : Fin 768) (d : Fin 1024), y = (ix2 r d : S768x1024.Idx) := ⟨y 0, y 1, eq_ix2 y⟩
  rw [View.read_apply, show ((cfg0.win 3).blk t).view.emb (ix2 r d)
      = (ix2 ⟨768 * (t.val / 2) + r.val, by omega⟩ ⟨1024 * (t.val % 2) + d.val, by omega⟩ : S8448x2048.Idx) from by
    funext a
    apply Fin.ext
    match a with
    | ⟨0, _⟩ =>
      show (win0_3.rect t).off 0 + 1 * r.val = 768 * (t.val / 2) + r.val
      rw [h]; show 768 * (t.val / 2) + 1 * r.val = 768 * (t.val / 2) + r.val; omega
    | ⟨1, _⟩ =>
      show (win0_3.rect t).off 1 + 1 * d.val = 1024 * (t.val % 2) + d.val
      rw [h]; show 1024 * (t.val % 2) + 1 * d.val = 1024 * (t.val % 2) + d.val; omega]
  show (dats m 0 c).after 3 t (ix2 r d) = _
  rw [after_q]
  refine (product_apply _ _ r d).trans ?_
  simp only [rowsAt_apply, blk_w]
  rfl

/-- Every block of the normed rows written back is that of the reference's. -/
theorem flushed_h (c : Dev nD) (t : Fin cfg0.N) : (dats m 0 c).flushed 4 t = ((cfg0.win 4).blk t).view.read (Elt Ideal)
    (GH (m ((c : Thread nD τ).loc main_arg0)) (m ((c : Thread nD τ).loc main_arg1))) := by
  have hN := lt_N t
  have h := (starts t).2.2.2.2
  funext y
  obtain ⟨r, d, rfl⟩ : ∃ (r : Fin 768) (d : Fin 2048), y = (ix2 r d : S768x2048.Idx) := ⟨y 0, y 1, eq_ix2 y⟩
  rw [View.read_apply, show ((cfg0.win 4).blk t).view.emb (ix2 r d)
      = (ix2 ⟨768 * (t.val / 2) + r.val, by omega⟩ d : S8448x2048.Idx) from by
    funext a
    apply Fin.ext
    match a with
    | ⟨0, _⟩ =>
      show (win0_4.rect t).off 0 + 1 * r.val = 768 * (t.val / 2) + r.val
      rw [h]; show 768 * (t.val / 2) + 1 * r.val = 768 * (t.val / 2) + r.val; omega
    | ⟨1, _⟩ => show (win0_4.rect t).off 1 + 1 * d.val = d.val; rw [h]; show 0 + 1 * d.val = d.val; omega]
  show (dats m 0 c).after 4 t (ix2 r d) = _
  rw [after_h, rowsAt_apply]
  rfl

/-- Every element of the queries lies in some point's block. -/
theorem cover_q (i : S8448x2048.Idx) : ∃ t : Fin cfg0.N, (cfg0.win 3).flush t = true ∧ i ∈ ((cfg0.win 3).blk t).view.set := by
  have h0 : (i 0).val < 8448 := (i 0).isLt
  have h1 : (i 1).val < 2048 := (i 1).isLt
  let t : Fin cfg0.N := ⟨2 * ((i 0).val / 768) + (i 1).val / 1024, by show _ < cfg0.N; rw [show cfg0.N = 22 from N_0]; omega⟩
  have ht : t.val = 2 * ((i 0).val / 768) + (i 1).val / 1024 := rfl
  have h := (starts t).2.2.2.1
  refine ⟨t, flush0_3 t, ?_⟩
  show i ∈ ((View.whole main_v2_0).slice (win0_3.rect t)).set
  rw [View.set_slice_whole, Rect.mem_set_unit]
  intro a
  match a with
  | ⟨0, _⟩ =>
    show (win0_3.rect t).off 0 ≤ (i 0).val ∧ (i 0).val < (win0_3.rect t).off 0 + 768
    rw [h]; show 768 * (t.val / 2) ≤ (i 0).val ∧ (i 0).val < 768 * (t.val / 2) + 768; omega
  | ⟨1, _⟩ =>
    show (win0_3.rect t).off 1 ≤ (i 1).val ∧ (i 1).val < (win0_3.rect t).off 1 + 1024
    rw [h]; show 1024 * (t.val % 2) ≤ (i 1).val ∧ (i 1).val < 1024 * (t.val % 2) + 1024; omega

/-- Every element of the normed rows lies in a block written back. -/
theorem cover_h (i : S8448x2048.Idx) : ∃ t : Fin cfg0.N, (cfg0.win 4).flush t = true ∧ i ∈ ((cfg0.win 4).blk t).view.set := by
  have h0 : (i 0).val < 8448 := (i 0).isLt
  have h1 : (i 1).val < 2048 := (i 1).isLt
  let t : Fin cfg0.N := ⟨2 * ((i 0).val / 768) + 1, by show _ < cfg0.N; rw [show cfg0.N = 22 from N_0]; omega⟩
  have ht : t.val = 2 * ((i 0).val / 768) + 1 := rfl
  have h := (starts t).2.2.2.2
  refine ⟨t, (table t).2.2.mpr (by omega), ?_⟩
  show i ∈ ((View.whole main_v2_1).slice (win0_4.rect t)).set
  rw [View.set_slice_whole, Rect.mem_set_unit]
  intro a
  match a with
  | ⟨0, _⟩ =>
    show (win0_4.rect t).off 0 ≤ (i 0).val ∧ (i 0).val < (win0_4.rect t).off 0 + 768
    rw [h]; show 768 * (t.val / 2) ≤ (i 0).val ∧ (i 0).val < 768 * (t.val / 2) + 768; omega
  | ⟨1, _⟩ =>
    show (win0_4.rect t).off 1 ≤ (i 1).val ∧ (i 1).val < (win0_4.rect t).off 1 + 2048
    rw [h]; show 0 ≤ (i 1).val ∧ (i 1).val < 0 + 2048; omega

/-- The kernel ends with the queries and the normed rows of its arguments, which it leaves unchanged. -/
theorem run : θ_run defs (onTc (τ := τ) (main (F := Ideal))) ⟨m, fun _ => 0, ρ⟩ fun r => ∀ c : Dev nD,
      r.2.mem ((c : Thread nD τ).loc main_v2_0)
        = GQ (m ((c : Thread nD τ).loc main_arg0)) (m ((c : Thread nD τ).loc main_arg1)) (m ((c : Thread nD τ).loc main_arg2))
      ∧ r.2.mem ((c : Thread nD τ).loc main_v2_1) = GH (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h.1.1 c).1 3).trans ((dats m 0 c).arrAt_eq_of_cover 3 _ (fun t _ => flushed_q m c t) cover_q),
      ((h.1.1 c).1 4).trans ((dats m 0 c).arrAt_eq_of_cover 4 _ (fun t _ => flushed_h m c t) cover_h), h.2 c⟩)
    (θ_run_and (launched m ρ) (unchanged m ρ))

end Cert.PeerQIdeal.Read
-- ==== Proof.lean ====
/- The proof of every claim of the certificate: each program's frame, and each kernel against its reference over the
   extended reals, put together from the modules beside this one. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.Gen.Norm
public import proofs.«01_k».proof.Proof.Gen.NormIdeal
public import proofs.«01_k».proof.Proof.Gen.NormRefIdeal
public import proofs.«01_k».proof.Proof.NormValue
public import proofs.«01_k».proof.Proof.Gen.Rows.Frame
public import proofs.«01_k».proof.Proof.Gen.RowsIdeal.Value
public import proofs.«01_k».proof.Proof.Gen.RowsRefIdeal.Run
public import proofs.«01_k».proof.Proof.Gen.Rows
public import proofs.«01_k».proof.Proof.Gen.RowsIdeal
public import proofs.«01_k».proof.Proof.Gen.RowsRefIdeal
public import proofs.«01_k».proof.Proof.RowsValue
public import proofs.«01_k».proof.Proof.Gen.GlaS.Frame
public import proofs.«01_k».proof.Proof.Gen.GlaSIdeal.Value
public import proofs.«01_k».proof.Proof.Gen.GlaSRefIdeal.Run
public import proofs.«01_k».proof.Proof.Gen.GlaS
public import proofs.«01_k».proof.Proof.Gen.GlaSIdeal
public import proofs.«01_k».proof.Proof.Gen.GlaSRefIdeal
public import proofs.«01_k».proof.Proof.GlaSRef
public import proofs.«01_k».proof.Proof.GlaSValue
public import proofs.«01_k».proof.Proof.Gen.ConvS.Frame
public import proofs.«01_k».proof.Proof.Gen.ConvSIdeal.Value
public import proofs.«01_k».proof.Proof.Gen.ConvSRefIdeal.Run
public import proofs.«01_k».proof.Proof.Gen.ConvS
public import proofs.«01_k».proof.Proof.Gen.ConvSIdeal
public import proofs.«01_k».proof.Proof.Gen.ConvSRefIdeal
public import proofs.«01_k».proof.Proof.ConvSRef
public import proofs.«01_k».proof.Proof.ConvSValue
public import proofs.«01_k».proof.Proof.Gen.ConvP.Frame
public import proofs.«01_k».proof.Proof.Gen.ConvPIdeal.Value
public import proofs.«01_k».proof.Proof.Gen.ConvPRefIdeal.Run
public import proofs.«01_k».proof.Proof.Gen.ConvP
public import proofs.«01_k».proof.Proof.Gen.ConvPIdeal
public import proofs.«01_k».proof.Proof.Gen.ConvPRefIdeal
public import proofs.«01_k».proof.Proof.ConvPRef
public import proofs.«01_k».proof.Proof.ConvPValue
public import proofs.«01_k».proof.Proof.Gen.KvS.Frame
public import proofs.«01_k».proof.Proof.Gen.KvSIdeal.Value
public import proofs.«01_k».proof.Proof.Gen.KvSRefIdeal.Run
public import proofs.«01_k».proof.Proof.Gen.KvS
public import proofs.«01_k».proof.Proof.Gen.KvSIdeal
public import proofs.«01_k».proof.Proof.Gen.KvSRefIdeal
public import proofs.«01_k».proof.Proof.KvSValue
public import proofs.«01_k».proof.Proof.Gen.Qkv.Frame
public import proofs.«01_k».proof.Proof.Gen.QkvIdeal.Frame
public import proofs.«01_k».proof.Proof.Gen.QkvRefIdeal.Run
public import proofs.«01_k».proof.Proof.Gen.Qkv
public import proofs.«01_k».proof.Proof.Gen.QkvIdeal
public import proofs.«01_k».proof.Proof.Gen.QkvRefIdeal
public import proofs.«01_k».proof.Proof.QkvValue
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.ProjIn
public import proofs.«01_k».proof.Proof.Gen.ProjInIdeal
public import proofs.«01_k».proof.Proof.Gen.ProjInRefIdeal
public import proofs.«01_k».proof.Proof.ProjInValue
public import proofs.«01_k».proof.Proof.Gen.ProjOutEven.Frame
public import proofs.«01_k».proof.Proof.Gen.ProjOutEvenIdeal.Value
public import proofs.«01_k».proof.Proof.Gen.ProjOutEvenRefIdeal.Run
public import proofs.«01_k».proof.Proof.Gen.ProjOutEven
public import proofs.«01_k».proof.Proof.Gen.ProjOutEvenIdeal
public import proofs.«01_k».proof.Proof.Gen.ProjOutEvenRefIdeal
public import proofs.«01_k».proof.Proof.ProjOutEvenValue
public import proofs.«01_k».proof.Proof.Gen.ProjOutOdd.Frame
public import proofs.«01_k».proof.Proof.Gen.ProjOutOddIdeal.Value
public import proofs.«01_k».proof.Proof.Gen.ProjOutOddRefIdeal.Run
public import proofs.«01_k».proof.Proof.Gen.ProjOutOdd
public import proofs.«01_k».proof.Proof.Gen.ProjOutOddIdeal
public import proofs.«01_k».proof.Proof.Gen.ProjOutOddRefIdeal
public import proofs.«01_k».proof.Proof.ProjOutOddValue
public import proofs.«01_k».proof.Proof.Gen.PeerQ.Frame
public import proofs.«01_k».proof.Proof.Gen.PeerQIdeal.Frame
public import proofs.«01_k».proof.Proof.Gen.PeerQRefIdeal.Run
public import proofs.«01_k».proof.Proof.Gen.PeerQ
public import proofs.«01_k».proof.Proof.Gen.PeerQIdeal
public import proofs.«01_k».proof.Proof.Gen.PeerQRefIdeal
public import proofs.«01_k».proof.Proof.PeerQValue
public import Idealize.ShloMosaic.Adequacy
public import Idealize.ShloMosaic.Init

@[expose] public section

noncomputable section

namespace Cert.Proof

open Idealize.ShloMosaic Idealize.SL.Sem

/-- The final norm of the prompts: kernel and reference end with the same array. -/
theorem norm_algebraic : Cert.algebraic_NormIdeal_NormRefIdeal := fun m ρ m' ρ' _ hag =>
  ⟨fun c => NormRefIdeal.Read.G (m (c.tc.loc NormIdeal.main_arg0)) (m (c.tc.loc NormIdeal.main_arg1)),
    NormIdeal.Read.run m ρ,
    (θ_run NormRefIdeal.defs _ _).mono (fun _ h c => ⟨(h c).1.trans (by rw [(hag c).1, (hag c).2]), (h c).2⟩)
      (NormRefIdeal.Read.run m' ρ')⟩

/-- The final norm of the sampled rows: kernel and reference end with the same array. -/
theorem rows_algebraic : Cert.algebraic_RowsIdeal_RowsRefIdeal := fun m ρ m' ρ' _ hag =>
  ⟨fun c => RowsRefIdeal.Read.G (m (c.tc.loc RowsIdeal.main_arg0)) (m (c.tc.loc RowsIdeal.main_arg1)),
    RowsIdeal.Read.run m ρ,
    (θ_run RowsRefIdeal.defs _ _).mono (fun _ h c => ⟨(h c).1.trans (by rw [(hag c).1, (hag c).2]), (h c).2⟩)
      (RowsRefIdeal.Read.run m' ρ')⟩

/-- The recurrence over the sampled sequences: kernel and reference end with the same rows and the same states. -/
theorem glaS_algebraic : Cert.algebraic_GlaSIdeal_GlaSRefIdeal := fun m ρ m' ρ' _ hag =>
  ⟨fun c => GlaSRefIdeal.Read.GRows (m (c.tc.loc GlaSIdeal.main_arg0)) (m (c.tc.loc GlaSIdeal.main_arg1)) (m (c.tc.loc GlaSIdeal.main_arg2)) (m (c.tc.loc GlaSIdeal.main_arg3)) (m (c.tc.loc GlaSIdeal.main_arg4)) (m (c.tc.loc GlaSIdeal.main_arg5)) (m (c.tc.loc GlaSIdeal.main_arg6)),
    fun c => GlaSRefIdeal.Read.GState (m (c.tc.loc GlaSIdeal.main_arg0)) (m (c.tc.loc GlaSIdeal.main_arg1)) (m (c.tc.loc GlaSIdeal.main_arg2)) (m (c.tc.loc GlaSIdeal.main_arg3)) (m (c.tc.loc GlaSIdeal.main_arg5)),
    GlaSIdeal.Read.run m ρ,
    (θ_run GlaSRefIdeal.defs _ _).mono (fun _ h c => ⟨(h c).1.trans (by rw [(hag c).1, (hag c).2.1, (hag c).2.2.1, (hag c).2.2.2.1, (hag c).2.2.2.2.1, (hag c).2.2.2.2.2.1, (hag c).2.2.2.2.2.2]), (h c).2.1.trans (by rw [(hag c).1, (hag c).2.1, (hag c).2.2.1, (hag c).2.2.2.1, (hag c).2.2.2.2.2.1]), (h c).2.2⟩)
      (GlaSRefIdeal.Read.run m' ρ')⟩

/-- The convolution mixer over the sampled sequences: kernel and reference end with the same rows and the same buffers. -/
theorem convS_algebraic : Cert.algebraic_ConvSIdeal_ConvSRefIdeal := fun m ρ m' ρ' _ hag =>
  ⟨fun c => ConvSRefIdeal.Read.GRows (m (c.tc.loc ConvSIdeal.main_arg0)) (m (c.tc.loc ConvSIdeal.main_arg1)) (m (c.tc.loc ConvSIdeal.main_arg2)) (m (c.tc.loc ConvSIdeal.main_arg3)) (m (c.tc.loc ConvSIdeal.main_arg4)) (m (c.tc.loc ConvSIdeal.main_arg5)) (m (c.tc.loc ConvSIdeal.main_arg6)),
    fun c => ConvSRefIdeal.Read.GBuf (m (c.tc.loc ConvSIdeal.main_arg0)) (m (c.tc.loc ConvSIdeal.main_arg1)),
    ConvSIdeal.Read.run m ρ,
    (θ_run ConvSRefIdeal.defs _ _).mono (fun _ h c => ⟨(h c).1.trans (by rw [(hag c).1, (hag c).2.1, (hag c).2.2.1, (hag c).2.2.2.1, (hag c).2.2.2.2.1, (hag c).2.2.2.2.2.1, (hag c).2.2.2.2.2.2]), (h c).2.1.trans (by rw [(hag c).1, (hag c).2.1]), (h c).2.2⟩)
      (ConvSRefIdeal.Read.run m' ρ')⟩

/-- The convolution mixer over the prompts: kernel and reference end with the same rows and the same buffers. -/
theorem convP_algebraic : Cert.algebraic_ConvPIdeal_ConvPRefIdeal := fun m ρ m' ρ' _ hag =>
  ⟨fun c => ConvPRefIdeal.Read.GRows (m (c.tc.loc ConvPIdeal.main_arg0)) (m (c.tc.loc ConvPIdeal.main_arg1)) (m (c.tc.loc ConvPIdeal.main_arg2)) (m (c.tc.loc ConvPIdeal.main_arg3)) (m (c.tc.loc ConvPIdeal.main_arg4)),
    fun c => ConvPRefIdeal.Read.GBuf (m (c.tc.loc ConvPIdeal.main_arg0)),
    ConvPIdeal.Read.run m ρ,
    (θ_run ConvPRefIdeal.defs _ _).mono (fun _ h c => ⟨(h c).1.trans (by rw [(hag c).1, (hag c).2.1, (hag c).2.2.1, (hag c).2.2.2.1, (hag c).2.2.2.2]), (h c).2.1.trans (by rw [(hag c).1]), (h c).2.2⟩)
      (ConvPRefIdeal.Read.run m' ρ')⟩

/-- Keys and values of the sampled rows: kernel and reference end with the same array. -/
theorem kvS_algebraic : Cert.algebraic_KvSIdeal_KvSRefIdeal := fun m ρ m' ρ' _ hag =>
  ⟨fun c => KvSRefIdeal.Read.G (m (c.tc.loc KvSIdeal.main_arg0)) (m (c.tc.loc KvSIdeal.main_arg1)) (m (c.tc.loc KvSIdeal.main_arg2)),
    KvSIdeal.Read.run m ρ,
    (θ_run KvSRefIdeal.defs _ _).mono (fun _ h c => ⟨(h c).1.trans (by rw [(hag c).1, (hag c).2.1, (hag c).2.2]), (h c).2⟩)
      (KvSRefIdeal.Read.run m' ρ')⟩

/-- Queries, keys and values: kernel and reference end with the same three arrays. -/
theorem qkv_algebraic : Cert.algebraic_QkvIdeal_QkvRefIdeal := fun m ρ m' ρ' _ hag =>
  ⟨fun c => QkvRefIdeal.Read.GQ (m (c.tc.loc QkvIdeal.main_arg0)) (m (c.tc.loc QkvIdeal.main_arg1)) (m (c.tc.loc QkvIdeal.main_arg2)),
    fun c => QkvRefIdeal.Read.GK (m (c.tc.loc QkvIdeal.main_arg0)) (m (c.tc.loc QkvIdeal.main_arg1)) (m (c.tc.loc QkvIdeal.main_arg2)),
    fun c => QkvRefIdeal.Read.GV (m (c.tc.loc QkvIdeal.main_arg0)) (m (c.tc.loc QkvIdeal.main_arg1)) (m (c.tc.loc QkvIdeal.main_arg2)),
    QkvIdeal.Read.run m ρ,
    (θ_run QkvRefIdeal.defs _ _).mono (fun _ h c => ⟨(h c).1.trans (by rw [(hag c).1, (hag c).2.1, (hag c).2.2]), (h c).2.1.trans (by rw [(hag c).1, (hag c).2.1, (hag c).2.2]), (h c).2.2.1.trans (by rw [(hag c).1, (hag c).2.1, (hag c).2.2]), (h c).2.2.2⟩)
      (QkvRefIdeal.Read.run m' ρ')⟩

/-- The projection into the even layer: kernel and reference end with the same array. -/
theorem projIn_algebraic : Cert.algebraic_ProjInIdeal_ProjInRefIdeal := fun m ρ m' ρ' _ hag =>
  ⟨fun c => ProjInRefIdeal.Read.G (m (c.tc.loc ProjInIdeal.main_arg0)) (m (c.tc.loc ProjInIdeal.main_arg1)) (m (c.tc.loc ProjInIdeal.main_arg2)),
    ProjInIdeal.Read.run m ρ,
    (θ_run ProjInRefIdeal.defs _ _).mono (fun _ h c => ⟨(h c).1.trans (by rw [(hag c).1, (hag c).2.1, (hag c).2.2]), (h c).2⟩)
      (ProjInRefIdeal.Read.run m' ρ')⟩

/-- The projection out of the even layer, added to its input: kernel and reference end with the same array. -/
theorem projOutEven_algebraic : Cert.algebraic_ProjOutEvenIdeal_ProjOutEvenRefIdeal := fun m ρ m' ρ' _ hag =>
  ⟨fun c => ProjOutEvenRefIdeal.Read.G (m (c.tc.loc ProjOutEvenIdeal.main_arg0)) (m (c.tc.loc ProjOutEvenIdeal.main_arg1)) (m (c.tc.loc ProjOutEvenIdeal.main_arg2)) (m (c.tc.loc ProjOutEvenIdeal.main_arg3)),
    ProjOutEvenIdeal.Read.run m ρ,
    (θ_run ProjOutEvenRefIdeal.defs _ _).mono (fun _ h c => ⟨(h c).1.trans (by rw [(hag c).1, (hag c).2.1, (hag c).2.2.1, (hag c).2.2.2]), (h c).2⟩)
      (ProjOutEvenRefIdeal.Read.run m' ρ')⟩

/-- The projection out of the odd layer, added to its input: kernel and reference end with the same array. -/
theorem projOutOdd_algebraic : Cert.algebraic_ProjOutOddIdeal_ProjOutOddRefIdeal := fun m ρ m' ρ' _ hag =>
  ⟨fun c => ProjOutOddRefIdeal.Read.G (m (c.tc.loc ProjOutOddIdeal.main_arg0)) (m (c.tc.loc ProjOutOddIdeal.main_arg1)) (m (c.tc.loc ProjOutOddIdeal.main_arg2)),
    ProjOutOddIdeal.Read.run m ρ,
    (θ_run ProjOutOddRefIdeal.defs _ _).mono (fun _ h c => ⟨(h c).1.trans (by rw [(hag c).1, (hag c).2.1, (hag c).2.2]), (h c).2⟩)
      (ProjOutOddRefIdeal.Read.run m' ρ')⟩

/-- The norm before the experts and its query projection: kernel and reference end with the same two arrays. -/
theorem peerQ_algebraic : Cert.algebraic_PeerQIdeal_PeerQRefIdeal := fun m ρ m' ρ' _ hag =>
  ⟨fun c => PeerQRefIdeal.Read.GQ (m (c.tc.loc PeerQIdeal.main_arg0)) (m (c.tc.loc PeerQIdeal.main_arg1)) (m (c.tc.loc PeerQIdeal.main_arg2)),
    fun c => PeerQRefIdeal.Read.GH (m (c.tc.loc PeerQIdeal.main_arg0)) (m (c.tc.loc PeerQIdeal.main_arg1)),
    PeerQIdeal.Read.run m ρ,
    (θ_run PeerQRefIdeal.defs _ _).mono (fun _ h c => ⟨(h c).1.trans (by rw [(hag c).1, (hag c).2.1, (hag c).2.2]), (h c).2.1.trans (by rw [(hag c).1, (hag c).2.1]), (h c).2.2⟩)
      (PeerQRefIdeal.Read.run m' ρ')⟩

/-- Every claim of the certificate. -/
theorem claim : Cert.Claim := ⟨Cert.Norm.Gen.facts, Cert.NormIdeal.Gen.facts, Cert.NormRefIdeal.Gen.facts, Cert.Rows.Gen.facts, Cert.RowsIdeal.Gen.facts, Cert.RowsRefIdeal.Gen.facts, Cert.GlaS.Gen.facts, Cert.GlaSIdeal.Gen.facts, Cert.GlaSRefIdeal.Gen.facts, Cert.ConvS.Gen.facts, Cert.ConvSIdeal.Gen.facts, Cert.ConvSRefIdeal.Gen.facts, Cert.ConvP.Gen.facts, Cert.ConvPIdeal.Gen.facts, Cert.ConvPRefIdeal.Gen.facts, Cert.KvS.Gen.facts, Cert.KvSIdeal.Gen.facts, Cert.KvSRefIdeal.Gen.facts, Cert.Qkv.Gen.facts, Cert.QkvIdeal.Gen.facts, Cert.QkvRefIdeal.Gen.facts, Cert.ProjIn.Gen.facts, Cert.ProjInIdeal.Gen.facts, Cert.ProjInRefIdeal.Gen.facts, Cert.ProjOutEven.Gen.facts, Cert.ProjOutEvenIdeal.Gen.facts, Cert.ProjOutEvenRefIdeal.Gen.facts, Cert.ProjOutOdd.Gen.facts, Cert.ProjOutOddIdeal.Gen.facts, Cert.ProjOutOddRefIdeal.Gen.facts, Cert.PeerQ.Gen.facts, Cert.PeerQIdeal.Gen.facts, Cert.PeerQRefIdeal.Gen.facts,
  fun m ρ _ => Cert.Norm.Gen.frame m ρ, fun m ρ _ => Cert.NormIdeal.Gen.frame m ρ,
  fun m ρ _ => NormRefIdeal.Read.frame m ρ, fun m ρ _ => Cert.Rows.Gen.frame m ρ, fun m ρ _ => Cert.RowsIdeal.Gen.frame m ρ,
  fun m ρ _ => RowsRefIdeal.Read.frame m ρ, fun m ρ _ => Cert.GlaS.Gen.frame m ρ, fun m ρ _ => Cert.GlaSIdeal.Gen.frame m ρ,
  fun m ρ _ => GlaSRefIdeal.Read.frame m ρ, fun m ρ _ => Cert.ConvS.Gen.frame m ρ, fun m ρ _ => Cert.ConvSIdeal.Gen.frame m ρ,
  fun m ρ _ => ConvSRefIdeal.Read.frame m ρ, fun m ρ _ => Cert.ConvP.Gen.frame m ρ, fun m ρ _ => Cert.ConvPIdeal.Gen.frame m ρ,
  fun m ρ _ => ConvPRefIdeal.Read.frame m ρ, fun m ρ _ => Cert.KvS.Gen.frame m ρ, fun m ρ _ => Cert.KvSIdeal.Gen.frame m ρ,
  fun m ρ _ => KvSRefIdeal.Read.frame m ρ, fun m ρ _ => Cert.Qkv.Read.frame m ρ, fun m ρ _ => Cert.QkvIdeal.Read.frame m ρ,
  fun m ρ _ => QkvRefIdeal.Read.frame m ρ, fun m ρ _ => Cert.ProjIn.Gen.frame m ρ, fun m ρ _ => Cert.ProjInIdeal.Gen.frame m ρ,
  fun m ρ _ => ProjInRefIdeal.Read.frame m ρ, fun m ρ _ => Cert.ProjOutEven.Gen.frame m ρ, fun m ρ _ => Cert.ProjOutEvenIdeal.Gen.frame m ρ,
  fun m ρ _ => ProjOutEvenRefIdeal.Read.frame m ρ, fun m ρ _ => Cert.ProjOutOdd.Gen.frame m ρ, fun m ρ _ => Cert.ProjOutOddIdeal.Gen.frame m ρ,
  fun m ρ _ => ProjOutOddRefIdeal.Read.frame m ρ, fun m ρ _ => Cert.PeerQ.Read.frame m ρ, fun m ρ _ => Cert.PeerQIdeal.Read.frame m ρ,
  fun m ρ _ => PeerQRefIdeal.Read.frame m ρ,
  trivial, norm_algebraic, trivial, rows_algebraic, trivial, glaS_algebraic, trivial, convS_algebraic, trivial, convP_algebraic, trivial, kvS_algebraic, trivial, qkv_algebraic, trivial, projIn_algebraic, trivial, projOutEven_algebraic, trivial, projOutOdd_algebraic, trivial, peerQ_algebraic⟩

end Cert.Proof

end
